-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "mask" .f32 0xF149F2CA#32 ⊥
  ∧ IdealRules.named_const.Statement Cert.Kernel4Ideal.κ "ln2" .f32 0x3F317218#32 ((Real.log 2 : ℝ) : EReal)
  ∧ IdealRules.named_const.Statement Cert.Kernel4Ideal.κ "scale" .f32 0x3DD53B95#32 (((Real.sqrt 192)⁻¹ * (Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v45) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v26) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x5632 .f32) (main_arg3 : FVec F S2816x1024 .f32) (main_arg4 : FVec F S4096x1024 .f32) (main_v12 : IVec S_ 1) (main_v14 : IVec S1024x5632 1) (main_v15 : FVec F S1024x5632 .f32) : IVec S_ 1 :=
  let main_v16 : IVec S1024x5632 1 := cmpf .olt main_arg2 main_v15
  let main_v17 : IVec S1024x5632 1 := andi main_v14 main_v16
  let main_c_6 : IVec S_ 1 := constantI S_ 1 1#1
  let main_v18 : IVec S_ 1 := (fun x v => Host.reduce IntOp.andi x v reducesTo_S1024x5632_S_d0_1 h_S_) main_v17 main_c_6
  let main_v19 : IVec S_ 1 := andi main_v12 main_v18
  let main_cst_7 : FVec F S_ .f32 := constant S_ .f32 0xFF800000#32
  let main_v20 : FVec F S2816x1024 .f32 := broadcastInDim S2816x1024 ![] bcast_S_S2816x1024 main_cst_7
  let main_v21 : IVec S2816x1024 1 := cmpf .ogt main_arg3 main_v20
  let main_cst_8 : FVec F S_ .f32 := constant S_ .f32 0x7F800000#32
  let main_v22 : FVec F S2816x1024 .f32 := broadcastInDim S2816x1024 ![] bcast_S_S2816x1024 main_cst_8
  let main_v23 : IVec S2816x1024 1 := cmpf .olt main_arg3 main_v22
  let main_v24 : IVec S2816x1024 1 := andi main_v21 main_v23
  let main_c_9 : IVec S_ 1 := constantI S_ 1 1#1
  let main_v25 : IVec S_ 1 := (fun x v => Host.reduce IntOp.andi x v reducesTo_S2816x1024_S_d0_1 h_S_) main_v24 main_c_9
  let main_v26 : IVec S_ 1 := andi main_v19 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg4 main_v27
  let main_cst_11 : FVec F S_ .f32 := constant S_ .f32 0x7F800000#32
  let main_v29 : FVec F S4096x1024 .f32 := broadcastInDim S4096x1024 ![] bcast_S_S4096x1024 main_cst_11
  let main_v30 : IVec S4096x1024 1 := cmpf .olt main_arg4 main_v29
  let main_v31 : IVec S4096x1024 1 := andi main_v28 main_v30
  let main_c_12 : IVec S_ 1 := constantI S_ 1 1#1
  let main_v32 : IVec S_ 1 := (fun x v => Host.reduce IntOp.andi x v reducesTo_S4096x1024_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S1024x5632 .f32) (main_arg3 : FVec F S2816x1024 .f32) (main_arg4 : FVec F S4096x1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x5632 .f32 := broadcastInDim S1024x5632 ![] bcast_S_S1024x5632 main_cst_4
  let main_v14 : IVec S1024x5632 1 := cmpf .ogt main_arg2 main_v13
  let main_cst_5 : FVec F S_ .f32 := constant S_ .f32 0x7F800000#32
  let main_v15 : FVec F S1024x5632 .f32 := broadcastInDim S1024x5632 ![] bcast_S_S1024x5632 main_cst_5
  fn_part1 (F := F) main_arg2 main_arg3 main_arg4 main_v12 main_v14 main_v15
-- ==== Pre_finite4.lean ====
abbrev S4096x2048 : Shape := ⟨2, ![4096, 2048]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg2 : FVec F S4096x1024 .f32) (main_arg3 : FVec F S4096x1024 .f32) (main_v12 : IVec S_ 1) (main_v14 : IVec S4096x1024 1) (main_v15 : FVec F S4096x1024 .f32) : IVec S_ 1 :=
  let main_v16 : IVec S4096x1024 1 := cmpf .olt main_arg2 main_v15
  let main_v17 : IVec S4096x1024 1 := andi main_v14 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v12 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg3 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg3 main_v22
  let main_v24 : IVec S4096x1024 1 := andi main_v21 main_v23
  let main_c_9 : IVec S_ 1 := constantI S_ 1 1#1
  let main_v25 : IVec S_ 1 := (fun x v => Host.reduce IntOp.andi x v reducesTo_S4096x1024_S_d0_1 h_S_) main_v24 main_c_9
  let main_v26 : IVec S_ 1 := andi main_v19 main_v25
  main_v26

def fn {F : FTy → Type} [FloatOps F] (main_arg0 : FVec F S4096x2048 .f32) (main_arg1 : FVec F S4096x2048 .f32) (main_arg2 : FVec F S4096x1024 .f32) (main_arg3 : FVec F S4096x1024 .f32) : IVec S_ 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_c : IVec S_ 1 := constantI S_ 1 1#1
  let main_v5 : IVec S_ 1 := (fun x v => Host.reduce IntOp.andi x v reducesTo_S4096x2048_S_d0_1 h_S_) main_v4 main_c
  let main_cst_1 : FVec F S_ .f32 := constant S_ .f32 0xFF800000#32
  let main_v6 : FVec F S4096x2048 .f32 := broadcastInDim S4096x2048 ![] bcast_S_S4096x2048 main_cst_1
  let main_v7 : IVec S4096x2048 1 := cmpf .ogt main_arg1 main_v6
  let main_cst_2 : FVec F S_ .f32 := constant S_ .f32 0x7F800000#32
  let main_v8 : FVec F S4096x2048 .f32 := broadcastInDim S4096x2048 ![] bcast_S_S4096x2048 main_cst_2
  let main_v9 : IVec S4096x2048 1 := cmpf .olt main_arg1 main_v8
  let main_v10 : IVec S4096x2048 1 := andi main_v7 main_v9
  let main_c_3 : IVec S_ 1 := constantI S_ 1 1#1
  let main_v11 : IVec S_ 1 := (fun x v => Host.reduce IntOp.andi x v reducesTo_S4096x2048_S_d0_1 h_S_) main_v10 main_c_3
  let main_v12 : IVec S_ 1 := andi main_v5 main_v11
  let main_cst_4 : FVec F S_ .f32 := constant S_ .f32 0xFF800000#32
  let main_v13 : FVec F S4096x1024 .f32 := broadcastInDim S4096x1024 ![] bcast_S_S4096x1024 main_cst_4
  let main_v14 : IVec S4096x1024 1 := cmpf .ogt main_arg2 main_v13
  let main_cst_5 : FVec F S_ .f32 := constant S_ .f32 0x7F800000#32
  let main_v15 : FVec F S4096x1024 .f32 := broadcastInDim S4096x1024 ![] bcast_S_S4096x1024 main_cst_5
  fn_part1 (F := F) main_arg2 main_arg3 main_v12 main_v14 main_v15
-- ==== Pre_finite7.lean ====
abbrev S4096x1024 : Shape := ⟨2, ![4096, 1024]⟩
abbrev S1x1024 : Shape := ⟨2, ![1, 1024]⟩
abbrev S1024x4288 : Shape := ⟨2, ![1024, 4288]⟩
abbrev S4096x4288 : Shape := ⟨2, ![4096, 4288]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4288 : S_.BroadcastsInDim S1024x4288 (![] : Fin 0 → Fin S1024x4288.rank)
  reducesTo_S1024x4288_S_d0_1 : S1024x4288.ReducesTo [0, 1] S_
  bcast_S_S4096x4288 : S_.BroadcastsInDim S4096x4288 (![] : Fin 0 → Fin S4096x4288.rank)
  reducesTo_S4096x4288_S_d0_1 : S4096x4288.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x4288 .f32) (main_arg3 : FVec F S4096x4288 .f32) (main_arg4 : FVec F S4096x1024 .f32) (main_v12 : IVec S_ 1) (main_v14 : IVec S1024x4288 1) (main_v15 : FVec F S1024x4288 .f32) : IVec S_ 1 :=
  let main_v16 : IVec S1024x4288 1 := cmpf .olt main_arg2 main_v15
  let main_v17 : IVec S1024x4288 1 := andi main_v14 main_v16
  let main_c_6 : IVec S_ 1 := constantI S_ 1 1#1
  let main_v18 : IVec S_ 1 := (fun x v => Host.reduce IntOp.andi x v reducesTo_S1024x4288_S_d0_1 h_S_) main_v17 main_c_6
  let main_v19 : IVec S_ 1 := andi main_v12 main_v18
  let main_cst_7 : FVec F S_ .f32 := constant S_ .f32 0xFF800000#32
  let main_v20 : FVec F S4096x4288 .f32 := broadcastInDim S4096x4288 ![] bcast_S_S4096x4288 main_cst_7
  let main_v21 : IVec S4096x4288 1 := cmpf .ogt main_arg3 main_v20
  let main_cst_8 : FVec F S_ .f32 := constant S_ .f32 0x7F800000#32
  let main_v22 : FVec F S4096x4288 .f32 := broadcastInDim S4096x4288 ![] bcast_S_S4096x4288 main_cst_8
  let main_v23 : IVec S4096x4288 1 := cmpf .olt main_arg3 main_v22
  let main_v24 : IVec S4096x4288 1 := andi main_v21 main_v23
  let main_c_9 : IVec S_ 1 := constantI S_ 1 1#1
  let main_v25 : IVec S_ 1 := (fun x v => Host.reduce IntOp.andi x v reducesTo_S4096x4288_S_d0_1 h_S_) main_v24 main_c_9
  let main_v26 : IVec S_ 1 := andi main_v19 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg4 main_v27
  let main_cst_11 : FVec F S_ .f32 := constant S_ .f32 0x7F800000#32
  let main_v29 : FVec F S4096x1024 .f32 := broadcastInDim S4096x1024 ![] bcast_S_S4096x1024 main_cst_11
  let main_v30 : IVec S4096x1024 1 := cmpf .olt main_arg4 main_v29
  let main_v31 : IVec S4096x1024 1 := andi main_v28 main_v30
  let main_c_12 : IVec S_ 1 := constantI S_ 1 1#1
  let main_v32 : IVec S_ 1 := (fun x v => Host.reduce IntOp.andi x v reducesTo_S4096x1024_S_d0_1 h_S_) main_v31 main_c_12
  fn_part2 (F := F) main_v26 main_v32

def fn {F : FTy → Type} [FloatOps F] (main_arg0 : FVec F S4096x1024 .f32) (main_arg1 : FVec F S1x1024 .f32) (main_arg2 : FVec F S1024x4288 .f32) (main_arg3 : FVec F S4096x4288 .f32) (main_arg4 : FVec F S4096x1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x4288 .f32 := broadcastInDim S1024x4288 ![] bcast_S_S1024x4288 main_cst_4
  let main_v14 : IVec S1024x4288 1 := cmpf .ogt main_arg2 main_v13
  let main_cst_5 : FVec F S_ .f32 := constant S_ .f32 0x7F800000#32
  let main_v15 : FVec F S1024x4288 .f32 := broadcastInDim S1024x4288 ![] bcast_S_S1024x4288 main_cst_5
  fn_part1 (F := F) main_arg2 main_arg3 main_arg4 main_v12 main_v14 main_v15
-- ==== Kernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x8x704 : Shape := ⟨3, ![4096, 8, 704]⟩
abbrev S8x4096x704 : Shape := ⟨3, ![8, 4096, 704]⟩
abbrev S1024x8x704 : Shape := ⟨3, ![1024, 8, 704]⟩
abbrev S8x1024x704 : Shape := ⟨3, ![8, 1024, 704]⟩
abbrev S8x352x1024 : Shape := ⟨3, ![8, 352, 1024]⟩
abbrev S256x1024 : Shape := ⟨2, ![256, 1024]⟩
abbrev S8x256x704 : Shape := ⟨3, ![8, 256, 704]⟩
abbrev S256x1 : Shape := ⟨2, ![256, 1]⟩
abbrev S2x352x1024 : Shape := ⟨3, ![2, 352, 1024]⟩
abbrev S704x1024 : Shape := ⟨2, ![704, 1024]⟩
abbrev S256x704 : Shape := ⟨2, ![256, 704]⟩
abbrev S1x256x704 : Shape := ⟨3, ![1, 256, 704]⟩
abbrev S1x1024x704 : Shape := ⟨3, ![1, 1024, 704]⟩
abbrev S1024x704 : Shape := ⟨2, ![1024, 704]⟩
abbrev S256 : Shape := ⟨1, ![256]⟩
abbrev S1024 : Shape := ⟨1, ![1024]⟩

abbrev nBuf : Space → Nat
  | .hbm => 63
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x5632, .f32⟩
  | .hbm, ⟨52, _⟩ => ⟨S4096x8x704, .f32⟩
  | .hbm, ⟨53, _⟩ => ⟨S8x4096x704, .f32⟩
  | .hbm, ⟨54, _⟩ => ⟨S8x4096x704, .bf16⟩
  | .hbm, ⟨55, _⟩ => ⟨S1024x8x704, .f32⟩
  | .hbm, ⟨56, _⟩ => ⟨S8x1024x704, .f32⟩
  | .hbm, ⟨57, _⟩ => ⟨S8x1024x704, .bf16⟩
  | .hbm, ⟨58, _⟩ => ⟨S2816x1024, .bf16⟩
  | .hbm, ⟨59, _⟩ => ⟨S8x352x1024, .bf16⟩
  | .hbm, ⟨60, _⟩ => ⟨S8x4096x704, .bf16⟩
  | .hbm, ⟨61, _⟩ => ⟨S4096x1024, .f32⟩
  | .hbm, ⟨62, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S8x256x704, .bf16⟩
  | .local _ .vmem, ⟨3, _⟩ => ⟨S8x256x704, .bf16⟩
  | .local _ .vmem, ⟨4, _⟩ => ⟨S8x1024x704, .bf16⟩
  | .local _ .vmem, ⟨5, _⟩ => ⟨S8x352x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S8x256x704, .bf16⟩
  | .local _ .vmem, ⟨12, _⟩ => ⟨S8x256x704, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4096x8x704 : Shape := ⟨3, ![4096, 8, 704]⟩
abbrev S8x4096x704 : Shape := ⟨3, ![8, 4096, 704]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x8x704, .f32⟩
  | .hbm, ⟨81, _⟩ => ⟨S8x4096x704, .f32⟩
  | .hbm, ⟨82, _⟩ => ⟨S8x4096x704, .bf16⟩
  | .hbm, ⟨83, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x5632 : Shape := ⟨2, ![4096, 5632]⟩
abbrev S8x2048x704 : Shape := ⟨3, ![8, 2048, 704]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x8x704 : Shape := ⟨3, ![4096, 8, 704]⟩
abbrev S8x4096x704 : Shape := ⟨3, ![8, 4096, 704]⟩
abbrev S1x4096x704 : Shape := ⟨3, ![1, 4096, 704]⟩
abbrev S1x1024x704 : Shape := ⟨3, ![1, 1024, 704]⟩
abbrev S4096x704 : Shape := ⟨2, ![4096, 704]⟩
abbrev S1024x704 : Shape := ⟨2, ![1024, 704]⟩

abbrev nBuf : Space → Nat
  | .hbm => 25
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .f32⟩
  | .hbm, ⟨3, _⟩ => ⟨S8x2048x704, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S4096x8x704, .f32⟩
  | .hbm, ⟨22, _⟩ => ⟨S8x4096x704, .f32⟩
  | .hbm, ⟨23, _⟩ => ⟨S8x4096x704, .bf16⟩
  | .hbm, ⟨24, _⟩ => ⟨S8x2048x704, .bf16⟩
  | .local _ .vmem, ⟨0, _⟩ => ⟨S1024x4096, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x1024x704, .bf16⟩
  | .local _ .vmem, ⟨4, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S1x1024 : Shape := ⟨2, ![1, 1024]⟩
abbrev S4096x5632 : Shape := ⟨2, ![4096, 5632]⟩
abbrev S8x2048x704 : Shape := ⟨3, ![8, 2048, 704]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .f32⟩
  | .hbm, ⟨3, _⟩ => ⟨S8x2048x704, .bf16⟩
  | .hbm, ⟨4, _⟩ => ⟨S_, .f32⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S5632x1024, .f32⟩
  | .hbm, ⟨23, _⟩ => ⟨S1024x5632, .f32⟩
  | .hbm, ⟨24, _⟩ => ⟨S1024x8x704, .f32⟩
  | .hbm, ⟨25, _⟩ => ⟨S8x1024x704, .f32⟩
  | .hbm, ⟨26, _⟩ => ⟨S8x1024x704, .bf16⟩
  | .hbm, ⟨27, _⟩ => ⟨S8x1024x704, .bf16⟩
  | .hbm, ⟨28, _⟩ => ⟨S8x2048x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x5632 : Shape := ⟨2, ![1024, 5632]⟩
abbrev S8x704x1024 : Shape := ⟨3, ![8, 704, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2816x4096 : Shape := ⟨2, ![2816, 4096]⟩
abbrev S4x704x4096 : Shape := ⟨3, ![4, 704, 4096]⟩
abbrev S1x704x4096 : Shape := ⟨3, ![1, 704, 4096]⟩
abbrev S4096x512 : Shape := ⟨2, ![4096, 512]⟩
abbrev S2x352x512 : Shape := ⟨3, ![2, 352, 512]⟩
abbrev S704x4096 : Shape := ⟨2, ![704, 4096]⟩
abbrev S704x512 : Shape := ⟨2, ![704, 512]⟩

abbrev nBuf : Space → Nat
  | .hbm => 37
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S8x704x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S2816x4096, .f32⟩
  | .hbm, ⟨34, _⟩ => ⟨S4x704x4096, .f32⟩
  | .hbm, ⟨35, _⟩ => ⟨S4x704x4096, .bf16⟩
  | .hbm, ⟨36, _⟩ => ⟨S8x704x1024, .bf16⟩
  | .local _ .vmem, ⟨0, _⟩ => ⟨S1x704x4096, .bf16⟩
  | .local _ .vmem, ⟨1, _⟩ => ⟨S1x704x4096, .bf16⟩
  | .local _ .vmem, ⟨2, _⟩ => ⟨S4096x512, .f32⟩
  | .local _ .vmem, ⟨3, _⟩ => ⟨S4096x512, .f32⟩
  | .local _ .vmem, ⟨4, _⟩ => ⟨S2x352x512, .bf16⟩
  | .local _ .vmem, ⟨5, _⟩ => ⟨S2x352x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S1x1024 : Shape := ⟨2, ![1, 1024]⟩
abbrev S1024x5632 : Shape := ⟨2, ![1024, 5632]⟩
abbrev S8x704x1024 : Shape := ⟨3, ![8, 704, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S8x704x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S2816x1024, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S1024x2816, .f32⟩
  | .hbm, ⟨44, _⟩ => ⟨S2816x1024, .f32⟩
  | .hbm, ⟨45, _⟩ => ⟨S8x352x1024, .f32⟩
  | .hbm, ⟨46, _⟩ => ⟨S8x352x1024, .bf16⟩
  | .hbm, ⟨47, _⟩ => ⟨S8x352x1024, .bf16⟩
  | .hbm, ⟨48, _⟩ => ⟨S8x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel4.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S4096x8 : Shape := ⟨2, ![4096, 8]⟩
abbrev S8x1x4096 : Shape := ⟨3, ![8, 1, 4096]⟩
abbrev S8x8x4096 : Shape := ⟨3, ![8, 8, 4096]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S1x8x4096 : Shape := ⟨3, ![1, 8, 4096]⟩
abbrev S256x4096 : Shape := ⟨2, ![256, 4096]⟩
abbrev S256x512 : Shape := ⟨2, ![256, 512]⟩
abbrev S2048x256 : Shape := ⟨2, ![2048, 256]⟩
abbrev S2048x128 : Shape := ⟨2, ![2048, 128]⟩
abbrev S512x2048 : Shape := ⟨2, ![512, 2048]⟩
abbrev S1x1x2048 : Shape := ⟨3, ![1, 1, 2048]⟩
abbrev S1x2048 : Shape := ⟨2, ![1, 2048]⟩
abbrev S256x2048 : Shape := ⟨2, ![256, 2048]⟩
abbrev S1536x256 : Shape := ⟨2, ![1536, 256]⟩
abbrev S1536x128 : Shape := ⟨2, ![1536, 128]⟩
abbrev S512x1536 : Shape := ⟨2, ![512, 1536]⟩
abbrev S1x1x1536 : Shape := ⟨3, ![1, 1, 1536]⟩
abbrev S1x1536 : Shape := ⟨2, ![1, 1536]⟩
abbrev S256x1536 : Shape := ⟨2, ![256, 1536]⟩
abbrev S1024x256 : Shape := ⟨2, ![1024, 256]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S256x1024 : Shape := ⟨2, ![256, 1024]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 68
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x8x256, .f32⟩
  | .hbm, ⟨5, _⟩ => ⟨S4096x8x256, .f32⟩
  | .hbm, ⟨6, _⟩ => ⟨S8x4096x4096, .f32⟩
  | .hbm, ⟨7, _⟩ => ⟨S_, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S4096x8x128, .f32⟩
  | .hbm, ⟨43, _⟩ => ⟨S8x128x4096, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S_, .f32⟩
  | .hbm, ⟨48, _⟩ => ⟨S4096x8, .f32⟩
  | .hbm, ⟨49, _⟩ => ⟨S8x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .bf16⟩
  | .hbm, ⟨58, _⟩ => ⟨S4096x2048, .bf16⟩
  | .hbm, ⟨59, _⟩ => ⟨S4096x1024, .bf16⟩
  | .hbm, ⟨60, _⟩ => ⟨S4096x1024, .bf16⟩
  | .hbm, ⟨61, _⟩ => ⟨S8x1x4096, .f32⟩
  | .hbm, ⟨62, _⟩ => ⟨S8x8x4096, .f32⟩
  | .hbm, ⟨63, _⟩ => ⟨S8x1x4096, .f32⟩
  | .hbm, ⟨64, _⟩ => ⟨S8x8x4096, .f32⟩
  | .hbm, ⟨65, _⟩ => ⟨S4096x2048, .bf16⟩
  | .hbm, ⟨66, _⟩ => ⟨S4096x2048, .bf16⟩
  | .hbm, ⟨67, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x4096, .f32⟩
  | .local _ .vmem, ⟨9, _⟩ => ⟨S1x8x4096, .f32⟩
  | .local _ .vmem, ⟨10, _⟩ => ⟨S1x8x4096, .f32⟩
  | .local _ .vmem, ⟨11, _⟩ => ⟨S1x8x4096, .f32⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let c7_i32_5 : BitVec 32 := 7#32
  let arg1 : BitVec 32 := BitVec.ofNat 32 (i 1).val
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let c0_i32_7 : BitVec 32 := 0#32
  let v15 : BitVec 32 := Scalar.maxsi v14 c0_i32_7
  let c3_i32 : BitVec 32 := 3#32
  let v16 : BitVec 32 := Scalar.minsi v15 c3_i32
  let c0_i32_8 : BitVec 32 := 0#32
  let v17 : BitVec 1 := Scalar.cmpi .ne v16 c0_i32_8
  v17

def k0_cond3 (i : grid0.Coords) : BitVec 1 :=
  let c7_i32_5 : BitVec 32 := 7#32
  let arg1 : BitVec 32 := BitVec.ofNat 32 (i 1).val
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let c0_i32_7 : BitVec 32 := 0#32
  let v15 : BitVec 32 := Scalar.maxsi v14 c0_i32_7
  let c3_i32 : BitVec 32 := 3#32
  let v16 : BitVec 32 := Scalar.minsi v15 c3_i32
  let c1_i32_18 : BitVec 32 := 1#32
  let v33 : BitVec 32 := Scalar.subi v16 c1_i32_18
  let c0_i32_19 : BitVec 32 := 0#32
  let v34 : BitVec 1 := Scalar.cmpi .ne v33 c0_i32_19
  v34

def k0_cond4 (i : grid0.Coords) : BitVec 1 :=
  let c7_i32_5 : BitVec 32 := 7#32
  let arg1 : BitVec 32 := BitVec.ofNat 32 (i 1).val
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let c0_i32_7 : BitVec 32 := 0#32
  let v15 : BitVec 32 := Scalar.maxsi v14 c0_i32_7
  let c3_i32 : BitVec 32 := 3#32
  let v16 : BitVec 32 := Scalar.minsi v15 c3_i32
  let c1_i32_18 : BitVec 32 := 1#32
  let v33 : BitVec 32 := Scalar.subi v16 c1_i32_18
  let c1_i32_20 : BitVec 32 := 1#32
  let v36 : BitVec 32 := Scalar.subi v33 c1_i32_20
  let c0_i32_21 : BitVec 32 := 0#32
  let v37 : BitVec 1 := Scalar.cmpi .ne v36 c0_i32_21
  v37

def k0_mult1 (i : grid0.Coords) : BitVec 32 :=
  let arg1 : BitVec 32 := BitVec.ofNat 32 (i 1).val
  let c512_i32 : BitVec 32 := 512#32
  let v39 : BitVec 32 := Scalar.muli arg1 c512_i32
  v39
def k0_off1 (i : grid0.Coords) : Fin 2 → Nat :=
  let arg1 : BitVec 32 := BitVec.ofNat 32 (i 1).val
  let c512_i32 : BitVec 32 := 512#32
  let v39 : BitVec 32 := Scalar.muli arg1 c512_i32
  let v40 : BitVec 32 := v39
  let v41 : Index := Scalar.indexCast v40
  let c0_22 : Index := 0#32
  ![v41.toNat, 0]
def k0_off2 (i : grid0.Coords) : Fin 2 → Nat :=
  let arg1 : BitVec 32 := BitVec.ofNat 32 (i 1).val
  let c512_i32 : BitVec 32 := 512#32
  let v39 : BitVec 32 := Scalar.muli arg1 c512_i32
  let v40 : BitVec 32 := v39
  let v44 : Index := Scalar.indexCast v40
  let c0_23 : Index := 0#32
  ![v44.toNat, 0]
def k0_off3 (i : grid0.Coords) : Fin 3 → Nat :=
  let c0_28 : Index := 0#32
  let c0_29 : Index := 0#32
  let arg1 : BitVec 32 := BitVec.ofNat 32 (i 1).val
  let c512_i32 : BitVec 32 := 512#32
  let v39 : BitVec 32 := Scalar.muli arg1 c512_i32
  let v40 : BitVec 32 := v39
  let v59 : Index := Scalar.indexCast v40
  ![0, 0, v59.toNat]
def k0_off4 (i : grid0.Coords) : Fin 2 → Nat :=
  let c0_34 : Index := 0#32
  let arg1 : BitVec 32 := BitVec.ofNat 32 (i 1).val
  let c512_i32 : BitVec 32 := 512#32
  let v39 : BitVec 32 := Scalar.muli arg1 c512_i32
  let v40 : BitVec 32 := v39
  let v75 : Index := Scalar.indexCast v40
  ![0, v75.toNat]
def k0_mult2 (i : grid0.Coords) : BitVec 32 :=
  let arg1 : BitVec 32 := BitVec.ofNat 32 (i 1).val
  let c512_i32 : BitVec 32 := 512#32
  let v39 : BitVec 32 := Scalar.muli arg1 c512_i32
  v39
def k0_off5 (i : grid0.Coords) : Fin 2 → Nat :=
  let arg1 : BitVec 32 := BitVec.ofNat 32 (i 1).val
  let c512_i32 : BitVec 32 := 512#32
  let v39 : BitVec 32 := Scalar.muli arg1 c512_i32
  let v40 : BitVec 32 := v39
  let v41 : Index := Scalar.indexCast v40
  let c0_22 : Index := 0#32
  ![v41.toNat, 0]
def k0_off6 (i : grid0.Coords) : Fin 2 → Nat :=
  let arg1 : BitVec 32 := BitVec.ofNat 32 (i 1).val
  let c512_i32 : BitVec 32 := 512#32
  let v39 : BitVec 32 := Scalar.muli arg1 c512_i32
  let v40 : BitVec 32 := v39
  let v44 : Index := Scalar.indexCast v40
  let c0_23 : Index := 0#32
  ![v44.toNat, 0]
def k0_off7 (i : grid0.Coords) : Fin 3 → Nat :=
  let c0_28 : Index := 0#32
  let c0_29 : Index := 0#32
  let arg1 : BitVec 32 := BitVec.ofNat 32 (i 1).val
  let c512_i32 : BitVec 32 := 512#32
  let v39 : BitVec 32 := Scalar.muli arg1 c512_i32
  let v40 : BitVec 32 := v39
  let v59 : Index := Scalar.indexCast v40
  ![0, 0, v59.toNat]
def k0_off8 (i : grid0.Coords) : Fin 2 → Nat :=
  let c0_34 : Index := 0#32
  let arg1 : BitVec 32 := BitVec.ofNat 32 (i 1).val
  let c512_i32 : BitVec 32 := 512#32
  let v39 : BitVec 32 := Scalar.muli arg1 c512_i32
  let v40 : BitVec 32 := v39
  let v75 : Index := Scalar.indexCast v40
  ![0, v75.toNat]
def k0_mult3 (i : grid0.Coords) : BitVec 32 :=
  let arg1 : BitVec 32 := BitVec.ofNat 32 (i 1).val
  let c512_i32 : BitVec 32 := 512#32
  let v36 : BitVec 32 := Scalar.muli arg1 c512_i32
  v36
def k0_off9 (i : grid0.Coords) : Fin 2 → Nat :=
  let arg1 : BitVec 32 := BitVec.ofNat 32 (i 1).val
  let c512_i32 : BitVec 32 := 512#32
  let v36 : BitVec 32 := Scalar.muli arg1 c512_i32
  let v37 : BitVec 32 := v36
  let v38 : Index := Scalar.indexCast v37
  let c0_20 : Index := 0#32
  ![v38.toNat, 0]
def k0_off10 (i : grid0.Coords) : Fin 2 → Nat :=
  let arg1 : BitVec 32 := BitVec.ofNat 32 (i 1).val
  let c512_i32 : BitVec 32 := 512#32
  let v36 : BitVec 32 := Scalar.muli arg1 c512_i32
  let v37 : BitVec 32 := v36
  let v41 : Index := Scalar.indexCast v37
  let c0_21 : Index := 0#32
  ![v41.toNat, 0]
def k0_off11 (i : grid0.Coords) : Fin 3 → Nat :=
  let c0_26 : Index := 0#32
  let c0_27 : Index := 0#32
  let arg1 : BitVec 32 := BitVec.ofNat 32 (i 1).val
  let c512_i32 : BitVec 32 := 512#32
  let v36 : BitVec 32 := Scalar.muli arg1 c512_i32
  let v37 : BitVec 32 := v36
  let v56 : Index := Scalar.indexCast v37
  ![0, 0, v56.toNat]
def k0_off12 (i : grid0.Coords) : Fin 2 → Nat :=
  let c0_32 : Index := 0#32
  let arg1 : BitVec 32 := BitVec.ofNat 32 (i 1).val
  let c512_i32 : BitVec 32 := 512#32
  let v36 : BitVec 32 := Scalar.muli arg1 c512_i32
  let v37 : BitVec 32 := v36
  let v72 : Index := Scalar.indexCast v37
  ![0, v72.toNat]
def k0_mult4 (i : grid0.Coords) : BitVec 32 :=
  let arg1 : BitVec 32 := BitVec.ofNat 32 (i 1).val
  let c512_i32 : BitVec 32 := 512#32
  let v33 : BitVec 32 := Scalar.muli arg1 c512_i32
  v33
def k0_off13 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v35 : Index := Scalar.indexCast v34
  let c0_18 : Index := 0#32
  ![v35.toNat, 0]
def k0_off14 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v38 : Index := Scalar.indexCast v34
  let c0_19 : Index := 0#32
  ![v38.toNat, 0]
def k0_off15 (i : grid0.Coords) : Fin 3 → Nat :=
  let c0_24 : Index := 0#32
  let c0_25 : Index := 0#32
  let arg1 : BitVec 32 := BitVec.ofNat 32 (i 1).val
  let c512_i32 : BitVec 32 := 512#32
  let v33 : BitVec 32 := Scalar.muli arg1 c512_i32
  let v34 : BitVec 32 := v33
  let v53 : Index := Scalar.indexCast v34
  ![0, 0, v53.toNat]
def k0_off16 (i : grid0.Coords) : Fin 2 → Nat :=
  let c0_30 : Index := 0#32
  let arg1 : BitVec 32 := BitVec.ofNat 32 (i 1).val
  let c512_i32 : BitVec 32 := 512#32
  let v33 : BitVec 32 := Scalar.muli arg1 c512_i32
  let v34 : BitVec 32 := v33
  let v69 : Index := Scalar.indexCast v34
  ![0, v69.toNat]
@[reducible] def k0_t1_loop (i : grid0.Coords) : Scf.Loop 32 :=
  let c0_i32_9 : BitVec 32 := 0#32
  let c7_i32 : BitVec 32 := 7#32
  let arg1 : BitVec 32 := BitVec.ofNat 32 (i 1).val
  let v10 : BitVec 32 := Scalar.subi c7_i32 arg1
  let c4_i32 : BitVec 32 := 4#32
  let v11 : BitVec 32 := Scalar.divsi v10 c4_i32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_10 : BitVec 32 := 1#32
  ⟨c0_i32_9, v23, c1_i32_10⟩
def k0_mult5 (i : grid0.Coords) (k0_t1 : Fin (k0_t1_loop i).trips) : BitVec 32 :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let c1_i32_10 : BitVec 32 := 1#32
  let arg12 : BitVec 32 := Scf.iv c0_i32_9 c1_i32_10 k0_t1
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  v37
def k0_off17 (i : grid0.Coords) (k0_t1 : Fin (k0_t1_loop i).trips) : Fin 2 → Nat :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let c1_i32_10 : BitVec 32 := 1#32
  let arg12 : BitVec 32 := Scf.iv c0_i32_9 c1_i32_10 k0_t1
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v39 : Index := Scalar.indexCast v38
  let c0_20 : Index := 0#32
  ![v39.toNat, 0]
def k0_off18 (i : grid0.Coords) (k0_t1 : Fin (k0_t1_loop i).trips) : Fin 2 → Nat :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let c1_i32_10 : BitVec 32 := 1#32
  let arg12 : BitVec 32 := Scf.iv c0_i32_9 c1_i32_10 k0_t1
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v42 : Index := Scalar.indexCast v38
  let c0_21 : Index := 0#32
  ![v42.toNat, 0]
def k0_off19 (i : grid0.Coords) (k0_t1 : Fin (k0_t1_loop i).trips) : Fin 3 → Nat :=
  let c0_23 : Index := 0#32
  let c0_24 : Index := 0#32
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let c1_i32_10 : BitVec 32 := 1#32
  let arg12 : BitVec 32 := Scf.iv c0_i32_9 c1_i32_10 k0_t1
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v46 : Index := Scalar.indexCast v38
  ![0, 0, v46.toNat]
def k0_off20 (i : grid0.Coords) (k0_t1 : Fin (k0_t1_loop i).trips) : Fin 2 → Nat :=
  let c0_29 : Index := 0#32
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let c1_i32_10 : BitVec 32 := 1#32
  let arg12 : BitVec 32 := Scf.iv c0_i32_9 c1_i32_10 k0_t1
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v62 : Index := Scalar.indexCast v38
  ![0, v62.toNat]
@[reducible] def k0_t2_loop (i : grid0.Coords) : Scf.Loop 32 :=
  let c0_i32_9 : BitVec 32 := 0#32
  let c7_i32 : BitVec 32 := 7#32
  let arg1 : BitVec 32 := BitVec.ofNat 32 (i 1).val
  let v10 : BitVec 32 := Scalar.subi c7_i32 arg1
  let c4_i32 : BitVec 32 := 4#32
  let v11 : BitVec 32 := Scalar.divsi v10 c4_i32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let v20 : BitVec 32 := Scalar.addi c0_i32_9 v19
  let c1_i32_11 : BitVec 32 := 1#32
  ⟨v23, v20, c1_i32_11⟩
def k0_mult6 (i : grid0.Coords) (k0_t2 : Fin (k0_t2_loop i).trips) : BitVec 32 :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  v37
def k0_off21 (i : grid0.Coords) (k0_t2 : Fin (k0_t2_loop i).trips) : Fin 2 → Nat :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v39 : Index := Scalar.indexCast v38
  let c0_20 : Index := 0#32
  ![v39.toNat, 0]
def k0_off22 (i : grid0.Coords) (k0_t2 : Fin (k0_t2_loop i).trips) : Fin 2 → Nat :=
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v42 : Index := Scalar.indexCast v38
  let c0_21 : Index := 0#32
  ![v42.toNat, 0]
def k0_off23 (i : grid0.Coords) (k0_t2 : Fin (k0_t2_loop i).trips) : Fin 3 → Nat :=
  let c0_23 : Index := 0#32
  let c0_24 : Index := 0#32
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v46 : Index := Scalar.indexCast v38
  ![0, 0, v46.toNat]
def k0_off24 (i : grid0.Coords) (k0_t2 : Fin (k0_t2_loop i).trips) : Fin 2 → Nat :=
  let c0_29 : Index := 0#32
  let arg1 : BitVec 32 := BitVec.ofNat 32 (i 1).val
  let c1_i32_18 : BitVec 32 := 1#32
  let v33 : BitVec 32 := Scalar.addi arg1 c1_i32_18
  let c7_i32_5 : BitVec 32 := 7#32
  let v12 : BitVec 32 := Scalar.subi c7_i32_5 arg1
  let c7_i32 : BitVec 32 := 7#32
  let v10 : BitVec 32 := Scalar.subi c7_i32 arg1
  let c4_i32 : BitVec 32 := 4#32
  let v11 : BitVec 32 := Scalar.divsi v10 c4_i32
  let c4_i32_6 : BitVec 32 := 4#32
  let v13 : BitVec 32 := Scalar.muli v11 c4_i32_6
  let v14 : BitVec 32 := Scalar.subi v12 v13
  let v34 : BitVec 32 := Scalar.addi v33 v14
  let c0_i32_9 : BitVec 32 := 0#32
  let v19 : BitVec 32 := Scalar.subi v11 c0_i32_9
  let c1_i32 : BitVec 32 := 1#32
  let v21 : BitVec 32 := Scalar.divsi v19 c1_i32
  let v22 : BitVec 32 := Scalar.muli v21 c1_i32
  let v23 : BitVec 32 := Scalar.addi c0_i32_9 v22
  let c1_i32_11 : BitVec 32 := 1#32
  let arg12 : BitVec 32 := Scf.iv v23 c1_i32_11 k0_t2
  let c4_i32_19 : BitVec 32 := 4#32
  let v35 : BitVec 32 := Scalar.muli arg12 c4_i32_19
  let v36 : BitVec 32 := Scalar.addi v34 v35
  let c512_i32 : BitVec 32 := 512#32
  let v37 : BitVec 32 := Scalar.muli v36 c512_i32
  let v38 : BitVec 32 := v37
  let v62 : Index := Scalar.indexCast v38
  ![0, v62.toNat]
def k0_cond5 (i : grid0.Coords) : BitVec 1 :=
  let arg1 : BitVec 32 := BitVec.ofNat 32 (i 1).val
  let c7_i32_16 : BitVec 32 := 7#32
  let v30 : BitVec 1 := Scalar.cmpi .eq arg1 c7_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
variable {F : FTy → Type} [FloatOps F] [Named F]
def κ : String → Option EReal := fun
  | "ln2" => some ((Real.log 2 : ℝ) : EReal)
  | "mask" => some ⊥
  | "scale" => some (((Real.sqrt 192)⁻¹ * (Real.log 2)⁻¹ : ℝ) : EReal)
  | _ => none
-- ==== Reference4Ideal.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x4096x256 : Shape := ⟨3, ![8, 4096, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x8x256, .f32⟩
  | .hbm, ⟨5, _⟩ => ⟨S4096x8x256, .f32⟩
  | .hbm, ⟨6, _⟩ => ⟨S8x4096x4096, .f32⟩
  | .hbm, ⟨7, _⟩ => ⟨S_, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .i1⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S4096x8x128, .f32⟩
  | .hbm, ⟨66, _⟩ => ⟨S8x128x4096, .f32⟩
  | .hbm, ⟨67, _⟩ => ⟨S4096x8x128, .f32⟩
  | .hbm, ⟨68, _⟩ => ⟨S4096x1024, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S4096x1024, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x256, .f32⟩
  | .hbm, ⟨95, _⟩ => ⟨S4096x8x256, .f32⟩
  | .hbm, ⟨96, _⟩ => ⟨S8x4096x256, .f32⟩
  | .hbm, ⟨97, _⟩ => ⟨S4096x8x256, .f32⟩
  | .hbm, ⟨98, _⟩ => ⟨S4096x2048, .f32⟩
  | .hbm, ⟨99, _⟩ => ⟨S4096x2048, .f32⟩
  | .hbm, ⟨100, _⟩ => ⟨S4096x2048, .bf16⟩
  | .hbm, ⟨101, _⟩ => ⟨S4096x2048, .bf16⟩
  | .hbm, ⟨102, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_v14_1 : Ref sig .tc := ⟨.hbm, 22, rfl⟩
abbrev main_call0_v2 : Ref sig .tc := ⟨.hbm, 23, rfl⟩
abbrev main_v14_0 : Ref sig .tc := ⟨.hbm, 24, rfl⟩
abbrev main_call0_cst : Ref sig .tc := ⟨.hbm, 25, rfl⟩
abbrev main_v14_2 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S8x4096x704 : Shape := ⟨3, ![8, 4096, 704]⟩
abbrev S4x704x4096 : Shape := ⟨3, ![4, 704, 4096]⟩
abbrev S1024x4096 : Shape := ⟨2, ![1024, 4096]⟩
abbrev S4096x1 : Shape := ⟨2, ![4096, 1]⟩
abbrev S256x1024 : Shape := ⟨2, ![256, 1024]⟩
abbrev S8x256x704 : Shape := ⟨3, ![8, 256, 704]⟩
abbrev S4x704x256 : Shape := ⟨3, ![4, 704, 256]⟩
abbrev S1024x256 : Shape := ⟨2, ![1024, 256]⟩
abbrev S256x1 : Shape := ⟨2, ![256, 1]⟩
abbrev S256 : Shape := ⟨1, ![256]⟩
abbrev S1x1024x704 : Shape := ⟨3, ![1, 1024, 704]⟩
abbrev S1024x704 : Shape := ⟨2, ![1024, 704]⟩
abbrev S256x704 : Shape := ⟨2, ![256, 704]⟩
abbrev S704x256 : Shape := ⟨2, ![704, 256]⟩
abbrev S1x704x256 : Shape := ⟨3, ![1, 704, 256]⟩
abbrev S1x256x704 : Shape := ⟨3, ![1, 256, 704]⟩
abbrev S2x352x1024 : Shape := ⟨3, ![2, 352, 1024]⟩
abbrev S704x1024 : Shape := ⟨2, ![704, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x8x704, .f32⟩
  | .hbm, ⟨5, _⟩ => ⟨S8x1024x704, .f32⟩
  | .hbm, ⟨6, _⟩ => ⟨S8x1024x704, .bf16⟩
  | .hbm, ⟨7, _⟩ => ⟨S2816x1024, .bf16⟩
  | .hbm, ⟨8, _⟩ => ⟨S8x352x1024, .bf16⟩
  | .hbm, ⟨9, _⟩ => ⟨S4096x1024, .f32⟩
  | .hbm, ⟨10, _⟩ => ⟨S8x4096x704, .bf16⟩
  | .hbm, ⟨11, _⟩ => ⟨S4x704x4096, .bf16⟩
  | .hbm, ⟨12, _⟩ => ⟨S1024x4096, .bf16⟩
  | .hbm, ⟨13, _⟩ => ⟨S4096x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x704, .bf16⟩
  | .local _ .vmem, ⟨4, _⟩ => ⟨S8x352x1024, .bf16⟩
  | .local _ .vmem, ⟨5, _⟩ => ⟨S256x1024, .f32⟩
  | .local _ .vmem, ⟨6, _⟩ => ⟨S256x1024, .f32⟩
  | .local _ .vmem, ⟨7, _⟩ => ⟨S8x256x704, .bf16⟩
  | .local _ .vmem, ⟨8, _⟩ => ⟨S8x256x704, .bf16⟩
  | .local _ .vmem, ⟨9, _⟩ => ⟨S4x704x256, .bf16⟩
  | .local _ .vmem, ⟨10, _⟩ => ⟨S4x704x256, .bf16⟩
  | .local _ .vmem, ⟨11, _⟩ => ⟨S1024x256, .bf16⟩
  | .local _ .vmem, ⟨12, _⟩ => ⟨S1024x256, .bf16⟩
  | .local _ .vmem, ⟨13, _⟩ => ⟨S256x1, .f32⟩
  | .local _ .vmem, ⟨14, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x704x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x8x704 : Shape := ⟨3, ![4096, 8, 704]⟩
abbrev S8x4096x704 : Shape := ⟨3, ![8, 4096, 704]⟩
abbrev S2816x4096 : Shape := ⟨2, ![2816, 4096]⟩
abbrev S4x704x4096 : Shape := ⟨3, ![4, 704, 4096]⟩
abbrev S1024x4096 : Shape := ⟨2, ![1024, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x5632, .f32⟩
  | .hbm, ⟨49, _⟩ => ⟨S4096x8x704, .f32⟩
  | .hbm, ⟨50, _⟩ => ⟨S8x4096x704, .f32⟩
  | .hbm, ⟨51, _⟩ => ⟨S4096x2816, .f32⟩
  | .hbm, ⟨52, _⟩ => ⟨S2816x4096, .f32⟩
  | .hbm, ⟨53, _⟩ => ⟨S4x704x4096, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x2816, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x4096x704, .bf16⟩
  | .hbm, ⟨72, _⟩ => ⟨S4x704x4096, .bf16⟩
  | .hbm, ⟨73, _⟩ => ⟨S1024x4096, .f32⟩
  | .hbm, ⟨74, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_cst_2 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x4288 : Shape := ⟨2, ![1024, 4288]⟩
abbrev S1024x1536 : Shape := ⟨2, ![1024, 1536]⟩
abbrev S1024x3x512 : Shape := ⟨3, ![1024, 3, 512]⟩
abbrev S3x1024x512 : Shape := ⟨3, ![3, 1024, 512]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S1024x2048 : Shape := ⟨2, ![1024, 2048]⟩
abbrev S3x4096x512 : Shape := ⟨3, ![3, 4096, 512]⟩
abbrev S4096x768 : Shape := ⟨2, ![4096, 768]⟩
abbrev S4096x2048 : Shape := ⟨2, ![4096, 2048]⟩
abbrev S1024x4096 : Shape := ⟨2, ![1024, 4096]⟩
abbrev S4096x1 : Shape := ⟨2, ![4096, 1]⟩
abbrev S512x1024 : Shape := ⟨2, ![512, 1024]⟩
abbrev S3x512x512 : Shape := ⟨3, ![3, 512, 512]⟩
abbrev S512x768 : Shape := ⟨2, ![512, 768]⟩
abbrev S512x2048 : Shape := ⟨2, ![512, 2048]⟩
abbrev S1024x512 : Shape := ⟨2, ![1024, 512]⟩
abbrev S512x1 : Shape := ⟨2, ![512, 1]⟩
abbrev S512 : Shape := ⟨1, ![512]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4288, .f32⟩
  | .hbm, ⟨3, _⟩ => ⟨S1024x1536, .f32⟩
  | .hbm, ⟨4, _⟩ => ⟨S1024x3x512, .f32⟩
  | .hbm, ⟨5, _⟩ => ⟨S3x1024x512, .f32⟩
  | .hbm, ⟨6, _⟩ => ⟨S3x1024x512, .bf16⟩
  | .hbm, ⟨7, _⟩ => ⟨S1024x704, .f32⟩
  | .hbm, ⟨8, _⟩ => ⟨S_, .f32⟩
  | .hbm, ⟨9, _⟩ => ⟨S1024x64, .f32⟩
  | .hbm, ⟨10, _⟩ => ⟨S1024x768, .f32⟩
  | .hbm, ⟨11, _⟩ => ⟨S1024x768, .bf16⟩
  | .hbm, ⟨12, _⟩ => ⟨S1024x2048, .f32⟩
  | .hbm, ⟨13, _⟩ => ⟨S1024x2048, .bf16⟩
  | .hbm, ⟨14, _⟩ => ⟨S3x4096x512, .bf16⟩
  | .hbm, ⟨15, _⟩ => ⟨S4096x768, .f32⟩
  | .hbm, ⟨16, _⟩ => ⟨S4096x2048, .bf16⟩
  | .hbm, ⟨17, _⟩ => ⟨S1024x4096, .bf16⟩
  | .hbm, ⟨18, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x1024x512, .bf16⟩
  | .local _ .vmem, ⟨4, _⟩ => ⟨S1024x768, .bf16⟩
  | .local _ .vmem, ⟨5, _⟩ => ⟨S1024x2048, .bf16⟩
  | .local _ .vmem, ⟨6, _⟩ => ⟨S3x512x512, .bf16⟩
  | .local _ .vmem, ⟨7, _⟩ => ⟨S3x512x512, .bf16⟩
  | .local _ .vmem, ⟨8, _⟩ => ⟨S512x768, .f32⟩
  | .local _ .vmem, ⟨9, _⟩ => ⟨S512x768, .f32⟩
  | .local _ .vmem, ⟨10, _⟩ => ⟨S512x2048, .bf16⟩
  | .local _ .vmem, ⟨11, _⟩ => ⟨S512x2048, .bf16⟩
  | .local _ .vmem, ⟨12, _⟩ => ⟨S1024x512, .bf16⟩
  | .local _ .vmem, ⟨13, _⟩ => ⟨S1024x512, .bf16⟩
  | .local _ .vmem, ⟨14, _⟩ => ⟨S512x1, .f32⟩
  | .local _ .vmem, ⟨15, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v10_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4096x1024 : Shape := ⟨2, ![4096, 1024]⟩
abbrev S1x1024 : Shape := ⟨2, ![1, 1024]⟩
abbrev S1024x4288 : Shape := ⟨2, ![1024, 4288]⟩
abbrev S_ : Shape := ⟨0, ![]⟩
abbrev S4096 : Shape := ⟨1, ![4096]⟩
abbrev S4096x1 : Shape := ⟨2, ![4096, 1]⟩
abbrev S4096x4288 : Shape := ⟨2, ![4096, 4288]⟩
abbrev S4096x1536 : Shape := ⟨2, ![4096, 1536]⟩
abbrev S4096x3x512 : Shape := ⟨3, ![4096, 3, 512]⟩
abbrev S3x4096x512 : Shape := ⟨3, ![3, 4096, 512]⟩
abbrev S4096x704 : Shape := ⟨2, ![4096, 704]⟩
abbrev S4096x64 : Shape := ⟨2, ![4096, 64]⟩
abbrev S4096x768 : Shape := ⟨2, ![4096, 768]⟩
abbrev S4096x2048 : Shape := ⟨2, ![4096, 2048]⟩
abbrev S1024x4096 : Shape := ⟨2, ![1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4288, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4288, .f32⟩
  | .hbm, ⟨19, _⟩ => ⟨S4096x1536, .f32⟩
  | .hbm, ⟨20, _⟩ => ⟨S4096x3x512, .f32⟩
  | .hbm, ⟨21, _⟩ => ⟨S3x4096x512, .f32⟩
  | .hbm, ⟨22, _⟩ => ⟨S4096x704, .f32⟩
  | .hbm, ⟨23, _⟩ => ⟨S_, .f32⟩
  | .hbm, ⟨24, _⟩ => ⟨S4096x64, .f32⟩
  | .hbm, ⟨25, _⟩ => ⟨S4096x768, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S3x4096x512, .bf16⟩
  | .hbm, ⟨38, _⟩ => ⟨S4096x2048, .f32⟩
  | .hbm, ⟨39, _⟩ => ⟨S4096x2048, .bf16⟩
  | .hbm, ⟨40, _⟩ => ⟨S1024x4096, .f32⟩
  | .hbm, ⟨41, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x4288 : Shape := ⟨2, ![1024, 4288]⟩
abbrev S4096x4288 : Shape := ⟨2, ![4096, 4288]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x3x512 : Shape := ⟨3, ![4096, 3, 512]⟩
abbrev S3x4096x512 : Shape := ⟨3, ![3, 4096, 512]⟩
abbrev S4096x704 : Shape := ⟨2, ![4096, 704]⟩
abbrev S4096x64 : Shape := ⟨2, ![4096, 64]⟩
abbrev S4096x768 : Shape := ⟨2, ![4096, 768]⟩
abbrev S4096x2048 : Shape := ⟨2, ![4096, 2048]⟩
abbrev S1024x1536 : Shape := ⟨2, ![1024, 1536]⟩
abbrev S1024x3x512 : Shape := ⟨3, ![1024, 3, 512]⟩
abbrev S3x1024x512 : Shape := ⟨3, ![3, 1024, 512]⟩
abbrev S1024x704 : Shape := ⟨2, ![1024, 704]⟩
abbrev S1024x64 : Shape := ⟨2, ![1024, 64]⟩
abbrev S1024x768 : Shape := ⟨2, ![1024, 768]⟩
abbrev S1024x2048 : Shape := ⟨2, ![1024, 2048]⟩
abbrev S3x512x512 : Shape := ⟨3, ![3, 512, 512]⟩
abbrev S512x768 : Shape := ⟨2, ![512, 768]⟩
abbrev S512x2048 : Shape := ⟨2, ![512, 2048]⟩
abbrev S512x1024 : Shape := ⟨2, ![512, 1024]⟩
abbrev S512x1 : Shape := ⟨2, ![512, 1]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S1024 : Shape := ⟨1, ![1024]⟩

abbrev nBuf : Space → Nat
  | .hbm => 40
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4288, .f32⟩
  | .hbm, ⟨3, _⟩ => ⟨S4096x4288, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1536, .f32⟩
  | .hbm, ⟨17, _⟩ => ⟨S4096x3x512, .f32⟩
  | .hbm, ⟨18, _⟩ => ⟨S3x4096x512, .f32⟩
  | .hbm, ⟨19, _⟩ => ⟨S3x4096x512, .bf16⟩
  | .hbm, ⟨20, _⟩ => ⟨S4096x704, .f32⟩
  | .hbm, ⟨21, _⟩ => ⟨S_, .f32⟩
  | .hbm, ⟨22, _⟩ => ⟨S4096x64, .f32⟩
  | .hbm, ⟨23, _⟩ => ⟨S4096x768, .f32⟩
  | .hbm, ⟨24, _⟩ => ⟨S4096x768, .bf16⟩
  | .hbm, ⟨25, _⟩ => ⟨S4096x2048, .f32⟩
  | .hbm, ⟨26, _⟩ => ⟨S4096x2048, .bf16⟩
  | .hbm, ⟨27, _⟩ => ⟨S1024x1536, .f32⟩
  | .hbm, ⟨28, _⟩ => ⟨S1024x3x512, .f32⟩
  | .hbm, ⟨29, _⟩ => ⟨S3x1024x512, .f32⟩
  | .hbm, ⟨30, _⟩ => ⟨S3x1024x512, .bf16⟩
  | .hbm, ⟨31, _⟩ => ⟨S1024x704, .f32⟩
  | .hbm, ⟨32, _⟩ => ⟨S_, .f32⟩
  | .hbm, ⟨33, _⟩ => ⟨S1024x64, .f32⟩
  | .hbm, ⟨34, _⟩ => ⟨S1024x768, .f32⟩
  | .hbm, ⟨35, _⟩ => ⟨S1024x768, .bf16⟩
  | .hbm, ⟨36, _⟩ => ⟨S1024x2048, .f32⟩
  | .hbm, ⟨37, _⟩ => ⟨S1024x2048, .bf16⟩
  | .hbm, ⟨38, _⟩ => ⟨S4096x1024, .f32⟩
  | .hbm, ⟨39, _⟩ => ⟨S1x1024, .f32⟩
  | .local _ .vmem, ⟨0, _⟩ => ⟨S3x512x512, .bf16⟩
  | .local _ .vmem, ⟨1, _⟩ => ⟨S3x512x512, .bf16⟩
  | .local _ .vmem, ⟨2, _⟩ => ⟨S512x768, .bf16⟩
  | .local _ .vmem, ⟨3, _⟩ => ⟨S512x768, .bf16⟩
  | .local _ .vmem, ⟨4, _⟩ => ⟨S512x2048, .bf16⟩
  | .local _ .vmem, ⟨5, _⟩ => ⟨S512x2048, .bf16⟩
  | .local _ .vmem, ⟨6, _⟩ => ⟨S3x1024x512, .bf16⟩
  | .local _ .vmem, ⟨7, _⟩ => ⟨S1024x768, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S4096x1024 : Shape := ⟨2, ![4096, 1024]⟩
abbrev S1x1024 : Shape := ⟨2, ![1, 1024]⟩
abbrev S1024x4288 : Shape := ⟨2, ![1024, 4288]⟩
abbrev S4096x4288 : Shape := ⟨2, ![4096, 4288]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4288, .f32⟩
  | .hbm, ⟨3, _⟩ => ⟨S4096x4288, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4288, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Lift.lean ====
/- Hand-written, untrusted: REAL NUMBERS INSIDE THE EXTENDED REALS. Each lemma says that an operation of the ideal
   instance applied to operands that are real numbers gives the real number that the same operation on reals gives.
   They are stated so that they chain as terms: from `a = ↑x` and `b = ↑y` comes `a * b = ↑(x * y)`. -/
module

public import Idealize.ShloMosaic.PureOps.Ideal
public import Idealize.ShloMosaic.PureOps.Ideal.Laws

@[expose] public section

noncomputable section

namespace Cert.Lift

open Idealize.ShloMosaic

variable {φ : FTy} {a b : EReal} {x y : ℝ}

theorem mulC (ha : a = (x : EReal)) (hb : b = (y : EReal)) : a * b = ((x * y : ℝ) : EReal) := by
  rw [ha, hb, EReal.coe_mul]
theorem addC (ha : a = (x : EReal)) (hb : b = (y : EReal)) : a + b = ((x + y : ℝ) : EReal) := by
  rw [ha, hb, EReal.coe_add]
theorem subC (ha : a = (x : EReal)) (hb : b = (y : EReal)) : a - b = ((x - y : ℝ) : EReal) := by
  rw [ha, hb, EReal.coe_sub]
theorem negC (ha : a = (x : EReal)) : -a = ((-x : ℝ) : EReal) := by rw [ha, EReal.coe_neg]
theorem zeroAddC {z : EReal} (hz : z = 0) (ha : a = (x : EReal)) : z + a = (x : EReal) := by rw [hz, ha, zero_add]

theorem divC (ha : a = (x : EReal)) (hb : b = (y : EReal)) (hy : y ≠ 0) : Ideal.div a b = ((x / y : ℝ) : EReal) := by
  rw [ha, hb, Ideal.div, if_neg (by exact_mod_cast hy), ← EReal.coe_inv, ← EReal.coe_mul, div_eq_mul_inv]
theorem expC (ha : a = (x : EReal)) : Ideal.exp a = ((Real.exp x : ℝ) : EReal) := by rw [ha, Ideal.exp_coe]
theorem rsqrtC (ha : a = (x : EReal)) (hx : 0 < x) : Ideal.rsqrt a = (((Real.sqrt x)⁻¹ : ℝ) : EReal) := by
  rw [ha, Ideal.rsqrt_coe, if_neg (not_lt.mpr hx.le), if_neg hx.ne']

theorem sumC {ι : Type*} (s : Finset ι) {f : ι → EReal} {g : ι → ℝ} (h : ∀ k, f k = (g k : EReal)) :
    ∑ k ∈ s, f k = ((∑ k ∈ s, g k : ℝ) : EReal) := by
  classical
  rw [Finset.sum_congr rfl fun k _ => h k]
  induction s using Finset.induction_on with
  | empty => simp
  | insert a s ha ih => rw [Finset.sum_insert ha, Finset.sum_insert ha, ih, EReal.coe_add]

/-! The same, at the names the printed programs use. -/

theorem mulF {a b : Ideal φ} (ha : a = (x : EReal)) (hb : b = (y : EReal)) : FloatOps.mulf a b = ((x * y : ℝ) : EReal) := mulC ha hb
theorem addF {a b : Ideal φ} (ha : a = (x : EReal)) (hb : b = (y : EReal)) : FloatOps.addf a b = ((x + y : ℝ) : EReal) := addC ha hb
theorem subF {a b : Ideal φ} (ha : a = (x : EReal)) (hb : b = (y : EReal)) : FloatOps.subf a b = ((x - y : ℝ) : EReal) := subC ha hb
theorem negH {a : Ideal φ} (ha : a = (x : EReal)) : FloatOps.hostNegf a = ((-x : ℝ) : EReal) := negC ha
theorem divH {a b : Ideal φ} (ha : a = (x : EReal)) (hb : b = (y : EReal)) (hy : y ≠ 0) :
    FloatOps.hostDivf a b = ((x / y : ℝ) : EReal) := divC ha hb hy
theorem expH {a : Ideal φ} (ha : a = (x : EReal)) : FloatOps.hostUnary .exp a = ((Real.exp x : ℝ) : EReal) := expC ha
theorem rsqrtH {a : Ideal φ} (ha : a = (x : EReal)) (hx : 0 < x) :
    FloatOps.hostUnary .rsqrt a = (((Real.sqrt x)⁻¹ : ℝ) : EReal) := rsqrtC ha hx

/-! ## The literals of the programs -/

/-- The word of 1e-6. -/
def eps : ℝ := 8796093 / 8796093022208

theorem eps_pos : 0 < eps := by unfold eps; norm_num

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x358637BD#32 = ((eps : ℝ) : EReal) := by
  unfold eps
  simp [Ideal.ofBits, Ideal.ieee, -EReal.coe_mul]; norm_num
theorem lit_top : Ideal.ofBits .f32 0x7F800000#32 = ⊤ := by simp [Ideal.ofBits, Ideal.ieee]
theorem lit_bot : Ideal.ofBits .f32 0xFF800000#32 = ⊥ := by simp [Ideal.ofBits, Ideal.ieee]

end Cert.Lift

end
-- ==== Proof.FfnReal.lean ====
/- Hand-written, untrusted: THE GRADIENT OF THE HALF-STEP FEED-FORWARD BLOCK OVER THE REALS. `h` are the activations (one
   row per token), `g` the gain of the normalisation, `W` the gate and up projections side by side, `Wd` the down
   projection, `ct` the gradient of the block's result. The definitions ending in `R` follow the reference: autodiff of
   `h + (silu gate · up) · Wd / 2`. The ones ending in `K` follow the kernel: saved derivatives of the gate times one
   product, and the closed form of the normalisation's gradient. The theorems at the end say that the two agree. -/
module

public import proofs.«01_k».proof.Proof.Lift
public import Idealize.ShloMosaic.Lib.Pipeline.Value
public import Idealize.ShloMosaic.Lib.ValueIdx

@[expose] public section

noncomputable section

namespace Cert.Ffn

open Cert.Lift Idealize.ShloMosaic

variable (h : Fin 4096 → Fin 1024 → ℝ) (g : Fin 1024 → ℝ) (W : Fin 1024 → Fin 5632 → ℝ) (Wd : Fin 2816 → Fin 1024 → ℝ)
  (ct : Fin 4096 → Fin 1024 → ℝ)

/-! ## The forward values -/

def ms (r : Fin 4096) : ℝ := (∑ k, h r k * h r k) / 1024 + eps
def rs (r : Fin 4096) : ℝ := (Real.sqrt (ms h r))⁻¹
def xh (r : Fin 4096) (k : Fin 1024) : ℝ := h r k * rs h r
def nrm (r : Fin 4096) (k : Fin 1024) : ℝ := xh h r k * g k
def z (r : Fin 4096) (j : Fin 5632) : ℝ := ∑ k, nrm h g r k * W k j
def colG (j : Fin 2816) : Fin 5632 := ⟨j.val, by omega⟩
def colU (j : Fin 2816) : Fin 5632 := ⟨2816 + j.val, by omega⟩
def gt (r : Fin 4096) (j : Fin 2816) : ℝ := z h g W r (colG j)
def up (r : Fin 4096) (j : Fin 2816) : ℝ := z h g W r (colU j)
def sg (x : ℝ) : ℝ := 1 / (1 + Real.exp (-x))
/-- A column of the joined projections is a column of the gate or of the up projection. -/
def joined {α : Type} (a b : Fin 2816 → α) (j : Fin 5632) : α :=
  if hj : j.val < 2816 then a ⟨j.val, hj⟩ else b ⟨j.val - 2816, by omega⟩

theorem ms_pos (r : Fin 4096) : 0 < ms h r := by
  unfold ms
  have := eps_pos
  have : 0 ≤ ∑ k, h r k * h r k := Finset.sum_nonneg fun k _ => mul_self_nonneg _
  positivity

theorem sg_den_ne (x : ℝ) : 1 + Real.exp (-x) ≠ 0 := by positivity

/-! ## As the reference differentiates -/

def daR (r : Fin 4096) (j : Fin 2816) : ℝ := ∑ k, (1 / 2 * ct r k) * Wd j k
def dgR (r : Fin 4096) (j : Fin 2816) : ℝ :=
  daR Wd ct r j * up h g W r j * sg (gt h g W r j)
    + gt h g W r j * (daR Wd ct r j * up h g W r j) * (sg (gt h g W r j) * (1 - sg (gt h g W r j)))
def duR (r : Fin 4096) (j : Fin 2816) : ℝ := gt h g W r j * sg (gt h g W r j) * daR Wd ct r j
def dzR (r : Fin 4096) (j : Fin 5632) : ℝ := joined (dgR h g W Wd ct r) (duR h g W Wd ct r) j
def dnR (r : Fin 4096) (k : Fin 1024) : ℝ := ∑ j, dzR h g W Wd ct r j * W k j
def dgainR (k : Fin 1024) : ℝ := ∑ r, xh h r k * dnR h g W Wd ct r k
def tR (r : Fin 4096) (k : Fin 1024) : ℝ := dnR h g W Wd ct r k * g k
def cR (r : Fin 4096) : ℝ := (∑ k, h r k * tR h g W Wd ct r k) * (-1 / 2 * (rs h r / ms h r)) / 1024
def outR (r : Fin 4096) (k : Fin 1024) : ℝ :=
  ct r k + (tR h g W Wd ct r k * rs h r + h r k * cR h g W Wd ct r + cR h g W Wd ct r * h r k)

/-! ## As the kernel computes -/

/-- The saved derivatives of half the gated product by the gate and by the up projection. -/
def jgK (r : Fin 4096) (j : Fin 2816) : ℝ :=
  1 / 2 * 1 * up h g W r j * sg (gt h g W r j)
    + gt h g W r j * (1 / 2 * 1 * up h g W r j) * (sg (gt h g W r j) * (1 - sg (gt h g W r j)))
def juK (r : Fin 4096) (j : Fin 2816) : ℝ := gt h g W r j * sg (gt h g W r j) * (1 / 2 * 1)
def jacK (r : Fin 4096) (j : Fin 5632) : ℝ := joined (jgK h g W r) (juK h g W r) j
def daK (r : Fin 4096) (j : Fin 2816) : ℝ := ∑ k, ct r k * Wd j k
def dzK (r : Fin 4096) (j : Fin 5632) : ℝ := joined (daK Wd ct r) (daK Wd ct r) j * jacK h g W r j

/-- Column `j` of slot `d` of the eight slots. -/
def slotCol (d : Fin 8) (j : Fin 704) : Fin 5632 := ⟨d.val * 704 + j.val, by omega⟩
/-- Slot `d`'s part of the product with the transposed projections. -/
def part (r : Fin 4096) (k : Fin 1024) (d : Fin 8) : ℝ := ∑ j, dzK h g W Wd ct r (slotCol d j) * W k (slotCol d j)
def dnK (r : Fin 4096) (k : Fin 1024) : ℝ :=
  0 + part h g W Wd ct r k 0 + part h g W Wd ct r k 4 + part h g W Wd ct r k 1 + part h g W Wd ct r k 5
    + part h g W Wd ct r k 2 + part h g W Wd ct r k 6 + part h g W Wd ct r k 3 + part h g W Wd ct r k 7
def tK (r : Fin 4096) (k : Fin 1024) : ℝ := dnK h g W Wd ct r k * g k
def outK (r : Fin 4096) (k : Fin 1024) : ℝ :=
  ct r k + rs h r * (tK h g W Wd ct r k - xh h r k * ((∑ k, tK h g W Wd ct r k * xh h r k) / 1024))

/-- Two operands joined along their columns: at column `j` the first below 2816, then the second. -/
theorem concat_joined (x y : (⟨2, ![4096, 2816]⟩ : Shape).Idx → EReal)
    (hc : Shape.Concatenates [⟨2, ![4096, 2816]⟩, ⟨2, ![4096, 2816]⟩] ⟨2, ![4096, 5632]⟩ 1)
    {a b : Fin 4096 → Fin 2816 → ℝ} (hx : ∀ i, x i = (a (i 0) (i 1) : EReal)) (hy : ∀ i, y i = (b (i 0) (i 1) : EReal))
    (i : (⟨2, ![4096, 5632]⟩ : Shape).Idx) :
    concatenate ⟨2, ![4096, 5632]⟩ 1 [⟨⟨2, ![4096, 2816]⟩, x⟩, ⟨⟨2, ![4096, 2816]⟩, y⟩] hc i
      = ((joined (a (i 0)) (b (i 0)) (i 1) : ℝ) : EReal) := by
  have b1 : (i 1).val < 5632 := (i 1).isLt
  unfold joined
  split
  · next hj =>
    rw [concatenate_pair_apply_left 1 x y hc i rfl (ValueIdx.ix2 (i 0) ⟨(i 1).val, hj⟩)
      (by intro c; match c with | ⟨0, _⟩ => rfl | ⟨1, _⟩ => rfl), hx]
  · next hj =>
    rw [concatenate_pair_apply_right 1 x y hc i rfl rfl (ValueIdx.ix2 (i 0) ⟨(i 1).val - 2816, by omega⟩)
      (by intro c hne; match c with | ⟨0, _⟩ => rfl | ⟨1, _⟩ => exact absurd rfl hne)
      (by show (i 1).val - 2816 + 2816 = (i 1).val; omega), hy]

/-! ## The two agree -/

theorem joined_apply {α β : Type} (f : α → β) (a b : Fin 2816 → α) (j : Fin 5632) :
    f (joined a b j) = joined (fun j => f (a j)) (fun j => f (b j)) j := by
  unfold joined; split <;> rfl

theorem joined_mul (a b c d : Fin 2816 → ℝ) (j : Fin 5632) :
    joined a b j * joined c d j = joined (fun j => a j * c j) (fun j => b j * d j) j := by
  unfold joined; split <;> rfl

theorem daR_eq (r : Fin 4096) (j : Fin 2816) : daR Wd ct r j = 1 / 2 * daK Wd ct r j := by
  unfold daR daK
  rw [Finset.mul_sum]
  exact Finset.sum_congr rfl fun k _ => by ring

theorem dz_eq (r : Fin 4096) (j : Fin 5632) : dzK h g W Wd ct r j = dzR h g W Wd ct r j := by
  unfold dzK dzR jacK
  rw [joined_mul]
  congr 1
  · funext j; unfold jgK dgR; rw [daR_eq]; ring
  · funext j; unfold juK duR; rw [daR_eq]; ring

/-- A sum over all columns, slot by slot. -/
theorem sum_slots (f : Fin 5632 → ℝ) : ∑ j, f j = ∑ d : Fin 8, ∑ j : Fin 704, f (slotCol d j) := by
  rw [← Fintype.sum_prod_type', ← Equiv.sum_comp (finProdFinEquiv (m := 8) (n := 704))]
  refine Finset.sum_congr rfl fun p _ => congrArg f (Fin.ext ?_)
  show p.2.val + 704 * p.1.val = p.1.val * 704 + p.2.val
  omega

theorem dn_eq (r : Fin 4096) (k : Fin 1024) : dnK h g W Wd ct r k = dnR h g W Wd ct r k := by
  unfold dnK dnR
  rw [sum_slots fun j => dzR h g W Wd ct r j * W k j, Fin.sum_univ_eight]
  unfold part
  simp only [dz_eq]
  ring

/-- The gradient of the normalisation, in closed form: with `s = 1/√m`, `s/m = s·s·s`. -/
theorem norm_grad (n : ℕ) (x t : Fin n → ℝ) (m N : ℝ) (hm : 0 < m) (k : Fin n) :
    (Real.sqrt m)⁻¹ * (t k - x k * (Real.sqrt m)⁻¹ * ((∑ i, t i * (x i * (Real.sqrt m)⁻¹)) / N))
      = t k * (Real.sqrt m)⁻¹ + x k * ((∑ i, x i * t i) * (-1 / 2 * ((Real.sqrt m)⁻¹ / m)) / N)
        + (∑ i, x i * t i) * (-1 / 2 * ((Real.sqrt m)⁻¹ / m)) / N * x k := by
  have hs : (∑ i, t i * (x i * (Real.sqrt m)⁻¹)) = (∑ i, x i * t i) * (Real.sqrt m)⁻¹ := by
    rw [Finset.sum_mul]; exact Finset.sum_congr rfl fun i _ => by ring
  have hq : m⁻¹ = (Real.sqrt m)⁻¹ * (Real.sqrt m)⁻¹ := by
    rw [← mul_inv, Real.mul_self_sqrt hm.le]
  rw [hs, div_eq_mul_inv _ m, hq]
  ring

theorem out_eq (r : Fin 4096) (k : Fin 1024) : outK h g W Wd ct r k = outR h g W Wd ct r k := by
  have e : tK h g W Wd ct r = tR h g W Wd ct r := by funext k; unfold tK tR; rw [dn_eq]
  unfold outK outR cR
  rw [e]
  exact congrArg (ct r k + ·) (norm_grad 1024 (h r) (tR h g W Wd ct r) (ms h r) 1024 (ms_pos h r) k)

end Cert.Ffn

end
-- ==== Proof.Dot.lean ====
/- Hand-written, untrusted: PRODUCTS OF TWO MATRICES READ AT AN INDEX. For each of the three ways a product contracts
   (rows with columns, columns with columns, rows with rows), the sum over the contracted coordinate, with the operands'
   elements real numbers. -/
module

public import proofs.«01_k».proof.Proof.Lift
public import Idealize.ShloMosaic.Lib.ValueIdx
public import Idealize.ShloMosaic.Lib.Pipeline.Value

@[expose] public section

noncomputable section

namespace Cert.Lift

open Idealize.ShloMosaic Idealize.ShloMosaic.ValueIdx

variable {M N K : ℕ} {φ₁ φ₂ : FTy}

/-- The left operand's index keeps the result's row. -/
theorem lhs_row {sl sr : Shape} (d : DotDims sl sr ⟨2, ![M, N]⟩) {cl nl : Fin sl.rank} (hc : d.lhsContracting = [cl])
    (hn : d.lhsNonContracting = [nl]) (hb : d.lhsBatch = []) (j : (⟨2, ![M, N]⟩ : Shape).Idx) (k : d.contr.Idx) :
    (d.lhsIdx j k nl).val = (j 0).val := by
  obtain ⟨lc, rc, ln, rn, lb, rb, wf⟩ := d
  subst hc hn hb
  unfold DotDims.lhsIdx
  rw [dif_neg (by simp), dif_pos (by simp)]
  refine congrArg (fun a => (j a).val) (Fin.ext ?_)
  show ([] : List (Fin sl.rank)).length + List.idxOf nl [nl] = 0
  simp

/-- The right operand's index keeps the result's column. -/
theorem rhs_col {sl sr : Shape} (d : DotDims sl sr ⟨2, ![M, N]⟩) {nl : Fin sl.rank} {nr : Fin sr.rank}
    (hn : d.lhsNonContracting = [nl]) (hr : d.rhsNonContracting = [nr]) (hb : d.rhsBatch = []) (hbl : d.lhsBatch = [])
    (j : (⟨2, ![M, N]⟩ : Shape).Idx) (k : d.contr.Idx) :
    (d.rhsIdx j k nr).val = (j 1).val := by
  obtain ⟨lc, rc, ln, rn, lb, rb, wf⟩ := d
  subst hn hr hb hbl
  unfold DotDims.rhsIdx
  rw [dif_neg (by simp), dif_pos (by simp)]
  refine congrArg (fun a => (j a).val) (Fin.ext ?_)
  show ([] : List (Fin sl.rank)).length + [nl].length + List.idxOf nr [nr] = 1
  simp

/-- The contracted coordinates. -/
theorem contr_l {sl sr so : Shape} (d : DotDims sl sr so) {cl : Fin sl.rank} (hc : d.lhsContracting = [cl]) (j : so.Idx)
    (hr : d.contr.rank = 1) (hs : d.contr.size ⟨0, by omega⟩ = K) (k : Fin K) :
    (d.lhsIdx j ((contrEquiv1 d K hr hs).symm k) cl).val = k.val :=
  (d.lhsIdx_val_of_single hc j _).trans (contrEquiv1_symm_val d K hr hs k)

theorem contr_r {sl sr so : Shape} (d : DotDims sl sr so) {cr : Fin sr.rank} (hc : d.rhsContracting = [cr]) (j : so.Idx)
    (hr : d.contr.rank = 1) (hs : d.contr.size ⟨0, by omega⟩ = K) (k : Fin K) :
    (d.rhsIdx j ((contrEquiv1 d K hr hs).symm k) cr).val = k.val :=
  (d.rhsIdx_val_of_single hc j _).trans (contrEquiv1_symm_val d K hr hs k)

theorem contr_rank {sl sr so : Shape} (d : DotDims sl sr so) {cl : Fin sl.rank} (hc : d.lhsContracting = [cl]) :
    d.contr.rank = 1 := by rw [d.rank_contr, hc]; rfl

theorem contr_size {sl sr so : Shape} (d : DotDims sl sr so) {cl : Fin sl.rank} (hc : d.lhsContracting = [cl])
    (hs : sl.size cl = K) (h0 : 0 < d.contr.rank) : d.contr.size ⟨0, h0⟩ = K := by
  obtain ⟨lc, rc, ln, rn, lb, rb, wf⟩ := d
  have hc : lc = [cl] := hc
  clear * - hc hs
  subst hc
  exact hs

/-- Columns with columns: `(A · Bᵀ) i j = ∑ k, A i k · B j k`. -/
theorem sumNT (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = [])
    (f : (⟨2, ![M, K]⟩ : Shape).Idx → EReal) (g : (⟨2, ![N, K]⟩ : Shape).Idx → EReal) (j : (⟨2, ![M, N]⟩ : Shape).Idx) :
    ∑ k : d.contr.Idx, f (d.lhsIdx j k) * g (d.rhsIdx j k) = ∑ k : Fin K, f (ix2 (j 0) k) * g (ix2 (j 1) k) := by
  rw [← Equiv.sum_comp (contrEquiv1 d K (contr_rank d h1) (contr_size d h1 rfl (by rw [contr_rank d h1]; exact Nat.one_pos))).symm]
  refine Finset.sum_congr rfl fun k _ => ?_
  refine congrArg₂ (fun a b => f a * g b) (funext fun a => Fin.ext ?_) (funext fun a => Fin.ext ?_)
  · match a with
    | ⟨0, _⟩ => exact lhs_row d h1 h3 h5 j _
    | ⟨1, _⟩ => exact contr_l d h1 j _ _ k
  · match a with
    | ⟨0, _⟩ => exact rhs_col d h3 h4 h6 h5 j _
    | ⟨1, _⟩ => exact contr_r d h2 j _ _ k

/-- Columns with rows: `(A · B) i j = ∑ k, A i k · B k j`. -/
theorem sumNN (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    (f : (⟨2, ![M, K]⟩ : Shape).Idx → EReal) (g : (⟨2, ![K, N]⟩ : Shape).Idx → EReal) (j : (⟨2, ![M, N]⟩ : Shape).Idx) :
    ∑ k : d.contr.Idx, f (d.lhsIdx j k) * g (d.rhsIdx j k) = ∑ k : Fin K, f (ix2 (j 0) k) * g (ix2 k (j 1)) := by
  rw [← Equiv.sum_comp (contrEquiv1 d K (contr_rank d h1) (contr_size d h1 rfl (by rw [contr_rank d h1]; exact Nat.one_pos))).symm]
  refine Finset.sum_congr rfl fun k _ => ?_
  refine congrArg₂ (fun a b => f a * g b) (funext fun a => Fin.ext ?_) (funext fun a => Fin.ext ?_)
  · match a with
    | ⟨0, _⟩ => exact lhs_row d h1 h3 h5 j _
    | ⟨1, _⟩ => exact contr_l d h1 j _ _ k
  · match a with
    | ⟨0, _⟩ => exact contr_r d h2 j _ _ k
    | ⟨1, _⟩ => exact rhs_col d h3 h4 h6 h5 j _

/-- Rows with rows: `(Aᵀ · B) i j = ∑ k, A k i · B k j`. -/
theorem sumTN (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = [])
    (f : (⟨2, ![K, M]⟩ : Shape).Idx → EReal) (g : (⟨2, ![K, N]⟩ : Shape).Idx → EReal) (j : (⟨2, ![M, N]⟩ : Shape).Idx) :
    ∑ k : d.contr.Idx, f (d.lhsIdx j k) * g (d.rhsIdx j k) = ∑ k : Fin K, f (ix2 k (j 0)) * g (ix2 k (j 1)) := by
  rw [← Equiv.sum_comp (contrEquiv1 d K (contr_rank d h1) (contr_size d h1 rfl (by rw [contr_rank d h1]; exact Nat.one_pos))).symm]
  refine Finset.sum_congr rfl fun k _ => ?_
  refine congrArg₂ (fun a b => f a * g b) (funext fun a => Fin.ext ?_) (funext fun a => Fin.ext ?_)
  · match a with
    | ⟨0, _⟩ => exact contr_l d h1 j _ _ k
    | ⟨1, _⟩ => exact lhs_row d h1 h3 h5 j _
  · match a with
    | ⟨0, _⟩ => exact contr_r d h2 j _ _ k
    | ⟨1, _⟩ => exact rhs_col d h3 h4 h6 h5 j _

/-- The kernel's products, over operands that are real. -/
theorem matmulNT (d : DotDims ⟨2, ![M, K]⟩ ⟨2, ![N, K]⟩ ⟨2, ![M, N]⟩) (h1 : d.lhsContracting = [1]) (h2 : d.rhsContracting = [1])
    (h3 : d.lhsNonContracting = [0]) (h4 : d.rhsNonContracting = [0]) (h5 : d.lhsBatch = []) (h6 : d.rhsBatch = [])
    (prec : Option ContractPrecision) {x : FVec Ideal ⟨2, ![M, K]⟩ φ₁} {y : FVec Ideal ⟨2, ![N, K]⟩ φ₂}
    {a : Fin M → Fin K → ℝ} {b : Fin N → Fin K → ℝ} (hx : ∀ i, x i = (a (i 0) (i 1) : EReal)) (hy : ∀ i, y i = (b (i 0) (i 1) : EReal))
    (j : (⟨2, ![M, N]⟩ : Shape).Idx) :
    FloatOps.matmul d prec x y (constant ⟨2, ![M, N]⟩ .f32 0x00000000#32) j = ((∑ k, a (j 0) k * b (j 1) k : ℝ) : EReal) :=
  (Ideal.matmul_constant_zero_apply d prec x y j).trans ((sumNT d h1 h2 h3 h4 h5 h6 x y j).trans
    (sumC _ fun k => mulC (hx (ix2 (j 0) k)) (hy (ix2 (j 1) k))))

theorem matmulNN (d : DotDims ⟨2, ![M, K]⟩ ⟨2, ![K, N]⟩ ⟨2, ![M, N]⟩) (h1 : d.lhsContracting = [1]) (h2 : d.rhsContracting = [0])
    (h3 : d.lhsNonContracting = [0]) (h4 : d.rhsNonContracting = [1]) (h5 : d.lhsBatch = []) (h6 : d.rhsBatch = [])
    (prec : Option ContractPrecision) {x : FVec Ideal ⟨2, ![M, K]⟩ φ₁} {y : FVec Ideal ⟨2, ![K, N]⟩ φ₂}
    {a : Fin M → Fin K → ℝ} {b : Fin K → Fin N → ℝ} (hx : ∀ i, x i = (a (i 0) (i 1) : EReal)) (hy : ∀ i, y i = (b (i 0) (i 1) : EReal))
    (j : (⟨2, ![M, N]⟩ : Shape).Idx) :
    FloatOps.matmul d prec x y (constant ⟨2, ![M, N]⟩ .f32 0x00000000#32) j = ((∑ k, a (j 0) k * b k (j 1) : ℝ) : EReal) :=
  (Ideal.matmul_constant_zero_apply d prec x y j).trans ((sumNN d h1 h2 h3 h4 h5 h6 x y j).trans
    (sumC _ fun k => mulC (hx (ix2 (j 0) k)) (hy (ix2 k (j 1)))))

theorem matmulTN (d : DotDims ⟨2, ![K, M]⟩ ⟨2, ![K, N]⟩ ⟨2, ![M, N]⟩) (h1 : d.lhsContracting = [0]) (h2 : d.rhsContracting = [0])
    (h3 : d.lhsNonContracting = [1]) (h4 : d.rhsNonContracting = [1]) (h5 : d.lhsBatch = []) (h6 : d.rhsBatch = [])
    (prec : Option ContractPrecision) {x : FVec Ideal ⟨2, ![K, M]⟩ φ₁} {y : FVec Ideal ⟨2, ![K, N]⟩ φ₂}
    {a : Fin K → Fin M → ℝ} {b : Fin K → Fin N → ℝ} (hx : ∀ i, x i = (a (i 0) (i 1) : EReal)) (hy : ∀ i, y i = (b (i 0) (i 1) : EReal))
    (j : (⟨2, ![M, N]⟩ : Shape).Idx) :
    FloatOps.matmul d prec x y (constant ⟨2, ![M, N]⟩ .f32 0x00000000#32) j = ((∑ k, a k (j 0) * b k (j 1) : ℝ) : EReal) :=
  (Ideal.matmul_constant_zero_apply d prec x y j).trans ((sumTN d h1 h2 h3 h4 h5 h6 x y j).trans
    (sumC _ fun k => mulC (hx (ix2 k (j 0))) (hy (ix2 k (j 1)))))

end Cert.Lift

end
-- ==== Proof.Rows.lean ====
/- Hand-written, untrusted: ROWS AND COLUMNS OF A BLOCK. A column or a row repeated over a block, and a block of reals summed
   along its rows or along its columns. -/
module

public import proofs.«01_k».proof.Proof.Lift
public import Idealize.ShloMosaic.Lib.Pipeline.Value
public import Idealize.ShloMosaic.Lib.ValueIdx

@[expose] public section

noncomputable section

namespace Cert.Lift

open Idealize.ShloMosaic
open Idealize.ShloMosaic.ValueIdx (ix1 ix2 ix3)

variable {M N : ℕ} {α : Type} {φ : FTy}

/-- A column repeated over a block. -/
theorem bcol (v : (⟨2, ![M, 1]⟩ : Shape).Idx → α) (h : Shape.Broadcasts ⟨2, ![M, 1]⟩ ⟨2, ![M, N]⟩) (i : (⟨2, ![M, N]⟩ : Shape).Idx) :
    broadcastTo ⟨2, ![M, N]⟩ v h i = v (ix2 (i 0) (0 : Fin 1)) := by
  refine broadcastTo_apply v h i _ fun a => ?_
  match a with
  | ⟨0, _⟩ =>
    have b0 : (i 0).val < M := (i 0).isLt
    show (i 0).val = if M = 1 then 0 else (i 0).val
    split <;> omega
  | ⟨1, _⟩ => rfl

/-- A row repeated over a block. -/
theorem brow (v : (⟨2, ![1, N]⟩ : Shape).Idx → α) (h : Shape.Broadcasts ⟨2, ![1, N]⟩ ⟨2, ![M, N]⟩) (i : (⟨2, ![M, N]⟩ : Shape).Idx) :
    broadcastTo ⟨2, ![M, N]⟩ v h i = v (ix2 (0 : Fin 1) (i 1)) := by
  refine broadcastTo_apply v h i _ fun a => ?_
  match a with
  | ⟨0, _⟩ => rfl
  | ⟨1, _⟩ =>
    have b1 : (i 1).val < N := (i 1).isLt
    show (i 1).val = if N = 1 then 0 else (i 1).val
    split <;> omega

/-- A vector stood up as a column. -/
theorem stand (v : (⟨1, ![M]⟩ : Shape).Idx → α) (h : Shape.ShapeCasts ⟨1, ![M]⟩ ⟨2, ![M, 1]⟩) (i : (⟨2, ![M, 1]⟩ : Shape).Idx) :
    shapeCast ⟨2, ![M, 1]⟩ v h i = v (ix1 (i 0)) :=
  shapeCast_apply v h i _ (by
    have b1 : (i 1).val < 1 := (i 1).isLt
    rw [Shape.rowMajor_val_one, Shape.rowMajor_val_two]
    show (i 0).val = (i 0).val * 1 + (i 1).val
    omega)

/-- A vector laid down as a row. -/
theorem lay (v : (⟨1, ![N]⟩ : Shape).Idx → α) (h : Shape.ShapeCasts ⟨1, ![N]⟩ ⟨2, ![1, N]⟩) (i : (⟨2, ![1, N]⟩ : Shape).Idx) :
    shapeCast ⟨2, ![1, N]⟩ v h i = v (ix1 (i 1)) :=
  shapeCast_apply v h i _ (by
    have b0 : (i 0).val < 1 := (i 0).isLt
    have e0 : (i 0).val = 0 := by omega
    rw [Shape.rowMajor_val_one, Shape.rowMajor_val_two]
    show (i 1).val = (i 0).val * N + (i 1).val
    rw [e0]; omega)

/-- Each row of a real block summed. -/
theorem rowSum {x : FVec Ideal ⟨2, ![M, N]⟩ φ} {f : Fin M → Fin N → ℝ} (hx : ∀ i, x i = (f (i 0) (i 1) : EReal)) (acc : BitVec φ.bits)
    (h : Shape.Reduces ⟨2, ![M, N]⟩ [1] ⟨1, ![M]⟩) (hφ : FKind.Formats φ) (hacc : acc = FKind.add.neutral φ hφ) (j : (⟨1, ![M]⟩ : Shape).Idx) :
    multiReduction .add [1] ⟨1, ![M]⟩ x acc h hφ hacc j = ((∑ k, f (j 0) k : ℝ) : EReal) :=
  (Ideal.multiReduction_add_single x acc h hφ hacc j).trans (sumC Finset.univ fun k => hx (h.lift j k))

/-- Each column of a real block summed. -/
theorem colSum {x : FVec Ideal ⟨2, ![M, N]⟩ φ} {f : Fin M → Fin N → ℝ} (hx : ∀ i, x i = (f (i 0) (i 1) : EReal)) (acc : BitVec φ.bits)
    (h : Shape.Reduces ⟨2, ![M, N]⟩ [0] ⟨1, ![N]⟩) (hφ : FKind.Formats φ) (hacc : acc = FKind.add.neutral φ hφ) (j : (⟨1, ![N]⟩ : Shape).Idx) :
    multiReduction .add [0] ⟨1, ![N]⟩ x acc h hφ hacc j = ((∑ k, f k (j 0) : ℝ) : EReal) :=
  (Ideal.multiReduction_add_single x acc h hφ hacc j).trans (sumC Finset.univ fun k => hx (h.lift j k))

end Cert.Lift

end
-- ==== Proof.FfnBody.lean ====
/- Hand-written, untrusted: WHAT ONE GRID POINT OF THE FEED-FORWARD GRADIENT COMPUTES. A grid point takes 256 rows of the
   result's gradient, the saved derivatives of the same rows in eight slots, all projections in eight slots, and the rows'
   activations and reciprocal standard deviations. `Tab` holds these as tables of reals; the theorems say which reals the
   three stored blocks hold. -/
module

public import proofs.«01_k».proof.Proof.Dot
public import proofs.«01_k».proof.Proof.Rows
public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

noncomputable section

namespace Cert.Ffn.Body

open Cert.KernelIdeal Cert.KernelIdeal.Gen Cert.Lift
open Idealize.ShloMosaic Idealize.ShloMosaic.TcCoe Idealize.SL.Sem
open Idealize.ShloMosaic.ValueIdx (ix1 ix2 ix3)
open Idealize.ShloMosaic.View (TileAt canon_eq_of_allAt allAt_cons_unit allAt_nil ld_unit_apply_of)

/-- The blocks of one grid point, as tables of reals. -/
structure Tab where
  ct : Fin 256 → Fin 1024 → ℝ
  jac : Fin 8 → Fin 256 → Fin 704 → ℝ
  gu : Fin 8 → Fin 1024 → Fin 704 → ℝ
  dn : Fin 8 → Fin 352 → Fin 1024 → ℝ
  h : Fin 256 → Fin 1024 → ℝ
  rs : Fin 256 → ℝ
  g : Fin 1024 → ℝ

namespace Tab

variable (T : Tab)

/-- Row `j` of the two neighbouring slots `2d`, `2d + 1` of the down projection laid one under the other. -/
def pair (d : Fin 4) (j : Fin 704) (k : Fin 1024) : ℝ :=
  T.dn ⟨2 * d.val + j.val / 352, by omega⟩ ⟨j.val % 352, Nat.mod_lt _ (by norm_num)⟩ k
def da (d : Fin 4) (r : Fin 256) (j : Fin 704) : ℝ := ∑ k, T.ct r k * T.pair d j k
def dz (s : Fin 8) (r : Fin 256) (j : Fin 704) : ℝ := T.da ⟨s.val % 4, Nat.mod_lt _ (by norm_num)⟩ r j * T.jac s r j
def part (s : Fin 8) (r : Fin 256) (k : Fin 1024) : ℝ := ∑ j, T.dz s r j * T.gu s k j
def dnr (r : Fin 256) (k : Fin 1024) : ℝ :=
  0 + T.part 0 r k + T.part 4 r k + T.part 1 r k + T.part 5 r k + T.part 2 r k + T.part 6 r k + T.part 3 r k + T.part 7 r k
def xh (r : Fin 256) (k : Fin 1024) : ℝ := T.h r k * T.rs r
def t (r : Fin 256) (k : Fin 1024) : ℝ := T.dnr r k * T.g k
def out (r : Fin 256) (k : Fin 1024) : ℝ :=
  T.ct r k + T.rs r * (T.t r k - T.xh r k * ((∑ k, T.t r k * T.xh r k) / 1024))
def gain (k : Fin 1024) : ℝ := ∑ r, T.dnr r k * T.xh r k

end Tab

/-! ## The arithmetic of the body -/

/-- Two slots of the down projection reshaped to one matrix. -/
theorem pair_apply {v : FVec Ideal S2x352x1024 .bf16} {b : Fin 704 → Fin 1024 → ℝ}
    (hv : ∀ i : S2x352x1024.Idx, v i = (b ⟨(i 0).val * 352 + (i 1).val, by
      have h0 : (i 0).val < 2 := (i 0).isLt; have h1 : (i 1).val < 352 := (i 1).isLt; omega⟩ (i 2) : EReal)) (j : S704x1024.Idx) :
    shapeCast S704x1024 (shapeCast S2x352x1024 v shapeCasts_S2x352x1024_S2x352x1024) shapeCasts_S2x352x1024_S704x1024 j
      = (b (j 0) (j 1) : EReal) := by
  have b0 : (j 0).val < 704 := (j 0).isLt
  rw [shapeCast_self, shapeCast_apply v _ j (ix3 ⟨(j 0).val / 352, by omega⟩ ⟨(j 0).val % 352, by omega⟩ (j 1))
    (by rw [Shape.rowMajor_val_three, Shape.rowMajor_val_two]
        show ((j 0).val / 352 * 352 + (j 0).val % 352) * 1024 + (j 1).val = (j 0).val * 1024 + (j 1).val
        omega), hv]
  refine congrArg (fun a => ((b a (j 1) : ℝ) : EReal)) (Fin.ext ?_)
  show (j 0).val / 352 * 352 + (j 0).val % 352 = (j 0).val
  omega

theorem act_apply {v : FVec Ideal S1x256x704 .bf16} {b : Fin 256 → Fin 704 → ℝ}
    (hv : ∀ i : S1x256x704.Idx, v i = (b (i 1) (i 2) : EReal)) (j : S256x704.Idx) :
    shapeCast S256x704 v shapeCasts_S1x256x704_S256x704 j = (b (j 0) (j 1) : EReal) := by
  rw [shapeCast_apply v _ j (ix3 ⟨0, by omega⟩ (j 0) (j 1))
    (by rw [Shape.rowMajor_val_three, Shape.rowMajor_val_two]
        show (0 * 256 + (j 0).val) * 704 + (j 1).val = (j 0).val * 704 + (j 1).val
        omega), hv]

theorem gu_apply {v : FVec Ideal S1x1024x704 .bf16} {b : Fin 1024 → Fin 704 → ℝ}
    (hv : ∀ i : S1x1024x704.Idx, v i = (b (i 1) (i 2) : EReal)) (j : S1024x704.Idx) :
    shapeCast S1024x704 v shapeCasts_S1x1024x704_S1024x704 j = (b (j 0) (j 1) : EReal) := by
  rw [shapeCast_apply v _ j (ix3 ⟨0, by omega⟩ (j 0) (j 1))
    (by rw [Shape.rowMajor_val_three, Shape.rowMajor_val_two]
        show (0 * 1024 + (j 0).val) * 704 + (j 1).val = (j 0).val * 704 + (j 1).val
        omega), hv]

theorem store_apply {v : FVec Ideal S256x704 .bf16} {b : Fin 256 → Fin 704 → ℝ}
    (hv : ∀ i : S256x704.Idx, v i = (b (i 0) (i 1) : EReal)) (j : S1x256x704.Idx) :
    shapeCast S1x256x704 v shapeCasts_S256x704_S1x256x704 j = (b (j 1) (j 2) : EReal) := by
  have b0 : (j 0).val < 1 := (j 0).isLt
  rw [shapeCast_apply v _ j (ix2 (j 1) (j 2))
    (by rw [Shape.rowMajor_val_three, Shape.rowMajor_val_two]
        show (j 1).val * 704 + (j 2).val = ((j 0).val * 256 + (j 1).val) * 704 + (j 2).val
        omega), hv]

section

variable {v4 : FVec Ideal S256x1024 .bf16} {w : FVec Ideal S2x352x1024 .bf16} {a : FVec Ideal S1x256x704 .bf16}
  {u : FVec Ideal S1x1024x704 .bf16}
variable (T : Tab) (s : Fin 8)

def IsCt (v4 : FVec Ideal S256x1024 .bf16) : Prop := ∀ i, v4 i = (T.ct (i 0) (i 1) : EReal)
def IsDn (d : Fin 4) (w : FVec Ideal S2x352x1024 .bf16) : Prop :=
  ∀ i, w i = (T.dn ⟨2 * d.val + (i 0).val, by have h0 : (i 0).val < 2 := (i 0).isLt; omega⟩ (i 1) (i 2) : EReal)
def IsJac (a : FVec Ideal S1x256x704 .bf16) : Prop := ∀ i, a i = (T.jac s (i 1) (i 2) : EReal)
def IsGu (u : FVec Ideal S1x1024x704 .bf16) : Prop := ∀ i, u i = (T.gu s (i 1) (i 2) : EReal)

variable {T s}

theorem da_apply {d : Fin 4} (h4 : IsCt T v4) (hw : IsDn T d w) (i : S256x704.Idx) :
    k0_pay12 v4 w i = (T.da d (i 0) (i 1) : EReal) := by
  unfold k0_pay12
  refine matmulNT _ rfl rfl rfl rfl rfl rfl none (a := T.ct) (b := T.pair d) h4 (fun j => pair_apply (fun i => ?_) j) i
  have h0 : (i 0).val < 2 := (i 0).isLt
  have h1 : (i 1).val < 352 := (i 1).isLt
  refine (hw i).trans ?_
  unfold Tab.pair
  refine congrArg₂ (fun x y => ((T.dn x y (i 2) : ℝ) : EReal)) (Fin.ext ?_) (Fin.ext ?_)
  · show 2 * d.val + (i 0).val = 2 * d.val + ((i 0).val * 352 + (i 1).val) / 352; omega
  · show (i 1).val = ((i 0).val * 352 + (i 1).val) % 352; omega

theorem dz_apply {d : Fin 4} (hd : d.val = s.val % 4) (h4 : IsCt T v4) (hw : IsDn T d w) (ha : IsJac T s a) (i : S256x704.Idx) :
    k0_pay13 v4 w a i = (T.dz s (i 0) (i 1) : EReal) := by
  obtain rfl : d = ⟨s.val % 4, Nat.mod_lt _ (by norm_num)⟩ := Fin.ext hd
  unfold k0_pay13
  exact mulC (da_apply h4 hw i) (act_apply ha i)

theorem st_apply {d : Fin 4} (hd : d.val = s.val % 4) (h4 : IsCt T v4) (hw : IsDn T d w) (ha : IsJac T s a) (i : S1x256x704.Idx) :
    k0_pay15 v4 w a i = (T.dz s (i 1) (i 2) : EReal) := by
  unfold k0_pay15
  exact store_apply (dz_apply hd h4 hw ha) i

theorem part_apply {d : Fin 4} (hd : d.val = s.val % 4) (h4 : IsCt T v4) (hw : IsDn T d w) (ha : IsJac T s a) (hu : IsGu T s u)
    (i : S256x1024.Idx) : k0_pay18 v4 w a u i = (T.part s (i 0) (i 1) : EReal) := by
  unfold k0_pay18
  exact matmulNT _ rfl rfl rfl rfl rfl rfl none (a := T.dz s) (b := T.gu s) (dz_apply hd h4 hw ha) (gu_apply hu) i

end

/-- The gradient of the normalised rows: the eight parts added slot pair by slot pair. -/
def dnV (v3 : Vec Ideal S256x1024 .f32) (w : Fin 4 → FVec Ideal S2x352x1024 .bf16) (a : Fin 8 → FVec Ideal S1x256x704 .bf16)
    (u : Fin 8 → FVec Ideal S1x1024x704 .bf16) : FVec Ideal S256x1024 .f32 :=
  k0_pay31 (k0_pay5 v3) (k0_pay24 (k0_pay5 v3) (k0_pay17 (k0_pay5 v3) (k0_pay8 v3 (w 0) (a 4)) (k0_pay11 v3 (w 0) (a 0) (u 0)) (u 4) (w 1) (a 1) (u 1))
    (k0_pay18 (k0_pay5 v3) (w 1) (a 5) (u 5)) (w 2) (a 2) (a 6) (u 2) (u 6)) (k0_pay25 (w 3)) (a 3) (a 7) (u 3) (u 7)

theorem dnV_apply (T : Tab) {v3 : Vec Ideal S256x1024 .f32} {w : Fin 4 → FVec Ideal S2x352x1024 .bf16}
    {a : Fin 8 → FVec Ideal S1x256x704 .bf16} {u : Fin 8 → FVec Ideal S1x1024x704 .bf16} (h3 : IsCt T v3)
    (hw : ∀ d, IsDn T d (w d)) (ha : ∀ s, IsJac T s (a s)) (hu : ∀ s, IsGu T s (u s)) (i : S256x1024.Idx) :
    dnV v3 w a u i = (T.dnr (i 0) (i 1) : EReal) :=
  addC (addC (addC (addC (addC (addC (addC (addC lit_zero
    (part_apply (s := 0) rfl h3 (hw 0) (ha 0) (hu 0) i)) (part_apply (s := 4) rfl h3 (hw 0) (ha 4) (hu 4) i))
    (part_apply (s := 1) rfl h3 (hw 1) (ha 1) (hu 1) i)) (part_apply (s := 5) rfl h3 (hw 1) (ha 5) (hu 5) i))
    (part_apply (s := 2) rfl h3 (hw 2) (ha 2) (hu 2) i)) (part_apply (s := 6) rfl h3 (hw 2) (ha 6) (hu 6) i))
    (part_apply (s := 3) rfl h3 (hw 3) (ha 3) (hu 3) i)) (part_apply (s := 7) rfl h3 (hw 3) (ha 7) (hu 7) i)

/-- The blocks read by a grid point hold the tables. -/
structure Holds (T : Tab) (x0 : Vec Ideal S256x1024 .f32) (x1 : Vec Ideal S8x256x704 .bf16) (x2 : Vec Ideal S8x1024x704 .bf16)
    (x3 : Vec Ideal S8x352x1024 .bf16) (x4 : Vec Ideal S256x1024 .f32) (x5 : Vec Ideal S256x1 .f32) (x6 : Vec Ideal S1x1024 .f32) : Prop where
  ct : ∀ i, x0 i = (T.ct (i 0) (i 1) : EReal)
  jac : ∀ i, x1 i = (T.jac (i 0) (i 1) (i 2) : EReal)
  gu : ∀ i, x2 i = (T.gu (i 0) (i 1) (i 2) : EReal)
  dn : ∀ i, x3 i = (T.dn (i 0) (i 1) (i 2) : EReal)
  h : ∀ i, x4 i = (T.h (i 0) (i 1) : EReal)
  rs : ∀ i, x5 i = (T.rs (i 0) : EReal)
  g : ∀ i, x6 i = (T.g (i 1) : EReal)

/-! ## Slots read -/

theorem inbD (d : Fin 4) (a : Fin 3) : (![2 * d.val, 0, 0] : Fin 3 → Nat) a + (![2, 352, 1024] : Fin 3 → Nat) a ≤ S8x352x1024.size a := by
  fin_cases a
  · show 2 * d.val + 2 ≤ 8; omega
  · exact le_refl 352
  · exact le_refl 1024

theorem inbA (s : Fin 8) (a : Fin 3) : (![s.val, 0, 0] : Fin 3 → Nat) a + (![1, 256, 704] : Fin 3 → Nat) a ≤ S8x256x704.size a := by
  fin_cases a
  · show s.val + 1 ≤ 8; omega
  · exact le_refl 256
  · exact le_refl 704

theorem inbG (s : Fin 8) (a : Fin 3) : (![s.val, 0, 0] : Fin 3 → Nat) a + (![1, 1024, 704] : Fin 3 → Nat) a ≤ S8x1024x704.size a := by
  fin_cases a
  · show s.val + 1 ≤ 8; omega
  · exact le_refl 1024
  · exact le_refl 704

def wS (x3 : Vec Ideal S8x352x1024 .bf16) (d : Fin 4) : FVec Ideal S2x352x1024 .bf16 :=
  View.ld x3 (Rect.unit ![2 * d.val, 0, 0] ![2, 352, 1024] (inbD d))
def aS (x1 : Vec Ideal S8x256x704 .bf16) (s : Fin 8) : FVec Ideal S1x256x704 .bf16 :=
  View.ld x1 (Rect.unit ![s.val, 0, 0] ![1, 256, 704] (inbA s))
def uS (x2 : Vec Ideal S8x1024x704 .bf16) (s : Fin 8) : FVec Ideal S1x1024x704 .bf16 :=
  View.ld x2 (Rect.unit ![s.val, 0, 0] ![1, 1024, 704] (inbG s))

section

variable {T : Tab} {x0 : Vec Ideal S256x1024 .f32} {x1 : Vec Ideal S8x256x704 .bf16} {x2 : Vec Ideal S8x1024x704 .bf16}
  {x3 : Vec Ideal S8x352x1024 .bf16} {x4 : Vec Ideal S256x1024 .f32} {x5 : Vec Ideal S256x1 .f32} {x6 : Vec Ideal S1x1024 .f32}
  (H : Holds T x0 x1 x2 x3 x4 x5 x6)
include H

theorem Holds.w (d : Fin 4) : IsDn T d (wS x3 d) := fun i => by
  have b0 : (i 0).val < 2 := (i 0).isLt
  exact (ld_unit_apply_of x3 _ _ _ i (ix3 ⟨2 * d.val + (i 0).val, by omega⟩ (i 1) (i 2)) (fun a => by
    match a with
    | ⟨0, _⟩ => rfl
    | ⟨1, _⟩ => exact (Nat.zero_add _).symm
    | ⟨2, _⟩ => exact (Nat.zero_add _).symm)).trans (H.dn _)

theorem Holds.a (s : Fin 8) : IsJac T s (aS x1 s) := fun i => by
  have b0 : (i 0).val < 1 := (i 0).isLt
  exact (ld_unit_apply_of x1 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)).trans (H.jac _)

theorem Holds.u (s : Fin 8) : IsGu T s (uS x2 s) := fun i => by
  have b0 : (i 0).val < 1 := (i 0).isLt
  exact (ld_unit_apply_of x2 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)).trans (H.gu _)

theorem Holds.st (d : Fin 4) (s : Fin 8) (hd : d.val = s.val % 4) (i : S1x256x704.Idx) :
    k0_pay15 (k0_pay5 x0) (wS x3 d) (aS x1 s) i = (T.dz s (i 1) (i 2) : EReal) := st_apply hd H.ct (H.w d) (H.a s) i

theorem Holds.dnr (i : S256x1024.Idx) : dnV x0 (wS x3) (aS x1) (uS x2) i = (T.dnr (i 0) (i 1) : EReal) :=
  dnV_apply T H.ct H.w H.a H.u i

theorem Holds.rsB (i : S256x1024.Idx) : k0_pay33 x5 i = (T.rs (i 0) : EReal) := by
  unfold k0_pay33 k0_pay32
  rw [shapeCast_self]
  exact (bcol _ _ i).trans (H.rs _)

theorem Holds.xh (i : S256x1024.Idx) : k0_pay1 x4 (k0_pay33 x5) i = (T.xh (i 0) (i 1) : EReal) :=
  mulC (H.h i) (H.rsB i)

theorem Holds.out (i : S256x1024.Idx) :
    k0_pay2 x0 (dnV x0 (wS x3) (aS x1) (uS x2)) x4 (k0_pay32 x5) x6 (k0_pay33 x5) i = (T.out (i 0) (i 1) : EReal) := by
  have ht : ∀ i, mulf (dnV x0 (wS x3) (aS x1) (uS x2)) (broadcastTo S256x1024 x6 broadcasts_S1x1024_S256x1024) i
      = (T.t (i 0) (i 1) : EReal) := fun i => mulC (H.dnr i) ((brow _ _ i).trans (H.g _))
  unfold k0_pay2
  refine addC (H.ct i) (mulC (H.rsB i) (subC (ht i) (mulC (H.xh i) ?_)))
  refine (bcol _ _ i).trans (divC ?_ lit_1024 (by norm_num))
  exact (stand _ _ _).trans (rowSum (f := fun r k => T.t r k * T.xh r k) (fun i => mulC (ht i) (H.xh i)) _ _ _ _ _)

theorem Holds.gain {xo : Vec Ideal S1x1024 .f32} {p : Fin 1024 → ℝ} (hp : ∀ i, xo i = (p (i 1) : EReal)) (i : S1x1024.Idx) :
    k0_pay3 (dnV x0 (wS x3) (aS x1) (uS x2)) x4 (k0_pay33 x5) xo i = ((p (i 1) + T.gain (i 1) : ℝ) : EReal) := by
  unfold k0_pay3
  rw [shapeCast_self]
  refine addC (hp i) ((lay _ _ i).trans ?_)
  exact colSum (f := fun r k => T.dnr r k * T.xh r k) (fun i => mulC (H.dnr i) (H.xh i)) _ _ _ _ _

end

theorem tile {T : Tab} {y : S8x256x704.Idx} (s : Fin 8) {w : FVec Ideal S1x256x704 .bf16}
    (hw : ∀ x : S1x256x704.Idx, w x = (T.dz s (x 1) (x 2) : EReal)) :
    TileAt (Val := Elt Ideal) (e := .bf16) (S := S8x256x704) y ![s.val, 0, 0] ![1, 256, 704] w ((T.dz (y 0) (y 1) (y 2) : ℝ) : EReal) := fun x hx => by
  have b0 : (x 0).val < 1 := (x 0).isLt
  have e0 : (y 0).val = s.val + (x 0).val := hx 0
  have e1 : (y 1).val = 0 + (x 1).val := hx 1
  have e2 : (y 2).val = 0 + (x 2).val := hx 2
  have f0 : y 0 = s := Fin.ext (by show (y 0).val = s.val; omega)
  have f1 : y 1 = x 1 := Fin.ext (by show (y 1).val = (x 1).val; omega)
  have f2 : y 2 = x 2 := Fin.ext (by show (y 2).val = (x 2).val; omega)
  rw [f0, f1, f2]
  exact hw x

/-! ## The three stored blocks -/

theorem hz2 : (![0, 0] : Fin 2 → Nat) = fun _ => 0 := funext fun a => by fin_cases a <;> rfl

variable (c : Dev nD) (i : grid0.Coords) (a1 : Memref sig .tc .vmem S256x1024 .f32) (h1 : a1.IsWhole) (a2 : Memref sig .tc .vmem S8x256x704 .bf16) (h2 : a2.IsWhole)
  (a3 : Memref sig .tc .vmem S8x1024x704 .bf16) (h3 : a3.IsWhole) (a4 : Memref sig .tc .vmem S8x352x1024 .bf16) (h4 : a4.IsWhole)
  (a5 : Memref sig .tc .vmem S256x1024 .f32) (h5 : a5.IsWhole) (a6 : Memref sig .tc .vmem S256x1 .f32) (h6 : a6.IsWhole)
  (a7 : Memref sig .tc .vmem S1x1024 .f32) (h7 : a7.IsWhole) (a8 : Memref sig .tc .vmem S8x256x704 .bf16) (h8 : a8.IsWhole)
  (a9 : Memref sig .tc .vmem S256x1024 .f32) (h9 : a9.IsWhole) (a10 : Memref sig .tc .vmem S1x1024 .f32) (h10 : a10.IsWhole)
  (x0 : Vec Ideal S256x1024 .f32) (x1 : Vec Ideal S8x256x704 .bf16) (x2 : Vec Ideal S8x1024x704 .bf16) (x3 : Vec Ideal S8x352x1024 .bf16)
  (x4 : Vec Ideal S256x1024 .f32) (x5 : Vec Ideal S256x1 .f32) (x6 : Vec Ideal S1x1024 .f32) (xo : Vec Ideal S1x1024 .f32)

theorem out7_A (hc : cond0_0 i) {T : Tab} (H : Holds T x0 x1 x2 x3 x4 x5 x6) (y : S8x256x704.Idx) :
    out0_A_7 c i a1 h1 a2 h2 a3 h3 a4 h4 a5 h5 a6 h6 a7 h7 a8 h8 a9 h9 a10 h10 hc x0 x1 x2 x3 x4 x5 x6 y = (T.dz (y 0) (y 1) (y 2) : EReal) := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  have hcov := cover0_A_7 c i a1 h1 a2 h2 a3 h3 a4 h4 a5 h5 a6 h6 a7 h7 a8 h8 a9 h9 a10 h10 hc x0 x1 x2 x3 x4 x5 x6 y
  revert hcov
  unfold kernelRun0_A
  dsimp only
  sl_unfold_words
  simp only [View.readAt_eq_ld, h1.read_unread, h2.read_unread, h3.read_unread, h4.read_unread, View.ld_unit_zero (S := S256x1024) hz2]
  intro hcov
  refine canon_eq_of_allAt _ y _ hcov ?_
  refine allAt_cons_unit _ _ _ _ _ (tile 7 (H.st 3 7 rfl)) ?_
  refine allAt_cons_unit _ _ _ _ _ (tile 3 (H.st 3 3 rfl)) ?_
  refine allAt_cons_unit _ _ _ _ _ (tile 6 (H.st 2 6 rfl)) ?_
  refine allAt_cons_unit _ _ _ _ _ (tile 2 (H.st 2 2 rfl)) ?_
  refine allAt_cons_unit _ _ _ _ _ (tile 5 (H.st 1 5 rfl)) ?_
  refine allAt_cons_unit _ _ _ _ _ (tile 1 (H.st 1 1 rfl)) ?_
  refine allAt_cons_unit _ _ _ _ _ (tile 4 (H.st 0 4 rfl)) ?_
  exact allAt_cons_unit _ _ _ _ _ (tile 0 (H.st 0 0 rfl)) (allAt_nil _ _)

theorem out8_A (hc : cond0_0 i) {T : Tab} (H : Holds T x0 x1 x2 x3 x4 x5 x6) (y : S256x1024.Idx) :
    out0_A_8 c i a1 h1 a2 h2 a3 h3 a4 h4 a5 h5 a6 h6 a7 h7 a8 h8 a9 h9 a10 h10 hc x0 x1 x2 x3 x4 x5 x6 y = (T.out (y 0) (y 1) : EReal) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, View.ld_unit_zero (S := S256x1024) hz2,
    View.ld_unit_zero (S := S256x1) hz2, View.ld_unit_zero (S := S1x1024) hz2]
  exact H.out y

theorem out9_A (hc : cond0_0 i) {T : Tab} (H : Holds T x0 x1 x2 x3 x4 x5 x6) (y : S1x1024.Idx) :
    out0_A_9 c i a1 h1 a2 h2 a3 h3 a4 h4 a5 h5 a6 h6 a7 h7 a8 h8 a9 h9 a10 h10 hc x0 x1 x2 x3 x4 x5 x6 y = ((0 + T.gain (y 1) : ℝ) : EReal) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, View.ld_unit_zero (S := S256x1024) hz2,
    View.ld_unit_zero (S := S256x1) hz2, View.ld_unit_zero (S := S1x1024) hz2]
  exact H.gain (xo := k0_pay4 (F := Ideal)) (p := fun _ => 0) (fun _ => lit_zero) y

theorem out7_B (hc : ¬cond0_0 i) {T : Tab} (H : Holds T x0 x1 x2 x3 x4 x5 x6) (y : S8x256x704.Idx) :
    out0_B_7 c i a1 h1 a2 h2 a3 h3 a4 h4 a5 h5 a6 h6 a7 h7 a8 h8 a9 h9 a10 h10 hc x0 x1 x2 x3 x4 x5 x6 xo y = (T.dz (y 0) (y 1) (y 2) : EReal) := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo)]
  have hcov := cover0_B_7 c i a1 h1 a2 h2 a3 h3 a4 h4 a5 h5 a6 h6 a7 h7 a8 h8 a9 h9 a10 h10 hc x0 x1 x2 x3 x4 x5 x6 xo y
  revert hcov
  unfold kernelRun0_B
  dsimp only
  sl_unfold_words
  simp only [View.readAt_eq_ld, h1.read_unread, h2.read_unread, h3.read_unread, h4.read_unread, View.ld_unit_zero (S := S256x1024) hz2]
  intro hcov
  refine canon_eq_of_allAt _ y _ hcov ?_
  refine allAt_cons_unit _ _ _ _ _ (tile 7 (H.st 3 7 rfl)) ?_
  refine allAt_cons_unit _ _ _ _ _ (tile 3 (H.st 3 3 rfl)) ?_
  refine allAt_cons_unit _ _ _ _ _ (tile 6 (H.st 2 6 rfl)) ?_
  refine allAt_cons_unit _ _ _ _ _ (tile 2 (H.st 2 2 rfl)) ?_
  refine allAt_cons_unit _ _ _ _ _ (tile 5 (H.st 1 5 rfl)) ?_
  refine allAt_cons_unit _ _ _ _ _ (tile 1 (H.st 1 1 rfl)) ?_
  refine allAt_cons_unit _ _ _ _ _ (tile 4 (H.st 0 4 rfl)) ?_
  exact allAt_cons_unit _ _ _ _ _ (tile 0 (H.st 0 0 rfl)) (allAt_nil _ _)

theorem out8_B (hc : ¬cond0_0 i) {T : Tab} (H : Holds T x0 x1 x2 x3 x4 x5 x6) (y : S256x1024.Idx) :
    out0_B_8 c i a1 h1 a2 h2 a3 h3 a4 h4 a5 h5 a6 h6 a7 h7 a8 h8 a9 h9 a10 h10 hc x0 x1 x2 x3 x4 x5 x6 xo y = (T.out (y 0) (y 1) : EReal) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, View.ld_unit_zero (S := S256x1024) hz2,
    View.ld_unit_zero (S := S256x1) hz2, View.ld_unit_zero (S := S1x1024) hz2]
  exact H.out y

theorem out9_B (hc : ¬cond0_0 i) {T : Tab} (H : Holds T x0 x1 x2 x3 x4 x5 x6) {p : Fin 1024 → ℝ} (hp : ∀ i, xo i = (p (i 1) : EReal)) (y : S1x1024.Idx) :
    out0_B_9 c i a1 h1 a2 h2 a3 h3 a4 h4 a5 h5 a6 h6 a7 h7 a8 h8 a9 h9 a10 h10 hc x0 x1 x2 x3 x4 x5 x6 xo y = ((p (y 1) + T.gain (y 1) : ℝ) : EReal) := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h10.read_unread, View.ld_unit_zero (S := S256x1024) hz2,
    View.ld_unit_zero (S := S256x1) hz2, View.ld_unit_zero (S := S1x1024) hz2]
  exact H.gain hp y

end Cert.Ffn.Body

end
-- ==== Proof.Upto.lean ====
/- Hand-written, untrusted: A SUM TAKEN TILE BY TILE. `upto f n` is what has been added up after the tiles `0 … n`. -/
module

public import proofs.«01_k».proof.Proof.Lift

@[expose] public section

noncomputable section

namespace Cert.Lift

variable {N : ℕ} (f : Fin N → ℝ)

def upto (n : ℕ) : ℝ := ∑ t : Fin N, if t.val ≤ n then f t else 0

theorem upto_zero (hN : 0 < N) : upto f 0 = 0 + f ⟨0, hN⟩ := by
  unfold upto
  rw [Finset.sum_eq_single (⟨0, hN⟩ : Fin N), zero_add]
  · rfl
  · intro b _ hb
    exact if_neg fun hle => hb (Fin.ext (Nat.le_zero.1 hle))
  · intro hn; exact absurd (Finset.mem_univ _) hn

theorem upto_succ (n : ℕ) (hn : n + 1 < N) : upto f (n + 1) = upto f n + f ⟨n + 1, hn⟩ := by
  unfold upto
  have e : f ⟨n + 1, hn⟩ = ∑ t : Fin N, if t = ⟨n + 1, hn⟩ then f t else 0 := by
    rw [Finset.sum_ite_eq' Finset.univ]; simp
  rw [e, ← Finset.sum_add_distrib]
  refine Finset.sum_congr rfl fun t _ => ?_
  have hq : t = ⟨n + 1, hn⟩ ↔ t.val = n + 1 := Fin.ext_iff
  by_cases h1 : t.val ≤ n
  · have h2 : t.val ≤ n + 1 := by omega
    have h3 : ¬t = ⟨n + 1, hn⟩ := by rw [hq]; omega
    rw [if_pos h1, if_pos h2, if_neg h3, add_zero]
  · by_cases h3 : t = ⟨n + 1, hn⟩
    · have h2 : t.val ≤ n + 1 := by rw [hq] at h3; omega
      rw [if_neg h1, if_pos h2, if_pos h3, zero_add]
    · have h2 : ¬t.val ≤ n + 1 := by rw [hq] at h3; omega
      rw [if_neg h1, if_neg h2, if_neg h3, add_zero]

theorem upto_last (n : ℕ) (h : ∀ t : Fin N, t.val ≤ n) : upto f n = ∑ t, f t :=
  Finset.sum_congr rfl fun t _ => if_pos (h t)

end Cert.Lift

end
-- ==== Proof.FfnTile.lean ====
/- Hand-written, untrusted: THE FEED-FORWARD GRADIENT CUT INTO SIXTEEN TILES OF 256 ROWS. `tab t` is the table of the blocks that
   grid point `t` reads, in terms of the whole arrays; what the body computes of it is the gradient at the tile's rows, and the
   gain's gradient, added up tile by tile, is the sum over all rows. -/
module

public import proofs.«01_k».proof.Proof.FfnReal
public import proofs.«01_k».proof.Proof.FfnBody
public import proofs.«01_k».proof.Proof.Upto

@[expose] public section

noncomputable section

namespace Cert.Ffn

open Cert.Ffn.Body

variable (h : Fin 4096 → Fin 1024 → ℝ) (g : Fin 1024 → ℝ) (W : Fin 1024 → Fin 5632 → ℝ) (Wd : Fin 2816 → Fin 1024 → ℝ)
  (ct : Fin 4096 → Fin 1024 → ℝ)

/-- Row `r` of tile `t`. -/
def row (t : Fin 16) (r : Fin 256) : Fin 4096 := ⟨t.val * 256 + r.val, by omega⟩

def tab (t : Fin 16) : Tab where
  ct := fun r k => ct (row t r) k
  jac := fun s r j => jacK h g W (row t r) (slotCol s j)
  gu := fun s k j => W k (slotCol s j)
  dn := fun s r k => Wd ⟨s.val * 352 + r.val, by omega⟩ k
  h := fun r k => h (row t r) k
  rs := fun r => rs h (row t r)
  g := g

variable (t : Fin 16)

theorem tab_pair (d : Fin 4) (j : Fin 704) (k : Fin 1024) :
    (tab h g W Wd ct t).pair d j k = Wd ⟨d.val * 704 + j.val, by omega⟩ k := by
  show Wd _ k = _
  refine congrArg (fun a => Wd a k) (Fin.ext ?_)
  show (2 * d.val + j.val / 352) * 352 + j.val % 352 = d.val * 704 + j.val
  omega

theorem tab_da (s : Fin 8) (r : Fin 256) (j : Fin 704) :
    (tab h g W Wd ct t).da ⟨s.val % 4, Nat.mod_lt _ (by norm_num)⟩ r j
      = joined (daK Wd ct (row t r)) (daK Wd ct (row t r)) (slotCol s j) := by
  unfold Tab.da joined
  simp only [tab_pair]
  have hs : (slotCol s j).val = s.val * 704 + j.val := rfl
  split
  · next hj =>
    refine Finset.sum_congr rfl fun k _ => congrArg (fun a => ct (row t r) k * Wd a k) (Fin.ext ?_)
    show s.val % 4 * 704 + j.val = s.val * 704 + j.val
    omega
  · next hj =>
    refine Finset.sum_congr rfl fun k _ => congrArg (fun a => ct (row t r) k * Wd a k) (Fin.ext ?_)
    show s.val % 4 * 704 + j.val = s.val * 704 + j.val - 2816
    omega

theorem tab_dz (s : Fin 8) (r : Fin 256) (j : Fin 704) :
    (tab h g W Wd ct t).dz s r j = dzR h g W Wd ct (row t r) (slotCol s j) := by
  rw [← dz_eq]
  unfold Tab.dz dzK
  rw [tab_da]
  rfl

theorem tab_part (s : Fin 8) (r : Fin 256) (k : Fin 1024) :
    (tab h g W Wd ct t).part s r k = part h g W Wd ct (row t r) k s := by
  unfold Tab.part part
  simp only [tab_dz, dz_eq]
  rfl

theorem tab_dnr (r : Fin 256) (k : Fin 1024) : (tab h g W Wd ct t).dnr r k = dnR h g W Wd ct (row t r) k := by
  rw [← dn_eq]
  unfold Tab.dnr dnK
  simp only [tab_part]

theorem tab_out (r : Fin 256) (k : Fin 1024) : (tab h g W Wd ct t).out r k = outR h g W Wd ct (row t r) k := by
  rw [← out_eq]
  unfold Tab.out Tab.t Tab.xh outK tK xh
  simp only [tab_dnr, dn_eq]
  rfl

theorem tab_gain (k : Fin 1024) : (tab h g W Wd ct t).gain k = ∑ r, xh h (row t r) k * dnR h g W Wd ct (row t r) k := by
  unfold Tab.gain
  refine Finset.sum_congr rfl fun r _ => ?_
  rw [tab_dnr, mul_comm]
  rfl

/-- The gain's gradient after the tiles `0 … n`. -/
def gainUpto (n : ℕ) (k : Fin 1024) : ℝ := Lift.upto (fun t => (tab h g W Wd ct t).gain k) n

theorem gainUpto_zero (k : Fin 1024) : gainUpto h g W Wd ct 0 k = 0 + (tab h g W Wd ct 0).gain k := Lift.upto_zero _ (by norm_num)

theorem gainUpto_succ (n : ℕ) (hn : n + 1 < 16) (k : Fin 1024) :
    gainUpto h g W Wd ct (n + 1) k = gainUpto h g W Wd ct n k + (tab h g W Wd ct ⟨n + 1, hn⟩).gain k := Lift.upto_succ _ n hn

theorem gainUpto_last (k : Fin 1024) : gainUpto h g W Wd ct 15 k = dgainR h g W Wd ct k := by
  refine (Lift.upto_last _ 15 fun t => by omega).trans ?_
  unfold dgainR
  rw [← Equiv.sum_comp (finProdFinEquiv (m := 16) (n := 256)), Fintype.sum_prod_type]
  refine Finset.sum_congr rfl fun t _ => ?_
  rw [tab_gain]
  refine Finset.sum_congr rfl fun r _ => ?_
  have e : finProdFinEquiv (m := 16) (n := 256) (t, r) = row t r := Fin.ext (by
    show r.val + 256 * t.val = t.val * 256 + r.val
    omega)
  rw [e]

end Cert.Ffn

end
-- ==== Proof.FfnRef.lean ====
/- Hand-written, untrusted: THE REFERENCE'S VALUES ARE REAL. On arguments whose elements are real numbers, each value of the
   reference program is the real number that `FfnReal.lean` names, operation by operation. -/
module

public import proofs.«01_k».proof.Proof.FfnReal
public import proofs.«01_k».proof.Proof.Gen.ReferenceIdeal.Read

@[expose] public section

set_option maxRecDepth 16384

noncomputable section

namespace Cert.Ffn.Ref

open Cert.ReferenceIdeal Cert.ReferenceIdeal.Read Cert.Lift Cert.Ffn
open Idealize.ShloMosaic

variable {x0 : FVec Ideal S4096x1024 .f32} {x1 : FVec Ideal S1x1024 .f32} {x2 : FVec Ideal S1024x5632 .f32} {x3 : FVec Ideal S2816x1024 .f32} {x4 : FVec Ideal S4096x1024 .f32}
variable {h : Fin 4096 → Fin 1024 → ℝ} {g : Fin 1024 → ℝ} {W : Fin 1024 → Fin 5632 → ℝ} {Wd : Fin 2816 → Fin 1024 → ℝ}
  {ct : Fin 4096 → Fin 1024 → ℝ}
variable (h0 : ∀ i, x0 i = (h (i 0) (i 1) : EReal)) (h1 : ∀ i, x1 i = (g (i 1) : EReal)) (h2 : ∀ i, x2 i = (W (i 0) (i 1) : EReal))
  (h3 : ∀ i, x3 i = (Wd (i 0) (i 1) : EReal)) (h4 : ∀ i, x4 i = (ct (i 0) (i 1) : EReal))

/-- An index of the activations from its row and its column. -/
abbrev at2 (r : Fin 4096) (k : Fin 1024) : S4096x1024.Idx := ValueIdx.ix2 r k

theorem c3 (i) : val_main_v3 (F := Ideal) i = ((1024 : ℝ) : EReal) := by
  rw [val_main_v3_apply, val_main_cst_0_apply]; exact lit_1024
theorem c42 (i) : val_main_v42 (F := Ideal) i = ((1024 : ℝ) : EReal) := by
  rw [val_main_v42_apply, val_main_cst_7_apply]; exact lit_1024
theorem c5 (i) : val_main_v5 (F := Ideal) i = ((eps : ℝ) : EReal) := by
  rw [val_main_v5_apply, val_main_cst_1_apply]; exact lit_eps
theorem c9 (i) : val_main_v9 (F := Ideal) i = ((-1 / 2 : ℝ) : EReal) := by
  rw [val_main_v9_apply, val_main_cst_2_apply]; exact lit_neg_half
theorem c23 (i) : val_main_v23 (F := Ideal) i = ((1 / 2 : ℝ) : EReal) := by
  rw [val_main_v23_apply, val_main_cst_4_apply]; exact lit_half
theorem d2 (i) : val_main_call0_v2 (F := Ideal) i = ((1 : ℝ) : EReal) := by
  rw [val_main_call0_v2_apply, val_main_call0_cst_apply]; exact lit_one
theorem d4 (i) : val_main_call0_v4 (F := Ideal) i = ((1 : ℝ) : EReal) := by
  rw [val_main_call0_v4_apply, val_main_call0_cst_0_apply]; exact lit_one
theorem d6 (i) : val_main_call0_v6 (F := Ideal) i = ((1 : ℝ) : EReal) := by
  rw [val_main_call0_v6_apply, val_main_call0_cst_1_apply]; exact lit_one
theorem zero (i) : val_main_cst (F := Ideal) i = 0 := Ideal.ofBits_zero_f32
theorem zero5 (i) : val_main_cst_5 (F := Ideal) i = 0 := Ideal.ofBits_zero_f32
theorem zero6 (i) : val_main_cst_6 (F := Ideal) i = 0 := Ideal.ofBits_zero_f32
theorem zero8 (i) : val_main_cst_8 (F := Ideal) i = 0 := Ideal.ofBits_zero_f32

include h0

theorem v1 (i) : val_main_v1 (F := Ideal) x0 i = ((∑ k, h (i 0) k * h (i 0) k : ℝ) : EReal) := by
  rw [val_main_v1_apply]
  exact zeroAddC (zero _) (sumC _ fun k => by rw [val_main_v0_apply]; exact mulF (h0 _) (h0 _))

theorem v6 (i) : val_main_v6 (F := Ideal) x0 i = (ms h (i 0) : EReal) := by
  rw [val_main_v6_apply, val_main_v4_apply, val_main_v2_apply]
  exact addF (divH (v1 h0 _) (c3 _) (by norm_num)) (c5 _)

theorem v7 (i) : val_main_v7 (F := Ideal) x0 i = (rs h (i 0) : EReal) := by
  rw [val_main_v7_apply]
  exact rsqrtH (v6 h0 i) (ms_pos h _)

theorem v10 (i) : val_main_v10 (F := Ideal) x0 i = ((-1 / 2 * (rs h (i 0) / ms h (i 0)) : ℝ) : EReal) := by
  rw [val_main_v10_apply, val_main_v8_apply]
  exact mulF (c9 _) (divH (v7 h0 i) (v6 h0 i) (ms_pos h _).ne')

theorem v12 (i) : val_main_v12 (F := Ideal) x0 i = (xh h (i 0) (i 1) : EReal) := by
  rw [val_main_v12_apply, val_main_v11_apply]
  exact mulF (h0 i) (v7 h0 _)

include h1

theorem v14 (i) : val_main_v14 (F := Ideal) x0 x1 i = (nrm h g (i 0) (i 1) : EReal) := by
  rw [val_main_v14_apply, val_main_v13_apply]
  exact mulF (v12 h0 i) (h1 _)

include h2

theorem v15 (i) : val_main_v15 (F := Ideal) x0 x1 x2 i = (z h g W (i 0) (i 1) : EReal) := by
  rw [val_main_v15_apply]
  exact sumC _ fun k => mulC (v14 h0 h1 _) (h2 _)

theorem v16 (i) : val_main_v16 (F := Ideal) x0 x1 x2 i = (gt h g W (i 0) (i 1) : EReal) := by
  rw [val_main_v16_apply, v15 h0 h1 h2]
  exact congrArg (fun j => ((z h g W (i 0) j : ℝ) : EReal)) (Fin.ext rfl)

theorem v17 (i) : val_main_v17 (F := Ideal) x0 x1 x2 i = (up h g W (i 0) (i 1) : EReal) := by
  rw [val_main_v17_apply, v15 h0 h1 h2]
  exact congrArg (fun j => ((z h g W (i 0) j : ℝ) : EReal)) (Fin.ext rfl)

/-- The gate's logistic value, its derivative, and the gate itself. -/
theorem v18_2 (i) : val_main_v18_2 (F := Ideal) x0 x1 x2 i = (sg (gt h g W (i 0) (i 1)) : EReal) := by
  rw [val_main_v18_2_apply, val_main_call0_v3_apply, val_main_call0_v1_apply, val_main_call0_v0_apply]
  exact divH (d4 _) (addF (d2 _) (expH (negH (v16 h0 h1 h2 i)))) (sg_den_ne _)

theorem v18_1 (i) : val_main_v18_1 (F := Ideal) x0 x1 x2 i
    = ((sg (gt h g W (i 0) (i 1)) * (1 - sg (gt h g W (i 0) (i 1))) : ℝ) : EReal) := by
  rw [val_main_v18_1_apply, val_main_call0_v7_apply]
  exact mulF (v18_2 h0 h1 h2 i) (subF (d6 _) (v18_2 h0 h1 h2 i))

theorem v18_0 (i) : val_main_v18_0 (F := Ideal) x0 x1 x2 i = ((gt h g W (i 0) (i 1) * sg (gt h g W (i 0) (i 1)) : ℝ) : EReal) := by
  rw [val_main_v18_0_apply]
  exact mulF (v16 h0 h1 h2 i) (v18_2 h0 h1 h2 i)

omit h0 h1 h2
include h3 h4

theorem v25 (i) : val_main_v25 (F := Ideal) x3 x4 i = (daR Wd ct (i 0) (i 1) : EReal) := by
  rw [val_main_v25_apply]
  exact sumC _ fun k => mulC (by rw [val_main_v24_apply]; exact mulF (c23 _) (h4 _)) (h3 _)

include h0 h1 h2

theorem v26 (i) : val_main_v26 (F := Ideal) x0 x1 x2 x3 x4 i = (duR h g W Wd ct (i 0) (i 1) : EReal) := by
  rw [val_main_v26_apply]
  exact mulF (v18_0 h0 h1 h2 i) (v25 h3 h4 i)

theorem v27 (i) : val_main_v27 (F := Ideal) x0 x1 x2 x3 x4 i = ((daR Wd ct (i 0) (i 1) * up h g W (i 0) (i 1) : ℝ) : EReal) := by
  rw [val_main_v27_apply]
  exact mulF (v25 h3 h4 i) (v17 h0 h1 h2 i)

theorem v28 (i) : val_main_v28 (F := Ideal) x0 x1 x2 x3 x4 i = (dgR h g W Wd ct (i 0) (i 1) : EReal) := by
  rw [val_main_v28_apply, val_main_call1_v1_apply, val_main_call1_v2_apply, val_main_call1_v0_apply]
  exact addF (mulF (v27 h0 h1 h2 h3 h4 i) (v18_2 h0 h1 h2 i))
    (mulF (mulF (v16 h0 h1 h2 i) (v27 h0 h1 h2 h3 h4 i)) (v18_1 h0 h1 h2 i))

theorem v29 (i) : val_main_v29 (F := Ideal) x0 x1 x2 x3 x4 i = (dzR h g W Wd ct (i 0) (i 1) : EReal) := by
  unfold val_main_v29
  exact concat_joined _ _ _ (v28 h0 h1 h2 h3 h4) (v26 h0 h1 h2 h3 h4) i

theorem v30 (i) : val_main_v30 (F := Ideal) x0 x1 x2 x3 x4 i = (dnR h g W Wd ct (i 0) (i 1) : EReal) := by
  rw [val_main_v30_apply]
  exact sumC _ fun k => mulC (v29 h0 h1 h2 h3 h4 _) (h2 _)

/-- The gradient of the gain. -/
theorem v33 (i) : val_main_v33 (F := Ideal) x0 x1 x2 x3 x4 i = (dgainR h g W Wd ct (i 1) : EReal) := by
  rw [val_main_v33_apply, val_main_v32_apply]
  have b0 : (i 0).val < 1 := (i 0).isLt
  have e : ∀ r : Fin 4096, idx_main_v32 (idx_main_v33 i) r = at2 r (i 1) := fun r => funext fun c => Fin.ext (by
    match c with
    | ⟨0, _⟩ => rfl
    | ⟨1, _⟩ => show (i 0).val * 1024 + (i 1).val = (i 1).val; omega)
  refine zeroAddC (zero5 _) (sumC _ fun r => ?_)
  rw [e, val_main_v31_apply]
  exact mulF (v12 h0 (at2 r (i 1))) (v30 h0 h1 h2 h3 h4 (at2 r (i 1)))

theorem v35 (i) : val_main_v35 (F := Ideal) x0 x1 x2 x3 x4 i = (tR h g W Wd ct (i 0) (i 1) : EReal) := by
  rw [val_main_v35_apply, val_main_v34_apply]
  exact mulF (v30 h0 h1 h2 h3 h4 i) (h1 _)

theorem v37 (i) : val_main_v37 (F := Ideal) x0 x1 x2 x3 x4 i = ((∑ k, h (i 0) k * tR h g W Wd ct (i 0) k : ℝ) : EReal) := by
  rw [val_main_v37_apply]
  exact zeroAddC (zero6 _) (sumC _ fun k => by
    rw [val_main_v36_apply]; exact mulF (h0 _) (v35 h0 h1 h2 h3 h4 _))

theorem v44 (i) : val_main_v44 (F := Ideal) x0 x1 x2 x3 x4 i = (cR h g W Wd ct (i 0) : EReal) := by
  have e : idx_main_v38 (idx_main_v44 i 0) = i := funext fun c => Fin.ext (by
    match c with
    | ⟨0, _⟩ => show (i 0).val * 1 + 0 = (i 0).val; omega)
  rw [val_main_v44_apply, Fin.sum_univ_one, val_main_v43_apply, val_main_v41_apply, val_main_v38_apply, e]
  exact zeroAddC (zero8 _) (divH (mulF (v37 h0 h1 h2 h3 h4 i) (v10 h0 (idx_main_v44 i 0))) (c42 _) (by norm_num))

/-- The gradient of the activations. -/
theorem v53 (i) : val_main_v53 (F := Ideal) x0 x1 x2 x3 x4 i = (outR h g W Wd ct (i 0) (i 1) : EReal) := by
  rw [val_main_v53_apply, val_main_v49_apply, val_main_v47_apply, val_main_v40_apply, val_main_v39_apply, val_main_v46_apply,
    val_main_v48_apply, val_main_v45_apply]
  exact addF (h4 i) (addF (addF (mulF (v35 h0 h1 h2 h3 h4 i) (v7 h0 _)) (mulF (h0 i) (v44 h0 h1 h2 h3 h4 _)))
    (mulF (v44 h0 h1 h2 h3 h4 _) (h0 i)))

/-- The gradient of the joined projections' values, in the eight slots. -/
theorem v52 (i) : val_main_v52 (F := Ideal) x0 x1 x2 x3 x4 i = (dzR h g W Wd ct (i 1) (slotCol (i 0) (i 2)) : EReal) := by
  rw [val_main_v52_apply, val_main_v51_apply, val_main_v50_apply]
  refine (v29 h0 h1 h2 h3 h4 _).trans ?_
  have b0 : (i 0).val < 8 := (i 0).isLt
  have b1 : (i 1).val < 4096 := (i 1).isLt
  have b2 : (i 2).val < 704 := (i 2).isLt
  refine congrArg₂ (fun r j => ((dzR h g W Wd ct r j : ℝ) : EReal)) (Fin.ext ?_) (Fin.ext ?_)
  · show (((i 1).val * 8 + (i 0).val) * 704 + (i 2).val) / 5632 = (i 1).val
    omega
  · show (((i 1).val * 8 + (i 0).val) * 704 + (i 2).val) % 5632 = (i 0).val * 704 + (i 2).val
    omega

end Cert.Ffn.Ref

end
-- ==== Proof.FfnHost.lean ====
/- Hand-written, untrusted: WHAT THE HOST HANDS TO THE FEED-FORWARD GRADIENT KERNEL. Before the launch the host computes the
   rows' reciprocal standard deviations and the saved derivatives of half the gated product, and lays the derivatives and the
   projections out in eight slots. The values up to the gate are the ones the reference computes, so its terms name them. -/
module

public import proofs.«01_k».proof.Proof.FfnRef
public import proofs.«01_k».proof.Proof.Gen.KernelIdeal.Frame
public import Idealize.ShloMosaic.Lib.StableHlo.Run

@[expose] public section

noncomputable section

namespace Cert.Ffn.Host

open Cert.KernelIdeal Cert.KernelIdeal.Gen Cert.Lift Cert.Ffn
open Cert.ReferenceIdeal.Read (val_main_v7 val_main_v16 val_main_v17 val_main_v18_0 val_main_v18_1 val_main_v18_2)
open Idealize.ShloMosaic Idealize.ShloMosaic.TcCoe Idealize.SL.Sem Idealize.ShloMosaic.StableHlo

/-! ## The saved derivatives -/

section

variable (x0 : FVec Ideal S4096x1024 .f32) (x1 : FVec Ideal S1x1024 .f32) (x2 : FVec Ideal S1024x5632 .f32)

def half : FVec Ideal S4096x2816 .f32 :=
  mulf (broadcastInDim S4096x2816 ![] bcast_S_S4096x2816 (constant (F := Ideal) S_ .f32 0x3F000000#32))
    (broadcastInDim S4096x2816 ![] bcast_S_S4096x2816 (constant (F := Ideal) S_ .f32 0x3F800000#32))
def ju : FVec Ideal S4096x2816 .f32 := mulf (val_main_v18_0 (F := Ideal) x0 x1 x2) half
def hu : FVec Ideal S4096x2816 .f32 := mulf half (val_main_v17 (F := Ideal) x0 x1 x2)
def jg : FVec Ideal S4096x2816 .f32 :=
  addf (mulf (hu x0 x1 x2) (val_main_v18_2 (F := Ideal) x0 x1 x2))
    (mulf (mulf (val_main_v16 (F := Ideal) x0 x1 x2) (hu x0 x1 x2)) (val_main_v18_1 (F := Ideal) x0 x1 x2))
def jac : FVec Ideal S4096x5632 .f32 :=
  concatenate S4096x5632 1 [⟨S4096x2816, jg x0 x1 x2⟩, ⟨S4096x2816, ju x0 x1 x2⟩] concatenates_S4096x2816_S4096x2816_S4096x5632_d1

end

section

variable {x0 : FVec Ideal S4096x1024 .f32} {x1 : FVec Ideal S1x1024 .f32} {x2 : FVec Ideal S1024x5632 .f32}
variable {h : Fin 4096 → Fin 1024 → ℝ} {g : Fin 1024 → ℝ} {W : Fin 1024 → Fin 5632 → ℝ}
variable (h0 : ∀ i, x0 i = (h (i 0) (i 1) : EReal)) (h1 : ∀ i, x1 i = (g (i 1) : EReal)) (h2 : ∀ i, x2 i = (W (i 0) (i 1) : EReal))

theorem half_apply (i) : half i = ((1 / 2 * 1 : ℝ) : EReal) := mulC lit_half lit_one

include h0 h1 h2

theorem ju_apply (i) : ju x0 x1 x2 i = (juK h g W (i 0) (i 1) : EReal) := mulC (Ref.v18_0 h0 h1 h2 i) (half_apply i)
theorem hu_apply (i) : hu x0 x1 x2 i = ((1 / 2 * 1 * up h g W (i 0) (i 1) : ℝ) : EReal) := mulC (half_apply i) (Ref.v17 h0 h1 h2 i)
theorem jg_apply (i) : jg x0 x1 x2 i = (jgK h g W (i 0) (i 1) : EReal) :=
  addC (mulC (hu_apply h0 h1 h2 i) (Ref.v18_2 h0 h1 h2 i))
    (mulC (mulC (Ref.v16 h0 h1 h2 i) (hu_apply h0 h1 h2 i)) (Ref.v18_1 h0 h1 h2 i))
theorem jac_apply (i) : jac x0 x1 x2 i = (jacK h g W (i 0) (i 1) : EReal) :=
  concat_joined _ _ _ (jg_apply h0 h1 h2) (ju_apply h0 h1 h2) i

end

/-! ## The layouts -/

/-- Columns cut into eight slots, the slot first. -/
theorem slots_apply {n : ℕ} {x : (⟨2, ![n, 5632]⟩ : Shape).Idx → EReal} {b : Fin n → Fin 5632 → ℝ} (hx : ∀ i, x i = (b (i 0) (i 1) : EReal))
    (hc : Shape.ShapeCasts ⟨2, ![n, 5632]⟩ ⟨3, ![n, 8, 704]⟩) (ht : Shape.Transposes ⟨3, ![n, 8, 704]⟩ [1, 0, 2] ⟨3, ![8, n, 704]⟩)
    (i : (⟨3, ![8, n, 704]⟩ : Shape).Idx) :
    transpose ⟨3, ![8, n, 704]⟩ [1, 0, 2] (shapeCast ⟨3, ![n, 8, 704]⟩ x hc) ht i = (b (i 1) (slotCol (i 0) (i 2)) : EReal) := by
  have e : transpose ⟨3, ![8, n, 704]⟩ [1, 0, 2] (shapeCast ⟨3, ![n, 8, 704]⟩ x hc) ht i
      = shapeCast ⟨3, ![n, 8, 704]⟩ x hc (ValueIdx.ix3 (i 1) (i 0) (i 2)) :=
    congrArg _ (funext fun a => Fin.ext (by match a with | ⟨0, _⟩ => rfl | ⟨1, _⟩ => rfl | ⟨2, _⟩ => rfl))
  rw [e, shapeCast_apply x hc _ (ValueIdx.ix2 (i 1) (slotCol (i 0) (i 2)))
    (by rw [Shape.rowMajor_val_three, Shape.rowMajor_val_two]
        show (i 1).val * 5632 + ((i 0).val * 704 + (i 2).val) = ((i 1).val * 8 + (i 0).val) * 704 + (i 2).val
        omega), hx]
  rfl

/-- Rows cut into eight slots. -/
theorem rows_apply {x : FVec Ideal S2816x1024 .bf16} {b : Fin 2816 → Fin 1024 → ℝ} (hx : ∀ i, x i = (b (i 0) (i 1) : EReal)) (i : S8x352x1024.Idx) :
    shapeCast S8x352x1024 x shapeCasts_S2816x1024_S8x352x1024 i
      = (b ⟨(i 0).val * 352 + (i 1).val, by
          have a0 : (i 0).val < 8 := (i 0).isLt; have a1 : (i 1).val < 352 := (i 1).isLt; omega⟩ (i 2) : EReal) := by
  have a0 : (i 0).val < 8 := (i 0).isLt
  have a1 : (i 1).val < 352 := (i 1).isLt
  rw [shapeCast_apply x _ i (ValueIdx.ix2 ⟨(i 0).val * 352 + (i 1).val, by omega⟩ (i 2))
    (by rw [Shape.rowMajor_val_three, Shape.rowMajor_val_two]; rfl), hx]

/-! ## The buffers at the launch -/

variable (m : (ℓ : Loc nD τ sig) → Buf (Elt Ideal) ℓ) (c : Dev nD)

theorem v7 : V m c main_v7 = val_main_v7 (F := Ideal) (m ((c : Thread nD τ).loc main_arg0)) := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
  rfl

theorem v28 : V m c main_v28 = truncf .bf16 (transpose S8x4096x704 [1, 0, 2] (shapeCast S4096x8x704
      (jac (m ((c : Thread nD τ).loc main_arg0)) (m ((c : Thread nD τ).loc main_arg1)) (m ((c : Thread nD τ).loc main_arg2)))
      shapeCasts_S4096x5632_S4096x8x704) transposes_S4096x8x704_S8x4096x704_1_0_2) bitsLt_bf16_f32 := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
  rfl

theorem v31 : V m c main_v31 = truncf (F := Ideal) .bf16 (transpose S8x1024x704 [1, 0, 2] (shapeCast S1024x8x704 (m ((c : Thread nD τ).loc main_arg2))
      shapeCasts_S1024x5632_S1024x8x704) transposes_S1024x8x704_S8x1024x704_1_0_2) bitsLt_bf16_f32 := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
  rfl

theorem v33 : V m c main_v33 = shapeCast S8x352x1024 (truncf (F := Ideal) (φ := .f32) (s := S2816x1024) .bf16 (m ((c : Thread nD τ).loc main_arg3)) bitsLt_bf16_f32)
      shapeCasts_S2816x1024_S8x352x1024 := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
  rfl

theorem arg0 : V m c main_arg0 = m ((c : Thread nD τ).loc main_arg0) := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
theorem arg1 : V m c main_arg1 = m ((c : Thread nD τ).loc main_arg1) := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp
theorem arg4 : V m c main_arg4 = m ((c : Thread nD τ).loc main_arg4) := by
  unfold V
  simp only [hostOps0, hostOps0_1, hostOps0_2, hostOps0_3, hostOps0_4, List.flatten_cons, List.flatten_nil, List.cons_append, List.nil_append,
    TRef.binary, TRef.nullary, TRef.unary, TRef.toBuf, TRef.ofBuf, cast_eq]
  after_results_simp

end Cert.Ffn.Host

end
-- ==== Proof.FfnGrid.lean ====
/- Hand-written, untrusted: WHAT THE FEED-FORWARD GRADIENT KERNEL LEAVES IN ITS RESULT ARRAYS. Each of the sixteen grid points
   reads the blocks of its tile (`holds`), so it stores the tile's part of the gradients; the blocks cover the arrays. -/
module

public import proofs.«01_k».proof.Proof.FfnTile
public import proofs.«01_k».proof.Proof.FfnHost
public import proofs.«01_k».proof.Proof.Gen.KernelIdeal.Value

@[expose] public section

noncomputable section

namespace Cert.Ffn.Grid

open Cert.KernelIdeal Cert.KernelIdeal.Gen Cert.Lift Cert.Ffn Cert.Ffn.Body
open Idealize.ShloMosaic Idealize.ShloMosaic.TcCoe Idealize.SL.Sem

/-- Where each window's block starts, in blocks. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 3) = 0 ∧ win0_7.index t (1 : Fin 3) = t.val ∧ win0_7.index t (2 : Fin 3) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

theorem lt16 (t : Fin cfg0.N) : t.val < 16 := Nat.lt_of_lt_of_eq t.isLt N_0
/-- The grid point's tile. -/
def tl (t : Fin cfg0.N) : Fin 16 := ⟨t.val, lt16 t⟩

theorem emb0 (t : Fin cfg0.N) (y : S256x1024.Idx) : ((cfg0.win 0).blk t).view.emb y = ValueIdx.ix2 (row (tl t) (y 0)) (y 1) := by
  have hi := (idx_facts t).1
  funext a; apply Fin.ext
  match a with
  | ⟨0, _⟩ => show win0_0.index t (0 : Fin 2) * 256 + 1 * (y 0).val = t.val * 256 + (y 0).val; rw [hi.1]; omega
  | ⟨1, _⟩ => show win0_0.index t (1 : Fin 2) * 1024 + 1 * (y 1).val = (y 1).val; rw [hi.2]; omega

theorem emb1 (t : Fin cfg0.N) (y : S8x256x704.Idx) : ((cfg0.win 1).blk t).view.emb y = ValueIdx.ix3 (y 0) (row (tl t) (y 1)) (y 2) := by
  have hi := (idx_facts t).2.1
  funext a; apply Fin.ext
  match a with
  | ⟨0, _⟩ => show win0_1.index t (0 : Fin 3) * 8 + 1 * (y 0).val = (y 0).val; rw [hi.1]; omega
  | ⟨1, _⟩ => show win0_1.index t (1 : Fin 3) * 256 + 1 * (y 1).val = t.val * 256 + (y 1).val; rw [hi.2.1]; omega
  | ⟨2, _⟩ => show win0_1.index t (2 : Fin 3) * 704 + 1 * (y 2).val = (y 2).val; rw [hi.2.2]; omega

theorem emb2 (t : Fin cfg0.N) (y : S8x1024x704.Idx) : ((cfg0.win 2).blk t).view.emb y = y := by
  have hi := (idx_facts t).2.2.1
  funext a; apply Fin.ext
  match a with
  | ⟨0, _⟩ => show win0_2.index t (0 : Fin 3) * 8 + 1 * (y 0).val = (y 0).val; rw [hi.1]; omega
  | ⟨1, _⟩ => show win0_2.index t (1 : Fin 3) * 1024 + 1 * (y 1).val = (y 1).val; rw [hi.2.1]; omega
  | ⟨2, _⟩ => show win0_2.index t (2 : Fin 3) * 704 + 1 * (y 2).val = (y 2).val; rw [hi.2.2]; omega

theorem emb3 (t : Fin cfg0.N) (y : S8x352x1024.Idx) : ((cfg0.win 3).blk t).view.emb y = y := by
  have hi := (idx_facts t).2.2.2.1
  funext a; apply Fin.ext
  match a with
  | ⟨0, _⟩ => show win0_3.index t (0 : Fin 3) * 8 + 1 * (y 0).val = (y 0).val; rw [hi.1]; omega
  | ⟨1, _⟩ => show win0_3.index t (1 : Fin 3) * 352 + 1 * (y 1).val = (y 1).val; rw [hi.2.1]; omega
  | ⟨2, _⟩ => show win0_3.index t (2 : Fin 3) * 1024 + 1 * (y 2).val = (y 2).val; rw [hi.2.2]; omega

theorem emb4 (t : Fin cfg0.N) (y : S256x1024.Idx) : ((cfg0.win 4).blk t).view.emb y = ValueIdx.ix2 (row (tl t) (y 0)) (y 1) := by
  have hi := (idx_facts t).2.2.2.2.1
  funext a; apply Fin.ext
  match a with
  | ⟨0, _⟩ => show win0_4.index t (0 : Fin 2) * 256 + 1 * (y 0).val = t.val * 256 + (y 0).val; rw [hi.1]; omega
  | ⟨1, _⟩ => show win0_4.index t (1 : Fin 2) * 1024 + 1 * (y 1).val = (y 1).val; rw [hi.2]; omega

theorem emb5 (t : Fin cfg0.N) (y : S256x1.Idx) : ((cfg0.win 5).blk t).view.emb y = ValueIdx.ix2 (row (tl t) (y 0)) (y 1) := by
  have hi := (idx_facts t).2.2.2.2.2.1
  funext a; apply Fin.ext
  match a with
  | ⟨0, _⟩ => show win0_5.index t (0 : Fin 2) * 256 + 1 * (y 0).val = t.val * 256 + (y 0).val; rw [hi.1]; omega
  | ⟨1, _⟩ => show win0_5.index t (1 : Fin 2) * 1 + 1 * (y 1).val = (y 1).val; rw [hi.2]; omega

theorem emb6 (t : Fin cfg0.N) (y : S1x1024.Idx) : ((cfg0.win 6).blk t).view.emb y = y := by
  have hi := (idx_facts t).2.2.2.2.2.2.1
  funext a; apply Fin.ext
  match a with
  | ⟨0, _⟩ => show win0_6.index t (0 : Fin 2) * 1 + 1 * (y 0).val = (y 0).val; rw [hi.1]; omega
  | ⟨1, _⟩ => show win0_6.index t (1 : Fin 2) * 1024 + 1 * (y 1).val = (y 1).val; rw [hi.2]; omega

theorem emb7 (t : Fin cfg0.N) (y : S8x256x704.Idx) : ((cfg0.win 7).blk t).view.emb y = ValueIdx.ix3 (y 0) (row (tl t) (y 1)) (y 2) := by
  have hi := (idx_facts t).2.2.2.2.2.2.2.1
  funext a; apply Fin.ext
  match a with
  | ⟨0, _⟩ => show win0_7.index t (0 : Fin 3) * 8 + 1 * (y 0).val = (y 0).val; rw [hi.1]; omega
  | ⟨1, _⟩ => show win0_7.index t (1 : Fin 3) * 256 + 1 * (y 1).val = t.val * 256 + (y 1).val; rw [hi.2.1]; omega
  | ⟨2, _⟩ => show win0_7.index t (2 : Fin 3) * 704 + 1 * (y 2).val = (y 2).val; rw [hi.2.2]; omega

theorem emb8 (t : Fin cfg0.N) (y : S256x1024.Idx) : ((cfg0.win 8).blk t).view.emb y = ValueIdx.ix2 (row (tl t) (y 0)) (y 1) := by
  have hi := (idx_facts t).2.2.2.2.2.2.2.2.1
  funext a; apply Fin.ext
  match a with
  | ⟨0, _⟩ => show win0_8.index t (0 : Fin 2) * 256 + 1 * (y 0).val = t.val * 256 + (y 0).val; rw [hi.1]; omega
  | ⟨1, _⟩ => show win0_8.index t (1 : Fin 2) * 1024 + 1 * (y 1).val = (y 1).val; rw [hi.2]; omega

theorem emb9 (t : Fin cfg0.N) (y : S1x1024.Idx) : ((cfg0.win 9).blk t).view.emb y = y := by
  have hi := (idx_facts t).2.2.2.2.2.2.2.2.2
  funext a; apply Fin.ext
  match a with
  | ⟨0, _⟩ => show win0_9.index t (0 : Fin 2) * 1 + 1 * (y 0).val = (y 0).val; rw [hi.1]; omega
  | ⟨1, _⟩ => show win0_9.index t (1 : Fin 2) * 1024 + 1 * (y 1).val = (y 1).val; rw [hi.2]; omega

variable {m : (ℓ : Loc nD τ sig) → Buf (Elt Ideal) ℓ} {c : Dev nD}

section

variable {h : Fin 4096 → Fin 1024 → ℝ} {g : Fin 1024 → ℝ} {W : Fin 1024 → Fin 5632 → ℝ} {Wd : Fin 2816 → Fin 1024 → ℝ} {ct : Fin 4096 → Fin 1024 → ℝ}
variable (h0 : ∀ i : S4096x1024.Idx, m ((c : Thread nD τ).loc main_arg0) i = (h (i 0) (i 1) : EReal))
  (h1 : ∀ i : S1x1024.Idx, m ((c : Thread nD τ).loc main_arg1) i = (g (i 1) : EReal))
  (h2 : ∀ i : S1024x5632.Idx, m ((c : Thread nD τ).loc main_arg2) i = (W (i 0) (i 1) : EReal))
  (h3 : ∀ i : S2816x1024.Idx, m ((c : Thread nD τ).loc main_arg3) i = (Wd (i 0) (i 1) : EReal))
  (h4 : ∀ i : S4096x1024.Idx, m ((c : Thread nD τ).loc main_arg4) i = (ct (i 0) (i 1) : EReal))
include h0 h1 h2 h3 h4

omit h0 h1 h3 h4 in
theorem gu_apply (i : S8x1024x704.Idx) : V m c main_v31 i = (W (i 1) (slotCol (i 0) (i 2)) : EReal) :=
  (congrFun (Host.v31 m c) i).trans (Host.slots_apply h2 _ _ i)
omit h0 h1 h2 h4 in
theorem dn_apply (i : S8x352x1024.Idx) : V m c main_v33 i
    = (Wd ⟨(i 0).val * 352 + (i 1).val, by
        have a0 : (i 0).val < 8 := (i 0).isLt; have a1 : (i 1).val < 352 := (i 1).isLt; omega⟩ (i 2) : EReal) :=
  (congrFun (Host.v33 m c) i).trans (Host.rows_apply (x := truncf (F := Ideal) (φ := .f32) (s := S2816x1024) .bf16
    (m ((c : Thread nD τ).loc main_arg3)) bitsLt_bf16_f32) h3 i)
omit h3 h4 in
theorem jac_apply (i : S8x4096x704.Idx) : V m c main_v28 i = (jacK h g W (i 1) (slotCol (i 0) (i 2)) : EReal) :=
  (congrFun (Host.v28 m c) i).trans (Host.slots_apply (Host.jac_apply h0 h1 h2) _ _ i)

omit h0 h1 h2 h3 in
theorem blk_ct (t : Fin cfg0.N) (i : S256x1024.Idx) : iblk m c 0 t i = (ct (row (tl t) (i 0)) (i 1) : EReal) :=
  (congrArg (V m c main_arg4) (emb0 t i)).trans ((congrFun (Host.arg4 m c) _).trans (h4 _))
omit h3 h4 in
theorem blk_jac (t : Fin cfg0.N) (i : S8x256x704.Idx) : iblk m c 1 t i = (jacK h g W (row (tl t) (i 1)) (slotCol (i 0) (i 2)) : EReal) :=
  (congrArg (V m c main_v28) (emb1 t i)).trans (jac_apply h0 h1 h2 _)
omit h0 h1 h3 h4 in
theorem blk_gu (t : Fin cfg0.N) (i : S8x1024x704.Idx) : iblk m c 2 t i = (W (i 1) (slotCol (i 0) (i 2)) : EReal) :=
  (congrArg (V m c main_v31) (emb2 t i)).trans (gu_apply h2 i)
omit h0 h1 h2 h4 in
theorem blk_dn (t : Fin cfg0.N) (i : S8x352x1024.Idx) : iblk m c 3 t i
    = (Wd ⟨(i 0).val * 352 + (i 1).val, by
        have a0 : (i 0).val < 8 := (i 0).isLt; have a1 : (i 1).val < 352 := (i 1).isLt; omega⟩ (i 2) : EReal) :=
  (congrArg (V m c main_v33) (emb3 t i)).trans (dn_apply h3 i)
omit h1 h2 h3 h4 in
theorem blk_h (t : Fin cfg0.N) (i : S256x1024.Idx) : iblk m c 4 t i = (h (row (tl t) (i 0)) (i 1) : EReal) :=
  (congrArg (V m c main_arg0) (emb4 t i)).trans ((congrFun (Host.arg0 m c) _).trans (h0 _))
omit h1 h2 h3 h4 in
theorem blk_rs (t : Fin cfg0.N) (i : S256x1.Idx) : iblk m c 5 t i = (rs h (row (tl t) (i 0)) : EReal) :=
  (congrArg (V m c main_v7) (emb5 t i)).trans ((congrFun (Host.v7 m c) _).trans (Ref.v7 h0 _))
omit h0 h2 h3 h4 in
theorem blk_g (t : Fin cfg0.N) (i : S1x1024.Idx) : iblk m c 6 t i = (g (i 1) : EReal) :=
  (congrArg (V m c main_arg1) (emb6 t i)).trans ((congrFun (Host.arg1 m c) _).trans (h1 _))

/-- The blocks that a grid point reads are its tile's. -/
theorem holds (t : Fin cfg0.N) : Holds (tab h g W Wd ct (tl t)) (iblk m c 0 t) (iblk m c 1 t) (iblk m c 2 t) (iblk m c 3 t) (iblk m c 4 t)
    (iblk m c 5 t) (iblk m c 6 t) :=
  ⟨blk_ct h4 t, blk_jac h0 h1 h2 t, blk_gu h2 t, blk_dn h3 t, blk_h h0 t, blk_rs h0 t, blk_g h1 t⟩

/-! ## The result arrays -/

theorem arr7 (i : S8x4096x704.Idx) : (Gen.dats m 0 c).arrAt 7 cfg0.N i = (dzR h g W Wd ct (i 1) (slotCol (i 0) (i 2)) : EReal) := by
  have b1 : (i 1).val < 4096 := (i 1).isLt
  have hN : cfg0.N = 16 := N_0
  let t : Fin cfg0.N := ⟨(i 1).val / 256, by omega⟩
  let y : S8x256x704.Idx := ValueIdx.ix3 (i 0) ⟨(i 1).val % 256, by omega⟩ (i 2)
  have er : row (tl t) (y 1) = i 1 := Fin.ext (by show (i 1).val / 256 * 256 + (i 1).val % 256 = (i 1).val; omega)
  have e : ((cfg0.win 7).blk t).view.emb y = i := by
    rw [emb7, er]
    funext a
    match a with
    | ⟨0, _⟩ => rfl
    | ⟨1, _⟩ => rfl
    | ⟨2, _⟩ => rfl
  have H := holds h0 h1 h2 h3 h4 t
  have b := congrFun (Value.blocks7 m c t (flush0_7 t)) y
  have b' : (Gen.dats m 0 c).arrAt 7 cfg0.N (((cfg0.win 7).blk t).view.emb y) = (Gen.dats m 0 c).flushed 7 t y := b
  rw [e] at b'
  rw [b']
  have key : (Gen.dats m 0 c).flushed 7 t y = ((tab h g W Wd ct (tl t)).dz (y 0) (y 1) (y 2) : EReal) := by
    by_cases hm : t.val % 16 = 0
    · rw [Value.flushed7_A m c t hm]
      exact Body.out7_A _ _ _ _ _ _ _ _ _ _ _ _ _ _ _ _ _ _ _ _ _ _ _ _ _ _ _ _ _ _ H y
    · rw [Value.flushed7_B m c t hm]
      exact Body.out7_B _ _ _ _ _ _ _ _ _ _ _ _ _ _ _ _ _ _ _ _ _ _ _ _ _ _ _ _ _ _ _ H y
  exact key.trans (congrArg Real.toEReal ((tab_dz h g W Wd ct (tl t) (y 0) (y 1) (y 2)).trans
    (congrArg (fun r => dzR h g W Wd ct r (slotCol (i 0) (i 2))) er)))

theorem arr8 (i : S4096x1024.Idx) : (Gen.dats m 0 c).arrAt 8 cfg0.N i = (outR h g W Wd ct (i 0) (i 1) : EReal) := by
  have b0 : (i 0).val < 4096 := (i 0).isLt
  have hN : cfg0.N = 16 := N_0
  let t : Fin cfg0.N := ⟨(i 0).val / 256, by omega⟩
  let y : S256x1024.Idx := ValueIdx.ix2 ⟨(i 0).val % 256, by omega⟩ (i 1)
  have er : row (tl t) (y 0) = i 0 := Fin.ext (by show (i 0).val / 256 * 256 + (i 0).val % 256 = (i 0).val; omega)
  have e : ((cfg0.win 8).blk t).view.emb y = i := by
    rw [emb8, er]
    funext a
    match a with
    | ⟨0, _⟩ => rfl
    | ⟨1, _⟩ => rfl
  have H := holds h0 h1 h2 h3 h4 t
  have b := congrFun (Value.blocks8 m c t (flush0_8 t)) y
  have b' : (Gen.dats m 0 c).arrAt 8 cfg0.N (((cfg0.win 8).blk t).view.emb y) = (Gen.dats m 0 c).flushed 8 t y := b
  rw [e] at b'
  rw [b']
  have key : (Gen.dats m 0 c).flushed 8 t y = ((tab h g W Wd ct (tl t)).out (y 0) (y 1) : EReal) := by
    by_cases hm : t.val % 16 = 0
    · rw [Value.flushed8_A m c t hm]
      exact Body.out8_A _ _ _ _ _ _ _ _ _ _ _ _ _ _ _ _ _ _ _ _ _ _ _ _ _ _ _ _ _ _ H y
    · rw [Value.flushed8_B m c t hm]
      exact Body.out8_B _ _ _ _ _ _ _ _ _ _ _ _ _ _ _ _ _ _ _ _ _ _ _ _ _ _ _ _ _ _ _ H y
  exact key.trans (congrArg Real.toEReal ((tab_out h g W Wd ct (tl t) (y 0) (y 1)).trans
    (congrArg (fun r => outR h g W Wd ct r (i 1)) er)))

theorem step9_A (t : Fin cfg0.N) (hm : t.val % 16 = 0) (y : S1x1024.Idx) :
    (outsAt0 m c t.val t.isLt).2.2 y = ((0 + (tab h g W Wd ct (tl t)).gain (y 1) : ℝ) : EReal) := by
  have H := holds h0 h1 h2 h3 h4 t
  have f := congrFun ((Value.flushed9 m c t).symm.trans (Value.flushed9_A m c t hm)) y
  exact f.trans (Body.out9_A _ _ _ _ _ _ _ _ _ _ _ _ _ _ _ _ _ _ _ _ _ _ _ _ _ _ _ _ _ _ H y)

theorem step9_B (t : Fin cfg0.N) (hm : ¬t.val % 16 = 0) {p : Fin 1024 → ℝ}
    (hp : ∀ i, (outsAt0 m c (t.val - 1) (Nat.lt_of_le_of_lt (Nat.sub_le _ _) t.isLt)).2.2 i = (p (i 1) : EReal)) (y : S1x1024.Idx) :
    (outsAt0 m c t.val t.isLt).2.2 y = ((p (y 1) + (tab h g W Wd ct (tl t)).gain (y 1) : ℝ) : EReal) := by
  have H := holds h0 h1 h2 h3 h4 t
  have f := congrFun ((Value.flushed9 m c t).symm.trans (Value.flushed9_B m c t hm)) y
  exact f.trans (Body.out9_B _ _ _ _ _ _ _ _ _ _ _ _ _ _ _ _ _ _ _ _ _ _ _ _ _ _ _ _ _ _ _ H hp y)

/-- The block of the gain's gradient after grid point `n`: the tiles `0 … n` added up. -/
theorem outs9 : ∀ (n : ℕ) (hn : n < cfg0.N) (y : S1x1024.Idx), (outsAt0 m c n hn).2.2 y = (gainUpto h g W Wd ct n (y 1) : EReal)
  | 0, hn, y => (step9_A h0 h1 h2 h3 h4 ⟨0, hn⟩ rfl y).trans (congrArg Real.toEReal (gainUpto_zero h g W Wd ct (y 1)).symm)
  | n + 1, hn, y => by
    have hN : cfg0.N = 16 := N_0
    have hB : ¬(⟨n + 1, hn⟩ : Fin cfg0.N).val % 16 = 0 := by dsimp only; omega
    exact (step9_B h0 h1 h2 h3 h4 ⟨n + 1, hn⟩ hB (p := fun k => gainUpto h g W Wd ct n k) (fun i => outs9 n (by omega) i) y).trans
      (congrArg Real.toEReal (gainUpto_succ h g W Wd ct n (by omega) (y 1)).symm)

omit h0 h1 h2 h3 h4 in
theorem disjoint9 : ∀ t t' : Fin cfg0.N, (cfg0.win 9).flush t = true → (cfg0.win 9).flush t' = true → t ≠ t' →
    Disjoint ((cfg0.win 9).blk t).view.set ((cfg0.win 9).blk t').view.set := fun t t' ht ht' hne =>
  absurd (Fin.ext (by have a := (flush0_9 t).1 ht; have b := (flush0_9 t').1 ht'; have := lt16 t; have := lt16 t'; omega)) hne

theorem arr9 (i : S1x1024.Idx) : (Gen.dats m 0 c).arrAt 9 cfg0.N i = (dgainR h g W Wd ct (i 1) : EReal) := by
  have hN : cfg0.N = 16 := N_0
  let t : Fin cfg0.N := ⟨15, by omega⟩
  have b := congrFun ((Gen.dats m 0 c).read_blk_arrAt_eq_flushed 9 disjoint9 cfg0.N t t.isLt ((flush0_9 t).2 rfl)) i
  have b' : (Gen.dats m 0 c).arrAt 9 cfg0.N (((cfg0.win 9).blk t).view.emb i) = (Gen.dats m 0 c).flushed 9 t i := b
  rw [emb9] at b'
  rw [b', Value.flushed9]
  exact (outs9 h0 h1 h2 h3 h4 15 (by omega) i).trans (congrArg Real.toEReal (gainUpto_last h g W Wd ct (i 1)))

end

end Cert.Ffn.Grid

end
-- ==== Proof.Finite.lean ====
/- Hand-written, untrusted: WHAT THE PRECONDITION SAYS. It asks of every argument array that all its elements lie strictly
   between −∞ and +∞; so each element is a real number. -/
module

public import proofs.«01_k».proof.Proof.Lift
public import proofs.«01_k».proof.Pre_finite
public import Idealize.ShloMosaic.Lib.ReduceAll
public import Idealize.ShloMosaic.Lib.Affine
public import Idealize.ShloMosaic.Lib.ValueIdx

@[expose] public section

noncomputable section

namespace Cert.Lift

open Idealize.ShloMosaic

theorem cmp_gt {a b : EReal} (h : Ideal.cmp .ogt a b = 1#1) : b < a := by
  simp only [Ideal.cmp] at h
  by_contra hn
  simp [hn] at h

theorem cmp_lt {a b : EReal} (h : Ideal.cmp .olt a b = 1#1) : a < b := by
  simp only [Ideal.cmp] at h
  by_contra hn
  simp [hn] at h

/-- An array whose elements all lie strictly between the infinities is an array of reals. -/
theorem real_of_all {s : Shape} {axes : List (Fin s.rank)} (x : FVec Ideal s .f32) (hb : Shape.BroadcastsInDim ⟨0, ![]⟩ s ![])
    (hr : s.ReducesTo axes ⟨0, ![]⟩) (hu : 0 < Shape.numel ⟨0, ![]⟩) (j : (⟨0, ![]⟩ : Shape).Idx)
    (e : Host.reduce IntOp.andi (andi (cmpf .ogt x (broadcastInDim s ![] hb (constant (F := Ideal) ⟨0, ![]⟩ .f32 0xFF800000#32)))
      (cmpf .olt x (broadcastInDim s ![] hb (constant (F := Ideal) ⟨0, ![]⟩ .f32 0x7F800000#32)))) (constantI ⟨0, ![]⟩ 1 1#1) hr hu j = 1#1)
    (i : s.Idx) : x i = ((x i).toReal : EReal) := by
  haveI : Subsingleton (⟨0, ![]⟩ : Shape).Idx := ⟨fun a b => funext fun k => k.elim0⟩
  obtain ⟨a, b⟩ := IntOp.andi_eq_one.1 (Host.reduce_andi_all _ _ hr hu j e i)
  have a' : (Ideal.ofBits .f32 0xFF800000#32 : EReal) < x i := cmp_gt a
  have b' : x i < (Ideal.ofBits .f32 0x7F800000#32 : EReal) := cmp_lt b
  rw [lit_bot] at a'
  rw [lit_top] at b'
  exact (EReal.coe_toReal b'.ne a'.ne').symm

/-- The precondition, argument by argument. -/
theorem real_args [Cert.Pre_finite.Facts] {x0 : FVec Ideal ⟨2, ![4096, 1024]⟩ .f32} {x1 : FVec Ideal ⟨2, ![1, 1024]⟩ .f32} {x2 : FVec Ideal ⟨2, ![1024, 5632]⟩ .f32}
    {x3 : FVec Ideal ⟨2, ![2816, 1024]⟩ .f32} {x4 : FVec Ideal ⟨2, ![4096, 1024]⟩ .f32} (h : Cert.Pre_finite.fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) := by
  have e := congrFun h (fun k => k.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4⟩

/-- An index is its coordinates. -/
theorem eta2 {a b : ℕ} (i : (⟨2, ![a, b]⟩ : Shape).Idx) : i = ValueIdx.ix2 (i 0) (i 1) :=
  funext fun c => by match c with | ⟨0, _⟩ => rfl | ⟨1, _⟩ => rfl

theorem eta1 {b : ℕ} (i : (⟨2, ![1, b]⟩ : Shape).Idx) : i = ValueIdx.ix2 0 (i 1) :=
  funext fun c => by
    match c with
    | ⟨0, _⟩ => exact Subsingleton.elim (α := Fin 1) (i 0) 0
    | ⟨1, _⟩ => rfl

/-- A matrix of real numbers as a table of reals. -/
def tab2 {a b : ℕ} (x : (⟨2, ![a, b]⟩ : Shape).Idx → EReal) (r : Fin a) (k : Fin b) : ℝ := (x (ValueIdx.ix2 r k)).toReal
/-- A row of real numbers as a vector of reals. -/
def tab1 {b : ℕ} (x : (⟨2, ![1, b]⟩ : Shape).Idx → EReal) (k : Fin b) : ℝ := (x (ValueIdx.ix2 0 k)).toReal

theorem tab2_eq {a b : ℕ} {x : (⟨2, ![a, b]⟩ : Shape).Idx → EReal} (hx : ∀ i, x i = ((x i).toReal : EReal)) (i : (⟨2, ![a, b]⟩ : Shape).Idx) :
    x i = (tab2 x (i 0) (i 1) : EReal) := (hx i).trans (congrArg (fun j => ((x j).toReal : EReal)) (eta2 i))
theorem tab1_eq {b : ℕ} {x : (⟨2, ![1, b]⟩ : Shape).Idx → EReal} (hx : ∀ i, x i = ((x i).toReal : EReal)) (i : (⟨2, ![1, b]⟩ : Shape).Idx) :
    x i = (tab1 x (i 1) : EReal) := (hx i).trans (congrArg (fun j => ((x j).toReal : EReal)) (eta1 i))

end Cert.Lift

end
-- ==== Proof.FfnClaim.lean ====
/- Hand-written, untrusted: THE FEED-FORWARD GRADIENT KERNEL AND THE REFERENCE LEAVE EQUAL RESULTS, for arguments that are real
   numbers: both leave the gradient over the reals (`dzR`, `outR`, `dgainR`). -/
module

public import proofs.«01_k».proof.Defs
public import proofs.«01_k».proof.Proof.FfnGrid
public import proofs.«01_k».proof.Proof.Finite
public import proofs.«01_k».proof.Proof.Gen.ReferenceIdeal.Run
public import proofs.«01_k».proof.Proof.Gen.Pre_finite

@[expose] public section

noncomputable section

namespace Cert.Ffn

open Idealize.ShloMosaic Idealize.SL.Sem

theorem algebraic : Cert.algebraic_KernelIdeal_ReferenceIdeal_pre_finite := by
  intro m g m' g' hpre hag
  let h (c : Dev Cert.KernelIdeal.nD) : Fin 4096 → Fin 1024 → ℝ := Lift.tab2 (m ((c.tc : Thread Cert.KernelIdeal.nD Cert.KernelIdeal.τ).loc Cert.KernelIdeal.main_arg0))
  let gn (c : Dev Cert.KernelIdeal.nD) : Fin 1024 → ℝ := Lift.tab1 (m ((c.tc : Thread Cert.KernelIdeal.nD Cert.KernelIdeal.τ).loc Cert.KernelIdeal.main_arg1))
  let W (c : Dev Cert.KernelIdeal.nD) : Fin 1024 → Fin 5632 → ℝ := Lift.tab2 (m ((c.tc : Thread Cert.KernelIdeal.nD Cert.KernelIdeal.τ).loc Cert.KernelIdeal.main_arg2))
  let Wd (c : Dev Cert.KernelIdeal.nD) : Fin 2816 → Fin 1024 → ℝ := Lift.tab2 (m ((c.tc : Thread Cert.KernelIdeal.nD Cert.KernelIdeal.τ).loc Cert.KernelIdeal.main_arg3))
  let ct (c : Dev Cert.KernelIdeal.nD) : Fin 4096 → Fin 1024 → ℝ := Lift.tab2 (m ((c.tc : Thread Cert.KernelIdeal.nD Cert.KernelIdeal.τ).loc Cert.KernelIdeal.main_arg4))
  have h0 (c : Dev Cert.KernelIdeal.nD) (i : Cert.KernelIdeal.S4096x1024.Idx) : m ((c.tc : Thread Cert.KernelIdeal.nD Cert.KernelIdeal.τ).loc Cert.KernelIdeal.main_arg0) i = (h c (i 0) (i 1) : EReal) :=
    Lift.tab2_eq (Lift.real_args (hpre c)).1 i
  have h1 (c : Dev Cert.KernelIdeal.nD) (i : Cert.KernelIdeal.S1x1024.Idx) : m ((c.tc : Thread Cert.KernelIdeal.nD Cert.KernelIdeal.τ).loc Cert.KernelIdeal.main_arg1) i = (gn c (i 1) : EReal) :=
    Lift.tab1_eq (Lift.real_args (hpre c)).2.1 i
  have h2 (c : Dev Cert.KernelIdeal.nD) (i : Cert.KernelIdeal.S1024x5632.Idx) : m ((c.tc : Thread Cert.KernelIdeal.nD Cert.KernelIdeal.τ).loc Cert.KernelIdeal.main_arg2) i = (W c (i 0) (i 1) : EReal) :=
    Lift.tab2_eq (Lift.real_args (hpre c)).2.2.1 i
  have h3 (c : Dev Cert.KernelIdeal.nD) (i : Cert.KernelIdeal.S2816x1024.Idx) : m ((c.tc : Thread Cert.KernelIdeal.nD Cert.KernelIdeal.τ).loc Cert.KernelIdeal.main_arg3) i = (Wd c (i 0) (i 1) : EReal) :=
    Lift.tab2_eq (Lift.real_args (hpre c)).2.2.2.1 i
  have h4 (c : Dev Cert.KernelIdeal.nD) (i : Cert.KernelIdeal.S4096x1024.Idx) : m ((c.tc : Thread Cert.KernelIdeal.nD Cert.KernelIdeal.τ).loc Cert.KernelIdeal.main_arg4) i = (ct c (i 0) (i 1) : EReal) :=
    Lift.tab2_eq (Lift.real_args (hpre c)).2.2.2.2 i
  refine ⟨fun c => fun i : Cert.KernelIdeal.S8x4096x704.Idx => (dzR (h c) (gn c) (W c) (Wd c) (ct c) (i 1) (slotCol (i 0) (i 2)) : EReal),
    fun c => fun i : Cert.KernelIdeal.S4096x1024.Idx => (outR (h c) (gn c) (W c) (Wd c) (ct c) (i 0) (i 1) : EReal),
    fun c => fun i : Cert.KernelIdeal.S1x1024.Idx => (dgainR (h c) (gn c) (W c) (Wd c) (ct c) (i 1) : EReal), ?_, ?_⟩
  · refine (θ_run Cert.KernelIdeal.defs _ _).mono (fun r hr c => ?_) (Cert.KernelIdeal.Value.run_blocks (F := Ideal) m g)
    obtain ⟨r0, r1, r2, k⟩ := hr c
    exact ⟨r0.trans (funext fun i => Grid.arr7 (h0 c) (h1 c) (h2 c) (h3 c) (h4 c) i),
      r1.trans (funext fun i => Grid.arr8 (h0 c) (h1 c) (h2 c) (h3 c) (h4 c) i),
      r2.trans (funext fun i => Grid.arr9 (h0 c) (h1 c) (h2 c) (h3 c) (h4 c) i), k⟩
  · refine (θ_run Cert.ReferenceIdeal.defs _ _).mono (fun r hr c => ?_) (Cert.ReferenceIdeal.Value.run (F := Ideal) m' g')
    obtain ⟨r0, r1, r2, k⟩ := hr c
    obtain ⟨a0, a1, a2, a3, a4⟩ := hag c
    have q0 := fun i => (congrFun a0 i).trans (h0 c i)
    have q1 := fun i => (congrFun a1 i).trans (h1 c i)
    have q2 := fun i => (congrFun a2 i).trans (h2 c i)
    have q3 := fun i => (congrFun a3 i).trans (h3 c i)
    have q4 := fun i => (congrFun a4 i).trans (h4 c i)
    exact ⟨r0.trans ((Cert.ReferenceIdeal.Read.val_main_v52_eq m' c).trans (funext fun i => Ref.v52 q0 q1 q2 q3 q4 i)),
      r1.trans ((Cert.ReferenceIdeal.Read.val_main_v53_eq m' c).trans (funext fun i => Ref.v53 q0 q1 q2 q3 q4 i)),
      r2.trans ((Cert.ReferenceIdeal.Read.val_main_v33_eq m' c).trans (funext fun i => Ref.v33 q0 q1 q2 q3 q4 i)), k⟩

end Cert.Ffn

end
-- ==== Proof.TnSlots.lean ====
/- Hand-written, untrusted: THE GRADIENT OF THE FUSED GATE AND UP PROJECTION. The kernel multiplies the transposed normalised
   rows by the gradient of the product, slot by slot, into the first 1024 rows of each slot of an array whose other rows it
   keeps. Each element is the sum over the 4096 rows that the reference computes with the factors exchanged, so the two agree
   for all arguments, the infinite ones included. -/
module

public import proofs.«01_k».proof.Defs
public import proofs.«01_k».proof.Proof.Dot
public import proofs.«01_k».proof.Proof.Gen.Kernel2Ideal.Value
public import proofs.«01_k».proof.Proof.Gen.Reference2Ideal.Run
public import proofs.«01_k».proof.Proof.Gen.Reference2Ideal.Read
public import Idealize.ShloMosaic.Lib.StableHlo.Run
public import Idealize.ShloMosaic.Lib.Pipeline.ValueKit.Tiles
public import Idealize.ShloMosaic.Lib.Tactic

@[expose] public section

noncomputable section

namespace Cert.TnSlots

open Cert.Kernel2Ideal Cert.Kernel2Ideal.Gen Cert.Lift
open Cert.Reference2Ideal.Read
open Idealize.ShloMosaic Idealize.ShloMosaic.TcCoe Idealize.SL.Sem Idealize.ShloMosaic.StableHlo
open Idealize.ShloMosaic.ValueIdx (ix2 ix3)

/-! ## The body -/

/-- Column `j` of slot `d` among all columns. -/
def col (d : Fin 8) (j : Fin 704) : Fin 5632 := ⟨d.val * 704 + j.val, by omega⟩

/-- An element of the normalised rows, and one of the gradient of the product. -/
def nrm (x0 : FVec Ideal S4096x1024 .f32) (x1 : FVec Ideal S1x1024 .f32) (k : Fin 4096) (r : Fin 1024) : EReal :=
  val_main_v12 (F := Ideal) x0 x1 (ix2 k r)
def grd (x2 : FVec Ideal S4096x5632 .f32) (k : Fin 4096) (j : Fin 5632) : EReal := x2 (ix2 k j)

def lhs (x0 : FVec Ideal S1024x4096 .bf16) (r : Fin 1024) (k : Fin 4096) : EReal := x0 (ix2 r k)
def rhs (x1 : FVec Ideal S1x4096x704 .bf16) (k : Fin 4096) (j : Fin 704) : EReal := x1 (ix3 (0 : Fin 1) k j)

theorem pay_apply (x0 : FVec Ideal S1024x4096 .bf16) (x1 : FVec Ideal S1x4096x704 .bf16) (y : S1x1024x704.Idx) :
    k0_pay1 (F := Ideal) x0 x1 y = ∑ k : Fin 4096, lhs x0 (y 1) k * rhs x1 k (y 2) := by
  have b0 : (y 0).val < 1 := (y 0).isLt
  unfold k0_pay1
  refine (shapeCast_apply (s := S1024x704) (t := S1x1024x704) _ _ y (ix2 (y 1) (y 2)) (by
    rw [Shape.rowMajor_val_three, Shape.rowMajor_val_two]
    show (y 1).val * 704 + (y 2).val = ((y 0).val * 1024 + (y 1).val) * 704 + (y 2).val
    omega)).trans ?_
  refine ((Ideal.matmul_constant_zero_apply dot_S1024x4096_S4096x704_S1024x704_1_0_0_1_n_n none (φ₁ := .bf16) (φ₂ := .bf16) _ _ _).trans
    (sumNN (M := 1024) (N := 704) (K := 4096) dot_S1024x4096_S4096x704_S1024x704_1_0_0_1_n_n rfl rfl rfl rfl rfl rfl _ _ _)).trans ?_
  refine Finset.sum_congr rfl fun k _ => congrArg₂ (fun a b : EReal => a * b) ?_ ?_
  · exact congrFun (shapeCast_self x0 _) _
  · exact shapeCast_apply x1 shapeCasts_S1x4096x704_S4096x704 (ix2 k (y 2)) (ix3 (0 : Fin 1) k (y 2)) (by
      rw [Shape.rowMajor_val_three, Shape.rowMajor_val_two]
      show (0 * 4096 + k.val) * 704 + (y 2).val = k.val * 704 + (y 2).val
      omega)

theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (c : Dev nD) (i : grid0.Coords) (a2 : Memref sig .tc .vmem S1024x4096 .bf16) (h2 : a2.IsWhole)
    (a3 : Memref sig .tc .vmem S1x4096x704 .bf16) (h3 : a3.IsWhole) (a5 : Memref sig .tc .vmem S1x1024x704 .bf16) (h5 : a5.IsWhole)
    (x0 : Vec Ideal S1024x4096 .bf16) (x1 : Vec Ideal S1x4096x704 .bf16) (y : S1x1024x704.Idx) :
    out0_A_2 c i a2 h2 a3 h3 a5 h5 x0 x1 y = ∑ k : Fin 4096, lhs x0 (y 1) k * rhs x1 k (y 2) := by
  unfold out0_A_2
  rw [View.read_writes_eq_canon _ _ _ (cover0_A_2 c i a2 h2 a3 h3 a5 h5 x0 x1)]
  unfold kernelRun0_A
  dsimp only
  sl_unfold_words
  rw [View.canon_unit_zero hz3]
  simp only [View.readAt_eq_ld, h2.read_unread, h3.read_unread, View.ld_unit_zero (S := S1024x4096) hz2, View.ld_unit_zero (S := S1x4096x704) hz3]
  exact pay_apply x0 x1 y

/-! ## The buffers at the launch -/

variable (m : (ℓ : Loc nD τ sig) → Buf (Elt Ideal) ℓ) (c : Dev nD)

abbrev A0 : FVec Ideal S4096x1024 .f32 := m ((c : Thread nD τ).loc main_arg0)
abbrev A1 : FVec Ideal S1x1024 .f32 := m ((c : Thread nD τ).loc main_arg1)
abbrev A2 : FVec Ideal S4096x5632 .f32 := m ((c : Thread nD τ).loc main_arg2)
abbrev A3 : FVec Ideal S8x2048x704 .bf16 := m ((c : Thread nD τ).loc main_arg3)

theorem v13 : V m c main_v13 = truncf (F := Ideal) .bf16 (transpose S1024x4096 [1, 0] (val_main_v12 (F := Ideal) (A0 m c) (A1 m c))
    transposes_S4096x1024_S1024x4096_1_0) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v16 : V m c main_v16 = truncf (F := Ideal) .bf16 (transpose S8x4096x704 [1, 0, 2] (shapeCast S4096x8x704 (A2 m c)
    shapeCasts_S4096x5632_S4096x8x704) transposes_S4096x8x704_S8x4096x704_1_0_2) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v17 : V m c main_v17 = A3 m c := by
  unfold V
  simp only [hostOps0, List.flatten_cons, List.flatten_nil, List.cons_append, List.nil_append,
    TRef.binary, TRef.nullary, TRef.unary, TRef.toBuf, TRef.ofBuf, cast_eq]
  after_results_simp
  rfl

theorem nt_apply (i : S1024x4096.Idx) : V m c main_v13 i = val_main_v12 (F := Ideal) (A0 m c) (A1 m c) (ix2 (i 1) (i 0)) :=
  (congrFun (v13 m c) i).trans (transpose_apply (s := S4096x1024) (t := S1024x4096) [1, 0] (val_main_v12 (F := Ideal) (A0 m c) (A1 m c)) transposes_S4096x1024_S1024x4096_1_0 i (ix2 (i 1) (i 0))
    (fun b => match b with | ⟨0, _⟩ => rfl | ⟨1, _⟩ => rfl))

theorem dz_apply (i : S8x4096x704.Idx) : V m c main_v16 i = A2 m c (ix2 (i 1) (col (i 0) (i 2))) :=
  (congrFun (v16 m c) i).trans ((transpose_apply (s := S4096x8x704) (t := S8x4096x704) [1, 0, 2] (shapeCast S4096x8x704 (A2 m c) shapeCasts_S4096x5632_S4096x8x704) transposes_S4096x8x704_S8x4096x704_1_0_2 i
    (ix3 (i 1) (i 0) (i 2)) (fun b => match b with | ⟨0, _⟩ => rfl | ⟨1, _⟩ => rfl | ⟨2, _⟩ => rfl)).trans
    (shapeCast_apply (A2 m c) _ _ (ix2 (i 1) (col (i 0) (i 2))) (by
      rw [Shape.rowMajor_val_three, Shape.rowMajor_val_two]
      show (i 1).val * 5632 + ((i 0).val * 704 + (i 2).val) = ((i 1).val * 8 + (i 0).val) * 704 + (i 2).val
      omega)))

/-! ## The grid -/

theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

theorem lt8 (t : Fin cfg0.N) : t.val < 8 := Nat.lt_of_lt_of_eq t.isLt N_0

theorem emb0 (t : Fin cfg0.N) (y : S1024x4096.Idx) : ((cfg0.win 0).blk t).view.emb y = y := by
  have hi := (idx_facts t).1
  funext a; apply Fin.ext
  match a with
  | ⟨0, _⟩ => show win0_0.index t (0 : Fin 2) * 1024 + 1 * (y 0).val = (y 0).val; rw [hi.1]; omega
  | ⟨1, _⟩ => show win0_0.index t (1 : Fin 2) * 4096 + 1 * (y 1).val = (y 1).val; rw [hi.2]; omega

theorem emb1 (t : Fin cfg0.N) (y : S1x4096x704.Idx) :
    ((cfg0.win 1).blk t).view.emb y = ix3 (⟨t.val, lt8 t⟩ : Fin 8) (y 1) (y 2) := by
  have hi := (idx_facts t).2.1
  have b0 : (y 0).val < 1 := (y 0).isLt
  funext a; apply Fin.ext
  match a with
  | ⟨0, _⟩ => show win0_1.index t (0 : Fin 3) * 1 + 1 * (y 0).val = t.val; rw [hi.1]; omega
  | ⟨1, _⟩ => show win0_1.index t (1 : Fin 3) * 4096 + 1 * (y 1).val = (y 1).val; rw [hi.2.1]; omega
  | ⟨2, _⟩ => show win0_1.index t (2 : Fin 3) * 704 + 1 * (y 2).val = (y 2).val; rw [hi.2.2]; omega

theorem emb2 (t : Fin cfg0.N) (y : S1x1024x704.Idx) :
    ((cfg0.win 2).blk t).view.emb y = ix3 (⟨t.val, lt8 t⟩ : Fin 8) (⟨(y 1).val, by have : (y 1).val < 1024 := (y 1).isLt; omega⟩ : Fin 2048) (y 2) := by
  have hi := (idx_facts t).2.2
  have b0 : (y 0).val < 1 := (y 0).isLt
  funext a; apply Fin.ext
  match a with
  | ⟨0, _⟩ => show win0_2.index t (0 : Fin 3) * 1 + 1 * (y 0).val = t.val; rw [hi.1]; omega
  | ⟨1, _⟩ => show win0_2.index t (1 : Fin 3) * 1024 + 1 * (y 1).val = (y 1).val; rw [hi.2.1]; omega
  | ⟨2, _⟩ => show win0_2.index t (2 : Fin 3) * 704 + 1 * (y 2).val = (y 2).val; rw [hi.2.2]; omega

theorem blk0 (t : Fin cfg0.N) (i : S1024x4096.Idx) : iblk m c 0 t i = val_main_v12 (F := Ideal) (A0 m c) (A1 m c) (ix2 (i 1) (i 0)) :=
  (congrArg (V m c main_v13) (emb0 t i)).trans (nt_apply m c i)
theorem blk1 (t : Fin cfg0.N) (i : S1x4096x704.Idx) : iblk m c 1 t i = A2 m c (ix2 (i 1) (col ⟨t.val, lt8 t⟩ (i 2))) :=
  (congrArg (V m c main_v16) (emb1 t i)).trans (dz_apply m c _)

theorem flushed_apply (t : Fin cfg0.N) (y : S1x1024x704.Idx) : (Gen.dats m 0 c).flushed 2 t y
    = ∑ k : Fin 4096, nrm (A0 m c) (A1 m c) k (y 1) * grd (A2 m c) k (col ⟨t.val, lt8 t⟩ (y 2)) := by
  rw [Value.flushed2_A m c t]
  exact (out_apply c _ _ _ _ _ _ _ (iblk m c 0 t) (iblk m c 1 t) y).trans
    (Finset.sum_congr rfl fun k _ => congrArg₂ (fun a b : EReal => a * b) (blk0 m c t _) (blk1 m c t _))

/-! ## The reference at an index -/

section

variable (x0 : FVec Ideal S4096x1024 .f32) (x1 : FVec Ideal S1x1024 .f32) (x2 : FVec Ideal S4096x5632 .f32) (x3 : FVec Ideal S8x2048x704 .bf16)

theorem ref_new (d : Fin 8) (r : Fin 1024) (j : Fin 704) :
    val_main_v18 (F := Ideal) x0 x1 x2 (ix3 d r j) = ∑ k : Fin 4096, grd x2 k (col d j) * nrm x0 x1 k r := by
  refine (val_main_v17_apply (F := Ideal) x0 x1 x2 (ix3 d r j)).trans ?_
  refine (val_main_v16_apply (F := Ideal) x0 x1 x2 _).trans ((val_main_v15_apply (F := Ideal) x0 x1 x2 _).trans
    ((val_main_v14_apply x0 x1 x2 _).trans ?_))
  refine Finset.sum_congr rfl fun k _ => congrArg₂ (fun a b => (x2 a * val_main_v12 (F := Ideal) x0 x1 b : EReal)) ?_ ?_
  · funext a; apply Fin.ext
    match a with
    | ⟨0, _⟩ => rfl
    | ⟨1, _⟩ => show ((r.val * 8 + d.val) * 704 + j.val) % 5632 = d.val * 704 + j.val; omega
  · funext a; apply Fin.ext
    match a with
    | ⟨0, _⟩ => rfl
    | ⟨1, _⟩ => show ((r.val * 8 + d.val) * 704 + j.val) / 5632 = r.val; omega

theorem ref_lo (i : S8x2048x704.Idx) (h : (i 1).val < 1024) : val_main_v20 (F := Ideal) x0 x1 x2 x3 i
    = ∑ k : Fin 4096, grd x2 k (col (i 0) (i 2)) * nrm x0 x1 k ⟨(i 1).val, h⟩ := by
  unfold val_main_v20
  exact (concatenate_pair_apply_left (t := S8x2048x704) (s₁ := Cert.Reference2Ideal.S8x1024x704) (s₂ := Cert.Reference2Ideal.S8x1024x704) 1 _ _ _ i rfl
    (ix3 (i 0) (⟨(i 1).val, h⟩ : Fin 1024) (i 2))
    (by intro c; match c with | ⟨0, _⟩ => rfl | ⟨1, _⟩ => rfl | ⟨2, _⟩ => rfl)).trans (ref_new x0 x1 x2 (i 0) ⟨(i 1).val, h⟩ (i 2))

theorem ref_hi (i : S8x2048x704.Idx) (h : ¬(i 1).val < 1024) : val_main_v20 (F := Ideal) x0 x1 x2 x3 i = x3 i := by
  have b1 : (i 1).val < 2048 := (i 1).isLt
  unfold val_main_v20
  refine (concatenate_pair_apply_right (t := S8x2048x704) (s₁ := Cert.Reference2Ideal.S8x1024x704) (s₂ := Cert.Reference2Ideal.S8x1024x704) 1 _ _ _ i rfl rfl
      (ix3 (i 0) (⟨(i 1).val - 1024, by omega⟩ : Fin 1024) (i 2))
      (by intro c hne; match c with | ⟨0, _⟩ => rfl | ⟨1, _⟩ => exact absurd rfl hne | ⟨2, _⟩ => rfl)
      (by show (i 1).val - 1024 + 1024 = (i 1).val; omega)).trans ((val_main_v19_apply (F := Ideal) x3 _).trans ?_)
  refine congrArg x3 (funext fun a => Fin.ext ?_)
  match a with
  | ⟨0, _⟩ => rfl
  | ⟨1, _⟩ => show 1024 + ((i 1).val - 1024) = (i 1).val; omega
  | ⟨2, _⟩ => rfl

end

/-! ## The result array -/

theorem swap (x0 : FVec Ideal S4096x1024 .f32) (x1 : FVec Ideal S1x1024 .f32) (x2 : FVec Ideal S4096x5632 .f32) (r : Fin 1024) (j : Fin 5632) :
    ∑ k : Fin 4096, nrm x0 x1 k r * grd x2 k j = ∑ k : Fin 4096, grd x2 k j * nrm x0 x1 k r :=
  Finset.sum_congr rfl fun k _ => mul_comm _ _

theorem arr (i : S8x2048x704.Idx) : (Gen.dats m 0 c).arrAt 2 cfg0.N i
    = val_main_v20 (F := Ideal) (A0 m c) (A1 m c) (A2 m c) (A3 m c) i := by
  have hN : cfg0.N = 8 := N_0
  have b0 : (i 0).val < 8 := (i 0).isLt
  by_cases h : (i 1).val < 1024
  · let t : Fin cfg0.N := ⟨(i 0).val, by omega⟩
    let y : S1x1024x704.Idx := ix3 (0 : Fin 1) ⟨(i 1).val, h⟩ (i 2)
    have e : ((cfg0.win 2).blk t).view.emb y = i := by
      rw [emb2]
      funext a
      match a with
      | ⟨0, _⟩ => rfl
      | ⟨1, _⟩ => rfl
      | ⟨2, _⟩ => rfl
    have b := congrFun (Value.blocks2 m c t (flush0_2 t)) y
    have b' : (Gen.dats m 0 c).arrAt 2 cfg0.N (((cfg0.win 2).blk t).view.emb y) = (Gen.dats m 0 c).flushed 2 t y := b
    rw [e] at b'
    exact b'.trans (((flushed_apply m c t y).trans (swap _ _ _ _ _)).trans
      (ref_lo (A0 m c) (A1 m c) (A2 m c) (A3 m c) i h).symm)
  · refine (Value.entry2 m c i (fun t _ hmem => ?_)).trans ((congrFun (v17 m c) i).trans (ref_hi (A0 m c) (A1 m c) (A2 m c) (A3 m c) i h).symm)
    · obtain ⟨y, -, hy⟩ := Finset.mem_map.1 hmem
      have e1 : (i 1).val = (y 1).val := congrArg (fun j : S8x2048x704.Idx => (j 1).val) (hy.symm.trans (emb2 t y))
      have b1 : (y 1).val < 1024 := (y 1).isLt
      exact h (by omega)

theorem algebraic : Cert.algebraic_Kernel2Ideal_Reference2Ideal := by
  intro m g m' g' _ hag
  refine ⟨fun c => val_main_v20 (F := Ideal) (A0 m c) (A1 m c) (A2 m c) (A3 m c), ?_, ?_⟩
  · exact (θ_run Cert.Kernel2Ideal.defs _ _).mono (fun r hr c => ⟨(hr c).1.trans (funext fun i => arr m c i), (hr c).2⟩)
      (Cert.Kernel2Ideal.Value.run_blocks (F := Ideal) m g)
  · refine (θ_run Cert.Reference2Ideal.defs _ _).mono (fun r hr c => ⟨(hr c).1.trans ?_, (hr c).2⟩)
      (Cert.Reference2Ideal.Value.run (F := Ideal) m' g')
    obtain ⟨a0, a1, a2, a3⟩ := hag c
    refine (val_main_v20_eq _ _ _ _).trans ?_
    rw [a0, a1, a2, a3]

end Cert.TnSlots

end
-- ==== Proof.TnDown.lean ====
/- Hand-written, untrusted: THE GRADIENT OF THE DOWN PROJECTION. The kernel multiplies the transposed activations by the
   gradient of the result, takes half of the product, and stores it in the first 352 rows of each slot of an array whose other
   rows it keeps. The reference halves the gradient first: half of a sum is the sum of the halves for all extended reals, so
   the two agree for all arguments, the infinite ones included. -/
module

public import proofs.«01_k».proof.Defs
public import proofs.«01_k».proof.Proof.Dot
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.Run
public import Idealize.ShloMosaic.Lib.Pipeline.ValueKit.Tiles
public import Idealize.ShloMosaic.Lib.Tactic

@[expose] public section

noncomputable section

namespace Cert.TnDown

open Cert.Kernel3Ideal Cert.Kernel3Ideal.Gen Cert.Lift
open Cert.Reference3Ideal.Read
open Idealize.ShloMosaic Idealize.ShloMosaic.TcCoe Idealize.SL.Sem Idealize.ShloMosaic.StableHlo
open Idealize.ShloMosaic.ValueIdx (ix2 ix3)

/-- The word of one half. -/
def half : EReal := Ideal.ofBits .f32 0x3F000000#32

/-- Half of a sum is the sum of the halves, whatever the summands. -/
theorem half_sum {ι : Type} (s : Finset ι) (f : ι → EReal) : half * ∑ k ∈ s, f k = ∑ k ∈ s, half * f k := by
  have h0 : (0 : EReal) ≤ half := by rw [half, lit_half]; exact_mod_cast (by norm_num : (0 : ℝ) ≤ 1 / 2)
  have ht : half ≠ ⊤ := by rw [half, lit_half]; exact EReal.coe_ne_top _
  classical
  induction s using Finset.induction_on with
  | empty => simp
  | insert a s ha ih => rw [Finset.sum_insert ha, Finset.sum_insert ha, EReal.left_distrib_of_nonneg_of_ne_top h0 ht, ih]

/-- Row `r` of half `b` of a pair of slots, and of slot `d` among all rows; column `j` of block `b`. -/
def row2 (b : Fin 2) (r : Fin 352) : Fin 704 := ⟨b.val * 352 + r.val, by omega⟩
def row8 (d : Fin 8) (r : Fin 352) : Fin 2816 := ⟨d.val * 352 + r.val, by omega⟩
def row4 (d : Fin 4) (r : Fin 704) : Fin 2816 := ⟨d.val * 704 + r.val, by omega⟩

/-- An element of the activations, and one of the gradient of the result. -/
def act (x0 : FVec Ideal S4096x1024 .f32) (x1 : FVec Ideal S1x1024 .f32) (x2 : FVec Ideal S1024x5632 .f32) (k : Fin 4096) (j : Fin 2816) : EReal :=
  val_main_v17 (F := Ideal) x0 x1 x2 (ix2 k j)
def grd (x3 : FVec Ideal S4096x1024 .f32) (k : Fin 4096) (j : Fin 1024) : EReal := x3 (ix2 k j)

/-! ## The body -/

def lhs (x0 : FVec Ideal S1x704x4096 .bf16) (r : Fin 704) (k : Fin 4096) : EReal := x0 (ix3 (0 : Fin 1) r k)
def rhs (x1 : FVec Ideal S4096x512 .f32) (k : Fin 4096) (j : Fin 512) : EReal := x1 (ix2 k j)

theorem pay_apply (x0 : FVec Ideal S1x704x4096 .bf16) (x1 : FVec Ideal S4096x512 .f32) (y : S2x352x512.Idx) :
    k0_pay1 (F := Ideal) x0 x1 y = half * ∑ k : Fin 4096, lhs x0 (row2 (y 0) (y 1)) k * rhs x1 k (y 2) := by
  unfold k0_pay1
  refine (shapeCast_apply (s := S704x512) (t := S2x352x512) _ _ y (ix2 (row2 (y 0) (y 1)) (y 2)) (by
    rw [Shape.rowMajor_val_three, Shape.rowMajor_val_two]; rfl)).trans ?_
  refine congrArg (fun a : EReal => half * a) ?_
  refine ((Ideal.matmul_constant_zero_apply dot_S704x4096_S4096x512_S704x512_1_0_0_1_n_n none (φ₁ := .bf16) (φ₂ := .bf16) _ _ _).trans
    (sumNN (M := 704) (N := 512) (K := 4096) dot_S704x4096_S4096x512_S704x512_1_0_0_1_n_n rfl rfl rfl rfl rfl rfl _ _ _)).trans ?_
  refine Finset.sum_congr rfl fun k _ => congrArg₂ (fun a b : EReal => a * b) ?_ rfl
  exact shapeCast_apply x0 shapeCasts_S1x704x4096_S704x4096 (ix2 (row2 (y 0) (y 1)) k) (ix3 (0 : Fin 1) (row2 (y 0) (y 1)) k) (by
      rw [Shape.rowMajor_val_three, Shape.rowMajor_val_two]
      show (0 * 704 + (row2 (y 0) (y 1)).val) * 4096 + k.val = (row2 (y 0) (y 1)).val * 4096 + k.val
      omega)

theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (c : Dev nD) (i : grid0.Coords) (a2 : Memref sig .tc .vmem S1x704x4096 .bf16) (h2 : a2.IsWhole)
    (a3 : Memref sig .tc .vmem S4096x512 .f32) (h3 : a3.IsWhole) (a5 : Memref sig .tc .vmem S2x352x512 .bf16) (h5 : a5.IsWhole)
    (x0 : Vec Ideal S1x704x4096 .bf16) (x1 : Vec Ideal S4096x512 .f32) (y : S2x352x512.Idx) :
    out0_A_2 c i a2 h2 a3 h3 a5 h5 x0 x1 y = half * ∑ k : Fin 4096, lhs x0 (row2 (y 0) (y 1)) k * rhs x1 k (y 2) := by
  unfold out0_A_2
  rw [View.read_writes_eq_canon _ _ _ (cover0_A_2 c i a2 h2 a3 h3 a5 h5 x0 x1)]
  unfold kernelRun0_A
  dsimp only
  sl_unfold_words
  rw [View.canon_unit_zero hz3]
  simp only [View.readAt_eq_ld, h2.read_unread, h3.read_unread, View.ld_unit_zero (S := S4096x512) hz2, View.ld_unit_zero (S := S1x704x4096) hz3]
  exact pay_apply x0 x1 y

/-! ## The buffers at the launch -/

variable (m : (ℓ : Loc nD τ sig) → Buf (Elt Ideal) ℓ) (c : Dev nD)

abbrev A0 : FVec Ideal S4096x1024 .f32 := m ((c : Thread nD τ).loc main_arg0)
abbrev A1 : FVec Ideal S1x1024 .f32 := m ((c : Thread nD τ).loc main_arg1)
abbrev A2 : FVec Ideal S1024x5632 .f32 := m ((c : Thread nD τ).loc main_arg2)
abbrev A3 : FVec Ideal S4096x1024 .f32 := m ((c : Thread nD τ).loc main_arg3)
abbrev A4 : FVec Ideal S8x704x1024 .bf16 := m ((c : Thread nD τ).loc main_arg4)

/-- The transposed activations, in four slots. -/
def actT : FVec Ideal S2816x4096 .f32 :=
  transpose S2816x4096 [1, 0] (val_main_v17 (F := Ideal) (A0 m c) (A1 m c) (A2 m c)) transposes_S4096x2816_S2816x4096_1_0

theorem v19 : V m c main_v19 = truncf (F := Ideal) .bf16 (shapeCast S4x704x4096 (actT m c) shapeCasts_S2816x4096_S4x704x4096) bitsLt_bf16_f32 := by
  unfold V
  simp only [hostOps0, hostOps0_1, hostOps0_2, List.flatten_cons, List.flatten_nil, List.cons_append, List.nil_append,
    TRef.binary, TRef.nullary, TRef.unary, TRef.toBuf, TRef.ofBuf, cast_eq]
  after_results_simp
  rfl

theorem v20 : V m c main_v20 = A4 m c := by
  unfold V
  simp only [hostOps0, hostOps0_1, hostOps0_2, List.flatten_cons, List.flatten_nil, List.cons_append, List.nil_append,
    TRef.binary, TRef.nullary, TRef.unary, TRef.toBuf, TRef.ofBuf, cast_eq]
  after_results_simp
  rfl

theorem arg3 : V m c main_arg3 = A3 m c := by
  unfold V
  simp only [hostOps0, hostOps0_1, hostOps0_2, List.flatten_cons, List.flatten_nil, List.cons_append, List.nil_append,
    TRef.binary, TRef.nullary, TRef.unary, TRef.toBuf, TRef.ofBuf, cast_eq]
  after_results_simp

theorem actT_apply (j : Fin 2816) (k : Fin 4096) : actT m c (ix2 j k) = act (A0 m c) (A1 m c) (A2 m c) k j :=
  transpose_apply (s := S4096x2816) (t := S2816x4096) [1, 0] (val_main_v17 (F := Ideal) (A0 m c) (A1 m c) (A2 m c))
    transposes_S4096x2816_S2816x4096_1_0 (ix2 j k) (ix2 k j) (fun b => match b with | ⟨0, _⟩ => rfl | ⟨1, _⟩ => rfl)

theorem at_apply (d : Fin 4) (r : Fin 704) (k : Fin 4096) :
    V m c main_v19 (ix3 d r k) = act (A0 m c) (A1 m c) (A2 m c) k (row4 d r) :=
  (congrFun (v19 m c) (ix3 d r k)).trans ((shapeCast_apply (actT m c) shapeCasts_S2816x4096_S4x704x4096 (ix3 d r k) (ix2 (row4 d r) k) (by
    rw [Shape.rowMajor_val_three, Shape.rowMajor_val_two]; rfl)).trans (actT_apply m c _ _))

/-! ## The grid -/

theorem idx_facts : ∀ t : Fin cfg0.N,
    (win0_0.index t (0 : Fin 3) = t.val % 4 ∧ win0_0.index t (1 : Fin 3) = 0 ∧ win0_0.index t (2 : Fin 3) = 0)
    ∧ (win0_1.index t (0 : Fin 2) = 0 ∧ win0_1.index t (1 : Fin 2) = t.val / 4)
    ∧ (win0_2.index t (0 : Fin 3) = t.val % 4 ∧ win0_2.index t (1 : Fin 3) = 0 ∧ win0_2.index t (2 : Fin 3) = t.val / 4) :=
  (by decide +kernel : ∀ t : Fin grid0.N, _)

theorem lt8 (t : Fin cfg0.N) : t.val < 8 := Nat.lt_of_lt_of_eq t.isLt N_0

/-- The pair of slots and the block of columns of a grid point. -/
def pr (t : Fin cfg0.N) : Fin 4 := ⟨t.val % 4, Nat.mod_lt _ (by norm_num)⟩
def colB (t : Fin cfg0.N) (j : Fin 512) : Fin 1024 := ⟨t.val / 4 * 512 + j.val, by have := lt8 t; omega⟩

theorem emb0 (t : Fin cfg0.N) (y : S1x704x4096.Idx) : ((cfg0.win 0).blk t).view.emb y = ix3 (pr t) (y 1) (y 2) := by
  have hi := (idx_facts t).1
  have b0 : (y 0).val < 1 := (y 0).isLt
  funext a; apply Fin.ext
  match a with
  | ⟨0, _⟩ => show win0_0.index t (0 : Fin 3) * 1 + 1 * (y 0).val = t.val % 4; rw [hi.1]; omega
  | ⟨1, _⟩ => show win0_0.index t (1 : Fin 3) * 704 + 1 * (y 1).val = (y 1).val; rw [hi.2.1]; omega
  | ⟨2, _⟩ => show win0_0.index t (2 : Fin 3) * 4096 + 1 * (y 2).val = (y 2).val; rw [hi.2.2]; omega

theorem emb1 (t : Fin cfg0.N) (y : S4096x512.Idx) : ((cfg0.win 1).blk t).view.emb y = ix2 (y 0) (colB t (y 1)) := by
  have hi := (idx_facts t).2.1
  funext a; apply Fin.ext
  match a with
  | ⟨0, _⟩ => show win0_1.index t (0 : Fin 2) * 4096 + 1 * (y 0).val = (y 0).val; rw [hi.1]; omega
  | ⟨1, _⟩ => show win0_1.index t (1 : Fin 2) * 512 + 1 * (y 1).val = t.val / 4 * 512 + (y 1).val; rw [hi.2]; omega

/-- Slot `2d + b` of the result. -/
def slot (t : Fin cfg0.N) (b : Fin 2) : Fin 8 := ⟨2 * (t.val % 4) + b.val, by have := lt8 t; omega⟩

theorem emb2 (t : Fin cfg0.N) (y : S2x352x512.Idx) :
    ((cfg0.win 2).blk t).view.emb y = ix3 (slot t (y 0)) (⟨(y 1).val, by have : (y 1).val < 352 := (y 1).isLt; omega⟩ : Fin 704) (colB t (y 2)) := by
  have hi := (idx_facts t).2.2
  funext a; apply Fin.ext
  match a with
  | ⟨0, _⟩ => show win0_2.index t (0 : Fin 3) * 2 + 1 * (y 0).val = 2 * (t.val % 4) + (y 0).val; rw [hi.1]; omega
  | ⟨1, _⟩ => show win0_2.index t (1 : Fin 3) * 352 + 1 * (y 1).val = (y 1).val; rw [hi.2.1]; omega
  | ⟨2, _⟩ => show win0_2.index t (2 : Fin 3) * 512 + 1 * (y 2).val = t.val / 4 * 512 + (y 2).val; rw [hi.2.2]; omega

theorem blk0 (t : Fin cfg0.N) (r : Fin 704) (k : Fin 4096) :
    lhs (iblk m c 0 t) r k = act (A0 m c) (A1 m c) (A2 m c) k (row4 (pr t) r) :=
  (congrArg (V m c main_v19) (emb0 t (ix3 (0 : Fin 1) r k))).trans (at_apply m c (pr t) r k)
theorem blk1 (t : Fin cfg0.N) (k : Fin 4096) (j : Fin 512) : rhs (iblk m c 1 t) k j = grd (A3 m c) k (colB t j) :=
  (congrArg (V m c main_arg3) (emb1 t (ix2 k j))).trans (congrFun (arg3 m c) _)

theorem flushed_apply (t : Fin cfg0.N) (y : S2x352x512.Idx) : (Gen.dats m 0 c).flushed 2 t y
    = half * ∑ k : Fin 4096, act (A0 m c) (A1 m c) (A2 m c) k (row4 (pr t) (row2 (y 0) (y 1))) * grd (A3 m c) k (colB t (y 2)) := by
  rw [Value.flushed2_A m c t]
  exact (out_apply c _ _ _ _ _ _ _ (iblk m c 0 t) (iblk m c 1 t) y).trans
    (congrArg (fun a : EReal => half * a) (Finset.sum_congr rfl fun k _ => congrArg₂ (fun a b : EReal => a * b) (blk0 m c t _ k) (blk1 m c t k _)))

/-! ## The reference at an index -/

section

variable (x0 : FVec Ideal S4096x1024 .f32) (x1 : FVec Ideal S1x1024 .f32) (x2 : FVec Ideal S1024x5632 .f32) (x3 : FVec Ideal S4096x1024 .f32)
  (x4 : FVec Ideal S8x704x1024 .bf16)

theorem ref_new (d : Fin 8) (r : Fin 352) (j : Fin 1024) : val_main_v27 (F := Ideal) x0 x1 x2 x3 (ix3 d r j)
    = ∑ k : Fin 4096, (half * grd x3 k j) * act x0 x1 x2 k (row8 d r) := by
  refine (val_main_v26_apply (F := Ideal) x0 x1 x2 x3 (ix3 d r j)).trans ?_
  refine (val_main_v25_apply (F := Ideal) x0 x1 x2 x3 _).trans ((val_main_v24_apply x0 x1 x2 x3 _).trans ?_)
  refine Finset.sum_congr rfl fun k _ => congrArg₂ (fun a b => (val_main_v23 (F := Ideal) x3 a * val_main_v17 (F := Ideal) x0 x1 x2 b : EReal))
    (x' := ix2 k j) (y' := ix2 k (row8 d r)) ?_ ?_
  · funext a; apply Fin.ext
    match a with
    | ⟨0, _⟩ => rfl
    | ⟨1, _⟩ => show ((d.val * 352 + r.val) * 1024 + j.val) % 1024 = j.val; omega
  · funext a; apply Fin.ext
    match a with
    | ⟨0, _⟩ => rfl
    | ⟨1, _⟩ => show ((d.val * 352 + r.val) * 1024 + j.val) / 1024 = d.val * 352 + r.val; omega

theorem ref_lo (i : S8x704x1024.Idx) (h : (i 1).val < 352) : val_main_v29 (F := Ideal) x0 x1 x2 x3 x4 i
    = ∑ k : Fin 4096, (half * grd x3 k (i 2)) * act x0 x1 x2 k (row8 (i 0) ⟨(i 1).val, h⟩) := by
  unfold val_main_v29
  exact (concatenate_pair_apply_left (t := S8x704x1024) (s₁ := Cert.Reference3Ideal.S8x352x1024) (s₂ := Cert.Reference3Ideal.S8x352x1024) 1 _ _ _ i rfl
    (ix3 (i 0) (⟨(i 1).val, h⟩ : Fin 352) (i 2))
    (by intro c; match c with | ⟨0, _⟩ => rfl | ⟨1, _⟩ => rfl | ⟨2, _⟩ => rfl)).trans (ref_new x0 x1 x2 x3 (i 0) ⟨(i 1).val, h⟩ (i 2))

theorem ref_hi (i : S8x704x1024.Idx) (h : ¬(i 1).val < 352) : val_main_v29 (F := Ideal) x0 x1 x2 x3 x4 i = x4 i := by
  have b1 : (i 1).val < 704 := (i 1).isLt
  unfold val_main_v29
  refine (concatenate_pair_apply_right (t := S8x704x1024) (s₁ := Cert.Reference3Ideal.S8x352x1024) (s₂ := Cert.Reference3Ideal.S8x352x1024) 1 _ _ _ i rfl rfl
      (ix3 (i 0) (⟨(i 1).val - 352, by omega⟩ : Fin 352) (i 2))
      (by intro c hne; match c with | ⟨0, _⟩ => rfl | ⟨1, _⟩ => exact absurd rfl hne | ⟨2, _⟩ => rfl)
      (by show (i 1).val - 352 + 352 = (i 1).val; omega)).trans ((val_main_v28_apply (F := Ideal) x4 _).trans ?_)
  refine congrArg x4 (funext fun a => Fin.ext ?_)
  match a with
  | ⟨0, _⟩ => rfl
  | ⟨1, _⟩ => show 352 + ((i 1).val - 352) = (i 1).val; omega
  | ⟨2, _⟩ => rfl

/-- The kernel's half of a sum of products is the reference's sum. -/
theorem swap (r : Fin 2816) (j : Fin 1024) : half * ∑ k : Fin 4096, act x0 x1 x2 k r * grd x3 k j
    = ∑ k : Fin 4096, (half * grd x3 k j) * act x0 x1 x2 k r :=
  (half_sum _ _).trans (Finset.sum_congr rfl fun k _ => by rw [mul_comm (act x0 x1 x2 k r), mul_assoc])

end

/-! ## The result array -/

theorem arr (i : S8x704x1024.Idx) : (Gen.dats m 0 c).arrAt 2 cfg0.N i
    = val_main_v29 (F := Ideal) (A0 m c) (A1 m c) (A2 m c) (A3 m c) (A4 m c) i := by
  have hN : cfg0.N = 8 := N_0
  have b0 : (i 0).val < 8 := (i 0).isLt
  have b2 : (i 2).val < 1024 := (i 2).isLt
  by_cases h : (i 1).val < 352
  · let t : Fin cfg0.N := ⟨(i 2).val / 512 * 4 + (i 0).val / 2, by omega⟩
    let y : S2x352x512.Idx := ix3 (⟨(i 0).val % 2, by omega⟩ : Fin 2) ⟨(i 1).val, h⟩ ⟨(i 2).val % 512, by omega⟩
    have e : ((cfg0.win 2).blk t).view.emb y = i := by
      rw [emb2]
      funext a; apply Fin.ext
      match a with
      | ⟨0, _⟩ => show 2 * (((i 2).val / 512 * 4 + (i 0).val / 2) % 4) + (i 0).val % 2 = (i 0).val; omega
      | ⟨1, _⟩ => rfl
      | ⟨2, _⟩ => show ((i 2).val / 512 * 4 + (i 0).val / 2) / 4 * 512 + (i 2).val % 512 = (i 2).val; omega
    have b := congrFun (Value.blocks2 m c t (flush0_2 t)) y
    have b' : (Gen.dats m 0 c).arrAt 2 cfg0.N (((cfg0.win 2).blk t).view.emb y) = (Gen.dats m 0 c).flushed 2 t y := b
    rw [e] at b'
    have er : row4 (pr t) (row2 (y 0) (y 1)) = row8 (i 0) ⟨(i 1).val, h⟩ := Fin.ext (by
      show ((i 2).val / 512 * 4 + (i 0).val / 2) % 4 * 704 + ((i 0).val % 2 * 352 + (i 1).val) = (i 0).val * 352 + (i 1).val; omega)
    have ec : colB t (y 2) = i 2 := Fin.ext (by
      show ((i 2).val / 512 * 4 + (i 0).val / 2) / 4 * 512 + (i 2).val % 512 = (i 2).val; omega)
    refine b'.trans (((flushed_apply m c t y).trans (swap _ _ _ _ _ _)).trans (Eq.trans ?_
      (ref_lo (A0 m c) (A1 m c) (A2 m c) (A3 m c) (A4 m c) i h).symm))
    exact congrArg₂ (fun (r : Fin 2816) (j : Fin 1024) =>
      ∑ k : Fin 4096, (half * grd (A3 m c) k j) * act (A0 m c) (A1 m c) (A2 m c) k r) er ec
  · refine (Value.entry2 m c i (fun t _ hmem => ?_)).trans ((congrFun (v20 m c) i).trans (ref_hi (A0 m c) (A1 m c) (A2 m c) (A3 m c) (A4 m c) i h).symm)
    · obtain ⟨y, -, hy⟩ := Finset.mem_map.1 hmem
      have e1 : (i 1).val = (y 1).val := congrArg (fun j : S8x704x1024.Idx => (j 1).val) (hy.symm.trans (emb2 t y))
      have b1 : (y 1).val < 352 := (y 1).isLt
      exact h (by omega)

theorem algebraic : Cert.algebraic_Kernel3Ideal_Reference3Ideal := by
  intro m g m' g' _ hag
  refine ⟨fun c => val_main_v29 (F := Ideal) (A0 m c) (A1 m c) (A2 m c) (A3 m c) (A4 m c), ?_, ?_⟩
  · exact (θ_run Cert.Kernel3Ideal.defs _ _).mono (fun r hr c => ⟨(hr c).1.trans (funext fun i => arr m c i), (hr c).2⟩)
      (Cert.Kernel3Ideal.Value.run_blocks (F := Ideal) m g)
  · refine (θ_run Cert.Reference3Ideal.defs _ _).mono (fun r hr c => ⟨(hr c).1.trans ?_, (hr c).2⟩)
      (Cert.Reference3Ideal.Value.run (F := Ideal) m' g')
    obtain ⟨a0, a1, a2, a3, a4⟩ := hag c
    refine (val_main_v29_eq _ _ _ _ _).trans ?_
    rw [a0, a1, a2, a3, a4]

end Cert.TnDown

end
-- ==== Proof.AttnRules.lean ====
/-
  Loads and stores through a memref that is owned whole: a load at a unit-stride rectangle returns the window of the
  contents, a store leaves the contents with the payload put over the window.
-/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

section Rules

variable (c : Dev nD) (E : Set ℕ) {s : Shape} {e : EltTy} {m : Memref sig .tc .vmem s e} {x : Vec F s e}
  {off size : Fin s.rank → ℕ} {inb : ∀ a, off a + size a ≤ s.size a}

/-- A load at a unit-stride rectangle returns the window of the contents. -/
theorem load_owns {q : PosShare TreeShare} {hl : m.view.LoadsAt (Rect.unit off size inb).toLoadRect}
    {Q : ((Rect.unit off size inb).shape.Idx → Elt F e) → sProp 𝕄} :
    owns (c : Thread nD τ) m q x
      ⊢ iprop((owns (c : Thread nD τ) m q x -∗ Q (VecWindow.window x off size inb))
        -∗ wp frame (wpE (defs₀ (F := F)) Variants.none c none) E (Prog.lift (.load m (Rect.unit off size inb).toLoadRect hl)) Q) := by
  unfold owns Prog.lift
  iintro ⟨%f, %hf, H⟩ Hk
  iapply (wp_load Variants.none (c : Thread nD τ) none E (View.setOn_subset_set _ _)) $$ H
  iintro H
  rw [wp_ret]; imodintro
  rw [View.readAt_unit m.view f inb rfl inb, hf]
  iapply Hk
  iexists f
  isplitr
  · ipureintro; exact hf
  iexact H

/-- A load of the memref's own sizes returns the contents. -/
theorem load_owns_full {q : PosShare TreeShare} {inb' : ∀ a, off a + s.size a ≤ s.size a}
    {hl : m.view.LoadsAt (Rect.unit off s.size inb').toLoadRect} {Q : Vec F s e → sProp 𝕄} :
    owns (c : Thread nD τ) m q x
      ⊢ iprop((owns (c : Thread nD τ) m q x -∗ Q x)
        -∗ wp frame (wpE (defs₀ (F := F)) Variants.none c none) E (Prog.lift (.load m (Rect.unit off s.size inb').toLoadRect hl)) Q) := by
  unfold owns Prog.lift
  iintro ⟨%f, %hf, H⟩ Hk
  iapply (wp_load Variants.none (c : Thread nD τ) none E (View.setOn_subset_set _ _)) $$ H
  iintro H
  rw [wp_ret]; imodintro
  rw [View.readAt_full m.view f inb', hf]
  iapply Hk
  iexists f
  isplitr
  · ipureintro; exact hf
  iexact H

/-- A store at a unit-stride rectangle puts the payload over the window. -/
theorem store_owns {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {Q : PUnit → sProp 𝕄} :
    owns (c : Thread nD τ) m fullShare x
      ⊢ iprop((owns (c : Thread nD τ) m fullShare (VecWindow.put x off size w) -∗ Q ⟨⟩)
        -∗ wp frame (wpE (defs₀ (F := F)) Variants.none c none) E (Prog.lift (.store m (Rect.unit off size inb) w Finset.univ hx hm)) Q) := by
  unfold owns Prog.lift
  iintro ⟨%f, %hf, H⟩ Hk
  iapply (wp_store Variants.none (c : Thread nD τ) none E (m := m) (r := Rect.unit off size inb) (S := m.view.set) (f := f) ((View.setOn_subset_set _ _).trans (View.set_slice_subset m.view _))) $$ H
  iintro H
  rw [wp_ret]; imodintro
  iapply Hk
  iexists ((m.access (Rect.unit off size inb)).write (Elt F) f w Finset.univ)
  isplitr
  · ipureintro
    have h := View.read_writes_cons_put m.view f inb w [] rfl
    rw [View.writes_nil, hf] at h
    exact h
  iexact H

/-- A store of the memref's own sizes leaves the payload. -/
theorem store_owns_full {inb' : ∀ a, off a + s.size a ≤ s.size a} {w : Vec F s e}
    {hx : (m.access (Rect.unit off s.size inb')).Stores Finset.univ}
    {hm : (Finset.univ : Finset (Rect.unit off s.size inb').shape.Idx) = Finset.univ ∨ ∀ a, (Rect.unit off s.size inb').stride a = 1}
    {Q : PUnit → sProp 𝕄} :
    owns (c : Thread nD τ) m fullShare x
      ⊢ iprop((owns (c : Thread nD τ) m fullShare w -∗ Q ⟨⟩)
        -∗ wp frame (wpE (defs₀ (F := F)) Variants.none c none) E (Prog.lift (.store m (Rect.unit off s.size inb') w Finset.univ hx hm)) Q) := by
  unfold owns Prog.lift
  iintro ⟨%f, %hf, H⟩ Hk
  iapply (wp_store Variants.none (c : Thread nD τ) none E (m := m) (r := Rect.unit off s.size inb') (S := m.view.set) (f := f) ((View.setOn_subset_set _ _).trans (View.set_slice_subset m.view _))) $$ H
  iintro H
  rw [wp_ret]; imodintro
  iapply Hk
  iexists ((m.access (Rect.unit off s.size inb')).write (Elt F) f w Finset.univ)
  isplitr
  · ipureintro
    exact View.read_writes_full m.view f inb' w []
  iexact H

end Rules

end Cert.Attn

end
-- ==== Proof.AttnRun.lean ====
/-
  The attention-gradient kernel's body, run once: over any float interpretation, what a grid point leaves in the key
  and value gradients' blocks and in the scratch that gathers the query gradient.

  The body is cut into the pieces it is made of: the clearing of the scratch, one segment of queries against the
  point's block of keys (the diagonal ones in one of four lengths, the others in a loop), and the writes at the end.
  A segment is the same program at every length, so it is run once (`seg_spec`).
-/
module

public import proofs.«01_k».proof.Proof.AttnRules

@[expose] public section

set_option maxRecDepth 65536

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F] [Named F]

local notation "𝕄" => MT nD τ sig Unit (Elt F) ℕ (UR sig nD τ) ℕ

/-- The buffers the body is called with: queries, keys, values, output gradient, log-sums, deltas, the three results
    and the scratch. -/
structure Bufs where
  q : Memref sig .tc .vmem S4096x256 .bf16
  hq : q.IsWhole
  k : Memref sig .tc .vmem S512x256 .bf16
  hk : k.IsWhole
  v : Memref sig .tc .vmem S512x128 .bf16
  hv : v.IsWhole
  g : Memref sig .tc .vmem S4096x128 .bf16
  hg : g.IsWhole
  l : Memref sig .tc .vmem S1x8x4096 .f32
  hl : l.IsWhole
  d : Memref sig .tc .vmem S1x8x4096 .f32
  hd : d.IsWhole
  dq : Memref sig .tc .vmem S4096x256 .bf16
  hdq : dq.IsWhole
  dk : Memref sig .tc .vmem S512x256 .bf16
  hdk : dk.IsWhole
  dv : Memref sig .tc .vmem S512x128 .bf16
  hdv : dv.IsWhole
  s : Memref sig .tc .vmem S256x4096 .f32
  hs : s.IsWhole

variable (F) in
/-- The contents of the six inputs' buffers. -/
structure Ins where
  q : Vec F S4096x256 .bf16
  k : Vec F S512x256 .bf16
  v : Vec F S512x128 .bf16
  g : Vec F S4096x128 .bf16
  l : Vec F S1x8x4096 .f32
  d : Vec F S1x8x4096 .f32

variable (F) in
/-- The running key and value gradients of a block of keys. -/
abbrev Acc := FVec F S512x256 .f32 × FVec F S512x128 .f32

variable (F) in
/-- The scratch: the query gradients gathered so far, transposed. -/
abbrev Scr := Vec F S256x4096 .f32

/-- The inputs' buffers, at their contents. -/
def held (c : Dev nD) (b : Bufs) (x : Ins F) : sProp 𝕄 :=
  iprop(owns (c : Thread nD τ) b.q fullShare x.q ∗ owns (c : Thread nD τ) b.k fullShare x.k ∗ owns (c : Thread nD τ) b.v fullShare x.v
    ∗ owns (c : Thread nD τ) b.g fullShare x.g ∗ owns (c : Thread nD τ) b.l fullShare x.l ∗ owns (c : Thread nD τ) b.d fullShare x.d)

/-! ## A segment of queries -/

section Segment

variable (oq zq : Fin 2 → ℕ) (iq : ∀ a, oq a + zq a ≤ S4096x256.size a)
  (og zg : Fin 2 → ℕ) (ig : ∀ a, og a + zg a ≤ S4096x128.size a)
  (ol zl : Fin 3 → ℕ) (il : ∀ a, ol a + zl a ≤ S1x8x4096.size a)
  (os zs : Fin 2 → ℕ) (is : ∀ a, os a + zs a ≤ S256x4096.size a)
  (upd : ((⟨2, zq⟩ : Shape).Idx → Elt F .bf16) → ((⟨2, zg⟩ : Shape).Idx → Elt F .bf16) → ((⟨3, zl⟩ : Shape).Idx → Elt F .f32)
    → ((⟨3, zl⟩ : Shape).Idx → Elt F .f32) → ((⟨2, zs⟩ : Shape).Idx → Elt F .f32) → ((⟨2, zs⟩ : Shape).Idx → Elt F .f32))
  (ret : ((⟨2, zq⟩ : Shape).Idx → Elt F .bf16) → ((⟨2, zg⟩ : Shape).Idx → Elt F .bf16) → ((⟨3, zl⟩ : Shape).Idx → Elt F .f32)
    → ((⟨3, zl⟩ : Shape).Idx → Elt F .f32) → Acc F)

/-- What a segment returns, and the scratch after it. -/
def segVal (x : Ins F) (s : Scr F) : Acc F × Scr F :=
  (ret (VecWindow.window x.q oq zq iq) (VecWindow.window x.g og zg ig) (VecWindow.window x.l ol zl il) (VecWindow.window x.d ol zl il),
   VecWindow.put s os zs (upd (VecWindow.window x.q oq zq iq) (VecWindow.window x.g og zg ig) (VecWindow.window x.l ol zl il)
     (VecWindow.window x.d ol zl il) (VecWindow.window s os zs is)))

/-- The segment's program: it reads its windows of the queries, the output gradient, the log-sums, the deltas and the
    scratch, writes the scratch back, and goes on with the new gradients. -/
def seg {β : Type} (b : Bufs)
    (hq : b.q.view.LoadsAt (Rect.unit (s := S4096x256) oq zq iq).toLoadRect)
    (hg : b.g.view.LoadsAt (Rect.unit (s := S4096x128) og zg ig).toLoadRect)
    (hl : b.l.view.LoadsAt (Rect.unit (s := S1x8x4096) ol zl il).toLoadRect)
    (hd : b.d.view.LoadsAt (Rect.unit (s := S1x8x4096) ol zl il).toLoadRect)
    (hs : b.s.view.LoadsAt (Rect.unit (s := S256x4096) os zs is).toLoadRect)
    (hx : (b.s.access (Rect.unit (s := S256x4096) os zs is)).Stores Finset.univ)
    (K : Acc F → Prog (TpuEff nD τ sig (Elt F) Λ₀ .tc) β) : Prog (TpuEff nD τ sig (Elt F) Λ₀ .tc) β := do
  let vq ← Prog.lift (.load b.q (Rect.unit (s := S4096x256) oq zq iq).toLoadRect hq)
  let vg ← Prog.lift (.load b.g (Rect.unit (s := S4096x128) og zg ig).toLoadRect hg)
  let vl ← Prog.lift (.load b.l (Rect.unit (s := S1x8x4096) ol zl il).toLoadRect hl)
  let vd ← Prog.lift (.load b.d (Rect.unit (s := S1x8x4096) ol zl il).toLoadRect hd)
  let vs ← Prog.lift (.load b.s (Rect.unit (s := S256x4096) os zs is).toLoadRect hs)
  let _ ← Prog.lift (.load b.s (Rect.unit (s := S256x4096) os zs is).toLoadRect hs)
  Prog.lift (.store b.s (Rect.unit (s := S256x4096) os zs is) (upd vq vg vl vd vs) Finset.univ hx (.inl rfl))
  K (ret vq vg vl vd)

/-- The segment run: the inputs stay, the scratch becomes `segVal`'s, and the program goes on with `segVal`'s gradients. -/
theorem seg_spec {β : Type} (c : Dev nD) (E : Set ℕ) (b : Bufs) (x : Ins F) (s : Scr F)
    (hq : b.q.view.LoadsAt (Rect.unit (s := S4096x256) oq zq iq).toLoadRect)
    (hg : b.g.view.LoadsAt (Rect.unit (s := S4096x128) og zg ig).toLoadRect)
    (hl : b.l.view.LoadsAt (Rect.unit (s := S1x8x4096) ol zl il).toLoadRect)
    (hd : b.d.view.LoadsAt (Rect.unit (s := S1x8x4096) ol zl il).toLoadRect)
    (hs : b.s.view.LoadsAt (Rect.unit (s := S256x4096) os zs is).toLoadRect)
    (hx : (b.s.access (Rect.unit (s := S256x4096) os zs is)).Stores Finset.univ)
    (K : Acc F → Prog (TpuEff nD τ sig (Elt F) Λ₀ .tc) β) (Q : β → sProp 𝕄) :
    iprop((held c b x ∗ owns (c : Thread nD τ) b.s fullShare s)
      ∗ ((held c b x ∗ owns (c : Thread nD τ) b.s fullShare (segVal oq zq iq og zg ig ol zl il os zs is upd ret x s).2)
          -∗ wp frame (wpE (defs₀ (F := F)) Variants.none c none) E (K (segVal oq zq iq og zg ig ol zl il os zs is upd ret x s).1) Q))
      ⊢ wp frame (wpE (defs₀ (F := F)) Variants.none c none) E
          (seg oq zq iq og zg ig ol zl il os zs is upd ret b hq hg hl hd hs hx K) Q := by
  unfold seg held
  iintro ⟨⟨⟨Hq, Hk, Hv, Hg, Hl, Hd⟩, HS⟩, HK⟩
  rw [wp_bind]; iapply (load_owns c E) $$ Hq; iintro Hq
  rw [wp_bind]; iapply (load_owns c E) $$ Hg; iintro Hg
  rw [wp_bind]; iapply (load_owns c E) $$ Hl; iintro Hl
  rw [wp_bind]; iapply (load_owns c E) $$ Hd; iintro Hd
  rw [wp_bind]; iapply (load_owns c E) $$ HS; iintro HS
  rw [wp_bind]; iapply (load_owns c E) $$ HS; iintro HS
  rw [wp_bind]; iapply (store_owns c E) $$ HS; iintro HS
  iapply HK
  isplitr [HS]
  · isplitl [Hq]; · iexact Hq
    isplitl [Hk]; · iexact Hk
    isplitl [Hv]; · iexact Hv
    isplitl [Hg]; · iexact Hg
    isplitl [Hl]; · iexact Hl
    iexact Hd
  iexact HS

end Segment

/-! ## The diagonal segment, in one of four lengths -/

/-- The diagonal segment's gradients and scratch. -/
def diagVal (i : grid0.Coords) (x : Ins F) (s : Scr F) : Acc F × Scr F :=
  if h2 : k0_cond2 i = 1#1 then
    if h3 : k0_cond3 i = 1#1 then
      if h4 : k0_cond4 i = 1#1 then
        segVal (k0_off1 i) S2048x256.size (k0_off1_inb i h2 h3 h4) (k0_off2 i) S2048x128.size (k0_off2_inb i h2 h3 h4)
          (k0_off3 i) S1x1x2048.size (k0_off3_inb i h2 h3 h4) (k0_off4 i) S256x2048.size (k0_off4_inb i h2 h3 h4)
          (fun vq vg vl vd vs => k0_pay42 (k0_pay6 (k0_pay37 x.k) (k0_pay38 x.v) (k0_pay39 x.k) vq vg vl vd vs))
          (fun vq vg vl vd => (k0_pay43 (k0_pay2 vq) (k0_pay5 (k0_pay37 x.k) (k0_pay38 x.v) vq vg vl vd), k0_pay44 (k0_pay3 vg) (k0_pay4 (k0_pay37 x.k) vq vl)))
          x s
      else
        segVal (k0_off5 i) S1536x256.size (k0_off5_inb i h2 h3 h4) (k0_off6 i) S1536x128.size (k0_off6_inb i h2 h3 h4)
          (k0_off7 i) S1x1x1536.size (k0_off7_inb i h2 h3 h4) (k0_off8 i) S256x1536.size (k0_off8_inb i h2 h3 h4)
          (fun vq vg vl vd vs => k0_pay45 (k0_pay11 (k0_pay37 x.k) (k0_pay38 x.v) (k0_pay39 x.k) vq vg vl vd vs))
          (fun vq vg vl vd => (k0_pay46 (k0_pay7 vq) (k0_pay10 (k0_pay37 x.k) (k0_pay38 x.v) vq vg vl vd), k0_pay47 (k0_pay8 vg) (k0_pay9 (k0_pay37 x.k) vq vl)))
          x s
    else
      segVal (k0_off9 i) S1024x256.size (k0_off9_inb i h2 h3) (k0_off10 i) S1024x128.size (k0_off10_inb i h2 h3)
        (k0_off11 i) S1x1x1024.size (k0_off11_inb i h2 h3) (k0_off12 i) S256x1024.size (k0_off12_inb i h2 h3)
        (fun vq vg vl vd vs => k0_pay48 (k0_pay16 (k0_pay37 x.k) (k0_pay38 x.v) (k0_pay39 x.k) vq vg vl vd vs))
        (fun vq vg vl vd => (k0_pay49 (k0_pay12 vq) (k0_pay15 (k0_pay37 x.k) (k0_pay38 x.v) vq vg vl vd), k0_pay50 (k0_pay13 vg) (k0_pay14 (k0_pay37 x.k) vq vl)))
        x s
  else
    segVal (k0_off13 i) S512x256.size (k0_off13_inb i h2) (k0_off14 i) S512x128.size (k0_off14_inb i h2)
      (k0_off15 i) S1x1x512.size (k0_off15_inb i h2) (k0_off16 i) S256x512.size (k0_off16_inb i h2)
      (fun vq vg vl vd vs => k0_pay51 (k0_pay21 (k0_pay37 x.k) (k0_pay38 x.v) (k0_pay39 x.k) vq vg vl vd vs))
      (fun vq vg vl vd => (k0_pay52 (k0_pay17 vq) (k0_pay20 (k0_pay37 x.k) (k0_pay38 x.v) vq vg vl vd), k0_pay53 (k0_pay18 vg) (k0_pay19 (k0_pay37 x.k) vq vl)))
      x s

/-- The diagonal segment's program. -/
def diag {β : Type} (i : grid0.Coords) (b : Bufs) (xk : Vec F S512x256 .bf16) (xv : Vec F S512x128 .bf16)
    (K : Acc F → Prog (TpuEff nD τ sig (Elt F) Λ₀ .tc) β) : Prog (TpuEff nD τ sig (Elt F) Λ₀ .tc) β :=
  if h2 : k0_cond2 i = 1#1 then
    if h3 : k0_cond3 i = 1#1 then
      if h4 : k0_cond4 i = 1#1 then
        seg (k0_off1 i) S2048x256.size (k0_off1_inb i h2 h3 h4) (k0_off2 i) S2048x128.size (k0_off2_inb i h2 h3 h4)
          (k0_off3 i) S1x1x2048.size (k0_off3_inb i h2 h3 h4) (k0_off4 i) S256x2048.size (k0_off4_inb i h2 h3 h4)
          (fun vq vg vl vd vs => k0_pay42 (k0_pay6 (k0_pay37 xk) (k0_pay38 xv) (k0_pay39 xk) vq vg vl vd vs))
          (fun vq vg vl vd => (k0_pay43 (k0_pay2 vq) (k0_pay5 (k0_pay37 xk) (k0_pay38 xv) vq vg vl vd), k0_pay44 (k0_pay3 vg) (k0_pay4 (k0_pay37 xk) vq vl)))
          b (View.loadsAt_vmem h_S2048x256) (View.loadsAt_vmem h_S2048x128) (View.loadsAt_vmem h_S1x1x2048) (View.loadsAt_vmem h_S1x1x2048)
          (View.loadsAt_vmem h_S256x2048) (View.stores_vmem_bits_univ h_S256x2048 rfl) K
      else
        seg (k0_off5 i) S1536x256.size (k0_off5_inb i h2 h3 h4) (k0_off6 i) S1536x128.size (k0_off6_inb i h2 h3 h4)
          (k0_off7 i) S1x1x1536.size (k0_off7_inb i h2 h3 h4) (k0_off8 i) S256x1536.size (k0_off8_inb i h2 h3 h4)
          (fun vq vg vl vd vs => k0_pay45 (k0_pay11 (k0_pay37 xk) (k0_pay38 xv) (k0_pay39 xk) vq vg vl vd vs))
          (fun vq vg vl vd => (k0_pay46 (k0_pay7 vq) (k0_pay10 (k0_pay37 xk) (k0_pay38 xv) vq vg vl vd), k0_pay47 (k0_pay8 vg) (k0_pay9 (k0_pay37 xk) vq vl)))
          b (View.loadsAt_vmem h_S1536x256) (View.loadsAt_vmem h_S1536x128) (View.loadsAt_vmem h_S1x1x1536) (View.loadsAt_vmem h_S1x1x1536)
          (View.loadsAt_vmem h_S256x1536) (View.stores_vmem_bits_univ h_S256x1536 rfl) K
    else
      seg (k0_off9 i) S1024x256.size (k0_off9_inb i h2 h3) (k0_off10 i) S1024x128.size (k0_off10_inb i h2 h3)
        (k0_off11 i) S1x1x1024.size (k0_off11_inb i h2 h3) (k0_off12 i) S256x1024.size (k0_off12_inb i h2 h3)
        (fun vq vg vl vd vs => k0_pay48 (k0_pay16 (k0_pay37 xk) (k0_pay38 xv) (k0_pay39 xk) vq vg vl vd vs))
        (fun vq vg vl vd => (k0_pay49 (k0_pay12 vq) (k0_pay15 (k0_pay37 xk) (k0_pay38 xv) vq vg vl vd), k0_pay50 (k0_pay13 vg) (k0_pay14 (k0_pay37 xk) vq vl)))
        b (View.loadsAt_vmem h_S1024x256) (View.loadsAt_vmem h_S1024x128) (View.loadsAt_vmem h_S1x1x1024) (View.loadsAt_vmem h_S1x1x1024)
        (View.loadsAt_vmem h_S256x1024) (View.stores_vmem_bits_univ h_S256x1024 rfl) K
  else
    seg (k0_off13 i) S512x256.size (k0_off13_inb i h2) (k0_off14 i) S512x128.size (k0_off14_inb i h2)
      (k0_off15 i) S1x1x512.size (k0_off15_inb i h2) (k0_off16 i) S256x512.size (k0_off16_inb i h2)
      (fun vq vg vl vd vs => k0_pay51 (k0_pay21 (k0_pay37 xk) (k0_pay38 xv) (k0_pay39 xk) vq vg vl vd vs))
      (fun vq vg vl vd => (k0_pay52 (k0_pay17 vq) (k0_pay20 (k0_pay37 xk) (k0_pay38 xv) vq vg vl vd), k0_pay53 (k0_pay18 vg) (k0_pay19 (k0_pay37 xk) vq vl)))
      b (View.loadsAt_vmem h_S512x256) (View.loadsAt_vmem h_S512x128) (View.loadsAt_vmem h_S1x1x512) (View.loadsAt_vmem h_S1x1x512)
      (View.loadsAt_vmem h_S256x512) (View.stores_vmem_bits_univ h_S256x512 rfl) K

/-- A program with a continuation runs on the inputs and the scratch to the gradients and the scratch `y`. -/
def Runs {β : Type} (c : Dev nD) (E : Set ℕ) (b : Bufs) (x : Ins F) (s : Scr F)
    (p : (Acc F → Prog (TpuEff nD τ sig (Elt F) Λ₀ .tc) β) → Prog (TpuEff nD τ sig (Elt F) Λ₀ .tc) β) (y : Acc F × Scr F) : Prop :=
  ∀ (K : Acc F → Prog (TpuEff nD τ sig (Elt F) Λ₀ .tc) β) (Q : β → sProp 𝕄),
    iprop((held c b x ∗ owns (c : Thread nD τ) b.s fullShare s)
      ∗ ((held c b x ∗ owns (c : Thread nD τ) b.s fullShare y.2) -∗ wp frame (wpE (defs₀ (F := F)) Variants.none c none) E (K y.1) Q))
      ⊢ wp frame (wpE (defs₀ (F := F)) Variants.none c none) E (p K) Q

theorem Runs.apply {β : Type} {c : Dev nD} {E : Set ℕ} {b : Bufs} {x : Ins F} {s : Scr F}
    {p : (Acc F → Prog (TpuEff nD τ sig (Elt F) Λ₀ .tc) β) → Prog (TpuEff nD τ sig (Elt F) Λ₀ .tc) β} {y : Acc F × Scr F}
    (h : Runs c E b x s p y) (K : Acc F → Prog (TpuEff nD τ sig (Elt F) Λ₀ .tc) β) (Q : β → sProp 𝕄) :
    iprop((held c b x ∗ owns (c : Thread nD τ) b.s fullShare s)
      ∗ ((held c b x ∗ owns (c : Thread nD τ) b.s fullShare y.2) -∗ wp frame (wpE (defs₀ (F := F)) Variants.none c none) E (K y.1) Q))
      ⊢ wp frame (wpE (defs₀ (F := F)) Variants.none c none) E (p K) Q := h K Q

/-- A choice between two programs runs as the one chosen. -/
theorem Runs.choice {β : Type} {c : Dev nD} {E : Set ℕ} {b : Bufs} {x : Ins F} {s : Scr F} {P : Prop} [Decidable P]
    {p : P → (Acc F → Prog (TpuEff nD τ sig (Elt F) Λ₀ .tc) β) → Prog (TpuEff nD τ sig (Elt F) Λ₀ .tc) β} {y : P → Acc F × Scr F}
    {p' : ¬P → (Acc F → Prog (TpuEff nD τ sig (Elt F) Λ₀ .tc) β) → Prog (TpuEff nD τ sig (Elt F) Λ₀ .tc) β} {y' : ¬P → Acc F × Scr F}
    (h : ∀ hp, Runs c E b x s (p hp) (y hp)) (h' : ∀ hp, Runs c E b x s (p' hp) (y' hp)) :
    Runs c E b x s (fun K => if hp : P then p hp K else p' hp K) (if hp : P then y hp else y' hp) := by
  intro K Q
  by_cases hp : P
  · simp only [dif_pos hp]; exact h hp K Q
  · simp only [dif_neg hp]; exact h' hp K Q

attribute [local irreducible] k0_cond2 k0_cond3 k0_cond4 segVal seg in
theorem diag_spec {β : Type} (c : Dev nD) (E : Set ℕ) (i : grid0.Coords) (b : Bufs) (x : Ins F) (s : Scr F) :
    Runs (β := β) c E b x s (diag i b x.k x.v) (diagVal i x s) := by
  unfold diag diagVal
  refine Runs.choice (fun h2 => Runs.choice (fun h3 => Runs.choice (fun h4 => ?_) (fun h4 => ?_)) (fun h3 => ?_)) (fun h2 => ?_) <;>
    (intro K Q; apply seg_spec)

/-! ## The other segments, in a loop -/

/-- What a step leaves after `n` trips. -/
def iter {N : ℕ} (f : Fin N → Acc F × Scr F → Acc F × Scr F) : ℕ → Acc F × Scr F → Acc F × Scr F
  | 0, y => y
  | n + 1, y => if h : n < N then f ⟨n, h⟩ (iter f n y) else iter f n y

/-- One trip of the first loop. -/
def wide1 (i : grid0.Coords) (x : Ins F) (t : Fin (k0_t1_loop i).trips) (y : Acc F × Scr F) : Acc F × Scr F :=
  segVal (k0_off17 i t) S2048x256.size (k0_off17_inb i t) (k0_off18 i t) S2048x128.size (k0_off18_inb i t)
    (k0_off19 i t) S1x1x2048.size (k0_off19_inb i t) (k0_off20 i t) S256x2048.size (k0_off20_inb i t)
    (fun vq vg vl vd vs => k0_pay26 (k0_pay37 x.k) (k0_pay38 x.v) (k0_pay39 x.k) vq vg vl vd vs)
    (fun vq vg vl vd => (k0_pay27 (k0_pay37 x.k) (k0_pay38 x.v) y.1.1 vq vg vl vd, k0_pay54 y.1.2 (k0_pay28 (k0_pay37 x.k) vq vg vl)))
    x y.2

/-- One trip of the second loop. -/
def wide2 (i : grid0.Coords) (x : Ins F) (t : Fin (k0_t2_loop i).trips) (y : Acc F × Scr F) : Acc F × Scr F :=
  segVal (k0_off21 i t) S2048x256.size (k0_off21_inb i t) (k0_off22 i t) S2048x128.size (k0_off22_inb i t)
    (k0_off23 i t) S1x1x2048.size (k0_off23_inb i t) (k0_off24 i t) S256x2048.size (k0_off24_inb i t)
    (fun vq vg vl vd vs => k0_pay33 (k0_pay37 x.k) (k0_pay38 x.v) (k0_pay39 x.k) vq vg vl vd vs)
    (fun vq vg vl vd => (k0_pay34 (k0_pay37 x.k) (k0_pay38 x.v) y.1.1 vq vg vl vd, k0_pay55 y.1.2 (k0_pay35 (k0_pay37 x.k) vq vg vl)))
    x y.2

/-- The first loop's region. -/
def body1 (i : grid0.Coords) (b : Bufs) (xk : Vec F S512x256 .bf16) (xv : Vec F S512x128 .bf16) (t : Fin (k0_t1_loop i).trips) (a : Acc F) :
    Prog (TpuEff nD τ sig (Elt F) Λ₀ .tc) (Acc F) :=
  seg (k0_off17 i t) S2048x256.size (k0_off17_inb i t) (k0_off18 i t) S2048x128.size (k0_off18_inb i t)
    (k0_off19 i t) S1x1x2048.size (k0_off19_inb i t) (k0_off20 i t) S256x2048.size (k0_off20_inb i t)
    (fun vq vg vl vd vs => k0_pay26 (k0_pay37 xk) (k0_pay38 xv) (k0_pay39 xk) vq vg vl vd vs)
    (fun vq vg vl vd => (k0_pay27 (k0_pay37 xk) (k0_pay38 xv) a.1 vq vg vl vd, k0_pay54 a.2 (k0_pay28 (k0_pay37 xk) vq vg vl)))
    b (View.loadsAt_vmem h_S2048x256) (View.loadsAt_vmem h_S2048x128) (View.loadsAt_vmem h_S1x1x2048) (View.loadsAt_vmem h_S1x1x2048)
    (View.loadsAt_vmem h_S256x2048) (View.stores_vmem_bits_univ h_S256x2048 rfl) pure

/-- The second loop's region. -/
def body2 (i : grid0.Coords) (b : Bufs) (xk : Vec F S512x256 .bf16) (xv : Vec F S512x128 .bf16) (t : Fin (k0_t2_loop i).trips) (a : Acc F) :
    Prog (TpuEff nD τ sig (Elt F) Λ₀ .tc) (Acc F) :=
  seg (k0_off21 i t) S2048x256.size (k0_off21_inb i t) (k0_off22 i t) S2048x128.size (k0_off22_inb i t)
    (k0_off23 i t) S1x1x2048.size (k0_off23_inb i t) (k0_off24 i t) S256x2048.size (k0_off24_inb i t)
    (fun vq vg vl vd vs => k0_pay33 (k0_pay37 xk) (k0_pay38 xv) (k0_pay39 xk) vq vg vl vd vs)
    (fun vq vg vl vd => (k0_pay34 (k0_pay37 xk) (k0_pay38 xv) a.1 vq vg vl vd, k0_pay55 a.2 (k0_pay35 (k0_pay37 xk) vq vg vl)))
    b (View.loadsAt_vmem h_S2048x256) (View.loadsAt_vmem h_S2048x128) (View.loadsAt_vmem h_S1x1x2048) (View.loadsAt_vmem h_S1x1x2048)
    (View.loadsAt_vmem h_S256x2048) (View.stores_vmem_bits_univ h_S256x2048 rfl) pure

/-- A loop whose trips act on the carried gradients and the scratch as `f` does, run to its end. -/
theorem loop_spec {β : Type} (c : Dev nD) (E : Set ℕ) (b : Bufs) (x : Ins F) (L : Scf.Loop 32) (ok : L.OK)
    (f : Fin L.trips → Acc F × Scr F → Acc F × Scr F) (body : Fin L.trips → Acc F → Prog (TpuEff nD τ sig (Elt F) Λ₀ .tc) (Acc F))
    (hbody : ∀ (t : Fin L.trips) (y : Acc F × Scr F) (Q : Acc F → sProp 𝕄),
      iprop((held c b x ∗ owns (c : Thread nD τ) b.s fullShare y.2)
        ∗ ((held c b x ∗ owns (c : Thread nD τ) b.s fullShare (f t y).2) -∗ wp frame (wpE (defs₀ (F := F)) Variants.none c none) E (pure (f t y).1) Q))
      ⊢ wp frame (wpE (defs₀ (F := F)) Variants.none c none) E (body t y.1) Q)
    (y : Acc F × Scr F) (K : Acc F → Prog (TpuEff nD τ sig (Elt F) Λ₀ .tc) β) (Q : β → sProp 𝕄) :
    iprop((held c b x ∗ owns (c : Thread nD τ) b.s fullShare y.2)
      ∗ ((held c b x ∗ owns (c : Thread nD τ) b.s fullShare (iter f L.trips y).2)
          -∗ wp frame (wpE (defs₀ (F := F)) Variants.none c none) E (K (iter f L.trips y).1) Q))
      ⊢ wp frame (wpE (defs₀ (F := F)) Variants.none c none) E (Scf.Loop.for L ok y.1 body >>= K) Q := by
  iintro ⟨Hh, HK⟩
  iapply (Scf.wp_for_bind frame (wpE (defs₀ (F := F)) Variants.none c none) E L.lb L.ub L.st ok y.1 body
    (fun n a => iprop(⌜a = (iter f n y).1⌝ ∗ (held c b x ∗ owns (c : Thread nD τ) b.s fullShare (iter f n y).2))) (by
      intro t a
      iintro ⟨%ha, H⟩
      subst ha
      iapply (hbody t (iter f t.val y) _)
      isplitl [H]; · iexact H
      iintro H
      rw [wp_pure]; imodintro
      have e : iter f (t.val + 1) y = f t (iter f t.val y) := by
        show (if h : t.val < L.trips then f ⟨t.val, h⟩ (iter f t.val y) else iter f t.val y) = _
        rw [dif_pos t.isLt]
      rw [e]
      isplitr; · ipureintro; rfl
      iexact H)) $$ [Hh]
  · isplitr; · ipureintro; rfl
    iexact Hh
  iintro %a ⟨%ha, H⟩
  subst ha
  iapply HK
  iexact H

/-! ## The whole body -/

/-- The gradients of the point's block of keys, and the scratch, from the scratch as the segments find it. -/
def blockVal (i : grid0.Coords) (x : Ins F) (s : Scr F) : Acc F × Scr F :=
  iter (wide2 i x) (k0_t2_loop i).trips (iter (wide1 i x) (k0_t1_loop i).trips (diagVal i x s))

/-- The scratch as the segments find it: cleared at a head's first block of keys. -/
def startScr (i : grid0.Coords) (s : Scr F) : Scr F :=
  if Scalar.cmpi .ne (Scalar.extui (Scalar.cmpi .eq (BitVec.ofNat 32 (i 1).val) 0#32) : BitVec 32) 0#32 = 1#1 then k0_pay36 (F := F) else s

/-- What a grid point computes from its inputs and the scratch it finds. -/
def pointVal (i : grid0.Coords) (x : Ins F) (s : Scr F) : Acc F × Scr F := blockVal i x (startScr i s)

/-- The clearing of the scratch. -/
def clear {β : Type} (i : grid0.Coords) (b : Bufs) (K : PUnit.{1} → Prog (TpuEff nD τ sig (Elt F) Λ₀ .tc) β) : Prog (TpuEff nD τ sig (Elt F) Λ₀ .tc) β :=
  if Scalar.cmpi .ne (Scalar.extui (Scalar.cmpi .eq (BitVec.ofNat 32 (i 1).val) 0#32) : BitVec 32) 0#32 = 1#1 then do
    let _ ← Prog.lift (.load b.s (Rect.unit (s := S256x4096) ![0, 0] S256x4096.size inb_S256x4096_S256x4096_0_0).toLoadRect (View.loadsAt_vmem h_S256x4096))
    Prog.lift (.store b.s (Rect.unit (s := S256x4096) ![0, 0] S256x4096.size inb_S256x4096_S256x4096_0_0) (k0_pay36 (F := F)) Finset.univ (View.stores_vmem_bits_univ h_S256x4096 rfl) (.inl rfl))
    K ⟨⟩
  else K ⟨⟩

theorem clear_spec {β : Type} (c : Dev nD) (E : Set ℕ) (i : grid0.Coords) (b : Bufs) (s : Scr F)
    (K : PUnit.{1} → Prog (TpuEff nD τ sig (Elt F) Λ₀ .tc) β) (Q : β → sProp 𝕄) :
    iprop(owns (c : Thread nD τ) b.s fullShare s
      ∗ (owns (c : Thread nD τ) b.s fullShare (startScr i s) -∗ wp frame (wpE (defs₀ (F := F)) Variants.none c none) E (K ⟨⟩) Q))
      ⊢ wp frame (wpE (defs₀ (F := F)) Variants.none c none) E (clear i b K) Q := by
  unfold clear startScr
  split
  · iintro ⟨HS, HK⟩
    rw [wp_bind]; iapply (load_owns_full c E) $$ HS; iintro HS
    rw [wp_bind]; iapply (store_owns_full c E) $$ HS; iintro HS
    iapply HK; iexact HS
  · iintro ⟨HS, HK⟩
    iapply HK; iexact HS

/-- The writes of the block's key and value gradients. -/
def finish {β : Type} (b : Bufs) (a : Acc F) (K : PUnit.{1} → Prog (TpuEff nD τ sig (Elt F) Λ₀ .tc) β) : Prog (TpuEff nD τ sig (Elt F) Λ₀ .tc) β := do
  let _ ← Prog.lift (.load b.dk (Rect.unit (s := S512x256) ![0, 0] S512x256.size inb_S512x256_S512x256_0_0).toLoadRect (View.loadsAt_vmem h_S512x256))
  Prog.lift (.store b.dk (Rect.unit (s := S512x256) ![0, 0] S512x256.size inb_S512x256_S512x256_0_0) (k0_pay56 a.1) Finset.univ (View.stores_vmem h_S512x256 (b.hdk.storeExact_slice rfl _ packedbf16_S512x256_S512x256_0_0) (fun _ => rfl)) (.inl rfl))
  let _ ← Prog.lift (.load b.dv (Rect.unit (s := S512x128) ![0, 0] S512x128.size inb_S512x128_S512x128_0_0).toLoadRect (View.loadsAt_vmem h_S512x128))
  Prog.lift (.store b.dv (Rect.unit (s := S512x128) ![0, 0] S512x128.size inb_S512x128_S512x128_0_0) (k0_pay57 a.2) Finset.univ (View.stores_vmem h_S512x128 (b.hdv.storeExact_slice rfl _ packedbf16_S512x128_S512x128_0_0) (fun _ => rfl)) (.inl rfl))
  K ⟨⟩

/-- The write of the head's query gradient, at its last block of keys. -/
def last (i : grid0.Coords) (b : Bufs) : Prog (TpuEff nD τ sig (Elt F) Λ₀ .tc) PUnit :=
  if k0_cond5 i = 1#1 then do
    let v ← Prog.lift (.load b.s (Rect.unit (s := S256x4096) ![0, 0] S256x4096.size inb_S256x4096_S256x4096_0_0).toLoadRect (View.loadsAt_vmem h_S256x4096))
    let _ ← Prog.lift (.load b.dq (Rect.unit (s := S4096x256) ![0, 0] S4096x256.size inb_S4096x256_S4096x256_0_0).toLoadRect (View.loadsAt_vmem h_S4096x256))
    Prog.lift (.store b.dq (Rect.unit (s := S4096x256) ![0, 0] S4096x256.size inb_S4096x256_S4096x256_0_0) (k0_pay1 v) Finset.univ (View.stores_vmem h_S4096x256 (b.hdq.storeExact_slice rfl _ packedbf16_S4096x256_S4096x256_0_0) (fun _ => rfl)) (.inl rfl))
    pure ⟨⟩
  else pure ⟨⟩

/-- A load of the block of keys. -/
theorem load_keys (c : Dev nD) (E : Set ℕ) (b : Bufs) (x : Ins F) (Q : Vec F S512x256 .bf16 → sProp 𝕄) :
    iprop(held c b x ∗ (held c b x -∗ Q x.k))
      ⊢ wp frame (wpE (defs₀ (F := F)) Variants.none c none) E (Prog.lift (.load b.k (Rect.unit (s := S512x256) ![0, 0] S512x256.size inb_S512x256_S512x256_0_0).toLoadRect (View.loadsAt_vmem h_S512x256))) Q := by
  unfold held
  iintro ⟨⟨H0, H1, H2⟩, HK⟩
  iapply (load_owns_full c E) $$ H1; iintro H1
  iapply HK
  isplitl [H0]; · iexact H0
  isplitl [H1]; · iexact H1
  iexact H2

/-- A load of the block of values. -/
theorem load_values (c : Dev nD) (E : Set ℕ) (b : Bufs) (x : Ins F) (Q : Vec F S512x128 .bf16 → sProp 𝕄) :
    iprop(held c b x ∗ (held c b x -∗ Q x.v))
      ⊢ wp frame (wpE (defs₀ (F := F)) Variants.none c none) E (Prog.lift (.load b.v (Rect.unit (s := S512x128) ![0, 0] S512x128.size inb_S512x128_S512x128_0_0).toLoadRect (View.loadsAt_vmem h_S512x128))) Q := by
  unfold held
  iintro ⟨⟨H0, H1, H2, H3⟩, HK⟩
  iapply (load_owns_full c E) $$ H2; iintro H2
  iapply HK
  isplitl [H0]; · iexact H0
  isplitl [H1]; · iexact H1
  isplitl [H2]; · iexact H2
  iexact H3

/-- The body but for the write of the query gradient, as its pieces. -/
def front (i : grid0.Coords) (b : Bufs) : Prog (TpuEff nD τ sig (Elt F) Λ₀ .tc) (BitVec 1) :=
  clear i b fun _ => do
    let xk ← Prog.lift (.load b.k (Rect.unit (s := S512x256) ![0, 0] S512x256.size inb_S512x256_S512x256_0_0).toLoadRect (View.loadsAt_vmem h_S512x256))
    let xv ← Prog.lift (.load b.v (Rect.unit (s := S512x128) ![0, 0] S512x128.size inb_S512x128_S512x128_0_0).toLoadRect (View.loadsAt_vmem h_S512x128))
    diag i b xk xv fun a => do
      let a1 ← Scf.Loop.for (k0_t1_loop i) (k0_t1_ok i) a (body1 i b xk xv)
      let a2 ← Scf.Loop.for (k0_t2_loop i) (k0_t2_ok i) a1 (body2 i b xk xv)
      finish b a2 fun _ => pure (Scalar.cmpi .eq (BitVec.ofNat 32 (i 1).val) 7#32)

/-- The body as its pieces. -/
def whole (i : grid0.Coords) (b : Bufs) : Prog (TpuEff nD τ sig (Elt F) Λ₀ .tc) PUnit := do
  let _ ← front i b
  last i b

/-- What the query gradient's buffer holds after the point: written at a head's last block of keys only. -/
def dqVal (i : grid0.Coords) (s : Scr F) (d : Vec F S4096x256 .bf16) : Vec F S4096x256 .bf16 :=
  if k0_cond5 i = 1#1 then k0_pay1 s else d

attribute [local irreducible] diag clear diagVal in
/-- The body run: the inputs stay; the key and value gradients' blocks, the scratch and the query gradient's buffer
    become what `pointVal` says. -/
theorem whole_spec (c : Dev nD) (E : Set ℕ) (i : grid0.Coords) (b : Bufs) (x : Ins F) (s : Scr F) (dq : Vec F S4096x256 .bf16)
    (dk : Vec F S512x256 .bf16) (dv : Vec F S512x128 .bf16) (Q : PUnit → sProp 𝕄) :
    iprop(held c b x ∗ owns (c : Thread nD τ) b.dq fullShare dq ∗ owns (c : Thread nD τ) b.dk fullShare dk ∗ owns (c : Thread nD τ) b.dv fullShare dv
      ∗ owns (c : Thread nD τ) b.s fullShare s
      ∗ ((held c b x ∗ owns (c : Thread nD τ) b.dq fullShare (dqVal i (pointVal i x s).2 dq) ∗ owns (c : Thread nD τ) b.dk fullShare (k0_pay56 (pointVal i x s).1.1)
          ∗ owns (c : Thread nD τ) b.dv fullShare (k0_pay57 (pointVal i x s).1.2) ∗ owns (c : Thread nD τ) b.s fullShare (pointVal i x s).2) -∗ Q ⟨⟩))
      ⊢ wp frame (wpE (defs₀ (F := F)) Variants.none c none) E (whole i b) Q := by
  unfold whole front
  rw [wp_bind]
  iintro ⟨Hh, Hq, Hk, Hv, HS, HQ⟩
  iapply (clear_spec c E i b s)
  isplitl [HS]; · iexact HS
  iintro HS
  rw [wp_bind]; iapply (load_keys c E b x)
  isplitl [Hh]; · iexact Hh
  iintro Hh
  rw [wp_bind]; iapply (load_values c E b x)
  isplitl [Hh]; · iexact Hh
  iintro Hh
  iapply (Runs.apply (diag_spec c E i b x (startScr i s)))
  isplitl [Hh HS]
  · isplitl [Hh]; · iexact Hh
    iexact HS
  iintro H
  iapply (loop_spec c E b x (k0_t1_loop i) (k0_t1_ok i) (wide1 i x) (body1 i b x.k x.v)
    (fun t y Q => seg_spec _ _ _ _ _ _ _ _ _ _ _ _ _ _ c E b x y.2 _ _ _ _ _ _ pure Q) (diagVal i x (startScr i s)))
  isplitl [H]; · iexact H
  iintro H
  iapply (loop_spec c E b x (k0_t2_loop i) (k0_t2_ok i) (wide2 i x) (body2 i b x.k x.v)
    (fun t y Q => seg_spec _ _ _ _ _ _ _ _ _ _ _ _ _ _ c E b x y.2 _ _ _ _ _ _ pure Q) (iter (wide1 i x) (k0_t1_loop i).trips (diagVal i x (startScr i s))))
  isplitl [H]; · iexact H
  iintro ⟨Hh, HS⟩
  unfold finish
  rw [wp_bind]; iapply (load_owns_full c E) $$ Hk; iintro Hk
  rw [wp_bind]; iapply (store_owns_full c E) $$ Hk; iintro Hk
  rw [wp_bind]; iapply (load_owns_full c E) $$ Hv; iintro Hv
  rw [wp_bind]; iapply (store_owns_full c E) $$ Hv; iintro Hv
  rw [wp_pure]; imodintro
  unfold last dqVal
  split
  · rw [wp_bind]; iapply (load_owns_full c E) $$ HS; iintro HS
    rw [wp_bind]; iapply (load_owns_full c E) $$ Hq; iintro Hq
    rw [wp_bind]; iapply (store_owns_full c E) $$ Hq; iintro Hq
    rw [wp_pure]; imodintro
    iapply HQ
    isplitl [Hh]; · iexact Hh
    isplitl [Hq]; · iexact Hq
    isplitl [Hk]; · iexact Hk
    isplitl [Hv]; · iexact Hv
    iexact HS
  · rw [wp_pure]; imodintro
    iapply HQ
    isplitl [Hh]; · iexact Hh
    isplitl [Hq]; · iexact Hq
    isplitl [Hk]; · iexact Hk
    isplitl [Hv]; · iexact Hv
    iexact HS

set_option maxHeartbeats 1000000 in
theorem front_eq (i : grid0.Coords) (b : Bufs) :
    k0_part7 (F := F) i b.q b.hq b.k b.hk b.v b.hv b.g b.hg b.l b.hl b.d b.hd b.dq b.hdq b.dk b.hdk b.dv b.hdv b.s b.hs = front i b := by
  rfl

/-- The printed body is its pieces. -/
theorem body_eq_whole (i : grid0.Coords) (b : Bufs) :
    cc0_attn_bwd (F := F) i b.q b.hq b.k b.hk b.v b.hv b.g b.hg b.l b.hl b.d b.hd b.dq b.hdq b.dk b.hdk b.dv b.hdv b.s b.hs = whole i b := by
  rw [cc0_attn_bwd_eq_skeleton]
  unfold cc0_attn_bwd_skel
  rw [front_eq]
  rfl

end Cert.Attn

end
-- ==== Proof.AttnFrame.lean ====
/-
  The attention-gradient kernel's run over its grid, over any float interpretation: the pipeline's proof data, with the
  scratch carried from point to point, the frame, and what the three result arrays hold, block by block.
-/
module

public import proofs.«01_k».proof.Proof.AttnRun
public import Idealize.ShloMosaic.Lib.Pipeline.FrameBody
public import Idealize.ShloMosaic.Lib.Claim
public import Idealize.ShloMosaic.Lib.WordCmp

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host's operations -/

/-- Core `c`'s buffers when the pipeline starts: after the host's operations. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
/-- The program up to the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- A buffer no host operation writes is as at the start. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## What the points find and leave -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six inputs' blocks at a point. -/
def ins (c : Dev nD) (t : Fin cfg0.N) : Ins F :=
  ⟨iblk m c 0 t, iblk m c 1 t, iblk m c 2 t, iblk m c 3 t, iblk m c 4 t, iblk m c 5 t⟩

/-- The scratch before point `n`. -/
def st (c : Dev nD) : ℕ → Scr F
  | 0 => k0_pay36 (F := F)
  | n + 1 => if h : n < cfg0.N then (pointVal (grid0.coords ⟨n, h⟩) (ins m c ⟨n, h⟩) (st c n)).2 else st c n

/-- What point `t` computes. -/
def out (c : Dev nD) (t : Fin cfg0.N) : Acc F × Scr F := pointVal (grid0.coords t) (ins m c t) (st m c t.val)

theorem st_succ (c : Dev nD) (t : Fin cfg0.N) : st m c (t.val + 1) = (out m c t).2 := by
  show (if h : t.val < cfg0.N then _ else _) = _
  rw [dif_pos t.isLt]; rfl

/-- The test for a head's first block of keys. -/
theorem first_iff : ∀ t : Fin cfg0.N,
    Scalar.cmpi .ne (Scalar.extui (Scalar.cmpi .eq (BitVec.ofNat 32 (grid0.coords t 1).val) 0#32) : BitVec 32) 0#32 = 1#1 ↔ t.val % 8 = 0 :=
  (by decide +kernel : ∀ t : Fin grid0.N, _)

/-- The test for a head's last block of keys. -/
theorem last_iff : ∀ t : Fin cfg0.N, k0_cond5 (grid0.coords t) = 1#1 ↔ t.val % 8 = 7 :=
  (by decide +kernel : ∀ t : Fin grid0.N, _)

/-- At a head's first block of keys what the scratch held does not matter. -/
theorem pointVal_first (t : Fin cfg0.N) (h : t.val % 8 = 0) (x : Ins F) (s s' : Scr F) :
    pointVal (grid0.coords t) x s = pointVal (grid0.coords t) x s' := by
  unfold pointVal startScr
  rw [if_pos ((first_iff t).2 h), if_pos ((first_iff t).2 h)]

theorem out_of (c : Dev nD) (t : Fin cfg0.N) (s : Scr F) (h : t.val ≠ 0 → s = st m c t.val) :
    pointVal (grid0.coords t) (ins m c t) s = out m c t := by
  by_cases h0 : t.val = 0
  · exact pointVal_first t (by rw [h0]) _ _ _
  · rw [h h0]; rfl

/-- The query gradient's window is untouched but at a head's last block of keys. -/
theorem idle6 : ∀ t : Fin cfg0.N, ¬t.val % 8 = 7 → cfg0.idle 6 (grid0.coords t) = true := by decide +kernel
theorem live6 : ∀ t : Fin cfg0.N, t.val % 8 = 7 → cfg0.idle 6 (grid0.coords t) = false := by decide +kernel
theorem noFlush6 (t : Fin cfg0.N) (h : ¬t.val % 8 = 7) : (cfg0.win 6).flush t = false :=
  Bool.eq_false_iff.2 fun e => h ((flush0_6 t).1 e)

/-- The scratch buffer. -/
abbrev scM : Memref sig .tc .vmem S256x4096 .f32 := Memref.whole cc0_scratch0

/-- The buffers the body is called with at a point. -/
def bufs (t : Fin cfg0.N) : Bufs where
  q := win0_0.stage (cfg0.slots t 0)
  hq := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  g := win0_3.stage (cfg0.slots t 3)
  hg := hstage0_3 ((cfg0.slots t 3).cast nbuf0_3)
  l := win0_4.stage (cfg0.slots t 4)
  hl := hstage0_4 ((cfg0.slots t 4).cast nbuf0_4)
  d := win0_5.stage (cfg0.slots t 5)
  hd := hstage0_5 ((cfg0.slots t 5).cast nbuf0_5)
  dq := win0_6.stage (cfg0.slots t 6)
  hdq := hstage0_6 ((cfg0.slots t 6).cast nbuf0_6)
  dk := win0_7.stage (cfg0.slots t 7)
  hdk := hstage0_7 ((cfg0.slots t 7).cast nbuf0_7)
  dv := win0_8.stage (cfg0.slots t 8)
  hdv := hstage0_8 ((cfg0.slots t 8).cast nbuf0_8)
  s := scM
  hs := Memref.isWhole_whole _

theorem bodyAt_eq (t : Fin cfg0.N) : bodyAt0 (F := F) t = whole (grid0.coords t) (bufs t) :=
  body_eq_whole (grid0.coords t) (bufs t)

/-- What the launch hands the region, the scratch as a buffer held at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What holds before point `n`: the scratch at what the points before left in it, and the generator's state. -/
def PhiS (c : Dev nD) (n : ℕ) : sProp 𝕄 :=
  iprop((∃ s, ⌜n ≠ 0 → s = st m c n⌝ ∗ owns (c : Thread nD τ) scM fullShare s) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (out m c t).2
    | ⟨7, _⟩ => k0_pay56 (out m c t).1.1
    | ⟨8, _⟩ => k0_pay57 (out m c t).1.2
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay1 (out m c t).2 := by dsimp only [dats]
theorem after_7 (c : Dev nD) (t : Fin cfg0.N) : (dats m 0 c).after 7 t = k0_pay56 (out m c t).1.1 := by dsimp only [dats]
theorem after_8 (c : Dev nD) (t : Fin cfg0.N) : (dats m 0 c).after 8 t = k0_pay57 (out m c t).1.2 := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (bufs t).q fullShare ((dats m 0 c).before 0 t d))
    ∗ (∃ d, owns (c : Thread nD τ) (bufs t).k fullShare ((dats m 0 c).before 1 t d))
    ∗ (∃ d, owns (c : Thread nD τ) (bufs t).v fullShare ((dats m 0 c).before 2 t d))
    ∗ (∃ d, owns (c : Thread nD τ) (bufs t).g fullShare ((dats m 0 c).before 3 t d))
    ∗ (∃ d, owns (c : Thread nD τ) (bufs t).l fullShare ((dats m 0 c).before 4 t d))
    ∗ (∃ d, owns (c : Thread nD τ) (bufs t).d fullShare ((dats m 0 c).before 5 t d))
    ∗ (∃ d, owns (c : Thread nD τ) (bufs t).dq fullShare ((dats m 0 c).before 6 t d))
    ∗ (∃ d, owns (c : Thread nD τ) (bufs t).dk fullShare ((dats m 0 c).before 7 t d))
    ∗ (∃ d, owns (c : Thread nD τ) (bufs t).dv fullShare ((dats m 0 c).before 8 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (bufs t).q fullShare (iblk m c 0 t) := by
  unfold Dat.leavesExact; rw [show cfg0.idle 0 (cfg0.grid.coords t) = false from rfl, after_0]; rfl
theorem leaves_1 (c : Dev nD) (t : Fin cfg0.N) : (dats m 0 c).leavesExact 1 t = owns (c : Thread nD τ) (bufs t).k fullShare (iblk m c 1 t) := by
  unfold Dat.leavesExact; rw [show cfg0.idle 1 (cfg0.grid.coords t) = false from rfl, after_1]; rfl
theorem leaves_2 (c : Dev nD) (t : Fin cfg0.N) : (dats m 0 c).leavesExact 2 t = owns (c : Thread nD τ) (bufs t).v fullShare (iblk m c 2 t) := by
  unfold Dat.leavesExact; rw [show cfg0.idle 2 (cfg0.grid.coords t) = false from rfl, after_2]; rfl
theorem leaves_3 (c : Dev nD) (t : Fin cfg0.N) : (dats m 0 c).leavesExact 3 t = owns (c : Thread nD τ) (bufs t).g fullShare (iblk m c 3 t) := by
  unfold Dat.leavesExact; rw [show cfg0.idle 3 (cfg0.grid.coords t) = false from rfl, after_3]; rfl
theorem leaves_4 (c : Dev nD) (t : Fin cfg0.N) : (dats m 0 c).leavesExact 4 t = owns (c : Thread nD τ) (bufs t).l fullShare (iblk m c 4 t) := by
  unfold Dat.leavesExact; rw [show cfg0.idle 4 (cfg0.grid.coords t) = false from rfl, after_4]; rfl
theorem leaves_5 (c : Dev nD) (t : Fin cfg0.N) : (dats m 0 c).leavesExact 5 t = owns (c : Thread nD τ) (bufs t).d fullShare (iblk m c 5 t) := by
  unfold Dat.leavesExact; rw [show cfg0.idle 5 (cfg0.grid.coords t) = false from rfl, after_5]; rfl
theorem leaves_6 (c : Dev nD) (t : Fin cfg0.N) (h : t.val % 8 = 7) : (dats m 0 c).leavesExact 6 t = owns (c : Thread nD τ) (bufs t).dq fullShare (k0_pay1 (out m c t).2) := by
  unfold Dat.leavesExact; rw [show cfg0.idle 6 (cfg0.grid.coords t) = false from live6 t h, after_6]; rfl
theorem leaves_7 (c : Dev nD) (t : Fin cfg0.N) : (dats m 0 c).leavesExact 7 t = owns (c : Thread nD τ) (bufs t).dk fullShare (k0_pay56 (out m c t).1.1) := by
  unfold Dat.leavesExact; rw [show cfg0.idle 7 (cfg0.grid.coords t) = false from rfl, after_7]; rfl
theorem leaves_8 (c : Dev nD) (t : Fin cfg0.N) : (dats m 0 c).leavesExact 8 t = owns (c : Thread nD τ) (bufs t).dv fullShare (k0_pay57 (out m c t).1.2) := by
  unfold Dat.leavesExact; rw [show cfg0.idle 8 (cfg0.grid.coords t) = false from rfl, after_8]; rfl

/-- The query gradient's buffer after the point is what the pipeline expects there. -/
theorem leaves_dq (c : Dev nD) (t : Fin cfg0.N) (d) :
    owns (c : Thread nD τ) (bufs t).dq fullShare (dqVal (grid0.coords t) (out m c t).2 ((dats m 0 c).before 6 t d)) ⊢ (dats m 0 c).leavesExact 6 t := by
  unfold dqVal
  by_cases h : t.val % 8 = 7
  · rw [leaves_6 m c t h, if_pos ((last_iff t).2 h)]
  · rw [Dat.leavesExact_idle (dats m 0 c) 6 t (idle6 t h) (noFlush6 t h), if_neg fun e => h ((last_iff t).1 e)]
    iintro H
    iexists _; iexact H

/-- The scratch as the point leaves it is what the next point finds. -/
theorem leaves_s (c : Dev nD) (t : Fin cfg0.N) :
    (owns (c : Thread nD τ) scM fullShare (out m c t).2 : sProp 𝕄)
      ⊢ iprop(∃ s, ⌜t.val + 1 ≠ 0 → s = st m c (t.val + 1)⌝ ∗ owns (c : Thread nD τ) scM fullShare s) := by
  rw [← st_succ m c t]
  iintro H
  iexists (st m c (t.val + 1))
  isplitr
  swap; · iexact H
  ipureintro
  intro _
  rfl

attribute [local irreducible] whole pointVal dqVal Cert.Attn.out in
set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before_0, before_1, before_2, before_3, before_4, before_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_0, leaves_1, leaves_2, leaves_3, leaves_4, leaves_5, leaves_7, leaves_8]
  unfold PhiS
  iintro ⟨⟨⟨%s, ⟨%hs, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (whole_spec c Set.univ (grid0.coords t) (bufs t) (ins m c t) s ((dats m 0 c).before 6 t d6) ((dats m 0 c).before 7 t d7) ((dats m 0 c).before 8 t d8))
  rw [out_of m c t s hs]
  unfold held
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [HS]; · iexact HS
  iintro ⟨⟨H0, H1, H2, H3, H4, H5⟩, H6, H7, H8, HS⟩
  isplitl [HS Hg]
  · isplitl [HS]
    · iapply (leaves_s m c t); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_dq m c t d6); iexact H6
  isplitl [H7]; · iexact H7
  iexact H8

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA_eq]
  unfold PhiS
  iintro ⟨⟨%d, H⟩, Hg⟩
  isplitl [H]
  · iexists d
    isplitr
    swap; · iexact H
    ipureintro
    intro h
    exact absurd rfl h
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, ⟨_, H⟩⟩, Hg⟩
  isplitl [H]
  · iexists d
    iexact H
  iexact Hg

/-! ## The run -/

-- the run theorem's implicit arguments are found by unifying its conclusion with this one
set_option backward.isDefEq.respectTransparency.types false in
/-- The run: every array of the pipeline ends at what the proof data say, the other buffers stay, every counter ends at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c)⟩, h.2⟩) (run_main m ρ)

end Cert.Attn

end
-- ==== Proof.AttnBits.lean ====
/-
  The attention-gradient kernel at the machine's floats: the program with its constants as they are written is the
  idealised one with each named constant read back as the bits it replaced, so the frame of the one is the frame of the other.
-/
module

public import proofs.«01_k».proof.Proof.Gen.Kernel4
public import proofs.«01_k».proof.Proof.AttnFrame
public import proofs.«01_k».proof.Defs

@[expose] public section

set_option maxRecDepth 65536

noncomputable section

namespace Cert.Attn

open Idealize.ShloMosaic Idealize.SL.Sem

/-- At the machine's floats a named constant is the bits it was written as. -/
instance written : Named Bits := ⟨fun _ _ φ b => Scalar.ofBits φ b⟩

/-- The bodies of the two programs are the same. -/
theorem bodies_eq : Cert.Kernel4.defs₀ (F := Bits) = Cert.Kernel4Ideal.defs₀ (F := Bits) := by
  refine congrArg (Defs.onTc (nD := 1)) (funext fun l => ?_)
  obtain ⟨n, hn⟩ := l
  cases n with
  | zero => exact funext fun a => rfl
  | succ n => exact absurd hn (by omega)

theorem defs_eq : Cert.Kernel4.defs (F := Bits) = Cert.Kernel4Ideal.defs (F := Bits) :=
  congrArg (Pipeline.defs (Cert.Kernel4Ideal.pcfgs (F := Bits))) bodies_eq

set_option maxHeartbeats 2000000 in
/-- So are their hosts. -/
theorem main_eq : Cert.Kernel4.main (F := Bits) = Cert.Kernel4Ideal.main (F := Bits) := by
  unfold Cert.Kernel4.main Cert.Kernel4Ideal.main
  rfl

/-- The frame at the machine's floats. -/
theorem frame_bits : Cert.quiescent_Kernel4 := fun m ρ _ => by
  rw [defs_eq, main_eq]
  exact frame (F := Bits) m ρ

end Cert.Attn

end
-- ==== Proof.AttnSeg.lean ====
/-
  A segment of the attention gradient, over the extended reals.

  A point of the grid holds one block of 512 keys. Against a segment of queries it forms the probabilities, the scores'
  gradients, and from them the three products. Here each of those is the real number one expects, at every width of the
  segment, masked (the segment that starts at the block's own rows) or not (the segments after it).
-/
module

public import proofs.«01_k».proof.Proof.AttnRun
public import proofs.«01_k».proof.Proof.Dot
public import proofs.«01_k».proof.Proof.Lift

@[expose] public section

set_option maxRecDepth 65536

noncomputable section

namespace Cert.Attn

open Idealize.ShloMosaic Idealize.ShloMosaic.ValueIdx
open Cert.Kernel4Ideal Cert.Kernel4Ideal.Gen Cert.Lift

/-- A block's tables: its keys and values, and of a head the scaled queries, the output gradient, the log-sums (to the
    base two) and the row sums of the output gradient times the output; `base` is the row of the block's first key. -/
structure Tab where
  K : Fin 512 → Fin 256 → ℝ
  V : Fin 512 → Fin 128 → ℝ
  Q : ℕ → Fin 256 → ℝ
  G : ℕ → Fin 128 → ℝ
  L : ℕ → ℝ
  D : ℕ → ℝ
  base : ℕ

/-- The probability with which query `c` attends to the block's key `r`. -/
def Tab.P (T : Tab) (r : Fin 512) (c : ℕ) : ℝ :=
  if (T.base + r.val) / 64 ≤ c / 64 then Real.rpow 2 (∑ d, T.K r d * T.Q c d - T.L c) else 0

/-- The gradient of the score, in the base the kernel keeps. -/
def Tab.S (T : Tab) (r : Fin 512) (c : ℕ) : ℝ := T.P r c * (∑ d, T.V r d * T.G c d - T.D c) * Real.log 2

theorem named_mask : (Named.named κ "mask" 0xF149F2CA#32 : Ideal .f32) = ⊥ := IdealRules.named_const.ideal_named_scalar κ "mask" _ _ rfl
theorem named_ln2 : (Named.named κ "ln2" 0x3F317218#32 : Ideal .f32) = ((Real.log 2 : ℝ) : EReal) :=
  IdealRules.named_const.ideal_named_scalar κ "ln2" _ _ rfl
theorem named_scale : (Named.named κ "scale" 0x3DD53B95#32 : Ideal .f32) = (((Real.sqrt 192)⁻¹ * (Real.log 2)⁻¹ : ℝ) : EReal) :=
  IdealRules.named_const.ideal_named_scalar κ "scale" _ _ rfl

theorem exp2C {a : EReal} {x : ℝ} (h : a = (x : EReal)) : Ideal.exp2 a = ((Real.rpow 2 x : ℝ) : EReal) := by rw [h]; rfl

/-- A row's number shifted down by six bits is its chunk. -/
theorem chunk (n : ℕ) (h : n < 4096) : (IntOp.shrsi .vector (BitVec.ofNat 32 n) 6#32).toInt = ((n / 64 : ℕ) : ℤ) := by
  have e : IntOp.shrsi .vector (BitVec.ofNat 32 n) 6#32 = (BitVec.ofNat 32 n).sshiftRight 6 := rfl
  rw [e, BitVec.toInt_sshiftRight, BitVec.toInt_ofNat', Int.shiftRight_eq_div_pow]
  have e1 : ((n : ℤ)).bmod (2 ^ 32) = n := by
    rw [Int.bmod_eq_of_le] <;> omega
  rw [e1]; norm_num

theorem chunk_le (a b : ℕ) (ha : a < 4096) (hb : b < 4096) :
    IntOp.cmpi .sle (IntOp.shrsi .vector (IntOp.subi (BitVec.ofNat 32 a) 0#32) 6#32) (IntOp.shrsi .vector (BitVec.ofNat 32 b) 6#32) = 1#1 ↔ a / 64 ≤ b / 64 := by
  have e0 : IntOp.subi (BitVec.ofNat 32 a) 0#32 = BitVec.ofNat 32 a := BitVec.sub_zero _
  rw [e0]
  show BitVec.ofBool (BitVec.sle _ _) = 1#1 ↔ _
  rw [BitVec.sle_eq_decide, chunk a ha, chunk b hb]
  by_cases h : a / 64 ≤ b / 64
  · have : ((a / 64 : ℕ) : ℤ) ≤ ((b / 64 : ℕ) : ℤ) := by exact_mod_cast h
    rw [decide_eq_true this]; simp [h]
  · have : ¬ ((a / 64 : ℕ) : ℤ) ≤ ((b / 64 : ℕ) : ℤ) := by exact_mod_cast h
    simp only [h, this, decide_false, iff_false]; decide

section Generic

variable {w : ℕ} {T : Tab} {o : ℕ}

/-- A row of the whole width repeated over the keys. -/
theorem row_over {l : FVec Ideal ⟨3, ![1, 1, w]⟩ .f32} {f : ℕ → ℝ} (hl : ∀ i, l i = ((f (o + (i 2).val) : ℝ) : EReal))
    (hs : Shape.ShapeCasts ⟨3, ![1, 1, w]⟩ ⟨2, ![1, w]⟩) (hb : Shape.Broadcasts ⟨2, ![1, w]⟩ ⟨2, ![512, w]⟩) (i : (⟨2, ![512, w]⟩ : Shape).Idx) :
    broadcastTo ⟨2, ![512, w]⟩ (shapeCast ⟨2, ![1, w]⟩ l hs) hb i = ((f (o + (i 1).val) : ℝ) : EReal) := by
  refine (broadcastTo_apply (shapeCast ⟨2, ![1, w]⟩ l hs) hb i (ix2 (0 : Fin 1) (i 1)) fun a => ?_).trans
    ((shapeCast_apply l hs (ix2 (0 : Fin 1) (i 1)) (ix3 (0 : Fin 1) (0 : Fin 1) (i 1)) ?_).trans (hl _))
  · match a with
    | ⟨0, _⟩ => rfl
    | ⟨1, _⟩ =>
      have b1 : (i 1).val < w := (i 1).isLt
      show (i 1).val = if w = 1 then 0 else (i 1).val
      split <;> omega
  · rw [Shape.rowMajor_val_two, Shape.rowMajor_val_three]
    show (0 * 1 + 0) * w + (i 1).val = 0 * w + (i 1).val
    omega

/-- The probabilities of the segment that starts at the block's own rows. -/
theorem p_masked (ho : o = T.base) (hd : 64 ∣ o) (hw : w ≤ 4096) {m : FVec Ideal ⟨2, ![512, w]⟩ .f32} {l : FVec Ideal ⟨3, ![1, 1, w]⟩ .f32}
    (hm : ∀ i, m i = ((∑ d, T.K (i 0) d * T.Q (o + (i 1).val) d : ℝ) : EReal)) (hl : ∀ i, l i = ((T.L (o + (i 2).val) : ℝ) : EReal))
    (h0 : Shape.Iotas ⟨2, ![512, w]⟩ .tc 32 [0]) (h1 : Shape.Iotas ⟨2, ![512, w]⟩ .tc 32 [1])
    (hs : Shape.ShapeCasts ⟨3, ![1, 1, w]⟩ ⟨2, ![1, w]⟩) (hb : Shape.Broadcasts ⟨2, ![1, w]⟩ ⟨2, ![512, w]⟩) (i : (⟨2, ![512, w]⟩ : Shape).Idx) :
    exp2 (subf (select (cmpi .sle (shrsi (subi (iota .tc ⟨2, ![512, w]⟩ 32 [0] h0) (broadcast ⟨2, ![512, w]⟩ 0#32)) (broadcast ⟨2, ![512, w]⟩ 6#32))
        (shrsi (iota .tc ⟨2, ![512, w]⟩ 32 [1] h1) (broadcast ⟨2, ![512, w]⟩ 6#32))) m (broadcast ⟨2, ![512, w]⟩ (Named.named κ "mask" 0xF149F2CA#32)))
      (broadcastTo ⟨2, ![512, w]⟩ (shapeCast ⟨2, ![1, w]⟩ l hs) hb)) i = ((T.P (i 0) (o + (i 1).val) : ℝ) : EReal) := by
  have b0 : (i 0).val < 512 := (i 0).isLt
  have b1 : (i 1).val < w := (i 1).isLt
  have hlr := row_over hl hs hb i
  have e : (cmpi .sle (shrsi (subi (iota .tc ⟨2, ![512, w]⟩ 32 [0] h0) (broadcast ⟨2, ![512, w]⟩ 0#32)) (broadcast ⟨2, ![512, w]⟩ 6#32))
      (shrsi (iota .tc ⟨2, ![512, w]⟩ 32 [1] h1) (broadcast ⟨2, ![512, w]⟩ 6#32))) i = 1#1 ↔ (T.base + (i 0).val) / 64 ≤ (o + (i 1).val) / 64 := by
    refine Iff.trans ?_ ((chunk_le (i 0).val (i 1).val (by omega) (by omega)).trans (by subst ho; obtain ⟨z, hz⟩ := hd; rw [hz]; omega))
    have e1 : (iota .tc ⟨2, ![512, w]⟩ 32 [0] h0) i = BitVec.ofNat 32 (i 0).val := congrArg (BitVec.ofNat 32) (by show 0 * _ + _ = _; omega)
    have e2 : (iota .tc ⟨2, ![512, w]⟩ 32 [1] h1) i = BitVec.ofNat 32 (i 1).val := congrArg (BitVec.ofNat 32) (by show 0 * _ + _ = _; omega)
    show IntOp.cmpi .sle (IntOp.shrsi .vector (IntOp.subi ((iota .tc ⟨2, ![512, w]⟩ 32 [0] h0) i) 0#32) 6#32)
      (IntOp.shrsi .vector ((iota .tc ⟨2, ![512, w]⟩ 32 [1] h1) i) 6#32) = 1#1 ↔ _
    rw [e1, e2]
  show Ideal.exp2 ((if (cmpi .sle (shrsi (subi (iota .tc ⟨2, ![512, w]⟩ 32 [0] h0) (broadcast ⟨2, ![512, w]⟩ 0#32)) (broadcast ⟨2, ![512, w]⟩ 6#32))
      (shrsi (iota .tc ⟨2, ![512, w]⟩ 32 [1] h1) (broadcast ⟨2, ![512, w]⟩ 6#32))) i = 1#1 then m i else Named.named κ "mask" 0xF149F2CA#32)
    - broadcastTo ⟨2, ![512, w]⟩ (shapeCast ⟨2, ![1, w]⟩ l hs) hb i) = _
  unfold Tab.P
  by_cases h : (T.base + (i 0).val) / 64 ≤ (o + (i 1).val) / 64
  · rw [if_pos (e.2 h), if_pos h]
    exact exp2C (subC (hm i) hlr)
  · rw [if_neg (fun hh => h (e.1 hh)), if_neg h, named_mask, hlr, EReal.bot_sub]
    rfl

/-- The probabilities of a segment after it. -/
theorem p_wide (ho : T.base + 512 ≤ o) {m : FVec Ideal ⟨2, ![512, w]⟩ .f32} {l : FVec Ideal ⟨3, ![1, 1, w]⟩ .f32}
    (hm : ∀ i, m i = ((∑ d, T.K (i 0) d * T.Q (o + (i 1).val) d : ℝ) : EReal)) (hl : ∀ i, l i = ((T.L (o + (i 2).val) : ℝ) : EReal))
    (hs : Shape.ShapeCasts ⟨3, ![1, 1, w]⟩ ⟨2, ![1, w]⟩) (hb : Shape.Broadcasts ⟨2, ![1, w]⟩ ⟨2, ![512, w]⟩) (i : (⟨2, ![512, w]⟩ : Shape).Idx) :
    exp2 (subf m (broadcastTo ⟨2, ![512, w]⟩ (shapeCast ⟨2, ![1, w]⟩ l hs) hb)) i = ((T.P (i 0) (o + (i 1).val) : ℝ) : EReal) := by
  have b0 : (i 0).val < 512 := (i 0).isLt
  have e : T.P (i 0) (o + (i 1).val) = Real.rpow 2 (∑ d, T.K (i 0) d * T.Q (o + (i 1).val) d - T.L (o + (i 1).val)) :=
    if_pos (by have : T.base + (i 0).val ≤ o + (i 1).val := by omega
               exact Nat.div_le_div_right this)
  rw [e]
  exact exp2C (subC (hm i) (row_over hl hs hb i))

/-- The scores' gradients, from the probabilities. -/
theorem s_real {p m : FVec Ideal ⟨2, ![512, w]⟩ .f32} {d : FVec Ideal ⟨3, ![1, 1, w]⟩ .f32}
    (hp : ∀ i, p i = ((T.P (i 0) (o + (i 1).val) : ℝ) : EReal))
    (hm : ∀ i, m i = ((∑ e, T.V (i 0) e * T.G (o + (i 1).val) e : ℝ) : EReal)) (hd : ∀ i, d i = ((T.D (o + (i 2).val) : ℝ) : EReal))
    (hs : Shape.ShapeCasts ⟨3, ![1, 1, w]⟩ ⟨2, ![1, w]⟩) (hb : Shape.Broadcasts ⟨2, ![1, w]⟩ ⟨2, ![512, w]⟩) (ht : FTy.bits .bf16 < FTy.bits .f32)
    (i : (⟨2, ![512, w]⟩ : Shape).Idx) :
    truncf .bf16 (mulf (mulf p (subf m (broadcastTo ⟨2, ![512, w]⟩ (shapeCast ⟨2, ![1, w]⟩ d hs) hb)))
      (broadcast ⟨2, ![512, w]⟩ (Named.named κ "ln2" 0x3F317218#32))) ht i = ((T.S (i 0) (o + (i 1).val) : ℝ) : EReal) :=
  mulC (mulC (hp i) (subC (hm i) (row_over hd hs hb i))) named_ln2

end Generic

/-! ## What is asked of a segment -/

/-- The windows of the tables that a segment of width `w` at `o` reads. -/
structure Read (T : Tab) (o w : ℕ) (vq : FVec Ideal ⟨2, ![w, 256]⟩ .bf16) (vg : FVec Ideal ⟨2, ![w, 128]⟩ .bf16)
    (vl vd : FVec Ideal ⟨3, ![1, 1, w]⟩ .f32) : Prop where
  q : ∀ i, vq i = ((T.Q (o + (i 0).val) (i 1) : ℝ) : EReal)
  g : ∀ i, vg i = ((T.G (o + (i 0).val) (i 1) : ℝ) : EReal)
  l : ∀ i, vl i = ((T.L (o + (i 2).val) : ℝ) : EReal)
  d : ∀ i, vd i = ((T.D (o + (i 2).val) : ℝ) : EReal)

/-- What a segment adds to the two gradients it returns, whose values so far are `a` and `b`. -/
def Adds (T : Tab) (o w : ℕ) (a : Fin 512 → Fin 256 → ℝ) (b : Fin 512 → Fin 128 → ℝ)
    (ret : (FVec Ideal ⟨2, ![w, 256]⟩ .bf16) → (FVec Ideal ⟨2, ![w, 128]⟩ .bf16) → (FVec Ideal ⟨3, ![1, 1, w]⟩ .f32) → (FVec Ideal ⟨3, ![1, 1, w]⟩ .f32) → Acc Ideal) : Prop :=
  ∀ vq vg vl vd, Read T o w vq vg vl vd →
    (∀ i, (ret vq vg vl vd).1 i = ((a (i 0) (i 1) + ∑ y : Fin w, T.S (i 0) (o + y.val) * T.Q (o + y.val) (i 1) : ℝ) : EReal))
      ∧ (∀ i, (ret vq vg vl vd).2 i = ((b (i 0) (i 1) + ∑ y : Fin w, T.P (i 0) (o + y.val) * T.G (o + y.val) (i 1) : ℝ) : EReal))

/-- What a segment adds to its window of the scratch. -/
def Puts (T : Tab) (o w : ℕ)
    (upd : (FVec Ideal ⟨2, ![w, 256]⟩ .bf16) → (FVec Ideal ⟨2, ![w, 128]⟩ .bf16) → (FVec Ideal ⟨3, ![1, 1, w]⟩ .f32) → (FVec Ideal ⟨3, ![1, 1, w]⟩ .f32)
      → (FVec Ideal ⟨2, ![256, w]⟩ .f32) → (FVec Ideal ⟨2, ![256, w]⟩ .f32)) : Prop :=
  ∀ vq vg vl vd vs, Read T o w vq vg vl vd → ∀ s : Fin 256 → ℕ → ℝ, (∀ i, vs i = ((s (i 0) (o + (i 1).val) : ℝ) : EReal)) →
    ∀ i, upd vq vg vl vd vs i = ((s (i 0) (o + (i 1).val) + ∑ r, T.K r (i 0) * T.S r (o + (i 1).val) : ℝ) : EReal)

/-- The point's own blocks, real. -/
structure Keys (T : Tab) (k : FVec Ideal S512x256 .bf16) (v : FVec Ideal S512x128 .bf16) (t : FVec Ideal S256x512 .bf16) : Prop where
  k : ∀ i, k i = ((T.K (i 0) (i 1) : ℝ) : EReal)
  v : ∀ i, v i = ((T.V (i 0) (i 1) : ℝ) : EReal)
  t : ∀ i, t i = ((T.K (i 1) (i 0) : ℝ) : EReal)

/-- The dimensions of a product of columns with columns, and of columns with rows. -/
structure IsNT {M N K : ℕ} (d : DotDims ⟨2, ![M, K]⟩ ⟨2, ![N, K]⟩ ⟨2, ![M, N]⟩) : Prop where
  h1 : d.lhsContracting = [1]
  h2 : d.rhsContracting = [1]
  h3 : d.lhsNonContracting = [0]
  h4 : d.rhsNonContracting = [0]
  h5 : d.lhsBatch = []
  h6 : d.rhsBatch = []

structure IsNN {M N K : ℕ} (d : DotDims ⟨2, ![M, K]⟩ ⟨2, ![K, N]⟩ ⟨2, ![M, N]⟩) : Prop where
  h1 : d.lhsContracting = [1]
  h2 : d.rhsContracting = [0]
  h3 : d.lhsNonContracting = [0]
  h4 : d.rhsNonContracting = [1]
  h5 : d.lhsBatch = []
  h6 : d.rhsBatch = []

/-- A product of columns with columns, of keys or values against a window. -/
theorem prodNT {w n : ℕ} {o : ℕ} {k : FVec Ideal ⟨2, ![512, n]⟩ .bf16} {K : Fin 512 → Fin n → ℝ} {q : FVec Ideal ⟨2, ![w, n]⟩ .bf16} {Q : ℕ → Fin n → ℝ}
    (hk : ∀ i, k i = ((K (i 0) (i 1) : ℝ) : EReal)) (hq : ∀ i, q i = ((Q (o + (i 0).val) (i 1) : ℝ) : EReal))
    (d : DotDims ⟨2, ![512, n]⟩ ⟨2, ![w, n]⟩ ⟨2, ![512, w]⟩) (h : IsNT d) (hc : Shape.ShapeCasts ⟨2, ![w, n]⟩ ⟨2, ![w, n]⟩) (j : (⟨2, ![512, w]⟩ : Shape).Idx) :
    matmul d none k (shapeCast ⟨2, ![w, n]⟩ q hc) (constant ⟨2, ![512, w]⟩ .f32 0x00000000#32) j = ((∑ e, K (j 0) e * Q (o + (j 1).val) e : ℝ) : EReal) :=
  matmulNT d h.h1 h.h2 h.h3 h.h4 h.h5 h.h6 none (x := k) (y := shapeCast ⟨2, ![w, n]⟩ q hc) (a := K) (b := fun (c : Fin w) e => Q (o + c.val) e) hk
    (fun z => (congrFun (shapeCast_self q hc) z).trans (hq z)) j

theorem self_q {w n : ℕ} {o : ℕ} {q : FVec Ideal ⟨2, ![w, n]⟩ .bf16} {Q : ℕ → Fin n → ℝ} (hq : ∀ i, q i = ((Q (o + (i 0).val) (i 1) : ℝ) : EReal))
    (hc : Shape.ShapeCasts ⟨2, ![w, n]⟩ ⟨2, ![w, n]⟩) (i : (⟨2, ![w, n]⟩ : Shape).Idx) : shapeCast ⟨2, ![w, n]⟩ q hc i = ((Q (o + (i 0).val) (i 1) : ℝ) : EReal) :=
  (congrFun (shapeCast_self q hc) i).trans (hq i)

/-- A segment's gradients, from its products: `qq`, `gg` the windows, `pp` the probabilities, `ss` the scores' gradients. -/
theorem grads {w : ℕ} {T : Tab} {o : ℕ} {qq : FVec Ideal ⟨2, ![w, 256]⟩ .bf16} {gg : FVec Ideal ⟨2, ![w, 128]⟩ .bf16}
    {pp ss : FVec Ideal ⟨2, ![512, w]⟩ .bf16} (hq : ∀ i, qq i = ((T.Q (o + (i 0).val) (i 1) : ℝ) : EReal))
    (hg : ∀ i, gg i = ((T.G (o + (i 0).val) (i 1) : ℝ) : EReal)) (hp : ∀ i, pp i = ((T.P (i 0) (o + (i 1).val) : ℝ) : EReal))
    (hs : ∀ i, ss i = ((T.S (i 0) (o + (i 1).val) : ℝ) : EReal))
    (d₁ : DotDims ⟨2, ![512, w]⟩ ⟨2, ![w, 256]⟩ ⟨2, ![512, 256]⟩) (h₁ : IsNN d₁) (d₂ : DotDims ⟨2, ![512, w]⟩ ⟨2, ![w, 128]⟩ ⟨2, ![512, 128]⟩) (h₂ : IsNN d₂)
    {a : Fin 512 → Fin 256 → ℝ} {b : Fin 512 → Fin 128 → ℝ} {x : FVec Ideal S512x256 .f32} {y : FVec Ideal S512x128 .f32}
    (hx : ∀ i, x i = ((a (i 0) (i 1) : ℝ) : EReal)) (hy : ∀ i, y i = ((b (i 0) (i 1) : ℝ) : EReal)) :
    (∀ i, addf x (matmul d₁ none ss qq (constant S512x256 .f32 0x00000000#32)) i
        = ((a (i 0) (i 1) + ∑ c : Fin w, T.S (i 0) (o + c.val) * T.Q (o + c.val) (i 1) : ℝ) : EReal))
      ∧ (∀ i, addf y (matmul d₂ none pp gg (constant S512x128 .f32 0x00000000#32)) i
        = ((b (i 0) (i 1) + ∑ c : Fin w, T.P (i 0) (o + c.val) * T.G (o + c.val) (i 1) : ℝ) : EReal)) :=
  ⟨fun i => addC (hx i) (matmulNN d₁ h₁.h1 h₁.h2 h₁.h3 h₁.h4 h₁.h5 h₁.h6 none (x := ss) (y := qq) (a := fun r (c : Fin w) => T.S r (o + c.val)) (b := fun (c : Fin w) e => T.Q (o + c.val) e) hs hq i),
   fun i => addC (hy i) (matmulNN d₂ h₂.h1 h₂.h2 h₂.h3 h₂.h4 h₂.h5 h₂.h6 none (x := pp) (y := gg) (a := fun r (c : Fin w) => T.P r (o + c.val)) (b := fun (c : Fin w) e => T.G (o + c.val) e) hp hg i)⟩

/-- A segment's part of the query gradient. -/
theorem puts_of {w : ℕ} {T : Tab} {o : ℕ} {ss : FVec Ideal ⟨2, ![512, w]⟩ .bf16} {t : FVec Ideal S256x512 .bf16}
    (hs : ∀ i, ss i = ((T.S (i 0) (o + (i 1).val) : ℝ) : EReal)) (ht : ∀ i, t i = ((T.K (i 1) (i 0) : ℝ) : EReal))
    (d : DotDims ⟨2, ![256, 512]⟩ ⟨2, ![512, w]⟩ ⟨2, ![256, w]⟩) (h : IsNN d) (vs : FVec Ideal ⟨2, ![256, w]⟩ .f32) (s : Fin 256 → ℕ → ℝ)
    (hv : ∀ i, vs i = ((s (i 0) (o + (i 1).val) : ℝ) : EReal)) (hc : Shape.ShapeCasts ⟨2, ![256, w]⟩ ⟨2, ![256, w]⟩) (i : (⟨2, ![256, w]⟩ : Shape).Idx) :
    shapeCast ⟨2, ![256, w]⟩ (addf vs (matmul d none t ss (constant ⟨2, ![256, w]⟩ .f32 0x00000000#32))) hc i
      = ((s (i 0) (o + (i 1).val) + ∑ r, T.K r (i 0) * T.S r (o + (i 1).val) : ℝ) : EReal) :=
  (congrFun (shapeCast_self (addf vs (matmul d none t ss (constant ⟨2, ![256, w]⟩ .f32 0x00000000#32))) hc) i).trans
    (addC (hv i) (matmulNN d h.h1 h.h2 h.h3 h.h4 h.h5 h.h6 none (x := t) (y := ss) (a := fun e r => T.K r e) (b := fun r (c : Fin w) => T.S r (o + c.val)) ht hs i))

theorem zeros_k (i : S512x256.Idx) : k0_pay40 (F := Ideal) i = (((fun _ _ => 0 : Fin 512 → Fin 256 → ℝ) (i 0) (i 1) : ℝ) : EReal) := lit_zero
theorem zeros_v (i : S512x128.Idx) : k0_pay41 (F := Ideal) i = (((fun _ _ => 0 : Fin 512 → Fin 128 → ℝ) (i 0) (i 1) : ℝ) : EReal) := lit_zero

/-! ### The widths -/

section Widths

variable {T : Tab} {o : ℕ} {k : FVec Ideal S512x256 .bf16} {v : FVec Ideal S512x128 .bf16} {t : FVec Ideal S256x512 .bf16}

theorem p2048 (hK : Keys T k v t) (ho : o = T.base) (hd : 64 ∣ o) {vq vg vl vd} (h : Read T o 2048 vq vg vl vd) (i : S512x2048.Idx) :
    k0_pay4 (F := Ideal) k vq vl i = ((T.P (i 0) (o + (i 1).val) : ℝ) : EReal) :=
  p_masked (w := 2048) ho hd (by norm_num) (prodNT hK.k h.q dot_S512x256_S2048x256_S512x2048_1_1_0_0_n_n ⟨rfl, rfl, rfl, rfl, rfl, rfl⟩ _) h.l _ _ _ _ i

theorem s2048 (hK : Keys T k v t) (ho : o = T.base) (hd : 64 ∣ o) {vq vg vl vd} (h : Read T o 2048 vq vg vl vd) (i : S512x2048.Idx) :
    k0_pay5 (F := Ideal) k v vq vg vl vd i = ((T.S (i 0) (o + (i 1).val) : ℝ) : EReal) :=
  s_real (w := 2048) (p2048 hK ho hd h) (prodNT hK.v h.g dot_S512x128_S2048x128_S512x2048_1_1_0_0_n_n ⟨rfl, rfl, rfl, rfl, rfl, rfl⟩ _) h.d _ _ _ i

theorem adds2048 (hK : Keys T k v t) (ho : o = T.base) (hd : 64 ∣ o) :
    Adds T o 2048 (fun _ _ => 0) (fun _ _ => 0)
      (fun vq vg vl vd => (k0_pay43 (k0_pay2 vq) (k0_pay5 k v vq vg vl vd), k0_pay44 (k0_pay3 vg) (k0_pay4 k vq vl))) :=
  fun vq vg vl vd h => grads (w := 2048) (a := fun _ _ => 0) (b := fun _ _ => 0) (x := k0_pay40 (F := Ideal)) (y := k0_pay41 (F := Ideal)) (pp := k0_pay4 (F := Ideal) k vq vl) (self_q h.q _) (self_q h.g _) (p2048 hK ho hd h) (s2048 hK ho hd h)
    dot_S512x2048_S2048x256_S512x256_1_0_0_1_n_n ⟨rfl, rfl, rfl, rfl, rfl, rfl⟩ dot_S512x2048_S2048x128_S512x128_1_0_0_1_n_n ⟨rfl, rfl, rfl, rfl, rfl, rfl⟩ zeros_k zeros_v

theorem puts2048 (hK : Keys T k v t) (ho : o = T.base) (hd : 64 ∣ o) :
    Puts T o 2048 (fun vq vg vl vd vs => k0_pay42 (k0_pay6 k v t vq vg vl vd vs)) :=
  fun vq vg vl vd vs h s hs i => puts_of (w := 2048) (s2048 hK ho hd h) hK.t dot_S256x512_S512x2048_S256x2048_1_0_0_1_n_n ⟨rfl, rfl, rfl, rfl, rfl, rfl⟩ vs s hs _ i

theorem p1536 (hK : Keys T k v t) (ho : o = T.base) (hd : 64 ∣ o) {vq vg vl vd} (h : Read T o 1536 vq vg vl vd) (i : S512x1536.Idx) :
    k0_pay9 (F := Ideal) k vq vl i = ((T.P (i 0) (o + (i 1).val) : ℝ) : EReal) :=
  p_masked (w := 1536) ho hd (by norm_num) (prodNT hK.k h.q dot_S512x256_S1536x256_S512x1536_1_1_0_0_n_n ⟨rfl, rfl, rfl, rfl, rfl, rfl⟩ _) h.l _ _ _ _ i

theorem s1536 (hK : Keys T k v t) (ho : o = T.base) (hd : 64 ∣ o) {vq vg vl vd} (h : Read T o 1536 vq vg vl vd) (i : S512x1536.Idx) :
    k0_pay10 (F := Ideal) k v vq vg vl vd i = ((T.S (i 0) (o + (i 1).val) : ℝ) : EReal) :=
  s_real (w := 1536) (p1536 hK ho hd h) (prodNT hK.v h.g dot_S512x128_S1536x128_S512x1536_1_1_0_0_n_n ⟨rfl, rfl, rfl, rfl, rfl, rfl⟩ _) h.d _ _ _ i

theorem adds1536 (hK : Keys T k v t) (ho : o = T.base) (hd : 64 ∣ o) :
    Adds T o 1536 (fun _ _ => 0) (fun _ _ => 0)
      (fun vq vg vl vd => (k0_pay46 (k0_pay7 vq) (k0_pay10 k v vq vg vl vd), k0_pay47 (k0_pay8 vg) (k0_pay9 k vq vl))) :=
  fun vq vg vl vd h => grads (w := 1536) (a := fun _ _ => 0) (b := fun _ _ => 0) (x := k0_pay40 (F := Ideal)) (y := k0_pay41 (F := Ideal)) (pp := k0_pay9 (F := Ideal) k vq vl) (self_q h.q _) (self_q h.g _) (p1536 hK ho hd h) (s1536 hK ho hd h)
    dot_S512x1536_S1536x256_S512x256_1_0_0_1_n_n ⟨rfl, rfl, rfl, rfl, rfl, rfl⟩ dot_S512x1536_S1536x128_S512x128_1_0_0_1_n_n ⟨rfl, rfl, rfl, rfl, rfl, rfl⟩ zeros_k zeros_v

theorem puts1536 (hK : Keys T k v t) (ho : o = T.base) (hd : 64 ∣ o) :
    Puts T o 1536 (fun vq vg vl vd vs => k0_pay45 (k0_pay11 k v t vq vg vl vd vs)) :=
  fun vq vg vl vd vs h s hs i => puts_of (w := 1536) (s1536 hK ho hd h) hK.t dot_S256x512_S512x1536_S256x1536_1_0_0_1_n_n ⟨rfl, rfl, rfl, rfl, rfl, rfl⟩ vs s hs _ i

theorem p1024 (hK : Keys T k v t) (ho : o = T.base) (hd : 64 ∣ o) {vq vg vl vd} (h : Read T o 1024 vq vg vl vd) (i : S512x1024.Idx) :
    k0_pay14 (F := Ideal) k vq vl i = ((T.P (i 0) (o + (i 1).val) : ℝ) : EReal) :=
  p_masked (w := 1024) ho hd (by norm_num) (prodNT hK.k h.q dot_S512x256_S1024x256_S512x1024_1_1_0_0_n_n ⟨rfl, rfl, rfl, rfl, rfl, rfl⟩ _) h.l _ _ _ _ i

theorem s1024 (hK : Keys T k v t) (ho : o = T.base) (hd : 64 ∣ o) {vq vg vl vd} (h : Read T o 1024 vq vg vl vd) (i : S512x1024.Idx) :
    k0_pay15 (F := Ideal) k v vq vg vl vd i = ((T.S (i 0) (o + (i 1).val) : ℝ) : EReal) :=
  s_real (w := 1024) (p1024 hK ho hd h) (prodNT hK.v h.g dot_S512x128_S1024x128_S512x1024_1_1_0_0_n_n ⟨rfl, rfl, rfl, rfl, rfl, rfl⟩ _) h.d _ _ _ i

theorem adds1024 (hK : Keys T k v t) (ho : o = T.base) (hd : 64 ∣ o) :
    Adds T o 1024 (fun _ _ => 0) (fun _ _ => 0)
      (fun vq vg vl vd => (k0_pay49 (k0_pay12 vq) (k0_pay15 k v vq vg vl vd), k0_pay50 (k0_pay13 vg) (k0_pay14 k vq vl))) :=
  fun vq vg vl vd h => grads (w := 1024) (a := fun _ _ => 0) (b := fun _ _ => 0) (x := k0_pay40 (F := Ideal)) (y := k0_pay41 (F := Ideal)) (pp := k0_pay14 (F := Ideal) k vq vl) (self_q h.q _) (self_q h.g _) (p1024 hK ho hd h) (s1024 hK ho hd h)
    dot_S512x1024_S1024x256_S512x256_1_0_0_1_n_n ⟨rfl, rfl, rfl, rfl, rfl, rfl⟩ dot_S512x1024_S1024x128_S512x128_1_0_0_1_n_n ⟨rfl, rfl, rfl, rfl, rfl, rfl⟩ zeros_k zeros_v

theorem puts1024 (hK : Keys T k v t) (ho : o = T.base) (hd : 64 ∣ o) :
    Puts T o 1024 (fun vq vg vl vd vs => k0_pay48 (k0_pay16 k v t vq vg vl vd vs)) :=
  fun vq vg vl vd vs h s hs i => puts_of (w := 1024) (s1024 hK ho hd h) hK.t dot_S256x512_S512x1024_S256x1024_1_0_0_1_n_n ⟨rfl, rfl, rfl, rfl, rfl, rfl⟩ vs s hs _ i

theorem p512 (hK : Keys T k v t) (ho : o = T.base) (hd : 64 ∣ o) {vq vg vl vd} (h : Read T o 512 vq vg vl vd) (i : S512x512.Idx) :
    k0_pay19 (F := Ideal) k vq vl i = ((T.P (i 0) (o + (i 1).val) : ℝ) : EReal) :=
  p_masked (w := 512) ho hd (by norm_num) (prodNT hK.k h.q dot_S512x256_S512x256_S512x512_1_1_0_0_n_n ⟨rfl, rfl, rfl, rfl, rfl, rfl⟩ _) h.l _ _ _ _ i

theorem s512 (hK : Keys T k v t) (ho : o = T.base) (hd : 64 ∣ o) {vq vg vl vd} (h : Read T o 512 vq vg vl vd) (i : S512x512.Idx) :
    k0_pay20 (F := Ideal) k v vq vg vl vd i = ((T.S (i 0) (o + (i 1).val) : ℝ) : EReal) :=
  s_real (w := 512) (p512 hK ho hd h) (prodNT hK.v h.g dot_S512x128_S512x128_S512x512_1_1_0_0_n_n ⟨rfl, rfl, rfl, rfl, rfl, rfl⟩ _) h.d _ _ _ i

theorem adds512 (hK : Keys T k v t) (ho : o = T.base) (hd : 64 ∣ o) :
    Adds T o 512 (fun _ _ => 0) (fun _ _ => 0)
      (fun vq vg vl vd => (k0_pay52 (k0_pay17 vq) (k0_pay20 k v vq vg vl vd), k0_pay53 (k0_pay18 vg) (k0_pay19 k vq vl))) :=
  fun vq vg vl vd h => grads (w := 512) (a := fun _ _ => 0) (b := fun _ _ => 0) (x := k0_pay40 (F := Ideal)) (y := k0_pay41 (F := Ideal)) (pp := k0_pay19 (F := Ideal) k vq vl) (self_q h.q _) (self_q h.g _) (p512 hK ho hd h) (s512 hK ho hd h)
    dot_S512x512_S512x256_S512x256_1_0_0_1_n_n ⟨rfl, rfl, rfl, rfl, rfl, rfl⟩ dot_S512x512_S512x128_S512x128_1_0_0_1_n_n ⟨rfl, rfl, rfl, rfl, rfl, rfl⟩ zeros_k zeros_v

theorem puts512 (hK : Keys T k v t) (ho : o = T.base) (hd : 64 ∣ o) :
    Puts T o 512 (fun vq vg vl vd vs => k0_pay51 (k0_pay21 k v t vq vg vl vd vs)) :=
  fun vq vg vl vd vs h s hs i => puts_of (w := 512) (s512 hK ho hd h) hK.t dot_S256x512_S512x512_S256x512_1_0_0_1_n_n ⟨rfl, rfl, rfl, rfl, rfl, rfl⟩ vs s hs _ i

/-! The segments of the loop. -/

theorem pWide (hK : Keys T k v t) (ho : T.base + 512 ≤ o) {vq vg vl vd} (h : Read T o 2048 vq vg vl vd) (i : S512x2048.Idx) :
    k0_pay24 (F := Ideal) k vq vl i = ((T.P (i 0) (o + (i 1).val) : ℝ) : EReal) :=
  p_wide (w := 2048) ho (prodNT hK.k h.q dot_S512x256_S2048x256_S512x2048_1_1_0_0_n_n ⟨rfl, rfl, rfl, rfl, rfl, rfl⟩ _) h.l _ _ i

theorem sWide (hK : Keys T k v t) (ho : T.base + 512 ≤ o) {vq vg vl vd} (h : Read T o 2048 vq vg vl vd) (i : S512x2048.Idx) :
    k0_pay25 (F := Ideal) k v vq vg vl vd i = ((T.S (i 0) (o + (i 1).val) : ℝ) : EReal) :=
  s_real (w := 2048) (pWide hK ho h) (prodNT hK.v h.g dot_S512x128_S2048x128_S512x2048_1_1_0_0_n_n ⟨rfl, rfl, rfl, rfl, rfl, rfl⟩ _) h.d _ _ _ i

theorem addsWide (hK : Keys T k v t) (ho : T.base + 512 ≤ o) {a : Fin 512 → Fin 256 → ℝ} {b : Fin 512 → Fin 128 → ℝ} {x : FVec Ideal S512x256 .f32} {y : FVec Ideal S512x128 .f32}
    (hx : ∀ i, x i = ((a (i 0) (i 1) : ℝ) : EReal)) (hy : ∀ i, y i = ((b (i 0) (i 1) : ℝ) : EReal)) :
    Adds T o 2048 a b (fun vq vg vl vd => (k0_pay27 k v x vq vg vl vd, k0_pay54 y (k0_pay28 k vq vg vl))) :=
  fun vq vg vl vd h => grads (w := 2048) (a := a) (b := b) (x := x) (y := y) (pp := k0_pay24 (F := Ideal) k vq vl) (self_q h.q _) (self_q h.g _) (pWide hK ho h) (sWide hK ho h)
    dot_S512x2048_S2048x256_S512x256_1_0_0_1_n_n ⟨rfl, rfl, rfl, rfl, rfl, rfl⟩ dot_S512x2048_S2048x128_S512x128_1_0_0_1_n_n ⟨rfl, rfl, rfl, rfl, rfl, rfl⟩ hx hy

theorem putsWide (hK : Keys T k v t) (ho : T.base + 512 ≤ o) : Puts T o 2048 (fun vq vg vl vd vs => k0_pay26 k v t vq vg vl vd vs) :=
  fun vq vg vl vd vs h s hs i => puts_of (w := 2048) (sWide hK ho h) hK.t dot_S256x512_S512x2048_S256x2048_1_0_0_1_n_n ⟨rfl, rfl, rfl, rfl, rfl, rfl⟩ vs s hs _ i

end Widths

end Cert.Attn

end
-- ==== Proof.AttnPoint.lean ====
/-
  A point of the attention gradient's grid, over the extended reals: what it leaves in the key and value gradients' blocks
  and in the scratch are the sums over every query that may attend to the block, whichever way the queries are cut into
  segments.
-/
module

public import proofs.«01_k».proof.Proof.AttnSeg

@[expose] public section

set_option maxRecDepth 65536

noncomputable section

namespace Cert.Attn

open Idealize.ShloMosaic Idealize.ShloMosaic.ValueIdx
open Cert.Kernel4Ideal Cert.Kernel4Ideal.Gen Cert.Lift

/-- A point's inputs are the tables. -/
structure Has (T : Tab) (x : Ins Ideal) : Prop where
  q : ∀ i, x.q i = ((T.Q (i 0).val (i 1) : ℝ) : EReal)
  k : ∀ i, x.k i = ((T.K (i 0) (i 1) : ℝ) : EReal)
  v : ∀ i, x.v i = ((T.V (i 0) (i 1) : ℝ) : EReal)
  g : ∀ i, x.g i = ((T.G (i 0).val (i 1) : ℝ) : EReal)
  l : ∀ i, x.l i = ((T.L (i 2).val : ℝ) : EReal)
  d : ∀ i, x.d i = ((T.D (i 2).val : ℝ) : EReal)

/-- A query's part of the scratch. -/
def Tab.part (T : Tab) (e : Fin 256) (c : ℕ) : ℝ := ∑ r, T.K r e * T.S r c

/-- The scratch with the block's part added for the queries before `n`. -/
def Tab.scr (T : Tab) (s : Fin 256 → ℕ → ℝ) (n : ℕ) (e : Fin 256) (c : ℕ) : ℝ := s e c + if T.base ≤ c ∧ c < n then T.part e c else 0

/-- The gradients gathered over the queries from the block's first row to `n`. -/
structure Upto (T : Tab) (s : Fin 256 → ℕ → ℝ) (n : ℕ) (y : Acc Ideal × Scr Ideal) : Prop where
  dk : ∀ i, y.1.1 i = ((∑ c ∈ Finset.Ico T.base n, T.S (i 0) c * T.Q c (i 1) : ℝ) : EReal)
  dv : ∀ i, y.1.2 i = ((∑ c ∈ Finset.Ico T.base n, T.P (i 0) c * T.G c (i 1) : ℝ) : EReal)
  sc : ∀ i, y.2 i = ((T.scr s n (i 0) (i 1).val : ℝ) : EReal)

theorem sum_window (f : ℕ → ℝ) (o w : ℕ) : ∑ y : Fin w, f (o + y.val) = ∑ c ∈ Finset.Ico o (o + w), f c := by
  rw [Finset.sum_Ico_eq_sum_range, Fin.sum_univ_eq_sum_range (fun y => f (o + y))]
  congr 2; omega

theorem put_col {w : ℕ} (s : Scr Ideal) (o : ℕ) (u : (⟨2, ![256, w]⟩ : Shape).Idx → EReal) (f g : Fin 256 → ℕ → ℝ)
    (hs : ∀ i, s i = ((g (i 0) (i 1).val : ℝ) : EReal)) (hu : ∀ j, u j = ((f (j 0) (o + (j 1).val) : ℝ) : EReal)) (i : S256x4096.Idx) :
    VecWindow.put (s := S256x4096) s ![0, o] ![256, w] u i = ((if o ≤ (i 1).val ∧ (i 1).val < o + w then f (i 0) (i 1).val else g (i 0) (i 1).val : ℝ) : EReal) := by
  have b0 : (i 0).val < 256 := (i 0).isLt
  unfold VecWindow.put
  by_cases h : o ≤ (i 1).val ∧ (i 1).val < o + w
  · have hall : ∀ a, (![0, o] : Fin 2 → ℕ) a ≤ (i a).val ∧ (i a).val < (![0, o] : Fin 2 → ℕ) a + (![256, w] : Fin 2 → ℕ) a := fun a => by
      match a with
      | ⟨0, _⟩ => exact ⟨Nat.zero_le _, by show (i 0).val < 0 + 256; omega⟩
      | ⟨1, _⟩ => exact h
    rw [dif_pos hall, if_pos h]
    refine (hu _).trans (congrArg (fun z : ℝ => (z : EReal)) (congrArg₂ f (Fin.ext ?_) ?_))
    · show (i 0).val - 0 = (i 0).val; omega
    · show o + ((i 1).val - o) = (i 1).val; omega
  · rw [dif_neg (fun hall => h (hall 1)), if_neg h]
    exact hs i

/-- A segment at `o` carries the sums from `o` to `o + w`. -/
theorem seg_upto {T : Tab} {x : Ins Ideal} (hx : Has T x) {s0 : Fin 256 → ℕ → ℝ} {o w : ℕ} (hb : T.base ≤ o)
    {oq : Fin 2 → ℕ} (iq : ∀ a, oq a + (![w, 256] : Fin 2 → ℕ) a ≤ S4096x256.size a) {og : Fin 2 → ℕ} (ig : ∀ a, og a + (![w, 128] : Fin 2 → ℕ) a ≤ S4096x128.size a)
    {ol : Fin 3 → ℕ} (il : ∀ a, ol a + (![1, 1, w] : Fin 3 → ℕ) a ≤ S1x8x4096.size a) {os : Fin 2 → ℕ} (is : ∀ a, os a + (![256, w] : Fin 2 → ℕ) a ≤ S256x4096.size a)
    (hq : oq = ![o, 0]) (hg : og = ![o, 0]) (hl : ol = ![0, 0, o]) (hs : os = ![0, o])
    {upd : (FVec Ideal ⟨2, ![w, 256]⟩ .bf16) → (FVec Ideal ⟨2, ![w, 128]⟩ .bf16) → (FVec Ideal ⟨3, ![1, 1, w]⟩ .f32) → (FVec Ideal ⟨3, ![1, 1, w]⟩ .f32)
      → (FVec Ideal ⟨2, ![256, w]⟩ .f32) → (FVec Ideal ⟨2, ![256, w]⟩ .f32)}
    {ret : (FVec Ideal ⟨2, ![w, 256]⟩ .bf16) → (FVec Ideal ⟨2, ![w, 128]⟩ .bf16) → (FVec Ideal ⟨3, ![1, 1, w]⟩ .f32) → (FVec Ideal ⟨3, ![1, 1, w]⟩ .f32) → Acc Ideal}
    (hr : Adds T o w (fun r e => ∑ c ∈ Finset.Ico T.base o, T.S r c * T.Q c e) (fun r e => ∑ c ∈ Finset.Ico T.base o, T.P r c * T.G c e) ret)
    (hu : Puts T o w upd) {s : Scr Ideal} (hsc : ∀ i, s i = ((T.scr s0 o (i 0) (i 1).val : ℝ) : EReal)) :
    Upto T s0 (o + w) (segVal oq ![w, 256] iq og ![w, 128] ig ol ![1, 1, w] il os ![256, w] is upd ret x s) := by
  subst hq hg hl hs
  have hR : Read T o w (VecWindow.window x.q ![o, 0] ![w, 256] iq) (VecWindow.window x.g ![o, 0] ![w, 128] ig)
      (VecWindow.window x.l ![0, 0, o] ![1, 1, w] il) (VecWindow.window x.d ![0, 0, o] ![1, 1, w] il) :=
    ⟨fun i => (hx.q _).trans (congrArg (fun z : ℝ => (z : EReal)) (congrArg₂ T.Q (by show o + 1 * (i 0).val = _; omega) (Fin.ext (by show 0 + 1 * (i 1).val = _; omega)))),
     fun i => (hx.g _).trans (congrArg (fun z : ℝ => (z : EReal)) (congrArg₂ T.G (by show o + 1 * (i 0).val = _; omega) (Fin.ext (by show 0 + 1 * (i 1).val = _; omega)))),
     fun i => (hx.l _).trans (congrArg (fun z : ℝ => (z : EReal)) (congrArg T.L (by show o + 1 * (i 2).val = _; omega))),
     fun i => (hx.d _).trans (congrArg (fun z : ℝ => (z : EReal)) (congrArg T.D (by show o + 1 * (i 2).val = _; omega)))⟩
  obtain ⟨h1, h2⟩ := hr _ _ _ _ hR
  refine ⟨fun i => (h1 i).trans (congrArg (fun z : ℝ => (z : EReal)) ?_), fun i => (h2 i).trans (congrArg (fun z : ℝ => (z : EReal)) ?_), fun i => ?_⟩
  · rw [sum_window (fun c => T.S (i 0) c * T.Q c (i 1)) o w]
    exact Finset.sum_Ico_consecutive _ hb (Nat.le_add_right o w)
  · rw [sum_window (fun c => T.P (i 0) c * T.G c (i 1)) o w]
    exact Finset.sum_Ico_consecutive _ hb (Nat.le_add_right o w)
  · refine (put_col s o _ (fun e c => T.scr s0 o e c + T.part e c) (T.scr s0 o) hsc
      (hu _ _ _ _ _ hR (T.scr s0 o) (fun j => (hsc _).trans (congrArg (fun z : ℝ => (z : EReal)) (congrArg₂ (T.scr s0 o)
        (Fin.ext (by show 0 + 1 * (j 0).val = _; omega)) (by show o + 1 * (j 1).val = _; omega))))) i).trans (congrArg (fun z : ℝ => (z : EReal)) ?_)
    unfold Tab.scr
    by_cases h : o ≤ (i 1).val ∧ (i 1).val < o + w
    · rw [if_pos h, if_neg (by omega), if_pos (by omega), add_zero]
    · rw [if_neg h]
      by_cases h' : T.base ≤ (i 1).val ∧ (i 1).val < o
      · rw [if_pos h', if_pos (by omega)]
      · rw [if_neg h', if_neg (by omega)]

/-- The point's keys and values, and the keys transposed. -/
theorem Has.keys {T : Tab} {x : Ins Ideal} (hx : Has T x) : Keys T (k0_pay37 x.k) (k0_pay38 x.v) (k0_pay39 x.k) :=
  ⟨fun i => (congrFun (shapeCast_self x.k _) i).trans (hx.k i), fun i => (congrFun (shapeCast_self x.v _) i).trans (hx.v i),
   fun i => (transpose_apply [1, 0] (k0_pay37 (F := Ideal) x.k) transposes_S512x256_p1_0_S256x512 i (ix2 (i 1) (i 0)) (fun b => by
      match b with
      | ⟨0, _⟩ => rfl
      | ⟨1, _⟩ => rfl)).trans ((congrFun (shapeCast_self x.k _) _).trans (hx.k _))⟩

/-! ## Where the segments lie -/

theorem at1 : ∀ t : Fin grid0.N, k0_off1 (grid0.coords t) = ![t.val % 8 * 512, 0] := by decide +kernel
theorem at2 : ∀ t : Fin grid0.N, k0_off2 (grid0.coords t) = ![t.val % 8 * 512, 0] := by decide +kernel
theorem at3 : ∀ t : Fin grid0.N, k0_off3 (grid0.coords t) = ![0, 0, t.val % 8 * 512] := by decide +kernel
theorem at4 : ∀ t : Fin grid0.N, k0_off4 (grid0.coords t) = ![0, t.val % 8 * 512] := by decide +kernel
theorem at5 : ∀ t : Fin grid0.N, k0_off5 (grid0.coords t) = ![t.val % 8 * 512, 0] := by decide +kernel
theorem at6 : ∀ t : Fin grid0.N, k0_off6 (grid0.coords t) = ![t.val % 8 * 512, 0] := by decide +kernel
theorem at7 : ∀ t : Fin grid0.N, k0_off7 (grid0.coords t) = ![0, 0, t.val % 8 * 512] := by decide +kernel
theorem at8 : ∀ t : Fin grid0.N, k0_off8 (grid0.coords t) = ![0, t.val % 8 * 512] := by decide +kernel
theorem at9 : ∀ t : Fin grid0.N, k0_off9 (grid0.coords t) = ![t.val % 8 * 512, 0] := by decide +kernel
theorem at10 : ∀ t : Fin grid0.N, k0_off10 (grid0.coords t) = ![t.val % 8 * 512, 0] := by decide +kernel
theorem at11 : ∀ t : Fin grid0.N, k0_off11 (grid0.coords t) = ![0, 0, t.val % 8 * 512] := by decide +kernel
theorem at12 : ∀ t : Fin grid0.N, k0_off12 (grid0.coords t) = ![0, t.val % 8 * 512] := by decide +kernel
theorem at13 : ∀ t : Fin grid0.N, k0_off13 (grid0.coords t) = ![t.val % 8 * 512, 0] := by decide +kernel
theorem at14 : ∀ t : Fin grid0.N, k0_off14 (grid0.coords t) = ![t.val % 8 * 512, 0] := by decide +kernel
theorem at15 : ∀ t : Fin grid0.N, k0_off15 (grid0.coords t) = ![0, 0, t.val % 8 * 512] := by decide +kernel
theorem at16 : ∀ t : Fin grid0.N, k0_off16 (grid0.coords t) = ![0, t.val % 8 * 512] := by decide +kernel
theorem at17 : ∀ t : Fin grid0.N, ∀ n : Fin (k0_t1_loop (grid0.coords t)).trips, k0_off17 (grid0.coords t) n = ![2048, 0] := by decide +kernel
theorem at18 : ∀ t : Fin grid0.N, ∀ n : Fin (k0_t1_loop (grid0.coords t)).trips, k0_off18 (grid0.coords t) n = ![2048, 0] := by decide +kernel
theorem at19 : ∀ t : Fin grid0.N, ∀ n : Fin (k0_t1_loop (grid0.coords t)).trips, k0_off19 (grid0.coords t) n = ![0, 0, 2048] := by decide +kernel
theorem at20 : ∀ t : Fin grid0.N, ∀ n : Fin (k0_t1_loop (grid0.coords t)).trips, k0_off20 (grid0.coords t) n = ![0, 2048] := by decide +kernel

theorem trips1 : ∀ t : Fin grid0.N, (k0_t1_loop (grid0.coords t)).trips = if t.val % 8 ≤ 3 then 1 else 0 := by decide +kernel
theorem trips2 : ∀ t : Fin grid0.N, (k0_t2_loop (grid0.coords t)).trips = 0 := by decide +kernel

theorem is2048 : ∀ t : Fin grid0.N, k0_cond2 (grid0.coords t) = 1#1 → k0_cond3 (grid0.coords t) = 1#1 → k0_cond4 (grid0.coords t) = 1#1 → t.val % 8 = 0 ∨ t.val % 8 = 4 := by decide +kernel
theorem is1536 : ∀ t : Fin grid0.N, k0_cond2 (grid0.coords t) = 1#1 → k0_cond3 (grid0.coords t) = 1#1 → ¬k0_cond4 (grid0.coords t) = 1#1 → t.val % 8 = 1 ∨ t.val % 8 = 5 := by decide +kernel
theorem is1024 : ∀ t : Fin grid0.N, k0_cond2 (grid0.coords t) = 1#1 → ¬k0_cond3 (grid0.coords t) = 1#1 → t.val % 8 = 2 ∨ t.val % 8 = 6 := by decide +kernel
theorem is512 : ∀ t : Fin grid0.N, ¬k0_cond2 (grid0.coords t) = 1#1 → t.val % 8 = 3 ∨ t.val % 8 = 7 := by decide +kernel

/-! ## The point -/

theorem iter_none {N : ℕ} (f : Fin N → Acc Ideal × Scr Ideal → Acc Ideal × Scr Ideal) {n : ℕ} (h : n = 0) (y : Acc Ideal × Scr Ideal) : iter f n y = y := by
  subst h; rfl
theorem iter_once {N : ℕ} (f : Fin N → Acc Ideal × Scr Ideal → Acc Ideal × Scr Ideal) (h : N = 1) (y : Acc Ideal × Scr Ideal) : iter f N y = f ⟨0, by omega⟩ y := by
  subst h; rfl

section Point

variable {T : Tab} {x : Ins Ideal} (hx : Has T x) {t : Fin grid0.N} (ht : T.base = t.val % 8 * 512) {s : Scr Ideal} {s0 : Fin 256 → ℕ → ℝ}
  (hs : ∀ i, s i = ((s0 (i 0) (i 1).val : ℝ) : EReal))

/-- Nothing is gathered before the block's first row. -/
theorem start_adds {w : ℕ} {o : ℕ} (ho : o = T.base) {ret}
    (h : Adds T o w (fun _ _ => 0) (fun _ _ => 0) ret) :
    Adds T o w (fun r e => ∑ c ∈ Finset.Ico T.base o, T.S r c * T.Q c e) (fun r e => ∑ c ∈ Finset.Ico T.base o, T.P r c * T.G c e) ret := by
  subst ho
  simpa using h

include hs in
theorem start_scr {o : ℕ} (ho : o = T.base) (i : S256x4096.Idx) : s i = ((T.scr s0 o (i 0) (i 1).val : ℝ) : EReal) := by
  rw [hs i]; unfold Tab.scr
  rw [if_neg (by omega), add_zero]

include hx ht hs in
/-- The segment that starts at the block's own rows reaches row 2048 or the last. -/
theorem diag_upto : Upto T s0 (if t.val % 8 ≤ 3 then 2048 else 4096) (diagVal (grid0.coords t) x s) := by
  have h64 : 64 ∣ t.val % 8 * 512 := ⟨t.val % 8 * 8, by omega⟩
  unfold diagVal
  by_cases h2 : k0_cond2 (grid0.coords t) = 1#1
  · rw [dif_pos h2]
    by_cases h3 : k0_cond3 (grid0.coords t) = 1#1
    · rw [dif_pos h3]
      by_cases h4 : k0_cond4 (grid0.coords t) = 1#1
      · rw [dif_pos h4]
        have e : (if t.val % 8 ≤ 3 then 2048 else 4096) = t.val % 8 * 512 + 2048 := by rcases is2048 t h2 h3 h4 with h | h <;> rw [h] <;> rfl
        rw [e]
        exact seg_upto hx (w := 2048) ht.le _ _ _ _ (at1 t) (at2 t) (at3 t) (at4 t) (start_adds ht.symm (adds2048 hx.keys ht.symm h64)) (puts2048 hx.keys ht.symm h64) (start_scr hs ht.symm)
      · rw [dif_neg h4]
        have e : (if t.val % 8 ≤ 3 then 2048 else 4096) = t.val % 8 * 512 + 1536 := by rcases is1536 t h2 h3 h4 with h | h <;> rw [h] <;> rfl
        rw [e]
        exact seg_upto hx (w := 1536) ht.le _ _ _ _ (at5 t) (at6 t) (at7 t) (at8 t) (start_adds ht.symm (adds1536 hx.keys ht.symm h64)) (puts1536 hx.keys ht.symm h64) (start_scr hs ht.symm)
    · rw [dif_neg h3]
      have e : (if t.val % 8 ≤ 3 then 2048 else 4096) = t.val % 8 * 512 + 1024 := by rcases is1024 t h2 h3 with h | h <;> rw [h] <;> rfl
      rw [e]
      exact seg_upto hx (w := 1024) ht.le _ _ _ _ (at9 t) (at10 t) (at11 t) (at12 t) (start_adds ht.symm (adds1024 hx.keys ht.symm h64)) (puts1024 hx.keys ht.symm h64) (start_scr hs ht.symm)
  · rw [dif_neg h2]
    have e : (if t.val % 8 ≤ 3 then 2048 else 4096) = t.val % 8 * 512 + 512 := by rcases is512 t h2 with h | h <;> rw [h] <;> rfl
    rw [e]
    exact seg_upto hx (w := 512) ht.le _ _ _ _ (at13 t) (at14 t) (at15 t) (at16 t) (start_adds ht.symm (adds512 hx.keys ht.symm h64)) (puts512 hx.keys ht.symm h64) (start_scr hs ht.symm)

include hx ht in
/-- A trip of the loop goes from row 2048 to the last. -/
theorem wide_upto (h3 : t.val % 8 ≤ 3) (n : Fin (k0_t1_loop (grid0.coords t)).trips) {y : Acc Ideal × Scr Ideal} (hy : Upto T s0 2048 y) :
    Upto T s0 4096 (wide1 (grid0.coords t) x n y) :=
  seg_upto hx (o := 2048) (w := 2048) (by omega) _ _ _ _ (at17 t n) (at18 t n) (at19 t n) (at20 t n)
    (addsWide hx.keys (by omega) hy.dk hy.dv) (putsWide hx.keys (by omega)) hy.sc

include hx ht hs in
theorem block_upto : Upto T s0 4096 (blockVal (grid0.coords t) x s) := by
  unfold blockVal
  rw [iter_none _ (trips2 t)]
  have hd := diag_upto hx ht hs
  by_cases h3 : t.val % 8 ≤ 3
  · have e : (k0_t1_loop (grid0.coords t)).trips = 1 := (trips1 t).trans (if_pos h3)
    rw [if_pos h3] at hd
    rw [iter_once _ e]
    exact wide_upto hx ht h3 _ hd
  · rw [if_neg h3] at hd
    rw [iter_none _ ((trips1 t).trans (if_neg h3))]
    exact hd

end Point

end Cert.Attn

end
-- ==== Proof.AttnReal.lean ====
/-
  The attention's gradient in real numbers: what the reference computes with the softmax written out, what the kernel
  computes from the saved row sums in base two, and that the two agree.
-/
module

public import proofs.«01_k».proof.Proof.AttnPoint

@[expose] public section

noncomputable section

namespace Cert.Attn

/-- The rows of one head's arrays. -/
structure Head where
  q : Fin 4096 → Fin 256 → ℝ
  k : Fin 4096 → Fin 256 → ℝ
  v : Fin 4096 → Fin 128 → ℝ
  g : Fin 4096 → Fin 128 → ℝ
  /-- The number taken off each query's scores before the exponential. -/
  M : Fin 4096 → ℝ

namespace Head

variable (A : Head)

/-- Query `r` may attend to key `c`. -/
abbrev sees (r c : ℕ) : Prop := c / 64 ≤ r / 64

def score (r c : Fin 4096) : ℝ := (∑ d, A.q r d * A.k c d) / Real.sqrt 192
def ex (r c : Fin 4096) : ℝ := if sees r.val c.val then Real.exp (A.score r c - A.M r) else 0
def den (r : Fin 4096) : ℝ := ∑ c, A.ex r c
def pr (r c : Fin 4096) : ℝ := A.ex r c / A.den r
def dp (r c : Fin 4096) : ℝ := ∑ d, A.g r d * A.v c d
/-- The sum over the output's columns that the kernel takes off. -/
def delta (r : Fin 4096) : ℝ := ∑ d, A.g r d * ∑ c, A.v c d * A.pr r c
/-- The gradient of a score, as the reference writes it. -/
def ds (r c : Fin 4096) : ℝ :=
  (if sees r.val c.val then
    (A.dp r c / A.den r + -∑ e, A.dp r e * (1 / (A.den r * A.den r)) * A.ex r e) * A.ex r c else 0) / Real.sqrt 192

theorem ex_nonneg (r c : Fin 4096) : 0 ≤ A.ex r c := by
  unfold ex; split
  · exact (Real.exp_pos _).le
  · exact le_refl 0

theorem den_pos (r : Fin 4096) : 0 < A.den r :=
  Finset.sum_pos' (fun c _ => A.ex_nonneg r c) ⟨r, Finset.mem_univ r, by
    unfold ex; rw [if_pos (le_refl (r.val / 64))]; exact Real.exp_pos _⟩

theorem delta_eq (r : Fin 4096) : A.delta r = ∑ c, A.dp r c * A.pr r c := by
  unfold delta dp
  simp only [Finset.mul_sum, Finset.sum_mul]
  rw [Finset.sum_comm]
  exact Finset.sum_congr rfl fun c _ => Finset.sum_congr rfl fun d _ => by ring

theorem sum_eq (r : Fin 4096) : ∑ e, A.dp r e * (1 / (A.den r * A.den r)) * A.ex r e = A.delta r / A.den r := by
  rw [delta_eq, Finset.sum_div]
  refine Finset.sum_congr rfl fun e _ => ?_
  have h := (A.den_pos r).ne'
  unfold pr
  field_simp

theorem ds_eq (r c : Fin 4096) : A.ds r c = A.pr r c * (A.dp r c - A.delta r) / Real.sqrt 192 := by
  have h := (A.den_pos r).ne'
  unfold ds
  rw [sum_eq]
  congr 1
  split
  · unfold pr; field_simp; ring
  · next hn => unfold pr ex; rw [if_neg hn]; ring

theorem sqrt_ne : Real.sqrt 192 ≠ 0 := (Real.sqrt_pos.2 (by norm_num)).ne'
theorem log_ne : Real.log 2 ≠ 0 := (Real.log_pos (by norm_num)).ne'

/-- Row `n` of an array, counted from the start again past its end. -/
def row (n : ℕ) : Fin 4096 := ⟨n % 4096, Nat.mod_lt _ (by decide)⟩

theorem row_val (r : Fin 4096) : row r.val = r := Fin.ext (Nat.mod_eq_of_lt r.isLt)
theorem row_mod {n : ℕ} (h : n < 4096) : (row n).val = n := Nat.mod_eq_of_lt h

/-- What the kernel is given: the block of keys and values at `base`, the scaled queries, the row sums and the deltas. -/
def tab (base : ℕ) : Tab where
  K r d := A.k (row (base + r.val)) d
  V r d := A.v (row (base + r.val)) d
  Q c d := A.q (row c) d / (Real.sqrt 192 * Real.log 2)
  G c d := A.g (row c) d
  L c := (A.M (row c) + Real.log (A.den (row c))) / Real.log 2
  D c := A.delta (row c)
  base := base

theorem pow_eq (r c : Fin 4096) :
    Real.rpow 2 (∑ d, A.k c d * (A.q r d / (Real.sqrt 192 * Real.log 2)) - (A.M r + Real.log (A.den r)) / Real.log 2)
      = Real.exp (A.score r c - A.M r) / A.den r := by
  have e : ∑ d, A.k c d * (A.q r d / (Real.sqrt 192 * Real.log 2)) = A.score r c / Real.log 2 := by
    unfold score
    rw [Finset.sum_div, Finset.sum_div]
    refine Finset.sum_congr rfl fun d _ => ?_
    have h1 := sqrt_ne
    have h2 := log_ne
    field_simp
  rw [Real.rpow_eq_pow, e, Real.rpow_def_of_pos (by norm_num)]
  have e2 : Real.log 2 * (A.score r c / Real.log 2 - (A.M r + Real.log (A.den r)) / Real.log 2)
      = A.score r c - A.M r - Real.log (A.den r) := by
    have h2 := log_ne
    field_simp; ring
  rw [e2, Real.exp_sub, Real.exp_log (A.den_pos r)]

theorem P_eq {b : ℕ} (r : Fin 512) (hb : b + r.val < 4096) (c : Fin 4096) : (A.tab b).P r c.val = A.pr c (row (b + r.val)) := by
  unfold Tab.P pr ex
  show (if (b + r.val) / 64 ≤ c.val / 64 then Real.rpow 2 (∑ d, A.k (row (b + r.val)) d * (A.q (row c.val) d / (Real.sqrt 192 * Real.log 2))
      - (A.M (row c.val) + Real.log (A.den (row c.val))) / Real.log 2) else 0) = _
  rw [row_val, pow_eq, row_mod hb]
  split
  · rfl
  · rw [zero_div]

theorem S_eq {b : ℕ} (r : Fin 512) (hb : b + r.val < 4096) (c : Fin 4096) :
    (A.tab b).S r c.val = A.pr c (row (b + r.val)) * (A.dp c (row (b + r.val)) - A.delta c) * Real.log 2 := by
  unfold Tab.S
  rw [P_eq A r hb]
  show _ * (∑ d, A.v (row (b + r.val)) d * A.g (row c.val) d - A.delta (row c.val)) * _ = _
  rw [row_val]
  unfold dp
  simp only [mul_comm (A.v _ _)]

/-- Queries before the block see none of its keys. -/
theorem P_before {b : ℕ} (hb : b % 64 = 0) (r : Fin 512) {c : ℕ} (h : c < b) : (A.tab b).P r c = 0 := by
  unfold Tab.P
  exact if_neg (by show ¬(b + r.val) / 64 ≤ c / 64; omega)

theorem S_before {b : ℕ} (hb : b % 64 = 0) (r : Fin 512) {c : ℕ} (h : c < b) : (A.tab b).S r c = 0 := by
  unfold Tab.S; rw [P_before A hb r h]; ring

/-- A sum from the block on over what vanishes before it is the sum over all rows. -/
theorem sum_from {b : ℕ} (hb : b ≤ 4096) (f : ℕ → ℝ) (h : ∀ c < b, f c = 0) : ∑ c ∈ Finset.Ico b 4096, f c = ∑ c : Fin 4096, f c.val := by
  rw [Fin.sum_univ_eq_sum_range (fun c => f c) 4096, ← Finset.sum_range_add_sum_Ico f hb, Finset.sum_eq_zero (fun c hc => h c (Finset.mem_range.1 hc)), zero_add]

/-- The key gradient. -/
theorem dk_eq {b : ℕ} (h0 : b % 64 = 0) (r : Fin 512) (hb : b + r.val < 4096) (d : Fin 256) :
    ∑ c ∈ Finset.Ico (A.tab b).base 4096, (A.tab b).S r c * (A.tab b).Q c d = ∑ c, A.ds c (row (b + r.val)) * A.q c d := by
  show ∑ c ∈ Finset.Ico b 4096, _ = _
  rw [sum_from (by omega) (fun c => (A.tab b).S r c * (A.tab b).Q c d) fun c hc => by rw [S_before A h0 r hc, zero_mul]]
  refine Finset.sum_congr rfl fun c _ => ?_
  show (A.tab b).S r c.val * (A.q (row c.val) d / (Real.sqrt 192 * Real.log 2)) = _
  rw [S_eq A r hb, ds_eq, row_val]
  have h1 := sqrt_ne
  have h2 := log_ne
  field_simp

/-- The value gradient. -/
theorem dv_eq {b : ℕ} (h0 : b % 64 = 0) (r : Fin 512) (hb : b + r.val < 4096) (d : Fin 128) :
    ∑ c ∈ Finset.Ico (A.tab b).base 4096, (A.tab b).P r c * (A.tab b).G c d = ∑ c, A.g c d * A.pr c (row (b + r.val)) := by
  show ∑ c ∈ Finset.Ico b 4096, _ = _
  rw [sum_from (by omega) (fun c => (A.tab b).P r c * (A.tab b).G c d) fun c hc => by rw [P_before A h0 r hc, zero_mul]]
  refine Finset.sum_congr rfl fun c _ => ?_
  show (A.tab b).P r c.val * A.g (row c.val) d = _
  rw [P_eq A r hb, row_val, mul_comm]

/-- What the scratch holds after `j` blocks of keys. -/
def upto (j : ℕ) (e : Fin 256) (c : ℕ) : ℝ := ∑ i ∈ Finset.range j, (A.tab (i * 512)).part e c

theorem scr_eq (j : ℕ) (e : Fin 256) (c : ℕ) (hc : c < 4096) : (A.tab (j * 512)).scr (A.upto j) 4096 e c = A.upto (j + 1) e c := by
  unfold Tab.scr
  show A.upto j e c + (if j * 512 ≤ c ∧ c < 4096 then _ else 0) = _
  unfold upto
  rw [Finset.sum_range_succ]
  congr 1
  by_cases h : j * 512 ≤ c
  · rw [if_pos ⟨h, hc⟩]
  · rw [if_neg (fun h' => h h'.1)]
    refine (Finset.sum_eq_zero fun r _ => ?_).symm
    rw [S_before A (by omega) r (by omega), mul_zero]

/-- The sum over the blocks of the keys in each is the sum over the keys. -/
theorem sum_blocks (f : ℕ → ℝ) : ∑ i ∈ Finset.range 8, ∑ r : Fin 512, f (i * 512 + r.val) = ∑ c : Fin 4096, f c.val := by
  rw [Fin.sum_univ_eq_sum_range f 4096]
  have step : ∀ n : ℕ, ∑ i ∈ Finset.range n, ∑ r : Fin 512, f (i * 512 + r.val) = ∑ c ∈ Finset.range (n * 512), f c := by
    intro n
    induction n with
    | zero => simp
    | succ n ih =>
      rw [Finset.sum_range_succ, ih, sum_window f (n * 512) 512, Finset.sum_range_add_sum_Ico f (by omega)]
      congr 2; omega
  exact step 8

/-- The query gradient. -/
theorem dq_eq (r : Fin 4096) (e : Fin 256) :
    A.upto 8 e r.val * ((Real.sqrt 192)⁻¹ * (Real.log 2)⁻¹) = ∑ c, A.ds r c * A.k c e := by
  have h : A.upto 8 e r.val = ∑ c : Fin 4096, A.k c e * (A.pr r c * (A.dp r c - A.delta r) * Real.log 2) := by
    refine Eq.trans ?_ ((sum_blocks fun n => A.k (row n) e * (A.pr r (row n) * (A.dp r (row n) - A.delta r) * Real.log 2)).trans
      (Finset.sum_congr rfl fun c _ => by rw [row_val]))
    refine Finset.sum_congr rfl fun i hi => Finset.sum_congr rfl fun c _ => ?_
    have hi' := Finset.mem_range.1 hi
    have hc := c.isLt
    rw [S_eq A c (by omega) r]
    rfl
  rw [h, Finset.sum_mul]
  refine Finset.sum_congr rfl fun c _ => ?_
  rw [ds_eq]
  have h1 := sqrt_ne
  have h2 := log_ne
  field_simp

end Head

end Cert.Attn

end
-- ==== Proof.AttnRef.lean ====
/-
  The reference's values in the attention's gradient are real: on arguments whose elements are real numbers, each value of
  the reference program is the real number that `AttnReal.lean` names, operation by operation.
-/
module

public import proofs.«01_k».proof.Proof.AttnReal
public import proofs.«01_k».proof.Proof.Finite
public import proofs.«01_k».proof.Proof.Gen.Reference4Ideal.Read

@[expose] public section

set_option maxRecDepth 16384

noncomputable section

namespace Cert.Attn.Ref

open Cert.Reference4Ideal Cert.Reference4Ideal.Gen Cert.Reference4Ideal.Read Cert.Lift Cert.Attn Cert.Attn.Head
open Idealize.ShloMosaic Idealize.ShloMosaic.ValueIdx

/-! ## Words and literals -/

theorem lit_192 : Ideal.ofBits .f32 0x43400000#32 = ((192 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

theorem sqrtH {φ : FTy} {a : Ideal φ} {x : ℝ} (ha : a = (x : EReal)) (hx : 0 ≤ x) : FloatOps.hostUnary .sqrt a = ((Real.sqrt x : ℝ) : EReal) := by
  show Ideal.sqrt a = _
  rw [ha, Ideal.sqrt_coe, if_neg (not_lt.2 hx)]
theorem logH {φ : FTy} {a : Ideal φ} {x : ℝ} (ha : a = (x : EReal)) (hx : 0 < x) : FloatOps.hostUnary .log a = ((Real.log x : ℝ) : EReal) := by
  show Ideal.log a = _
  rw [ha, Ideal.log_coe, if_neg (not_le.2 hx)]

/-- A row's number divided by 64 is its chunk. -/
theorem quot (n : ℕ) (h : n < 4096) : (IntOp.divsi .host (BitVec.ofNat 32 n) 64#32).toInt = ((n / 64 : ℕ) : ℤ) :=
  (by decide +kernel : ∀ n : Fin 4096, (IntOp.divsi .host (BitVec.ofNat 32 n.val) 64#32).toInt = ((n.val / 64 : ℕ) : ℤ)) ⟨n, h⟩

theorem quot_le (a b : ℕ) (ha : a < 4096) (hb : b < 4096) :
    IntOp.cmpi .sle (IntOp.divsi .host (BitVec.ofNat 32 a) 64#32) (IntOp.divsi .host (BitVec.ofNat 32 b) 64#32) = 1#1 ↔ a / 64 ≤ b / 64 := by
  show BitVec.ofBool (BitVec.sle _ _) = 1#1 ↔ _
  rw [BitVec.sle_eq_decide, quot a ha, quot b hb]
  by_cases h : a / 64 ≤ b / 64
  · have : ((a / 64 : ℕ) : ℤ) ≤ ((b / 64 : ℕ) : ℤ) := by exact_mod_cast h
    rw [decide_eq_true this]; simp [h]
  · have : ¬ ((a / 64 : ℕ) : ℤ) ≤ ((b / 64 : ℕ) : ℤ) := by exact_mod_cast h
    simp only [h, this, decide_false, iff_false]; decide

/-- The greatest of finitely many numbers below +∞, one of them real, is real. -/
theorem fold_max_real {n : ℕ} (f : Fin n → EReal) (hf : ∀ c, f c ≠ ⊤) (r : Fin n) (hr : f r ≠ ⊥) :
    ((Finset.univ.fold max (⊥ : EReal) f).toReal : EReal) = Finset.univ.fold max (⊥ : EReal) f := by
  refine EReal.coe_toReal (ne_of_lt ?_) (ne_of_gt ?_)
  · exact (Finset.fold_max_lt _).2 ⟨bot_lt_top, fun c _ => lt_of_le_of_ne le_top (hf c)⟩
  · exact (Finset.lt_fold_max _).2 (Or.inr ⟨r, Finset.mem_univ r, lt_of_le_of_ne bot_le (Ne.symm hr)⟩)

/-! ## Heads -/

/-- Column `d` of head `h`'s slot. -/
def col256 (h : Fin 8) (d : Fin 256) : Fin 2048 := ⟨h.val * 256 + d.val, by omega⟩
def col128 (h : Fin 8) (d : Fin 128) : Fin 1024 := ⟨h.val * 128 + d.val, by omega⟩

variable {x0 x1 : FVec Ideal S4096x2048 .f32} {x2 x3 : FVec Ideal S4096x1024 .f32} {A : Fin 8 → Head}
variable (h0 : ∀ r h d, x0 (ix2 r (col256 h d)) = ((A h).q r d : EReal)) (h1 : ∀ r h d, x1 (ix2 r (col256 h d)) = ((A h).k r d : EReal))
  (h2 : ∀ r h d, x2 (ix2 r (col128 h d)) = ((A h).v r d : EReal)) (h3 : ∀ r h d, x3 (ix2 r (col128 h d)) = ((A h).g r d : EReal))

theorem slot256 (i : S4096x8x256.Idx) (n : ℕ) (hn : n = ((i 0).val * 8 + (i 1).val) * 256 + (i 2).val) :
    n / 2048 = (i 0).val ∧ n % 2048 = (i 1).val * 256 + (i 2).val := by
  have a1 : (i 1).val < 8 := (i 1).isLt
  have a2 : (i 2).val < 256 := (i 2).isLt
  omega
theorem slot128 (i : S4096x8x128.Idx) (n : ℕ) (hn : n = ((i 0).val * 8 + (i 1).val) * 128 + (i 2).val) :
    n / 1024 = (i 0).val ∧ n % 1024 = (i 1).val * 128 + (i 2).val := by
  have a1 : (i 1).val < 8 := (i 1).isLt
  have a2 : (i 2).val < 128 := (i 2).isLt
  omega

include h0 in
theorem v0 (i) : val_main_v0 (F := Ideal) x0 i = ((A (i 1)).q (i 0) (i 2) : EReal) := by
  rw [val_main_v0_apply]
  refine (congrArg x0 (funext fun a => Fin.ext ?_)).trans (h0 (i 0) (i 1) (i 2))
  match a with
  | ⟨0, _⟩ => exact (slot256 i _ rfl).1
  | ⟨1, _⟩ => exact (slot256 i _ rfl).2
include h1 in
theorem v1 (i) : val_main_v1 (F := Ideal) x1 i = ((A (i 1)).k (i 0) (i 2) : EReal) := by
  rw [val_main_v1_apply]
  refine (congrArg x1 (funext fun a => Fin.ext ?_)).trans (h1 (i 0) (i 1) (i 2))
  match a with
  | ⟨0, _⟩ => exact (slot256 i _ rfl).1
  | ⟨1, _⟩ => exact (slot256 i _ rfl).2
include h2 in
theorem v43 (i) : val_main_v43 (F := Ideal) x2 i = ((A (i 1)).v (i 0) (i 2) : EReal) := by
  rw [val_main_v43_apply]
  refine (congrArg x2 (funext fun a => Fin.ext ?_)).trans (h2 (i 0) (i 1) (i 2))
  match a with
  | ⟨0, _⟩ => exact (slot128 i _ rfl).1
  | ⟨1, _⟩ => exact (slot128 i _ rfl).2
include h3 in
theorem v47 (i) : val_main_v47 (F := Ideal) x3 i = ((A (i 1)).g (i 0) (i 2) : EReal) := by
  rw [val_main_v47_apply]
  refine (congrArg x3 (funext fun a => Fin.ext ?_)).trans (h3 (i 0) (i 1) (i 2))
  match a with
  | ⟨0, _⟩ => exact (slot128 i _ rfl).1
  | ⟨1, _⟩ => exact (slot128 i _ rfl).2

/-! ## The constants and the mask -/

theorem v3 (i) : val_main_v3 (F := Ideal) i = ((Real.sqrt 192 : ℝ) : EReal) := by
  rw [val_main_v3_apply]; exact sqrtH lit_192 (by norm_num)
theorem v4 (i) : val_main_v4 (F := Ideal) i = ((Real.sqrt 192 : ℝ) : EReal) := by rw [val_main_v4_apply]; exact v3 _
theorem v66 (i) : val_main_v66 (F := Ideal) i = ((Real.sqrt 192 : ℝ) : EReal) := by rw [val_main_v66_apply]; exact v3 _
theorem w2 (i) : val_main_call0_v2 (F := Ideal) i = ⊥ := by rw [val_main_call0_v2_apply]; exact lit_bot
theorem w0 (i) : val_main_call1_v0 (F := Ideal) i = ((0 : ℝ) : EReal) := by rw [val_main_call1_v0_apply]; exact lit_zero
theorem v41 (i) : val_main_v41 (F := Ideal) i = ((1 : ℝ) : EReal) := by rw [val_main_v41_apply]; exact lit_one
theorem z9 (i) : val_main_cst_9 (F := Ideal) i = 0 := Ideal.ofBits_zero_f32
theorem z11 (i) : val_main_cst_11 (F := Ideal) i = 0 := Ideal.ofBits_zero_f32
theorem z12 (i) : val_main_cst_12 (F := Ideal) i = 0 := Ideal.ofBits_zero_f32

theorem v14_1 (i : S8x4096x4096.Idx) : val_main_v14_1 (F := Ideal) i = 1#1 ↔ sees (i 1).val (i 2).val := by
  rw [val_main_v14_1_apply, val_main_v13_apply, val_main_v11_apply, val_main_v9_apply, val_main_v12_apply, val_main_v10_apply]
  exact quot_le (i 2).val (i 1).val (i 2).isLt (i 1).isLt

/-! ## The softmax -/

include h0 h1

theorem v5 (i) : val_main_v5 (F := Ideal) x0 x1 i = ((A (i 0)).score (i 1) (i 2) : EReal) := by
  rw [val_main_v5_apply]
  refine divH ?_ (v4 i) sqrt_ne
  rw [val_main_v2_apply]
  exact sumC _ fun k => mulC (v0 h0 _) (v1 h1 _)

theorem v14_0 (i : S8x4096x4096.Idx) : val_main_v14_0 (F := Ideal) x0 x1 i = if sees (i 1).val (i 2).val then ((A (i 0)).score (i 1) (i 2) : EReal) else ⊥ := by
  rw [val_main_v14_0_apply]
  unfold Scalar.select
  by_cases h : sees (i 1).val (i 2).val
  · exact (if_pos ((v14_1 i).2 h)).trans ((v5 h0 h1 i).trans (if_pos h).symm)
  · exact (if_neg (fun e => h ((v14_1 i).1 e))).trans ((w2 i).trans (if_neg h).symm)

/-- A row's greatest score is real, as the row's own key is among those it may attend to. -/
theorem v15_real (i : S8x4096.Idx) : val_main_v15 (F := Ideal) x0 x1 i = ((val_main_v15 (F := Ideal) x0 x1 i).toReal : EReal) := by
  have e : val_main_v15 (F := Ideal) x0 x1 i
      = (Finset.univ : Finset (Fin 4096)).fold max (⊥ : EReal) (fun c => val_main_v14_0 (F := Ideal) x0 x1 (ix3 (i 0) (i 1) c)) := by
    unfold val_main_v15
    generalize val_main_v14_0 (F := Ideal) x0 x1 = y
    have hR : S8x4096x4096.Reduces [2] S8x4096 := by decide
    have hb : val_main_cst_1 (F := Ideal) (Shape.Idx.first h_S_) = ⊥ := lit_bot
    refine (Host.reduce_eq_fold_single (FloatOps.maximumf : Ideal .f32 → Ideal .f32 → Ideal .f32) y (val_main_cst_1 (F := Ideal)) reducesTo_S8x4096x4096_S8x4096_d2 hR h_S_ i).trans ?_
    rw [hb]
    refine congrArg (fun f : Fin 4096 → EReal => (Finset.univ : Finset (Fin 4096)).fold max (⊥ : EReal) f) (funext fun c => congrArg y (funext fun a => Fin.ext ?_))
    match a with
    | ⟨0, _⟩ => rfl
    | ⟨1, _⟩ => rfl
    | ⟨2, _⟩ => rfl
  rw [e]
  refine (fold_max_real _ (fun c => ?_) (i 1) ?_).symm
  · rw [v14_0 h0 h1]
    split
    · exact EReal.coe_ne_top _
    · exact bot_ne_top
  · rw [v14_0 h0 h1, if_pos (le_refl ((i 1).val / 64))]
    exact EReal.coe_ne_bot _

omit h0 h1 in
theorem v22 : val_main_v22 (F := Ideal) x0 x1 = val_main_v15 (F := Ideal) x0 x1 := funext fun i => by
  rw [val_main_v22_apply]
  have e : val_main_v21 (F := Ideal) i = (⊥ : EReal) := by rw [val_main_v21_apply]; exact lit_bot
  rw [e]
  exact max_eq_right bot_le

variable (hM : ∀ i, val_main_v15 (F := Ideal) x0 x1 i = ((A (i 0)).M (i 1) : EReal))
include hM

theorem v35 (i : S8x4096x4096.Idx) : val_main_v35 (F := Ideal) x0 x1 i = ((A (i 0)).ex (i 1) (i 2) : EReal) := by
  have e : val_main_v33 (F := Ideal) x0 x1 i = ((A (i 0)).M (i 1) : EReal) := by
    rw [val_main_v33_apply, val_main_v32_apply, v22]; exact hM _
  rw [val_main_v35_apply, val_main_v34_apply, v14_0 h0 h1, e]
  unfold ex
  by_cases h : sees (i 1).val (i 2).val
  · rw [if_pos h, if_pos h]
    exact expH (subF rfl rfl)
  · rw [if_neg h, if_neg h]
    exact (congrArg Ideal.exp (EReal.bot_sub ((A (i 0)).M (i 1) : EReal))).trans (Ideal.exp_bot.trans EReal.coe_zero.symm)

theorem v36 (i : S8x4096.Idx) : val_main_v36 (F := Ideal) x0 x1 i = ((A (i 0)).den (i 1) : EReal) := by
  rw [val_main_v36_apply]
  exact zeroAddC (z9 _) (sumC _ fun k => v35 h0 h1 hM _)

theorem v37 (i : S8x4096x1.Idx) : val_main_v37 (F := Ideal) x0 x1 i = ((A (i 0)).den (i 1) : EReal) := by
  rw [val_main_v37_apply]; exact v36 h0 h1 hM _

theorem v39 (i : S8x4096x4096.Idx) : val_main_v39 (F := Ideal) x0 x1 i = ((A (i 0)).pr (i 1) (i 2) : EReal) := by
  rw [val_main_v39_apply, val_main_v38_apply]
  exact divH (v35 h0 h1 hM i) (v37 h0 h1 hM _) ((A _).den_pos _).ne'

theorem v53 (i : S8x4096x4096.Idx) : val_main_v53 (F := Ideal) x0 x1 i
    = ((1 / ((A (i 0)).den (i 1) * (A (i 0)).den (i 1)) : ℝ) : EReal) := by
  rw [val_main_v53_apply, val_main_v42_apply, val_main_v40_apply]
  exact divH (v41 _) (mulF (v37 h0 h1 hM _) (v37 h0 h1 hM _)) (mul_ne_zero ((A _).den_pos _).ne' ((A _).den_pos _).ne')

include h2

theorem v45 (i : S4096x8x128.Idx) : val_main_v45 (F := Ideal) x0 x1 x2 i
    = ((∑ c, (A (i 1)).v c (i 2) * (A (i 1)).pr (i 0) c : ℝ) : EReal) := by
  rw [val_main_v45_apply, val_main_v44_apply]
  exact sumC _ fun k => mulC (v43 h2 _) (v39 h0 h1 hM _)

omit h0 h1 hM
include h3

theorem v49 (i : S8x4096x4096.Idx) : val_main_v49 (F := Ideal) x2 x3 i = ((A (i 0)).dp (i 1) (i 2) : EReal) := by
  rw [val_main_v49_apply]
  exact sumC _ fun k => mulC (by rw [val_main_v48_apply]; exact v47 h3 _) (v43 h2 _)

include h0 h1 hM

omit h2 in
theorem v52 (r : Fin 4096) (h : Fin 8) (d : Fin 128) : val_main_v76 (F := Ideal) x0 x1 x3 (ix2 r (col128 h d))
    = ((∑ c, (A h).g c d * (A h).pr c r : ℝ) : EReal) := by
  have e : idx_main_v52 (ix2 r (col128 h d)) = ix3 r h d := funext fun a => Fin.ext (by
    have n : (r.val * 1024 + (h.val * 128 + d.val)) = (r.val * 8 + h.val) * 128 + d.val := by ring
    match a with
    | ⟨0, _⟩ => show (r.val * 1024 + (h.val * 128 + d.val)) / 1024 = r.val; omega
    | ⟨1, _⟩ => show (r.val * 1024 + (h.val * 128 + d.val)) / 128 % 8 = h.val; omega
    | ⟨2, _⟩ => show (r.val * 1024 + (h.val * 128 + d.val)) % 128 = d.val; omega)
  rw [val_main_v76_apply]
  show val_main_v52 (F := Ideal) x0 x1 x3 _ = _
  rw [val_main_v52_apply, e, val_main_v51_apply, val_main_v50_apply]
  exact sumC _ fun k => mulC (by rw [val_main_v48_apply]; exact v47 h3 _) (v39 h0 h1 hM _)

theorem v62 (i : S8x4096x4096.Idx) : val_main_v62 (F := Ideal) x0 x1 x2 x3 i
    = ((-∑ e, (A (i 0)).dp (i 1) e * (1 / ((A (i 0)).den (i 1) * (A (i 0)).den (i 1))) * (A (i 0)).ex (i 1) e : ℝ) : EReal) := by
  rw [val_main_v62_apply, val_main_v61_apply, Fin.sum_univ_one]
  refine zeroAddC (z12 _) ?_
  rw [val_main_v58_apply, val_main_v57_apply, val_main_v56_apply]
  have e : idx_main_v57 (idx_main_v61 (idx_main_v62 i) 0) = ix2 (i 0) (i 1) := funext fun a => Fin.ext (by
    have a1 : (i 1).val < 4096 := (i 1).isLt
    match a with
    | ⟨0, _⟩ => show ((i 0).val * 4096 + (i 1).val) * 1 / 4096 = (i 0).val; omega
    | ⟨1, _⟩ => show ((i 0).val * 4096 + (i 1).val) * 1 % 4096 = (i 1).val; omega)
  rw [e]
  refine negH (zeroAddC (z11 _) (sumC _ fun k => ?_))
  rw [val_main_v55_apply, val_main_v54_apply]
  exact mulF (mulF (v49 h2 h3 _) (v53 h0 h1 hM _)) (v35 h0 h1 hM _)

theorem v67 (i : S8x4096x4096.Idx) : val_main_v67 (F := Ideal) x0 x1 x2 x3 i = ((A (i 0)).ds (i 1) (i 2) : EReal) := by
  rw [val_main_v67_apply]
  refine divH ?_ (v66 i) sqrt_ne
  rw [val_main_v65_apply]
  unfold Scalar.select
  by_cases h : sees (i 1).val (i 2).val
  · refine (if_pos ((v14_1 i).2 h)).trans ?_
    rw [if_pos h, val_main_v64_apply, val_main_v63_apply, val_main_v60_apply, val_main_v59_apply]
    exact mulF (addF (divH (v49 h2 h3 i) (v37 h0 h1 hM _) ((A _).den_pos _).ne') (v62 h0 h1 h2 h3 hM i)) (v35 h0 h1 hM i)
  · refine (if_neg (fun e => h ((v14_1 i).1 e))).trans ?_
    rw [if_neg h]
    exact w0 i

omit h0 h1 h2 h3 hM in
theorem e256 (r : Fin 4096) (h : Fin 8) (d : Fin 256) (n : ℕ) (hn : n = r.val * 2048 + (h.val * 256 + d.val)) :
    n / 2048 = r.val ∧ n / 256 % 8 = h.val ∧ n % 256 = d.val := by
  omega

/-- The key gradient. -/
theorem dk (r : Fin 4096) (h : Fin 8) (d : Fin 256) : val_main_v75 (F := Ideal) x0 x1 x2 x3 (ix2 r (col256 h d))
    = ((∑ c, (A h).ds c r * (A h).q c d : ℝ) : EReal) := by
  have e : idx_main_v72 (ix2 r (col256 h d)) = ix3 r h d := funext fun a => Fin.ext (by
    match a with
    | ⟨0, _⟩ => exact (e256 r h d _ rfl).1
    | ⟨1, _⟩ => exact (e256 r h d _ rfl).2.1
    | ⟨2, _⟩ => exact (e256 r h d _ rfl).2.2)
  rw [val_main_v75_apply]
  show val_main_v72 (F := Ideal) x0 x1 x2 x3 _ = _
  rw [val_main_v72_apply, e, val_main_v69_apply, val_main_v68_apply]
  exact sumC _ fun k => mulC (v67 h0 h1 h2 h3 hM _) (v0 h0 _)

/-- The query gradient. -/
theorem dq (r : Fin 4096) (h : Fin 8) (d : Fin 256) : val_main_v74 (F := Ideal) x0 x1 x2 x3 (ix2 r (col256 h d))
    = ((∑ c, (A h).ds r c * (A h).k c d : ℝ) : EReal) := by
  have e : idx_main_v73 (ix2 r (col256 h d)) = ix3 r h d := funext fun a => Fin.ext (by
    match a with
    | ⟨0, _⟩ => exact (e256 r h d _ rfl).1
    | ⟨1, _⟩ => exact (e256 r h d _ rfl).2.1
    | ⟨2, _⟩ => exact (e256 r h d _ rfl).2.2)
  rw [val_main_v74_apply]
  show val_main_v73 (F := Ideal) x0 x1 x2 x3 _ = _
  rw [val_main_v73_apply, e, val_main_v71_apply, val_main_v70_apply]
  exact sumC _ fun k => mulC (v67 h0 h1 h2 h3 hM _) (v1 h1 _)

end Cert.Attn.Ref

end
-- ==== Proof.AttnHost.lean ====
/-
  What the attention's gradient kernel is launched on, over the extended reals: the scaled queries, the row sums in base two
  and the deltas, which the host's operations make of the arguments. On real arguments they are the real numbers that
  `AttnReal.lean` names.
-/
module

public import proofs.«01_k».proof.Proof.AttnRef
public import proofs.«01_k».proof.Proof.AttnFrame
public import Idealize.ShloMosaic.Lib.StableHlo.Run

@[expose] public section

set_option maxRecDepth 16384

noncomputable section

namespace Cert.Attn.Host

open Cert.Kernel4Ideal Cert.Kernel4Ideal.Gen Cert.Lift Cert.Attn Cert.Attn.Head Cert.Attn.Ref
open Cert.Reference4Ideal.Read (val_main_v14_0 val_main_v15 val_main_v35 val_main_v36 val_main_v39 val_main_v43 val_main_v45 val_main_v47)
open Idealize.ShloMosaic Idealize.ShloMosaic.TcCoe Idealize.SL.Sem Idealize.ShloMosaic.StableHlo Idealize.ShloMosaic.ValueIdx

/-! ## The host's values -/

section

variable (y : FVec Ideal S8x4096x4096 .f32) (x0 x1 : FVec Ideal S4096x2048 .f32) (x2 x3 : FVec Ideal S4096x1024 .f32)

def maxs : FVec Ideal S8x4096 .f32 :=
  Host.reduce FloatOps.maximumf y (constant (F := Ideal) S_ .f32 0xFF800000#32) reducesTo_S8x4096x4096_S8x4096_d2 h_S_
def expd : FVec Ideal S8x4096x4096 .f32 :=
  Host.exp (subf y (broadcastInDim S8x4096x4096 ![0, 1, 2] bcast_S8x4096x1_S8x4096x4096_0_1_2
    (broadcastInDim S8x4096x1 ![0, 1] bcast_S8x4096_S8x4096x1_0_1 (maxs y))))
def sums : FVec Ideal S8x4096 .f32 :=
  Host.reduceAdd (expd y) (constant (F := Ideal) S_ .f32 0x00000000#32) reducesTo_S8x4096x4096_S8x4096_d2 h_S_
def probs : FVec Ideal S8x4096x4096 .f32 :=
  Host.divf (expd y) (broadcastInDim S8x4096x4096 ![0, 1, 2] bcast_S8x4096x1_S8x4096x4096_0_1_2
    (broadcastInDim S8x4096x1 ![0, 1] bcast_S8x4096_S8x4096x1_0_1 (sums y)))
def heads (x : FVec Ideal S4096x1024 .f32) : FVec Ideal S4096x8x128 .f32 := shapeCast S4096x8x128 x shapeCasts_S4096x1024_S4096x8x128
/-- The attention's output out of the probabilities `p`. -/
def outs (p : FVec Ideal S8x4096x4096 .f32) : FVec Ideal S4096x8x128 .f32 :=
  transpose S4096x8x128 [2, 0, 1] (Host.dotGeneral dot_S4096x8x128_S8x4096x4096_S8x128x4096_0_2_2_1_1_0 none
    (heads x2) p) transposes_S8x128x4096_S4096x8x128_2_0_1
def log2 : FVec Ideal S_ .f32 := Host.log (constant (F := Ideal) S_ .f32 0x40000000#32)
def lse (a b : FVec Ideal S8x4096 .f32) : FVec Ideal S8x4096 .f32 :=
  Host.divf (addf a (Host.log b)) (broadcastInDim S8x4096 ![] bcast_S_S8x4096 log2)
def rowDelta (p : FVec Ideal S8x4096x4096 .f32) : FVec Ideal S4096x8 .f32 :=
  Host.reduceAdd (mulf (heads x3) (outs x2 p)) (constant (F := Ideal) S_ .f32 0x00000000#32) reducesTo_S4096x8x128_S4096x8_d2 h_S_
def deltas (p : FVec Ideal S8x4096x4096 .f32) : FVec Ideal S8x4096 .f32 := transpose S8x4096 [1, 0] (rowDelta x2 x3 p) transposes_S4096x8_S8x4096_1_0
def den0 : FVec Ideal S_ .f32 := mulf (Host.sqrt (constant (F := Ideal) S_ .f32 0x43400000#32)) log2
def scaled : FVec Ideal S4096x2048 .f32 := Host.divf x0 (broadcastInDim S4096x2048 ![] bcast_S_S4096x2048 den0)
/-- A row of numbers per head, in each of eight sublanes. -/
def lanes (z : FVec Ideal S8x4096 .f32) : FVec Ideal S8x8x4096 .f32 :=
  broadcastInDim S8x8x4096 ![0, 1, 2] bcast_S8x1x4096_S8x8x4096_0_1_2 (broadcastInDim S8x1x4096 ![0, 2] bcast_S8x4096_S8x1x4096_0_2 z)

theorem maxs_eq : maxs (val_main_v14_0 (F := Ideal) x0 x1) = val_main_v15 (F := Ideal) x0 x1 := rfl
theorem expd_eq : expd (val_main_v14_0 (F := Ideal) x0 x1) = val_main_v35 (F := Ideal) x0 x1 := by
  unfold expd
  rw [maxs_eq, ← Ref.v22]
  rfl
theorem sums_eq : sums (val_main_v14_0 (F := Ideal) x0 x1) = val_main_v36 (F := Ideal) x0 x1 := by
  unfold sums
  rw [expd_eq]
  rfl
theorem probs_eq : probs (val_main_v14_0 (F := Ideal) x0 x1) = val_main_v39 (F := Ideal) x0 x1 := by
  unfold probs
  rw [expd_eq, sums_eq]
  rfl
theorem outs_eq : outs x2 (val_main_v39 (F := Ideal) x0 x1) = val_main_v45 (F := Ideal) x0 x1 x2 := rfl

end

section

variable {x0 x1 : FVec Ideal S4096x2048 .f32} {x2 x3 : FVec Ideal S4096x1024 .f32} {A : Fin 8 → Head}
variable (h0 : ∀ r h d, x0 (ix2 r (col256 h d)) = ((A h).q r d : EReal)) (h1 : ∀ r h d, x1 (ix2 r (col256 h d)) = ((A h).k r d : EReal))
  (h2 : ∀ r h d, x2 (ix2 r (col128 h d)) = ((A h).v r d : EReal)) (h3 : ∀ r h d, x3 (ix2 r (col128 h d)) = ((A h).g r d : EReal))
  (hM : ∀ i, val_main_v15 (F := Ideal) x0 x1 i = ((A (i 0)).M (i 1) : EReal))

theorem log2_apply (i) : log2 i = ((Real.log 2 : ℝ) : EReal) := logH lit_two (by norm_num)
theorem den0_apply (i) : den0 i = ((Real.sqrt 192 * Real.log 2 : ℝ) : EReal) := mulF (sqrtH lit_192 (by norm_num)) (log2_apply i)

theorem bcast0 {t : Shape} (hb : S_.BroadcastsInDim t ![]) (y : FVec Ideal S_ .f32) (i : t.Idx) (j : S_.Idx) : broadcastInDim t ![] hb y i = y j :=
  broadcastInDim_apply _ hb y i j (fun a => a.elim0)

include h0 in
theorem scaled_apply (r : Fin 4096) (h : Fin 8) (d : Fin 256) :
    scaled x0 (ix2 r (col256 h d)) = (((A h).q r d / (Real.sqrt 192 * Real.log 2) : ℝ) : EReal) :=
  divH (h0 r h d) ((bcast0 _ den0 _ (fun a => a.elim0)).trans (den0_apply _)) (mul_ne_zero sqrt_ne log_ne)

theorem lse_real {a b : FVec Ideal S8x4096 .f32} {i : S8x4096.Idx} {p q : ℝ} (ha : a i = (p : EReal)) (hb : b i = (q : EReal)) (hq : 0 < q) :
    lse a b i = (((p + Real.log q) / Real.log 2 : ℝ) : EReal) := by
  unfold lse
  exact divH (addF ha (logH hb hq)) ((bcast0 _ log2 _ (fun a => a.elim0)).trans (log2_apply _)) log_ne

include h0 h1 hM in
theorem lse_apply (i : S8x4096.Idx) : lse (val_main_v15 (F := Ideal) x0 x1) (val_main_v36 (F := Ideal) x0 x1) i = ((((A (i 0)).M (i 1) + Real.log ((A (i 0)).den (i 1))) / Real.log 2 : ℝ) : EReal) :=
  lse_real (hM i) (Ref.v36 h0 h1 hM i) ((A (i 0)).den_pos (i 1))

include h0 h1 h2 h3 hM in
theorem rowDelta_apply (i : S4096x8.Idx) : rowDelta x2 x3 (val_main_v39 (F := Ideal) x0 x1) i = ((A (i 1)).delta (i 0) : EReal) := by
  have e : rowDelta x2 x3 (val_main_v39 (F := Ideal) x0 x1) i = (constant (F := Ideal) S_ .f32 0x00000000#32) (Shape.Idx.first h_S_)
      + ∑ d : Fin 128, mulf (heads x3) (outs x2 (val_main_v39 (F := Ideal) x0 x1)) (ix3 (i 0) (i 1) d) := by
    unfold rowDelta
    generalize mulf (heads x3) (outs x2 (val_main_v39 (F := Ideal) x0 x1)) = y
    simp only [Host.reduceAdd, Ideal.hostReduceAdd_def]
    rw [Ideal.hostReduceAdd_single reducesTo_S4096x8x128_S4096x8_d2 (by decide)]
    refine congrArg (_ + ·) (Finset.sum_congr rfl fun d _ => congrArg y (funext fun a => Fin.ext ?_))
    match a with
    | ⟨0, _⟩ => rfl
    | ⟨1, _⟩ => rfl
    | ⟨2, _⟩ => rfl
  rw [e]
  exact zeroAddC Ideal.ofBits_zero_f32 (sumC _ fun d => mulF (Ref.v47 h3 _) ((congrFun (outs_eq x0 x1 x2) _).trans (Ref.v45 h0 h1 h2 hM _)))

include h0 h1 h2 h3 hM in
theorem deltas_apply (i : S8x4096.Idx) : deltas x2 x3 (val_main_v39 (F := Ideal) x0 x1) i = ((A (i 0)).delta (i 1) : EReal) :=
  (transpose_apply (s := S4096x8) (t := S8x4096) [1, 0] (rowDelta x2 x3 (val_main_v39 (F := Ideal) x0 x1)) transposes_S4096x8_S8x4096_1_0 i (ix2 (i 1) (i 0))
    (fun b => match b with | ⟨0, _⟩ => rfl | ⟨1, _⟩ => rfl)).trans (rowDelta_apply h0 h1 h2 h3 hM _)

theorem lanes_apply (y : FVec Ideal S8x4096 .f32) (i : S8x8x4096.Idx) : lanes y i = y (ix2 (i 0) (i 2)) := by
  unfold lanes
  refine (broadcastInDim_apply _ bcast_S8x1x4096_S8x8x4096_0_1_2 _ i (ix3 (i 0) (0 : Fin 1) (i 2)) (fun a => match a with
    | ⟨0, _⟩ => by show (i 0).val = if (8 : ℕ) = 1 then 0 else (i 0).val; rw [if_neg (by decide)]
    | ⟨1, _⟩ => by show 0 = if (1 : ℕ) = 1 then 0 else (i 1).val; rw [if_pos rfl]
    | ⟨2, _⟩ => by show (i 2).val = if (4096 : ℕ) = 1 then 0 else (i 2).val; rw [if_neg (by decide)])).trans ?_
  exact broadcastInDim_apply _ bcast_S8x4096_S8x1x4096_0_2 y _ (ix2 (i 0) (i 2)) (fun a => match a with
    | ⟨0, _⟩ => by show (i 0).val = if (8 : ℕ) = 1 then 0 else (i 0).val; rw [if_neg (by decide)]
    | ⟨1, _⟩ => by show (i 2).val = if (4096 : ℕ) = 1 then 0 else (i 2).val; rw [if_neg (by decide)])

end

/-! ## The buffers at the launch -/

variable (m : (ℓ : Loc nD τ sig) → Buf (Elt Ideal) ℓ) (c : Dev nD)

abbrev A0 : FVec Ideal S4096x2048 .f32 := m ((c : Thread nD τ).loc main_arg0)
abbrev A1 : FVec Ideal S4096x2048 .f32 := m ((c : Thread nD τ).loc main_arg1)
abbrev A2 : FVec Ideal S4096x1024 .f32 := m ((c : Thread nD τ).loc main_arg2)
abbrev A3 : FVec Ideal S4096x1024 .f32 := m ((c : Thread nD τ).loc main_arg3)

variable (W : Valuation τ sig (Elt Ideal))

/-! Of any contents `W`, the last stretch of the host's operations makes these of the masked scores in `main_v14`. -/

theorem a15 : after ((hostOps0_2 (F := Ideal)).take 17) W main_v15 = maxs (W main_v14) := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem a20 : after ((hostOps0_2 (F := Ideal)).take 17) W main_v20 = sums (W main_v14) := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem a28 : after ((hostOps0_2 (F := Ideal)).take 17) W main_v28 = probs (W main_v14) := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem a25 : after ((hostOps0_2 (F := Ideal)).take 17) W main_v25 = lse (maxs (W main_v14)) (sums (W main_v14)) := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem aa0 : after ((hostOps0_2 (F := Ideal)).take 17) W main_arg0 = W main_arg0 := by
  simp only [hostOps0_2, List.take_succ_cons, List.take_zero, List.drop_succ_cons, List.drop_zero,
    TRef.binary, TRef.nullary, TRef.unary, TRef.ternary, TRef.toBuf, TRef.ofBuf, cast_eq]
  after_results_simp
theorem aa1 : after ((hostOps0_2 (F := Ideal)).take 17) W main_arg1 = W main_arg1 := by
  simp only [hostOps0_2, List.take_succ_cons, List.take_zero, List.drop_succ_cons, List.drop_zero,
    TRef.binary, TRef.nullary, TRef.unary, TRef.ternary, TRef.toBuf, TRef.ofBuf, cast_eq]
  after_results_simp
theorem aa2 : after ((hostOps0_2 (F := Ideal)).take 17) W main_arg2 = W main_arg2 := by
  simp only [hostOps0_2, List.take_succ_cons, List.take_zero, List.drop_succ_cons, List.drop_zero,
    TRef.binary, TRef.nullary, TRef.unary, TRef.ternary, TRef.toBuf, TRef.ofBuf, cast_eq]
  after_results_simp
theorem aa3 : after ((hostOps0_2 (F := Ideal)).take 17) W main_arg3 = W main_arg3 := by
  simp only [hostOps0_2, List.take_succ_cons, List.take_zero, List.drop_succ_cons, List.drop_zero,
    TRef.binary, TRef.nullary, TRef.unary, TRef.ternary, TRef.toBuf, TRef.ofBuf, cast_eq]
  after_results_simp

theorem b41 : after ((hostOps0_2 (F := Ideal)).drop 17) W main_v41 = truncf (F := Ideal) .bf16 (scaled (W main_arg0)) bitsLt_bf16_f32 := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem b42 : after ((hostOps0_2 (F := Ideal)).drop 17) W main_v42 = truncf (F := Ideal) .bf16 (W main_arg1) bitsLt_bf16_f32 := by
  simp only [hostOps0_2, List.take_succ_cons, List.take_zero, List.drop_succ_cons, List.drop_zero,
    TRef.binary, TRef.nullary, TRef.unary, TRef.ternary, TRef.toBuf, TRef.ofBuf, cast_eq]
  after_results_simp
theorem b43 : after ((hostOps0_2 (F := Ideal)).drop 17) W main_v43 = truncf (F := Ideal) .bf16 (W main_arg2) bitsLt_bf16_f32 := by
  simp only [hostOps0_2, List.take_succ_cons, List.take_zero, List.drop_succ_cons, List.drop_zero,
    TRef.binary, TRef.nullary, TRef.unary, TRef.ternary, TRef.toBuf, TRef.ofBuf, cast_eq]
  after_results_simp
theorem b44 : after ((hostOps0_2 (F := Ideal)).drop 17) W main_v44 = truncf (F := Ideal) .bf16 (W main_arg3) bitsLt_bf16_f32 := by
  simp only [hostOps0_2, List.take_succ_cons, List.take_zero, List.drop_succ_cons, List.drop_zero,
    TRef.binary, TRef.nullary, TRef.unary, TRef.ternary, TRef.toBuf, TRef.ofBuf, cast_eq]
  after_results_simp
theorem b46 : after ((hostOps0_2 (F := Ideal)).drop 17) W main_v46 = lanes (W main_v25) := by
  simp only [hostOps0_2, List.take_succ_cons, List.take_zero, List.drop_succ_cons, List.drop_zero,
    TRef.binary, TRef.nullary, TRef.unary, TRef.ternary, TRef.toBuf, TRef.ofBuf, cast_eq]
  after_results_simp
  rfl
theorem b48 : after ((hostOps0_2 (F := Ideal)).drop 17) W main_v48 = lanes (deltas (W main_arg2) (W main_arg3) (W main_v28)) := by
  simp only [hostOps0_2, List.take_succ_cons, List.take_zero, List.drop_succ_cons, List.drop_zero,
    TRef.binary, TRef.nullary, TRef.unary, TRef.ternary, TRef.toBuf, TRef.ofBuf, cast_eq]
  after_results_simp
  rfl

theorem c14 : after hostOps0_1 (after hostOps0 W) main_v14 = val_main_v14_0 (F := Ideal) (W main_arg0) (W main_arg1) := by
  simp only [hostOps0, hostOps0_1, List.take_succ_cons, List.take_zero, List.drop_succ_cons, List.drop_zero,
    TRef.binary, TRef.nullary, TRef.unary, TRef.ternary, TRef.toBuf, TRef.ofBuf, cast_eq]
  after_results_simp
  rfl
theorem c0 : after hostOps0_1 (after hostOps0 W) main_arg0 = W main_arg0 := by
  simp only [hostOps0, hostOps0_1, List.take_succ_cons, List.take_zero, List.drop_succ_cons, List.drop_zero,
    TRef.binary, TRef.nullary, TRef.unary, TRef.ternary, TRef.toBuf, TRef.ofBuf, cast_eq]
  after_results_simp
theorem c1 : after hostOps0_1 (after hostOps0 W) main_arg1 = W main_arg1 := by
  simp only [hostOps0, hostOps0_1, List.take_succ_cons, List.take_zero, List.drop_succ_cons, List.drop_zero,
    TRef.binary, TRef.nullary, TRef.unary, TRef.ternary, TRef.toBuf, TRef.ofBuf, cast_eq]
  after_results_simp
theorem c2 : after hostOps0_1 (after hostOps0 W) main_arg2 = W main_arg2 := by
  simp only [hostOps0, hostOps0_1, List.take_succ_cons, List.take_zero, List.drop_succ_cons, List.drop_zero,
    TRef.binary, TRef.nullary, TRef.unary, TRef.ternary, TRef.toBuf, TRef.ofBuf, cast_eq]
  after_results_simp
theorem c3 : after hostOps0_1 (after hostOps0 W) main_arg3 = W main_arg3 := by
  simp only [hostOps0, hostOps0_1, List.take_succ_cons, List.take_zero, List.drop_succ_cons, List.drop_zero,
    TRef.binary, TRef.nullary, TRef.unary, TRef.ternary, TRef.toBuf, TRef.ofBuf, cast_eq]
  after_results_simp

/-! ## The launch's buffers -/

theorem after_app (l₁ l₂ : List (HloOp τ sig (Elt Ideal))) (W : Valuation τ sig (Elt Ideal)) : after (l₁ ++ l₂) W = after l₂ (after l₁ W) := by
  induction l₁ generalizing W with
  | nil => rfl
  | cons a l ih => exact ih _

/-- The contents after the first stretch of the last operations. -/
def mid : Valuation τ sig (Elt Ideal) := after ((hostOps0_2 (F := Ideal)).take 17) (after hostOps0_1 (after hostOps0 (fun b => m (c, b))))

theorem V_mid (b : Ref sig .tc) : V m c b = after ((hostOps0_2 (F := Ideal)).drop 17) (mid m c) b := by
  have e : after (List.flatten [hostOps0, hostOps0_1, hostOps0_2]) (fun b => m (c, b))
      = after ((hostOps0_2 (F := Ideal)).drop 17) (mid m c) := by
    rw [List.flatten_cons, List.flatten_cons, List.flatten_cons, List.flatten_nil, List.append_nil, after_app, after_app]
    exact (congrArg (fun l => after l (after hostOps0_1 (after hostOps0 (fun b => m (c, b))))) (List.take_append_drop 17 (hostOps0_2 (F := Ideal))).symm).trans (after_app _ _ _)
  exact congrFun e _

theorem mid0 : mid m c main_arg0 = A0 m c := (aa0 _).trans (c0 _)
theorem mid1 : mid m c main_arg1 = A1 m c := (aa1 _).trans (c1 _)
theorem mid2 : mid m c main_arg2 = A2 m c := (aa2 _).trans (c2 _)
theorem mid3 : mid m c main_arg3 = A3 m c := (aa3 _).trans (c3 _)
theorem mid25 : mid m c main_v25 = lse (val_main_v15 (F := Ideal) (A0 m c) (A1 m c)) (val_main_v36 (F := Ideal) (A0 m c) (A1 m c)) :=
  (a25 _).trans (congrArg₂ lse ((congrArg maxs (c14 _)).trans (maxs_eq _ _)) ((congrArg sums (c14 _)).trans (sums_eq _ _)))
theorem mid28 : mid m c main_v28 = val_main_v39 (F := Ideal) (A0 m c) (A1 m c) :=
  (a28 _).trans ((congrArg probs (c14 _)).trans (probs_eq _ _))

theorem v41 : V m c main_v41 = truncf (F := Ideal) .bf16 (scaled (A0 m c)) bitsLt_bf16_f32 :=
  (V_mid m c main_v41).trans ((b41 _).trans (congrArg (fun x => truncf (F := Ideal) .bf16 (scaled x) bitsLt_bf16_f32) (mid0 m c)))
theorem v42 : V m c main_v42 = truncf (F := Ideal) .bf16 (A1 m c) bitsLt_bf16_f32 :=
  (V_mid m c main_v42).trans ((b42 _).trans (congrArg (fun x => truncf (F := Ideal) .bf16 x bitsLt_bf16_f32) (mid1 m c)))
theorem v43 : V m c main_v43 = truncf (F := Ideal) .bf16 (A2 m c) bitsLt_bf16_f32 :=
  (V_mid m c main_v43).trans ((b43 _).trans (congrArg (fun x => truncf (F := Ideal) .bf16 x bitsLt_bf16_f32) (mid2 m c)))
theorem v44 : V m c main_v44 = truncf (F := Ideal) .bf16 (A3 m c) bitsLt_bf16_f32 :=
  (V_mid m c main_v44).trans ((b44 _).trans (congrArg (fun x => truncf (F := Ideal) .bf16 x bitsLt_bf16_f32) (mid3 m c)))
theorem v46 : V m c main_v46 = lanes (lse (val_main_v15 (F := Ideal) (A0 m c) (A1 m c)) (val_main_v36 (F := Ideal) (A0 m c) (A1 m c))) :=
  (V_mid m c main_v46).trans ((b46 _).trans (congrArg lanes (mid25 m c)))
theorem v48 : V m c main_v48 = lanes (deltas (A2 m c) (A3 m c) (val_main_v39 (F := Ideal) (A0 m c) (A1 m c))) := by
  refine (V_mid m c main_v48).trans ((b48 _).trans ?_)
  rw [mid2, mid3, mid28]

end Cert.Attn.Host

end
-- ==== Proof.AttnGrid.lean ====
/-
  The attention's gradient kernel over its grid, on real arguments: the points of a head, in order, gather the query gradient in
  the scratch, and each leaves its block of the key and value gradients; the three result arrays are the reference's.
-/
module

public import proofs.«01_k».proof.Proof.AttnHost
public import proofs.«01_k».proof.Proof.AttnPoint
public import proofs.«01_k».proof.Proof.Finite
public import Idealize.ShloMosaic.Lib.Pipeline.Value

@[expose] public section

set_option maxRecDepth 16384

noncomputable section

namespace Cert.Attn.Grid

open Cert.Kernel4Ideal Cert.Kernel4Ideal.Gen Cert.Lift Cert.Attn Cert.Attn.Head
open Cert.Attn.Ref (col256 col128)
open Cert.Attn.Host (A0 A1 A2 A3)
open Cert.Reference4Ideal.Read (val_main_v15 val_main_v36 val_main_v74 val_main_v75 val_main_v76)
open Idealize.ShloMosaic Idealize.ShloMosaic.TcCoe Idealize.SL.Sem Idealize.ShloMosaic.ValueIdx

/-! ## The windows -/

theorem idx_in : ∀ t : Fin cfg0.N,
    (win0_0.index t (0 : Fin 2) = 0 ∧ win0_0.index t (1 : Fin 2) = t.val / 8)
    ∧ (win0_1.index t (0 : Fin 2) = t.val % 8 ∧ win0_1.index t (1 : Fin 2) = t.val / 8)
    ∧ (win0_2.index t (0 : Fin 2) = t.val % 8 ∧ win0_2.index t (1 : Fin 2) = t.val / 8)
    ∧ (win0_3.index t (0 : Fin 2) = 0 ∧ win0_3.index t (1 : Fin 2) = t.val / 8)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0) :=
  (by decide +kernel : ∀ t : Fin grid0.N, _)

theorem idx_out : ∀ t : Fin cfg0.N,
    (win0_6.index t (0 : Fin 2) = 0 ∧ win0_6.index t (1 : Fin 2) = t.val / 8)
    ∧ (win0_7.index t (0 : Fin 2) = t.val % 8 ∧ win0_7.index t (1 : Fin 2) = t.val / 8)
    ∧ (win0_8.index t (0 : Fin 2) = t.val % 8 ∧ win0_8.index t (1 : Fin 2) = t.val / 8) :=
  (by decide +kernel : ∀ t : Fin grid0.N, _)

section Emb

variable {t : Fin cfg0.N} {h : Fin 8} {j : ℕ} (ht : t.val = h.val * 8 + j) (hj : j < 8)

include ht hj in
theorem div_eq : t.val / 8 = h.val := by omega
include ht hj in
theorem mod_eq : t.val % 8 = j := by omega

include ht hj in
theorem key (r : Fin 512) : j * 512 + r.val < 4096 := by omega

include ht hj

theorem emb0 (y : S4096x256.Idx) : ((cfg0.win 0).blk t).view.emb y = ix2 (y 0) (col256 h (y 1)) := by
  have hi := (idx_in t).1
  funext a; apply Fin.ext
  match a with
  | ⟨0, _⟩ => show win0_0.index t (0 : Fin 2) * 4096 + 1 * (y 0).val = (y 0).val; rw [hi.1]; omega
  | ⟨1, _⟩ => show win0_0.index t (1 : Fin 2) * 256 + 1 * (y 1).val = h.val * 256 + (y 1).val; rw [hi.2, div_eq ht hj]; omega
theorem emb1 (y : S512x256.Idx) : ((cfg0.win 1).blk t).view.emb y = ix2 (row (j * 512 + (y 0).val)) (col256 h (y 1)) := by
  have hi := (idx_in t).2.1
  funext a; apply Fin.ext
  match a with
  | ⟨0, _⟩ => show win0_1.index t (0 : Fin 2) * 512 + 1 * (y 0).val = (row _).val; rw [hi.1, mod_eq ht hj, row_mod (key ht hj (y 0))]; omega
  | ⟨1, _⟩ => show win0_1.index t (1 : Fin 2) * 256 + 1 * (y 1).val = h.val * 256 + (y 1).val; rw [hi.2, div_eq ht hj]; omega
theorem emb2 (y : S512x128.Idx) : ((cfg0.win 2).blk t).view.emb y = ix2 (row (j * 512 + (y 0).val)) (col128 h (y 1)) := by
  have hi := (idx_in t).2.2.1
  funext a; apply Fin.ext
  match a with
  | ⟨0, _⟩ => show win0_2.index t (0 : Fin 2) * 512 + 1 * (y 0).val = (row _).val; rw [hi.1, mod_eq ht hj, row_mod (key ht hj (y 0))]; omega
  | ⟨1, _⟩ => show win0_2.index t (1 : Fin 2) * 128 + 1 * (y 1).val = h.val * 128 + (y 1).val; rw [hi.2, div_eq ht hj]; omega
theorem emb3 (y : S4096x128.Idx) : ((cfg0.win 3).blk t).view.emb y = ix2 (y 0) (col128 h (y 1)) := by
  have hi := (idx_in t).2.2.2.1
  funext a; apply Fin.ext
  match a with
  | ⟨0, _⟩ => show win0_3.index t (0 : Fin 2) * 4096 + 1 * (y 0).val = (y 0).val; rw [hi.1]; omega
  | ⟨1, _⟩ => show win0_3.index t (1 : Fin 2) * 128 + 1 * (y 1).val = h.val * 128 + (y 1).val; rw [hi.2, div_eq ht hj]; omega
theorem emb4 (y : S1x8x4096.Idx) : ((cfg0.win 4).blk t).view.emb y = ix3 h (y 1) (y 2) := by
  have hi := (idx_in t).2.2.2.2.1
  have b0 : (y 0).val < 1 := (y 0).isLt
  funext a; apply Fin.ext
  match a with
  | ⟨0, _⟩ => show win0_4.index t (0 : Fin 3) * 1 + 1 * (y 0).val = h.val; rw [hi.1, div_eq ht hj]; omega
  | ⟨1, _⟩ => show win0_4.index t (1 : Fin 3) * 8 + 1 * (y 1).val = (y 1).val; rw [hi.2.1]; omega
  | ⟨2, _⟩ => show win0_4.index t (2 : Fin 3) * 4096 + 1 * (y 2).val = (y 2).val; rw [hi.2.2]; omega
theorem emb5 (y : S1x8x4096.Idx) : ((cfg0.win 5).blk t).view.emb y = ix3 h (y 1) (y 2) := by
  have hi := (idx_in t).2.2.2.2.2
  have b0 : (y 0).val < 1 := (y 0).isLt
  funext a; apply Fin.ext
  match a with
  | ⟨0, _⟩ => show win0_5.index t (0 : Fin 3) * 1 + 1 * (y 0).val = h.val; rw [hi.1, div_eq ht hj]; omega
  | ⟨1, _⟩ => show win0_5.index t (1 : Fin 3) * 8 + 1 * (y 1).val = (y 1).val; rw [hi.2.1]; omega
  | ⟨2, _⟩ => show win0_5.index t (2 : Fin 3) * 4096 + 1 * (y 2).val = (y 2).val; rw [hi.2.2]; omega
theorem emb6 (y : S4096x256.Idx) : ((cfg0.win 6).blk t).view.emb y = ix2 (y 0) (col256 h (y 1)) := by
  have hi := (idx_out t).1
  funext a; apply Fin.ext
  match a with
  | ⟨0, _⟩ => show win0_6.index t (0 : Fin 2) * 4096 + 1 * (y 0).val = (y 0).val; rw [hi.1]; omega
  | ⟨1, _⟩ => show win0_6.index t (1 : Fin 2) * 256 + 1 * (y 1).val = h.val * 256 + (y 1).val; rw [hi.2, div_eq ht hj]; omega
theorem emb7 (y : S512x256.Idx) : ((cfg0.win 7).blk t).view.emb y = ix2 (row (j * 512 + (y 0).val)) (col256 h (y 1)) := by
  have hi := (idx_out t).2.1
  funext a; apply Fin.ext
  match a with
  | ⟨0, _⟩ => show win0_7.index t (0 : Fin 2) * 512 + 1 * (y 0).val = (row _).val; rw [hi.1, mod_eq ht hj, row_mod (key ht hj (y 0))]; omega
  | ⟨1, _⟩ => show win0_7.index t (1 : Fin 2) * 256 + 1 * (y 1).val = h.val * 256 + (y 1).val; rw [hi.2, div_eq ht hj]; omega
theorem emb8 (y : S512x128.Idx) : ((cfg0.win 8).blk t).view.emb y = ix2 (row (j * 512 + (y 0).val)) (col128 h (y 1)) := by
  have hi := (idx_out t).2.2
  funext a; apply Fin.ext
  match a with
  | ⟨0, _⟩ => show win0_8.index t (0 : Fin 2) * 512 + 1 * (y 0).val = (row _).val; rw [hi.1, mod_eq ht hj, row_mod (key ht hj (y 0))]; omega
  | ⟨1, _⟩ => show win0_8.index t (1 : Fin 2) * 128 + 1 * (y 1).val = h.val * 128 + (y 1).val; rw [hi.2, div_eq ht hj]; omega

end Emb

/-! ## A point on real arguments -/

variable (m : (ℓ : Loc nD τ sig) → Buf (Elt Ideal) ℓ) (c : Dev nD) {A : Fin 8 → Head}

/-- Device `c`'s arguments are the heads' numbers. -/
structure Args (A : Fin 8 → Head) : Prop where
  q : ∀ r h d, A0 m c (ix2 r (col256 h d)) = ((A h).q r d : EReal)
  k : ∀ r h d, A1 m c (ix2 r (col256 h d)) = ((A h).k r d : EReal)
  v : ∀ r h d, A2 m c (ix2 r (col128 h d)) = ((A h).v r d : EReal)
  g : ∀ r h d, A3 m c (ix2 r (col128 h d)) = ((A h).g r d : EReal)
  M : ∀ i, val_main_v15 (F := Ideal) (A0 m c) (A1 m c) i = ((A (i 0)).M (i 1) : EReal)

section Point

variable {m c} (H : Args m c A) {t : Fin cfg0.N} {h : Fin 8} {j : ℕ} (ht : t.val = h.val * 8 + j) (hj : j < 8)

include H ht hj

theorem blk0 (i : S4096x256.Idx) : iblk m c 0 t i = (((A h).q (row (i 0).val) (i 1) / (Real.sqrt 192 * Real.log 2) : ℝ) : EReal) := by
  rw [row_val (i 0)]
  exact ((congrArg (V m c main_v41) (emb0 ht hj i)).trans (congrFun (Host.v41 m c) _)).trans (Host.scaled_apply H.q (i 0) h (i 1))
theorem blk1 (i : S512x256.Idx) : iblk m c 1 t i = ((A h).k (row (j * 512 + (i 0).val)) (i 1) : EReal) :=
  ((congrArg (V m c main_v42) (emb1 ht hj i)).trans (congrFun (Host.v42 m c) _)).trans (H.k _ h (i 1))
theorem blk2 (i : S512x128.Idx) : iblk m c 2 t i = ((A h).v (row (j * 512 + (i 0).val)) (i 1) : EReal) :=
  ((congrArg (V m c main_v43) (emb2 ht hj i)).trans (congrFun (Host.v43 m c) _)).trans (H.v _ h (i 1))
theorem blk3 (i : S4096x128.Idx) : iblk m c 3 t i = ((A h).g (row (i 0).val) (i 1) : EReal) := by
  rw [row_val (i 0)]
  exact ((congrArg (V m c main_v44) (emb3 ht hj i)).trans (congrFun (Host.v44 m c) _)).trans (H.g (i 0) h (i 1))
theorem blk4 (i : S1x8x4096.Idx) : iblk m c 4 t i
    = ((((A h).M (row (i 2).val) + Real.log ((A h).den (row (i 2).val))) / Real.log 2 : ℝ) : EReal) := by
  rw [row_val (i 2)]
  refine ((congrArg (V m c main_v46) (emb4 ht hj i)).trans (congrFun (Host.v46 m c) _)).trans ((Host.lanes_apply _ _).trans ?_)
  exact Host.lse_apply H.q H.k H.M (ix2 h (i 2))
theorem blk5 (i : S1x8x4096.Idx) : iblk m c 5 t i = ((A h).delta (row (i 2).val) : EReal) := by
  rw [row_val (i 2)]
  refine ((congrArg (V m c main_v48) (emb5 ht hj i)).trans (congrFun (Host.v48 m c) _)).trans ((Host.lanes_apply _ _).trans ?_)
  exact Host.deltas_apply H.q H.k H.v H.g H.M (ix2 h (i 2))

theorem has : Has ((A h).tab (j * 512)) (ins m c t) := by
  have e0 := blk0 H ht hj
  have e1 := blk1 H ht hj
  have e2 := blk2 H ht hj
  have e3 := blk3 H ht hj
  have e4 := blk4 H ht hj
  have e5 := blk5 H ht hj
  unfold ins
  generalize iblk m c 0 t = x0 at *
  generalize iblk m c 1 t = x1 at *
  generalize iblk m c 2 t = x2 at *
  generalize iblk m c 3 t = x3 at *
  generalize iblk m c 4 t = x4 at *
  generalize iblk m c 5 t = x5 at *
  refine Has.mk ?_ ?_ ?_ ?_ ?_ ?_
  · exact e0
  · exact e1
  · exact e2
  · exact e3
  · exact e4
  · exact e5

end Point

theorem zero_scr (i : S256x4096.Idx) : k0_pay36 (F := Ideal) i = ((0 : ℝ) : EReal) :=
  (congrFun (shapeCast_self (broadcast S256x4096 (Scalar.ofBits (F := Ideal) .f32 0x00000000#32)) shapeCasts_S256x4096_S256x4096) i).trans lit_zero

variable {m c} in
/-- What the points of a head have gathered after its block `j`. -/
theorem gathered (H : Args m c A) (h : Fin 8) (j : ℕ) (hj : j < 8) (t : Fin cfg0.N) (ht : t.val = h.val * 8 + j) :
    Upto ((A h).tab (j * 512)) ((A h).upto j) 4096 (Cert.Attn.out m c t) := by
  have hb : ((A h).tab (j * 512)).base = t.val % 8 * 512 := by rw [mod_eq ht hj]; rfl
  induction j generalizing t with
  | zero =>
    unfold Cert.Attn.out pointVal
    refine block_upto (has H ht hj) hb fun i => ?_
    unfold startScr
    rw [if_pos ((first_iff t).2 (mod_eq ht hj))]
    exact zero_scr i
  | succ j ih =>
    have lt := t.isLt
    have ht' : (⟨h.val * 8 + j, by omega⟩ : Fin cfg0.N).val = h.val * 8 + j := rfl
    have u := ih (by omega) ⟨h.val * 8 + j, by omega⟩ ht' (by rw [mod_eq ht' (by omega)]; rfl)
    unfold Cert.Attn.out pointVal
    refine block_upto (has H ht hj) hb fun i => ?_
    unfold startScr
    rw [if_neg (fun e => by have := (first_iff t).1 e; omega)]
    have e : st m c t.val = (Cert.Attn.out m c ⟨h.val * 8 + j, by omega⟩).2 :=
      (congrArg (st m c) ht).trans (st_succ m c ⟨h.val * 8 + j, by omega⟩)
    rw [e]
    exact (u.sc i).trans (congrArg (fun z : ℝ => (z : EReal)) (scr_eq (A h) j (i 0) (i 1).val (i 1).isLt))

/-! ## The blocks written back -/

theorem flushed6 (t : Fin cfg0.N) : (dats m 0 c).flushed 6 t = (cfg0.win 6).cut (grid0.coords t) (k0_pay1 (Cert.Attn.out m c t).2) := by
  show (cfg0.win 6).cut (grid0.coords t) ((dats m 0 c).after 6 t) = _
  rw [after_6]
theorem flushed7 (t : Fin cfg0.N) : (dats m 0 c).flushed 7 t = (cfg0.win 7).cut (grid0.coords t) (k0_pay56 (Cert.Attn.out m c t).1.1) := by
  show (cfg0.win 7).cut (grid0.coords t) ((dats m 0 c).after 7 t) = _
  rw [after_7]
theorem flushed8 (t : Fin cfg0.N) : (dats m 0 c).flushed 8 t = (cfg0.win 8).cut (grid0.coords t) (k0_pay57 (Cert.Attn.out m c t).1.2) := by
  show (cfg0.win 8).cut (grid0.coords t) ((dats m 0 c).after 8 t) = _
  rw [after_8]

theorem idx_inj6 : ∀ t t' : Fin cfg0.N, t.val % 8 = 7 → t'.val % 8 = 7 → win0_6.index t = win0_6.index t' → t = t' := fun t t' a a' e => by
  have i0 := (idx_out t).1.2
  have i1 := (idx_out t').1.2
  rw [e] at i0
  exact Fin.ext (by omega)
theorem idx_inj7 : ∀ t t' : Fin cfg0.N, win0_7.index t = win0_7.index t' → t = t' := fun t t' e => by
  have i0 := (idx_out t).2.1
  have i1 := (idx_out t').2.1
  rw [e] at i0
  exact Fin.ext (by omega)
theorem idx_inj8 : ∀ t t' : Fin cfg0.N, win0_8.index t = win0_8.index t' → t = t' := fun t t' e => by
  have i0 := (idx_out t).2.2
  have i1 := (idx_out t').2.2
  rw [e] at i0
  exact Fin.ext (by omega)

theorem blocks6 (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 (fun t t' f f' hne => (cfg0.win 6).disjoint_blk fun h => hne (idx_inj6 t t' ((flush0_6 t).1 f) ((flush0_6 t').1 f') h))
    cfg0.N t t.isLt hf
theorem blocks7 (t : Fin cfg0.N) :
    ((cfg0.win 7).blk t).view.read (Elt Ideal) ((dats m 0 c).arrAt 7 cfg0.N) = (dats m 0 c).flushed 7 t :=
  (dats m 0 c).read_blk_arrAt_eq_flushed 7 (fun t t' _ _ hne => (cfg0.win 7).disjoint_blk fun h => hne (idx_inj7 t t' h)) cfg0.N t t.isLt (flush0_7 t)
theorem blocks8 (t : Fin cfg0.N) :
    ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (idx_inj8 t t' h)) cfg0.N t t.isLt (flush0_8 t)

theorem truncf_at {s : Shape} (x : FVec Ideal s .f32) (hb : FTy.bits .bf16 < FTy.bits .f32) (i : s.Idx) : truncf (F := Ideal) .bf16 x hb i = x i := rfl

theorem pay1_apply {s : Scr Ideal} {f : Fin 256 → ℕ → ℝ} (hs : ∀ i, s i = ((f (i 0) (i 1).val : ℝ) : EReal)) (y : S4096x256.Idx) :
    k0_pay1 (F := Ideal) s y = ((f (y 1) (y 0).val * ((Real.sqrt 192)⁻¹ * (Real.log 2)⁻¹) : ℝ) : EReal) := by
  unfold k0_pay1
  refine (truncf_at _ _ _).trans ((transpose_apply (s := S256x4096) (t := S4096x256) [1, 0] _ transposes_S256x4096_p1_0_S4096x256 y (ix2 (y 1) (y 0))
    (fun b => match b with | ⟨0, _⟩ => rfl | ⟨1, _⟩ => rfl)).trans ?_)
  exact mulF (hs _) named_scale

section Arr

variable {m c} (H : Args m c A)

theorem lt_N (h : Fin 8) {j : ℕ} (hj : j < 8) : h.val * 8 + j < cfg0.N := by
  have hN : cfg0.N = 64 := N_0
  omega

include H

theorem arr6 (i : S4096x2048.Idx) : (dats m 0 c).arrAt 6 cfg0.N i
    = val_main_v74 (F := Ideal) (A0 m c) (A1 m c) (A2 m c) (A3 m c) i := by
  have b1 : (i 1).val < 2048 := (i 1).isLt
  let h : Fin 8 := ⟨(i 1).val / 256, by omega⟩
  let d : Fin 256 := ⟨(i 1).val % 256, Nat.mod_lt _ (by decide)⟩
  let t : Fin cfg0.N := ⟨h.val * 8 + 7, lt_N h (by decide)⟩
  have ht : t.val = h.val * 8 + 7 := rfl
  have hi : ix2 (i 0) (col256 h d) = i := (congrArg (ix2 (i 0)) (Fin.ext (Nat.div_add_mod' _ _))).trans (eta2 i).symm
  have e : ((cfg0.win 6).blk t).view.emb (ix2 (i 0) d) = i := (emb6 ht (by decide) (ix2 (i 0) d)).trans hi
  have b : (dats m 0 c).arrAt 6 cfg0.N (((cfg0.win 6).blk t).view.emb (ix2 (i 0) d)) = (dats m 0 c).flushed 6 t (ix2 (i 0) d) :=
    congrFun (blocks6 m c t ((flush0_6 t).2 (mod_eq ht (by decide)))) (ix2 (i 0) d)
  rw [e] at b
  refine b.trans ((congrFun (flushed6 m c t) (ix2 (i 0) d)).trans ?_)
  have u := (gathered H h 7 (by decide) t ht).sc
  refine ((pay1_apply (f := (A h).upto 8) (fun i => (u i).trans (congrArg (fun z : ℝ => (z : EReal)) (scr_eq (A h) 7 (i 0) (i 1).val (i 1).isLt))) (ix2 (i 0) d)).trans
    (congrArg (fun z : ℝ => (z : EReal)) (dq_eq (A h) (i 0) d))).trans ?_
  exact (Ref.dq H.q H.k H.v H.g H.M (i 0) h d).symm.trans (congrArg (val_main_v74 (F := Ideal) (A0 m c) (A1 m c) (A2 m c) (A3 m c)) hi)

theorem arr7 (i : S4096x2048.Idx) : (dats m 0 c).arrAt 7 cfg0.N i
    = val_main_v75 (F := Ideal) (A0 m c) (A1 m c) (A2 m c) (A3 m c) i := by
  have b0 : (i 0).val < 4096 := (i 0).isLt
  have b1 : (i 1).val < 2048 := (i 1).isLt
  let h : Fin 8 := ⟨(i 1).val / 256, by omega⟩
  let d : Fin 256 := ⟨(i 1).val % 256, Nat.mod_lt _ (by decide)⟩
  let r : Fin 512 := ⟨(i 0).val % 512, Nat.mod_lt _ (by decide)⟩
  have hj : (i 0).val / 512 < 8 := by omega
  let t : Fin cfg0.N := ⟨h.val * 8 + (i 0).val / 512, lt_N h hj⟩
  have ht : t.val = h.val * 8 + (i 0).val / 512 := rfl
  have hr : row ((i 0).val / 512 * 512 + r.val) = i 0 := (congrArg row (Nat.div_add_mod' _ _)).trans (row_val _)
  have hi : ix2 (i 0) (col256 h d) = i := (congrArg (ix2 (i 0)) (Fin.ext (Nat.div_add_mod' _ _))).trans (eta2 i).symm
  have e : ((cfg0.win 7).blk t).view.emb (ix2 r d) = i := (emb7 ht hj (ix2 r d)).trans ((congrArg (fun n => ix2 n (col256 h d)) hr).trans hi)
  have b : (dats m 0 c).arrAt 7 cfg0.N (((cfg0.win 7).blk t).view.emb (ix2 r d)) = (dats m 0 c).flushed 7 t (ix2 r d) :=
    congrFun (blocks7 m c t) (ix2 r d)
  rw [e] at b
  refine b.trans ((congrFun (flushed7 m c t) (ix2 r d)).trans ?_)
  refine ((gathered H h _ hj t ht).dk (ix2 r d)).trans ?_
  refine (congrArg (fun z : ℝ => (z : EReal)) ((dk_eq (A h) (by omega) r (key ht hj r) d).trans
    (congrArg (fun n => ∑ c, (A h).ds c n * (A h).q c d) hr))).trans ?_
  exact (Ref.dk H.q H.k H.v H.g H.M (i 0) h d).symm.trans (congrArg (val_main_v75 (F := Ideal) (A0 m c) (A1 m c) (A2 m c) (A3 m c)) hi)

theorem arr8 (i : S4096x1024.Idx) : (dats m 0 c).arrAt 8 cfg0.N i
    = val_main_v76 (F := Ideal) (A0 m c) (A1 m c) (A3 m c) i := by
  have b0 : (i 0).val < 4096 := (i 0).isLt
  have b1 : (i 1).val < 1024 := (i 1).isLt
  let h : Fin 8 := ⟨(i 1).val / 128, by omega⟩
  let d : Fin 128 := ⟨(i 1).val % 128, Nat.mod_lt _ (by decide)⟩
  let r : Fin 512 := ⟨(i 0).val % 512, Nat.mod_lt _ (by decide)⟩
  have hj : (i 0).val / 512 < 8 := by omega
  let t : Fin cfg0.N := ⟨h.val * 8 + (i 0).val / 512, lt_N h hj⟩
  have ht : t.val = h.val * 8 + (i 0).val / 512 := rfl
  have hr : row ((i 0).val / 512 * 512 + r.val) = i 0 := (congrArg row (Nat.div_add_mod' _ _)).trans (row_val _)
  have hi : ix2 (i 0) (col128 h d) = i := (congrArg (ix2 (i 0)) (Fin.ext (Nat.div_add_mod' _ _))).trans (eta2 i).symm
  have e : ((cfg0.win 8).blk t).view.emb (ix2 r d) = i := (emb8 ht hj (ix2 r d)).trans ((congrArg (fun n => ix2 n (col128 h d)) hr).trans hi)
  have b : (dats m 0 c).arrAt 8 cfg0.N (((cfg0.win 8).blk t).view.emb (ix2 r d)) = (dats m 0 c).flushed 8 t (ix2 r d) :=
    congrFun (blocks8 m c t) (ix2 r d)
  rw [e] at b
  refine b.trans ((congrFun (flushed8 m c t) (ix2 r d)).trans ?_)
  refine ((gathered H h _ hj t ht).dv (ix2 r d)).trans ?_
  refine (congrArg (fun z : ℝ => (z : EReal)) ((dv_eq (A h) (by omega) r (key ht hj r) d).trans
    (congrArg (fun n => ∑ c, (A h).g c d * (A h).pr c n) hr))).trans ?_
  exact (Ref.v52 H.q H.k H.g H.M (i 0) h d).symm.trans (congrArg (val_main_v76 (F := Ideal) (A0 m c) (A1 m c) (A3 m c)) hi)

end Arr

end Cert.Attn.Grid

end
-- ==== Proof.AttnClaim.lean ====
/-
  The attention's gradient kernel and the reference leave equal results, for arguments that are real numbers: the gradients of
  the queries, the keys and the values.
-/
module

public import proofs.«01_k».proof.Defs
public import proofs.«01_k».proof.Proof.AttnGrid
public import proofs.«01_k».proof.Proof.Gen.Reference4Ideal.Run
public import proofs.«01_k».proof.Proof.Gen.Pre_finite4

@[expose] public section

set_option maxRecDepth 16384

noncomputable section

namespace Cert.Attn

open Cert.Kernel4Ideal Cert.Kernel4Ideal.Gen Cert.Lift
open Cert.Attn.Ref (col256 col128)
open Cert.Attn.Host (A0 A1 A2 A3)
open Cert.Reference4Ideal.Read (val_main_v15 val_main_v74 val_main_v75 val_main_v76 val_main_v74_eq val_main_v75_eq val_main_v76_eq)
open Idealize.ShloMosaic Idealize.ShloMosaic.TcCoe Idealize.SL.Sem Idealize.ShloMosaic.ValueIdx

/-- The precondition, argument by argument. -/
theorem real_args {x0 x1 : FVec Ideal S4096x2048 .f32} {x2 x3 : FVec Ideal S4096x1024 .f32} (h : Cert.Pre_finite4.fn (F := Ideal) x0 x1 x2 x3 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) := by
  have e := congrFun h (fun k => k.elim0)
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3⟩

variable (m : (ℓ : Loc nD τ sig) → Buf (Elt Ideal) ℓ) (c : Dev nD)

/-- The numbers of device `c`'s heads. -/
def heads (h : Fin 8) : Head where
  q r d := (A0 m c (ix2 r (col256 h d))).toReal
  k r d := (A1 m c (ix2 r (col256 h d))).toReal
  v r d := (A2 m c (ix2 r (col128 h d))).toReal
  g r d := (A3 m c (ix2 r (col128 h d))).toReal
  M r := tab2 (val_main_v15 (F := Ideal) (A0 m c) (A1 m c)) h r

theorem heads_args (hpre : Cert.Pre_Kernel4Ideal_finite4 m) : Grid.Args m c (heads m c) := by
  have R := real_args (hpre c)
  have h0 : ∀ r h d, A0 m c (ix2 r (col256 h d)) = ((heads m c h).q r d : EReal) := fun r h d => R.1 _
  have h1 : ∀ r h d, A1 m c (ix2 r (col256 h d)) = ((heads m c h).k r d : EReal) := fun r h d => R.2.1 _
  have hv : ∀ i, val_main_v15 (F := Ideal) (A0 m c) (A1 m c) i = ((val_main_v15 (F := Ideal) (A0 m c) (A1 m c) i).toReal : EReal) :=
    Ref.v15_real (x0 := A0 m c) (x1 := A1 m c) (A := heads m c) h0 h1
  have hM : ∀ i, val_main_v15 (F := Ideal) (A0 m c) (A1 m c) i = ((heads m c (i 0)).M (i 1) : EReal) := fun i => by
    unfold heads
    generalize val_main_v15 (F := Ideal) (A0 m c) (A1 m c) = y at *
    exact tab2_eq hv i
  have h2 : ∀ r h d, A2 m c (ix2 r (col128 h d)) = ((heads m c h).v r d : EReal) := fun r h d => R.2.2.1 _
  have h3 : ∀ r h d, A3 m c (ix2 r (col128 h d)) = ((heads m c h).g r d : EReal) := fun r h d => R.2.2.2 _
  exact ⟨h0, h1, h2, h3, hM⟩

theorem algebraic : Cert.algebraic_Kernel4Ideal_Reference4Ideal_pre_finite4 := by
  intro m g m' g' hpre hag
  refine ⟨fun c => val_main_v74 (F := Ideal) (A0 m c) (A1 m c) (A2 m c) (A3 m c), fun c => val_main_v75 (F := Ideal) (A0 m c) (A1 m c) (A2 m c) (A3 m c),
    fun c => val_main_v76 (F := Ideal) (A0 m c) (A1 m c) (A3 m c), ?_, ?_⟩
  · refine (θ_run Cert.Kernel4Ideal.defs _ _).mono (fun r hr c => ?_) (run_main (F := Ideal) m g)
    have H := heads_args m c hpre
    have k := hr.1 c
    exact ⟨(k.1 6).trans (funext fun i => Grid.arr6 H i), (k.1 7).trans (funext fun i => Grid.arr7 H i), (k.1 8).trans (funext fun i => Grid.arr8 H i),
      (k.2 main_arg0 (Pipeline.mem_restRefs_of main_arg0 (by decide) (by decide))).trans (V_arg0 m c),
      (k.2 main_arg1 (Pipeline.mem_restRefs_of main_arg1 (by decide) (by decide))).trans (V_arg1 m c),
      (k.2 main_arg2 (Pipeline.mem_restRefs_of main_arg2 (by decide) (by decide))).trans (V_arg2 m c),
      (k.2 main_arg3 (Pipeline.mem_restRefs_of main_arg3 (by decide) (by decide))).trans (V_arg3 m c)⟩
  · refine (θ_run Cert.Reference4Ideal.defs _ _).mono (fun r hr c => ?_) (Cert.Reference4Ideal.Value.run (F := Ideal) m' g')
    obtain ⟨r0, r1, r2, k⟩ := hr c
    obtain ⟨a0, a1, a2, a3⟩ := hag c
    refine ⟨r0.trans ((val_main_v74_eq _ _).trans ?_), r1.trans ((val_main_v75_eq _ _).trans ?_), r2.trans ((val_main_v76_eq _ _).trans ?_), k⟩
    · rw [a0, a1, a2, a3]
    · rw [a0, a1, a2, a3]
    · rw [a0, a1, a3]

end Cert.Attn

end
-- ==== Proof.FwdBody.lean ====
/- Hand-written, untrusted: WHAT ONE GRID POINT OF THE FEED-FORWARD BLOCK COMPUTES. A grid point takes 256 rows, the gain,
   the gate and up projections in eight slots (slot `d` holds columns of the gate, slot `4 + d` the same columns of the up
   projection) and the down projection in eight slots of 352 rows. The theorems say what its five stored blocks hold, over the
   extended reals and for all arguments. -/
module

public import proofs.«01_k».proof.Proof.Dot
public import proofs.«01_k».proof.Proof.Rows
public import proofs.«01_k».proof.Proof.Gen.Kernel5Ideal.Frame
public import Idealize.ShloMosaic.Lib.Pipeline.Value
public import Idealize.ShloMosaic.Lib.Pipeline.ValueKit.Tiles
public import Idealize.ShloMosaic.Lib.Tactic

@[expose] public section

noncomputable section

namespace Cert.Fwd

open Idealize.ShloMosaic

/-! ## The block's arithmetic, row by row -/

def one : EReal := Ideal.ofBits .f32 0x3F800000#32
def half : EReal := Ideal.ofBits .f32 0x3F000000#32

/-- The reciprocal standard deviation of a row, and the row normalised. -/
def rstd (x : Fin 1024 → EReal) : EReal :=
  Ideal.rsqrt (Ideal.div (∑ k, x k * x k) (Ideal.ofBits .f32 0x44800000#32) + Ideal.ofBits .f32 0x358637BD#32)
def nrm (x g : Fin 1024 → EReal) (k : Fin 1024) : EReal := x k * rstd x * g k
/-- A row projected on one column. -/
def proj (x g w : Fin 1024 → EReal) : EReal := ∑ k, nrm x g k * w k
/-- The logistic function, the gated product, and half of its derivatives in the gate and in the other factor. -/
def sg (z : EReal) : EReal := Ideal.div one (one + Ideal.exp (-z))
def silu (z : EReal) : EReal := z * sg z
def act (z u : EReal) : EReal := silu z * u
def jg (z u : EReal) : EReal := half * u * (sg z + silu z * (one - sg z))
def ju (z : EReal) : EReal := half * silu z

end Cert.Fwd

namespace Cert.Fwd.Body

open Cert.Kernel5Ideal Cert.Kernel5Ideal.Gen Cert.Lift
open Idealize.ShloMosaic Idealize.ShloMosaic.TcCoe Idealize.SL.Sem
open Idealize.ShloMosaic.ValueIdx (ix1 ix2 ix3)
open Idealize.ShloMosaic.View (TileAt canon_eq_of_allAt allAt_cons_unit allAt_nil ld_unit_apply_of)

theorem zero_sub' (z : EReal) : Ideal.ofBits .f32 0x00000000#32 - z = -z := by
  have e : Ideal.ofBits .f32 0x00000000#32 = (0 : EReal) := lit_zero.trans EReal.coe_zero
  rw [e, sub_eq_add_neg, zero_add]

/-! ## The normalised rows -/

section

variable (x0 : Vec Ideal S256x1024 .f32) (x1 : Vec Ideal S1x1024 .f32) (x2 : Vec Ideal S8x1024x704 .bf16) (x3 : Vec Ideal S8x352x1024 .bf16)

/-- The blocks as tables: a row, the gain, a column of a slot, and a column of the slots `2d` and `2d + 1` of the down
    projection laid one under the other. -/
def row (r : Fin 256) (k : Fin 1024) : EReal := x0 (ix2 r k)
def gain (k : Fin 1024) : EReal := x1 (ix2 (0 : Fin 1) k)
def col (s : Fin 8) (j : Fin 704) (k : Fin 1024) : EReal := x2 (ix3 s k j)
def pair (d : Fin 4) (j : Fin 704) (k : Fin 1024) : EReal :=
  x3 (ix3 (⟨2 * d.val + j.val / 352, by omega⟩ : Fin 8) (⟨j.val % 352, Nat.mod_lt _ (by norm_num)⟩ : Fin 352) k)
/-- A row's projection on column `j` of slot `s`. -/
def z (s : Fin 8) (r : Fin 256) (j : Fin 704) : EReal := proj (row x0 r) (gain x1) (col x2 s j)
/-- The gate's slot `d` and the up projection's slot `4 + d`. -/
def lo (d : Fin 4) : Fin 8 := ⟨d.val, by omega⟩
def hi (d : Fin 4) : Fin 8 := ⟨4 + d.val, by omega⟩
def a (d : Fin 4) (r : Fin 256) (j : Fin 704) : EReal := act (z x0 x1 x2 (lo d) r j) (z x0 x1 x2 (hi d) r j)
def part (d : Fin 4) (r : Fin 256) (k : Fin 1024) : EReal := ∑ j, a x0 x1 x2 d r j * pair x3 d j k

theorem rstd_apply (i : S256x1.Idx) : k0_pay4 (F := Ideal) x0 i = rstd (row x0 (i 0)) := by
  unfold k0_pay4
  refine congrArg (fun s => Ideal.rsqrt (Ideal.div s (Ideal.ofBits .f32 0x44800000#32) + Ideal.ofBits .f32 0x358637BD#32)) ?_
  refine (stand _ _ i).trans ((Ideal.multiReduction_add_single (mulf x0 x0) _ reduces_S256x1024_S256 _ _ _).trans ?_)
  refine Finset.sum_congr rfl fun k _ => ?_
  have e : reduces_S256x1024_S256.lift (ix1 (i 0)) k = ix2 (i 0) k :=
    funext fun a => Fin.ext (by match a with | ⟨0, _⟩ => rfl | ⟨1, _⟩ => rfl)
  rw [e]
  rfl

theorem nrm_apply (i : S256x1024.Idx) : k0_pay5 (F := Ideal) x0 x1 i = nrm (row x0 (i 0)) (gain x1) (i 1) := by
  unfold k0_pay5
  have e : i = ix2 (i 0) (i 1) := funext fun a => by match a with | ⟨0, _⟩ => rfl | ⟨1, _⟩ => rfl
  refine (congrArg₂ (fun p q : EReal => x0 i * p * q) ((bcol _ _ i).trans (rstd_apply x0 _)) (brow x1 _ i)).trans ?_
  exact congrArg (fun t => t * rstd (row x0 (i 0)) * gain x1 (i 1)) (congrArg x0 e)

theorem nrmT_apply (i : S1024x256.Idx) : k0_pay6 (F := Ideal) x0 x1 i = nrm (row x0 (i 1)) (gain x1) (i 0) := by
  unfold k0_pay6
  refine (transpose_apply (s := S256x1024) (t := S1024x256) [1, 0] (k0_pay5 (F := Ideal) x0 x1) transposes_S256x1024_p1_0_S1024x256 i (ix2 (i 1) (i 0))
    (fun b => match b with | ⟨0, _⟩ => rfl | ⟨1, _⟩ => rfl)).trans (nrm_apply x0 x1 _)

/-! ## A slot -/

theorem inbG (s : Fin 8) (a : Fin 3) : (![s.val, 0, 0] : Fin 3 → Nat) a + (![1, 1024, 704] : Fin 3 → Nat) a ≤ S8x1024x704.size a := by
  fin_cases a
  · show s.val + 1 ≤ 8; omega
  · exact le_refl 1024
  · exact le_refl 704
theorem inbD (d : Fin 4) (a : Fin 3) : (![2 * d.val, 0, 0] : Fin 3 → Nat) a + (![2, 352, 1024] : Fin 3 → Nat) a ≤ S8x352x1024.size a := by
  fin_cases a
  · show 2 * d.val + 2 ≤ 8; omega
  · exact le_refl 352
  · exact le_refl 1024

def uS (s : Fin 8) : FVec Ideal S1x1024x704 .bf16 := View.ld x2 (Rect.unit ![s.val, 0, 0] ![1, 1024, 704] (inbG s))
def wS (d : Fin 4) : FVec Ideal S2x352x1024 .bf16 := View.ld x3 (Rect.unit ![2 * d.val, 0, 0] ![2, 352, 1024] (inbD d))

theorem uS_apply (s : Fin 8) (i : S1x1024x704.Idx) : uS x2 s i = col x2 s (i 2) (i 1) := by
  have b0 : (i 0).val < 1 := (i 0).isLt
  exact ld_unit_apply_of x2 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)

theorem pair_apply (d : Fin 4) (j : S704x1024.Idx) :
    shapeCast S704x1024 (shapeCast S2x352x1024 (wS x3 d) shapeCasts_S2x352x1024_S2x352x1024) shapeCasts_S2x352x1024_S704x1024 j
      = pair x3 d (j 0) (j 1) := by
  have b0 : (j 0).val < 704 := (j 0).isLt
  rw [shapeCast_self]
  refine (shapeCast_apply (wS x3 d) _ j (ix3 (⟨(j 0).val / 352, by omega⟩ : Fin 2) (⟨(j 0).val % 352, by omega⟩ : Fin 352) (j 1))
    (by rw [Shape.rowMajor_val_three, Shape.rowMajor_val_two]
        show ((j 0).val / 352 * 352 + (j 0).val % 352) * 1024 + (j 1).val = (j 0).val * 1024 + (j 1).val
        omega)).trans ?_
  exact ld_unit_apply_of x3 _ _ _ _ _ (fun a => by
    match a with
    | ⟨0, _⟩ => rfl
    | ⟨1, _⟩ => exact (Nat.zero_add _).symm
    | ⟨2, _⟩ => exact (Nat.zero_add _).symm)

/-- The projections of a grid point's rows on slot `s`. -/
def zV (s : Fin 8) : FVec Ideal S256x704 .f32 := k0_pay18 (k0_pay5 x0 x1) (uS x2 s)

theorem z_apply (s : Fin 8) (i : S256x704.Idx) : zV x0 x1 x2 s i = z x0 x1 x2 s (i 0) (i 1) := by
  unfold zV k0_pay18
  refine ((Ideal.matmul_constant_zero_apply dot_S256x1024_S1024x704_S256x704_1_0_0_1_n_n none (φ₁ := .bf16) (φ₂ := .bf16) _ _ _).trans
    (sumNN (M := 256) (N := 704) (K := 1024) dot_S256x1024_S1024x704_S256x704_1_0_0_1_n_n rfl rfl rfl rfl rfl rfl _ _ _)).trans ?_
  refine Finset.sum_congr rfl fun k _ => congrArg₂ (fun a b : EReal => a * b) (nrm_apply x0 x1 (ix2 (i 0) k)) ?_
  exact (shapeCast_apply (uS x2 s) shapeCasts_S1x1024x704_S1024x704 (ix2 k (i 1)) (ix3 (0 : Fin 1) k (i 1)) (by
      rw [Shape.rowMajor_val_three, Shape.rowMajor_val_two]
      show (0 * 1024 + k.val) * 704 + (i 1).val = k.val * 704 + (i 1).val
      omega)).trans (uS_apply x2 s _)

end

section

variable (g u : FVec Ideal S256x704 .f32)

theorem sg_apply (i : S256x704.Idx) : k0_pay20 g i = sg (g i) := by
  unfold k0_pay20
  exact congrArg (fun t => Ideal.div one (one + Ideal.exp t)) (zero_sub' (g i))

theorem silu_apply (i : S256x704.Idx) : k0_pay21 g i = silu (g i) := by
  unfold k0_pay21
  exact congrArg (fun t => g i * t) (sg_apply g i)

theorem act_apply (i : S256x704.Idx) : k0_pay22 g u i = act (g i) (u i) := by
  unfold k0_pay22
  exact congrArg (fun t => t * u i) (silu_apply g i)

/-- Blocks as they are stored: a row of slots of one. -/
theorem store (v : FVec Ideal S256x704 .bf16) (j : S1x256x704.Idx) :
    shapeCast S1x256x704 v shapeCasts_S256x704_S1x256x704 j = v (ix2 (j 1) (j 2)) := by
  have b0 : (j 0).val < 1 := (j 0).isLt
  exact shapeCast_apply v _ j (ix2 (j 1) (j 2))
    (by rw [Shape.rowMajor_val_three, Shape.rowMajor_val_two]
        show (j 1).val * 704 + (j 2).val = ((j 0).val * 256 + (j 1).val) * 704 + (j 2).val
        omega)

theorem storeT (v : FVec Ideal S704x256 .bf16) (j : S1x704x256.Idx) :
    shapeCast S1x704x256 v shapeCasts_S704x256_S1x704x256 j = v (ix2 (j 1) (j 2)) := by
  have b0 : (j 0).val < 1 := (j 0).isLt
  exact shapeCast_apply v _ j (ix2 (j 1) (j 2))
    (by rw [Shape.rowMajor_val_three, Shape.rowMajor_val_two]
        show (j 1).val * 256 + (j 2).val = ((j 0).val * 704 + (j 1).val) * 256 + (j 2).val
        omega)

theorem jg_apply (j : S1x256x704.Idx) : k0_pay24 g u j = jg (g (ix2 (j 1) (j 2))) (u (ix2 (j 1) (j 2))) := by
  unfold k0_pay24
  refine (store _ j).trans ?_
  exact congrArg₂ (fun s t : EReal => half * u (ix2 (j 1) (j 2)) * (s + t * (one - s))) (sg_apply g _) (silu_apply g _)

theorem ju_apply (j : S1x256x704.Idx) : k0_pay25 g j = ju (g (ix2 (j 1) (j 2))) := by
  unfold k0_pay25
  refine (store _ j).trans ?_
  exact congrArg (fun t : EReal => half * t) (silu_apply g _)

theorem at_apply (j : S1x704x256.Idx) : k0_pay23 g u j = act (g (ix2 (j 2) (j 1))) (u (ix2 (j 2) (j 1))) := by
  unfold k0_pay23
  refine (storeT _ j).trans ?_
  exact (transpose_apply (s := S256x704) (t := S704x256) [1, 0] (k0_pay22 g u) transposes_S256x704_p1_0_S704x256 (ix2 (j 1) (j 2)) (ix2 (j 2) (j 1))
    (fun b => match b with | ⟨0, _⟩ => rfl | ⟨1, _⟩ => rfl)).trans (act_apply g u _)

end

section

variable (x0 : Vec Ideal S256x1024 .f32) (x1 : Vec Ideal S1x1024 .f32) (x2 : Vec Ideal S8x1024x704 .bf16) (x3 : Vec Ideal S8x352x1024 .bf16)

def partV (d : Fin 4) : FVec Ideal S256x1024 .f32 :=
  matmul dot_S256x704_S704x1024_S256x1024_1_0_0_1_n_n none (k0_pay22 (zV x0 x1 x2 (lo d)) (zV x0 x1 x2 (hi d)))
    (shapeCast S704x1024 (shapeCast S2x352x1024 (wS x3 d) shapeCasts_S2x352x1024_S2x352x1024) shapeCasts_S2x352x1024_S704x1024)
    (constant S256x1024 .f32 0x00000000#32)

theorem part_apply (d : Fin 4) (i : S256x1024.Idx) : partV x0 x1 x2 x3 d i = part x0 x1 x2 x3 d (i 0) (i 1) := by
  unfold partV
  refine ((Ideal.matmul_constant_zero_apply dot_S256x704_S704x1024_S256x1024_1_0_0_1_n_n none (φ₁ := .bf16) (φ₂ := .bf16) _ _ _).trans
    (sumNN (M := 256) (N := 1024) (K := 704) dot_S256x704_S704x1024_S256x1024_1_0_0_1_n_n rfl rfl rfl rfl rfl rfl _ _ _)).trans ?_
  refine Finset.sum_congr rfl fun j _ => congrArg₂ (fun a b : EReal => a * b) ?_ (pair_apply x3 d _)
  refine (act_apply _ _ _).trans (congrArg₂ act (z_apply x0 x1 x2 _ _) (z_apply x0 x1 x2 _ _))

/-! ## The five stored blocks -/

theorem hz2 : (![0, 0] : Fin 2 → Nat) = fun _ => 0 := funext fun a => by fin_cases a <;> rfl

theorem out7 (y : S1024x256.Idx) : out0_7 (F := Ideal) x0 x1 x2 x3 y = nrm (row x0 (y 1)) (gain x1) (y 0) := by
  unfold out0_7
  rw [View.canon_unit_zero hz2, View.ld_unit_zero (S := S256x1024) hz2, View.ld_unit_zero (S := S1x1024) hz2]
  exact nrmT_apply x0 x1 y

theorem out8 (y : S256x1.Idx) : out0_8 (F := Ideal) x0 x1 x2 x3 y = rstd (row x0 (y 0)) := by
  unfold out0_8
  rw [View.canon_unit_zero hz2, View.ld_unit_zero (S := S256x1024) hz2]
  exact rstd_apply x0 y

/-- The result: the row with half of the four parts. -/
theorem out4 (y : S256x1024.Idx) : out0_4 (F := Ideal) x0 x1 x2 x3 y = x0 y + half * (Ideal.ofBits .f32 0x00000000#32
    + part x0 x1 x2 x3 0 (y 0) (y 1) + part x0 x1 x2 x3 1 (y 0) (y 1) + part x0 x1 x2 x3 2 (y 0) (y 1) + part x0 x1 x2 x3 3 (y 0) (y 1)) := by
  unfold_out out0_4
  rw [View.canon_unit_zero hz2, View.ld_unit_zero (S := S256x1024) hz2, View.ld_unit_zero (S := S1x1024) hz2]
  rw [← part_apply, ← part_apply, ← part_apply, ← part_apply]
  rfl

theorem tileJ {y : S8x256x704.Idx} (s : Fin 8) {w : FVec Ideal S1x256x704 .bf16} {f : Fin 8 → Fin 256 → Fin 704 → EReal}
    (hw : ∀ x : S1x256x704.Idx, w x = f s (x 1) (x 2)) :
    TileAt (Val := Elt Ideal) (e := .bf16) (S := S8x256x704) y ![s.val, 0, 0] ![1, 256, 704] w (f (y 0) (y 1) (y 2)) := fun x hx => by
  have b0 : (x 0).val < 1 := (x 0).isLt
  have e0 : (y 0).val = s.val + (x 0).val := hx 0
  have e1 : (y 1).val = 0 + (x 1).val := hx 1
  have e2 : (y 2).val = 0 + (x 2).val := hx 2
  have f0 : y 0 = s := Fin.ext (by show (y 0).val = s.val; omega)
  have f1 : y 1 = x 1 := Fin.ext (by show (y 1).val = (x 1).val; omega)
  have f2 : y 2 = x 2 := Fin.ext (by show (y 2).val = (x 2).val; omega)
  rw [f0, f1, f2]
  exact hw x

theorem tileA {y : S4x704x256.Idx} (d : Fin 4) {w : FVec Ideal S1x704x256 .bf16} {f : Fin 4 → Fin 704 → Fin 256 → EReal}
    (hw : ∀ x : S1x704x256.Idx, w x = f d (x 1) (x 2)) :
    TileAt (Val := Elt Ideal) (e := .bf16) (S := S4x704x256) y ![d.val, 0, 0] ![1, 704, 256] w (f (y 0) (y 1) (y 2)) := fun x hx => by
  have b0 : (x 0).val < 1 := (x 0).isLt
  have e0 : (y 0).val = d.val + (x 0).val := hx 0
  have e1 : (y 1).val = 0 + (x 1).val := hx 1
  have e2 : (y 2).val = 0 + (x 2).val := hx 2
  have f0 : y 0 = d := Fin.ext (by show (y 0).val = d.val; omega)
  have f1 : y 1 = x 1 := Fin.ext (by show (y 1).val = (x 1).val; omega)
  have f2 : y 2 = x 2 := Fin.ext (by show (y 2).val = (x 2).val; omega)
  rw [f0, f1, f2]
  exact hw x

/-- The activations of a grid point, slot by slot. -/
theorem atS (d : Fin 4) (x : S1x704x256.Idx) :
    k0_pay23 (zV x0 x1 x2 (lo d)) (zV x0 x1 x2 (hi d)) x = a x0 x1 x2 d (x 2) (x 1) :=
  (at_apply _ _ x).trans (congrArg₂ act (z_apply x0 x1 x2 _ _) (z_apply x0 x1 x2 _ _))

theorem out6 (y : S4x704x256.Idx) : out0_6 (F := Ideal) x0 x1 x2 x3 y = a x0 x1 x2 (y 0) (y 2) (y 1) := by
  unfold_out out0_6
  simp only [View.ld_unit_zero (S := S256x1024) hz2, View.ld_unit_zero (S := S1x1024) hz2]
  refine canon_eq_of_allAt _ y _ (cover0_6 _ _ _ _ y) ?_
  refine allAt_cons_unit _ _ _ _ _ (tileA (f := fun d j r => a x0 x1 x2 d r j) 3 (atS x0 x1 x2 3)) ?_
  refine allAt_cons_unit _ _ _ _ _ (tileA (f := fun d j r => a x0 x1 x2 d r j) 2 (atS x0 x1 x2 2)) ?_
  refine allAt_cons_unit _ _ _ _ _ (tileA (f := fun d j r => a x0 x1 x2 d r j) 1 (atS x0 x1 x2 1)) ?_
  exact allAt_cons_unit _ _ _ _ _ (tileA (f := fun d j r => a x0 x1 x2 d r j) 0 (atS x0 x1 x2 0)) (allAt_nil _ _)

/-- The saved derivatives, slot by slot: in the gate, then in the up projection. -/
def jac (s : Fin 8) (r : Fin 256) (j : Fin 704) : EReal :=
  if h : s.val < 4 then jg (z x0 x1 x2 s r j) (z x0 x1 x2 (hi ⟨s.val, h⟩) r j) else ju (z x0 x1 x2 (lo ⟨s.val - 4, by omega⟩) r j)

theorem jgS (d : Fin 4) (x : S1x256x704.Idx) :
    k0_pay24 (zV x0 x1 x2 (lo d)) (zV x0 x1 x2 (hi d)) x = jac x0 x1 x2 (lo d) (x 1) (x 2) := by
  refine (jg_apply _ _ x).trans ((congrArg₂ jg (z_apply x0 x1 x2 _ _) (z_apply x0 x1 x2 _ _)).trans ?_)
  unfold jac
  rw [dif_pos (show (lo d).val < 4 from d.isLt)]
  rfl

theorem juS (d : Fin 4) (x : S1x256x704.Idx) :
    k0_pay25 (zV x0 x1 x2 (lo d)) x = jac x0 x1 x2 (hi d) (x 1) (x 2) := by
  refine (ju_apply _ x).trans ((congrArg ju (z_apply x0 x1 x2 _ _)).trans ?_)
  unfold jac
  have hd : (hi d).val = 4 + d.val := rfl
  rw [dif_neg (by omega)]
  refine congrArg (fun s => ju (z x0 x1 x2 (lo s) (x 1) (x 2))) (Fin.ext ?_)
  show d.val = 4 + d.val - 4
  omega

theorem out5 (y : S8x256x704.Idx) : out0_5 (F := Ideal) x0 x1 x2 x3 y = jac x0 x1 x2 (y 0) (y 1) (y 2) := by
  unfold_out out0_5
  simp only [View.ld_unit_zero (S := S256x1024) hz2, View.ld_unit_zero (S := S1x1024) hz2]
  refine canon_eq_of_allAt _ y _ (cover0_5 _ _ _ _ _ _ _ _ y) ?_
  refine allAt_cons_unit _ _ _ _ _ (tileJ (f := jac x0 x1 x2) 7 (juS x0 x1 x2 3)) ?_
  refine allAt_cons_unit _ _ _ _ _ (tileJ (f := jac x0 x1 x2) 3 (jgS x0 x1 x2 3)) ?_
  refine allAt_cons_unit _ _ _ _ _ (tileJ (f := jac x0 x1 x2) 6 (juS x0 x1 x2 2)) ?_
  refine allAt_cons_unit _ _ _ _ _ (tileJ (f := jac x0 x1 x2) 2 (jgS x0 x1 x2 2)) ?_
  refine allAt_cons_unit _ _ _ _ _ (tileJ (f := jac x0 x1 x2) 5 (juS x0 x1 x2 1)) ?_
  refine allAt_cons_unit _ _ _ _ _ (tileJ (f := jac x0 x1 x2) 1 (jgS x0 x1 x2 1)) ?_
  refine allAt_cons_unit _ _ _ _ _ (tileJ (f := jac x0 x1 x2) 4 (juS x0 x1 x2 0)) ?_
  exact allAt_cons_unit _ _ _ _ _ (tileJ (f := jac x0 x1 x2) 0 (jgS x0 x1 x2 0)) (allAt_nil _ _)

end

end Cert.Fwd.Body

end
-- ==== Proof.FwdRef.lean ====
/- Hand-written, untrusted: WHAT THE REFERENCE OF THE FEED-FORWARD BLOCK COMPUTES, read at an index: the same rows' arithmetic as
   the kernel's grid points, over whole arrays, for all arguments. -/
module

public import proofs.«01_k».proof.Proof.FwdBody
public import proofs.«01_k».proof.Proof.Gen.Reference5Ideal.Read

@[expose] public section

noncomputable section

namespace Cert.Fwd

open Cert.Reference5Ideal Cert.Reference5Ideal.Read Cert.Lift
open Idealize.ShloMosaic Idealize.ShloMosaic.TcCoe Idealize.SL.Sem Idealize.ShloMosaic.StableHlo
open Idealize.ShloMosaic.ValueIdx (ix1 ix2 ix3)

theorem one_eq : one = 1 := lit_one.trans EReal.coe_one

/-- An index of a matrix is its row and its column. -/
theorem eta2 {M N : ℕ} (i : (⟨2, ![M, N]⟩ : Shape).Idx) : i = ix2 (i 0) (i 1) :=
  funext fun a => by match a with | ⟨0, _⟩ => rfl | ⟨1, _⟩ => rfl

/-! ## The arrays -/

section

variable (x0 : FVec Ideal S4096x1024 .f32) (x1 : FVec Ideal S1x1024 .f32) (x2 : FVec Ideal S1024x5632 .f32) (x3 : FVec Ideal S2816x1024 .f32)

def rowA (r : Fin 4096) (k : Fin 1024) : EReal := x0 (ix2 r k)
def gainA (k : Fin 1024) : EReal := x1 (ix2 (0 : Fin 1) k)
def colA (c : Fin 5632) (k : Fin 1024) : EReal := x2 (ix2 k c)
def downA (j : Fin 2816) (k : Fin 1024) : EReal := x3 (ix2 j k)
/-- A row's projection on column `c`; the gate's and the up projection's column `j`. -/
def zA (r : Fin 4096) (c : Fin 5632) : EReal := proj (rowA x0 r) (gainA x1) (colA x2 c)
def gcol (j : Fin 2816) : Fin 5632 := ⟨j.val, by omega⟩
def ucol (j : Fin 2816) : Fin 5632 := ⟨2816 + j.val, by omega⟩
def actA (r : Fin 4096) (j : Fin 2816) : EReal := act (zA x0 x1 x2 r (gcol j)) (zA x0 x1 x2 r (ucol j))
def outA (r : Fin 4096) (k : Fin 1024) : EReal := rowA x0 r k + half * ∑ j : Fin 2816, actA x0 x1 x2 r j * downA x3 j k
def jacA (r : Fin 4096) (c : Fin 5632) : EReal :=
  if h : c.val < 2816 then jg (zA x0 x1 x2 r (gcol ⟨c.val, h⟩)) (zA x0 x1 x2 r (ucol ⟨c.val, h⟩))
  else ju (zA x0 x1 x2 r (gcol ⟨c.val - 2816, by omega⟩))
/-- Column `j` of slot `s` of eight, and of slot `d` of four. -/
def col8 (s : Fin 8) (j : Fin 704) : Fin 5632 := ⟨s.val * 704 + j.val, by omega⟩
def col4 (d : Fin 4) (j : Fin 704) : Fin 2816 := ⟨d.val * 704 + j.val, by omega⟩

/-! ## The normalised rows -/

theorem zero0 (i) : val_main_cst (F := Ideal) i = 0 := Ideal.ofBits_zero_f32
theorem zero5 (i) : val_main_cst_5 (F := Ideal) i = 0 := Ideal.ofBits_zero_f32

theorem v1 (i : S4096.Idx) : val_main_v1 (F := Ideal) x0 i = ∑ k, rowA x0 (i 0) k * rowA x0 (i 0) k := by
  rw [val_main_v1_apply, zero0, zero_add]
  refine Finset.sum_congr rfl fun k _ => ?_
  rw [val_main_v0_apply, eta2 (idx_main_v1 i k)]
  rfl

theorem v30 (i : S4096.Idx) : val_main_v30 (F := Ideal) x0 i = ∑ k, rowA x0 (i 0) k * rowA x0 (i 0) k := by
  rw [val_main_v30_apply, zero5, zero_add]
  refine Finset.sum_congr rfl fun k _ => ?_
  rw [val_main_v29_apply, eta2 (idx_main_v30 i k)]
  rfl

theorem v7 (i : S4096x1.Idx) : val_main_v7 (F := Ideal) x0 i = rstd (rowA x0 (i 0)) := by
  rw [val_main_v7_apply, val_main_v6_apply, val_main_v4_apply, val_main_v2_apply, v1, val_main_v3_apply, val_main_v5_apply,
    val_main_cst_0_apply, val_main_cst_1_apply]
  rfl

theorem v36 (i : S4096x1.Idx) : val_main_v36 (F := Ideal) x0 i = rstd (rowA x0 (i 0)) := by
  rw [val_main_v36_apply, val_main_v35_apply, val_main_v33_apply, val_main_v31_apply, v30, val_main_v32_apply, val_main_v34_apply,
    val_main_cst_6_apply, val_main_cst_7_apply]
  rfl

theorem v11 (i : S4096x1024.Idx) : val_main_v11 (F := Ideal) x0 x1 i = nrm (rowA x0 (i 0)) (gainA x1) (i 1) := by
  rw [val_main_v11_apply, val_main_v9_apply, val_main_v8_apply, v7, val_main_v10_apply, eta2 (idx_main_v10 i), eta2 i]
  rfl

theorem v45 (i : S1024x4096.Idx) : val_main_v45 (F := Ideal) x0 x1 i = nrm (rowA x0 (i 1)) (gainA x1) (i 0) := by
  rw [val_main_v45_apply, val_main_v44_apply, v11]
  rfl

/-! ## The gated product -/

theorem v12 (i : S4096x5632.Idx) : val_main_v12 (F := Ideal) x0 x1 x2 i = zA x0 x1 x2 (i 0) (i 1) := by
  rw [val_main_v12_apply]
  refine Finset.sum_congr rfl fun k _ => congrArg₂ (fun a b : EReal => a * b) (v11 x0 x1 _) (congrArg x2 (eta2 _))

theorem v13 (i : S4096x2816.Idx) : val_main_v13 (F := Ideal) x0 x1 x2 i = zA x0 x1 x2 (i 0) (gcol (i 1)) :=
  (val_main_v13_apply (F := Ideal) x0 x1 x2 i).trans (v12 x0 x1 x2 (idx_main_v13 i))
theorem v14 (i : S4096x2816.Idx) : val_main_v14 (F := Ideal) x0 x1 x2 i = zA x0 x1 x2 (i 0) (ucol (i 1)) :=
  (val_main_v14_apply (F := Ideal) x0 x1 x2 i).trans (v12 x0 x1 x2 (idx_main_v14 i))

theorem v15_2 (i : S4096x2816.Idx) : val_main_v15_2 (F := Ideal) x0 x1 x2 i = sg (zA x0 x1 x2 (i 0) (gcol (i 1))) := by
  rw [val_main_v15_2_apply, val_main_call0_v4_apply, val_main_call0_cst_0_apply, val_main_call0_v3_apply, val_main_call0_v2_apply,
    val_main_call0_cst_apply, val_main_call0_v1_apply, val_main_call0_v0_apply, v13]
  rfl

theorem v15_0 (i : S4096x2816.Idx) : val_main_v15_0 (F := Ideal) x0 x1 x2 i = silu (zA x0 x1 x2 (i 0) (gcol (i 1))) := by
  rw [val_main_v15_0_apply, v13, v15_2]
  rfl

theorem v15_1 (i : S4096x2816.Idx) : val_main_v15_1 (F := Ideal) x0 x1 x2 i
    = sg (zA x0 x1 x2 (i 0) (gcol (i 1))) * (one - sg (zA x0 x1 x2 (i 0) (gcol (i 1)))) := by
  rw [val_main_v15_1_apply, val_main_call0_v7_apply, val_main_call0_v6_apply, val_main_call0_cst_1_apply, v15_2]
  rfl

theorem v26 (i : S4096x2816.Idx) : val_main_v26 (F := Ideal) x0 x1 x2 i = actA x0 x1 x2 (i 0) (i 1) := by
  rw [val_main_v26_apply, v15_0, v14]
  rfl
theorem v37 (i : S4096x2816.Idx) : val_main_v37 (F := Ideal) x0 x1 x2 i = actA x0 x1 x2 (i 0) (i 1) := by
  rw [val_main_v37_apply, v15_0, v14]
  rfl

theorem v41 (i : S4096x1024.Idx) : val_main_v41 (F := Ideal) x0 x1 x2 x3 i = outA x0 x1 x2 x3 (i 0) (i 1) := by
  rw [val_main_v41_apply, val_main_v40_apply, val_main_v39_apply, val_main_cst_8_apply, val_main_v38_apply]
  refine congrArg₂ (fun a b : EReal => a + half * b) (congrArg x0 (eta2 i)) ?_
  exact Finset.sum_congr rfl fun k _ => congrArg₂ (fun a b : EReal => a * b) (v37 x0 x1 x2 _) (congrArg x3 (eta2 _))

theorem v43 (i : S4x704x4096.Idx) : val_main_v43 (F := Ideal) x0 x1 x2 i = actA x0 x1 x2 (i 2) (col4 (i 0) (i 1)) := by
  have b0 : (i 0).val < 4 := (i 0).isLt
  have b1 : (i 1).val < 704 := (i 1).isLt
  have b2 : (i 2).val < 4096 := (i 2).isLt
  rw [val_main_v43_apply, val_main_v28_apply, val_main_v27_apply, v26]
  refine congrArg₂ (actA x0 x1 x2) (Fin.ext ?_) (Fin.ext ?_)
  · show (((i 0).val * 704 + (i 1).val) * 4096 + (i 2).val) % 4096 = (i 2).val; omega
  · show (((i 0).val * 704 + (i 1).val) * 4096 + (i 2).val) / 4096 = (i 0).val * 704 + (i 1).val; omega

/-! ## The derivatives -/

/-- Half of the derivative in the gate, however the factors are grouped. -/
theorem jg_eq (z u : EReal) : half * ((one * sg z + z * one * (sg z * (one - sg z))) * u) = jg z u := by
  unfold jg silu
  rw [one_eq, one_mul, mul_one, ← mul_assoc z, mul_comm (_ + _) u, ← mul_assoc]

theorem v20 (i : S4096x2816.Idx) : val_main_v20 (F := Ideal) x0 x1 x2 i = jg (zA x0 x1 x2 (i 0) (gcol (i 1))) (zA x0 x1 x2 (i 0) (ucol (i 1))) := by
  rw [val_main_v20_apply, val_main_v19_apply, val_main_cst_3_apply, val_main_v18_apply, val_main_v17_apply, val_main_call1_v1_apply,
    val_main_call1_v2_apply, val_main_call1_v0_apply, val_main_v16_apply, val_main_cst_2_apply, v13, v14, v15_1, v15_2]
  exact jg_eq _ _

theorem v22 (i : S4096x2816.Idx) : val_main_v22 (F := Ideal) x0 x1 x2 i = ju (zA x0 x1 x2 (i 0) (gcol (i 1))) := by
  rw [val_main_v22_apply, val_main_v21_apply, val_main_cst_4_apply, v15_0]
  rfl

theorem v23 (i : S4096x5632.Idx) : val_main_v23 (F := Ideal) x0 x1 x2 i = jacA x0 x1 x2 (i 0) (i 1) := by
  have b1 : (i 1).val < 5632 := (i 1).isLt
  unfold val_main_v23 jacA
  split
  · next hj =>
    exact (concatenate_pair_apply_left (t := S4096x5632) (s₁ := S4096x2816) (s₂ := S4096x2816) 1 _ _ _ i rfl (ix2 (i 0) ⟨(i 1).val, hj⟩)
      (by intro c; match c with | ⟨0, _⟩ => rfl | ⟨1, _⟩ => rfl)).trans (v20 x0 x1 x2 _)
  · next hj =>
    exact (concatenate_pair_apply_right (t := S4096x5632) (s₁ := S4096x2816) (s₂ := S4096x2816) 1 _ _ _ i rfl rfl (ix2 (i 0) ⟨(i 1).val - 2816, by omega⟩)
      (by intro c hne; match c with | ⟨0, _⟩ => rfl | ⟨1, _⟩ => exact absurd rfl hne)
      (by show (i 1).val - 2816 + 2816 = (i 1).val; omega)).trans (v22 x0 x1 x2 _)

theorem v42 (i : S8x4096x704.Idx) : val_main_v42 (F := Ideal) x0 x1 x2 i = jacA x0 x1 x2 (i 1) (col8 (i 0) (i 2)) := by
  have b0 : (i 0).val < 8 := (i 0).isLt
  have b1 : (i 1).val < 4096 := (i 1).isLt
  have b2 : (i 2).val < 704 := (i 2).isLt
  rw [val_main_v42_apply, val_main_v25_apply, val_main_v24_apply, v23]
  refine congrArg₂ (jacA x0 x1 x2) (Fin.ext ?_) (Fin.ext ?_)
  · show (((i 1).val * 8 + (i 0).val) * 704 + (i 2).val) / 5632 = (i 1).val; omega
  · show (((i 1).val * 8 + (i 0).val) * 704 + (i 2).val) % 5632 = (i 0).val * 704 + (i 2).val; omega

end

end Cert.Fwd

end
-- ==== Proof.FwdClaim.lean ====
/- Hand-written, untrusted: THE FEED-FORWARD BLOCK'S FIVE RESULT ARRAYS. Which rows and columns a grid point's blocks hold, what the
   arrays hold after the launch, and the value claim: the kernel's arrays are the reference's, for all arguments. -/
module

public import proofs.«01_k».proof.Defs
public import proofs.«01_k».proof.Proof.FwdRef
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import Idealize.ShloMosaic.Lib.Tactic

@[expose] public section

noncomputable section

namespace Cert.Fwd

open Cert.Kernel5Ideal Cert.Kernel5Ideal.Gen Cert.Lift
open Cert.Reference5Ideal.Read (val_main_v36 val_main_v41 val_main_v42 val_main_v43 val_main_v45 val_main_v36_eq val_main_v41_eq
  val_main_v42_eq val_main_v43_eq val_main_v45_eq)
open Idealize.ShloMosaic Idealize.ShloMosaic.TcCoe Idealize.SL.Sem Idealize.ShloMosaic.StableHlo
open Idealize.ShloMosaic.ValueIdx (ix1 ix2 ix3)

/-! ## The buffers at the launch -/

variable (m : (ℓ : Loc nD τ sig) → Buf (Elt Ideal) ℓ) (c : Dev nD)

abbrev A0 : FVec Ideal S4096x1024 .f32 := m ((c : Thread nD τ).loc main_arg0)
abbrev A1 : FVec Ideal S1x1024 .f32 := m ((c : Thread nD τ).loc main_arg1)
abbrev A2 : FVec Ideal S1024x5632 .f32 := m ((c : Thread nD τ).loc main_arg2)
abbrev A3 : FVec Ideal S2816x1024 .f32 := m ((c : Thread nD τ).loc main_arg3)

theorem v2 : V m c main_v2 = truncf (F := Ideal) .bf16 (transpose S8x1024x704 [1, 0, 2] (shapeCast S1024x8x704 (A2 m c)
    shapeCasts_S1024x5632_S1024x8x704) transposes_S1024x8x704_S8x1024x704_1_0_2) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v4 : V m c main_v4 = shapeCast S8x352x1024 (truncf (F := Ideal) (φ := .f32) (s := S2816x1024) .bf16 (A3 m c) bitsLt_bf16_f32)
    shapeCasts_S2816x1024_S8x352x1024 := by
  unfold V
  simp only [hostOps0, List.flatten_cons, List.flatten_nil, List.cons_append, List.nil_append,
    TRef.binary, TRef.nullary, TRef.unary, TRef.toBuf, TRef.ofBuf, cast_eq]
  after_results_simp
  rfl

/-- Row `i` of slot `s` of the down projection. -/
def row8 (s : Fin 8) (i : Fin 352) : Fin 2816 := ⟨s.val * 352 + i.val, by omega⟩

theorem gu_apply (i : S8x1024x704.Idx) : V m c main_v2 i = colA (A2 m c) (col8 (i 0) (i 2)) (i 1) :=
  (congrFun (v2 m c) i).trans ((transpose_apply (s := S1024x8x704) (t := S8x1024x704) [1, 0, 2] (shapeCast S1024x8x704 (A2 m c) shapeCasts_S1024x5632_S1024x8x704) transposes_S1024x8x704_S8x1024x704_1_0_2 i
    (ix3 (i 1) (i 0) (i 2)) (fun b => match b with | ⟨0, _⟩ => rfl | ⟨1, _⟩ => rfl | ⟨2, _⟩ => rfl)).trans
    (shapeCast_apply (A2 m c) _ _ (ix2 (i 1) (col8 (i 0) (i 2))) (by
      rw [Shape.rowMajor_val_three, Shape.rowMajor_val_two]
      show (i 1).val * 5632 + ((i 0).val * 704 + (i 2).val) = ((i 1).val * 8 + (i 0).val) * 704 + (i 2).val
      omega)))

theorem dn_apply (i : S8x352x1024.Idx) : V m c main_v4 i = downA (A3 m c) (row8 (i 0) (i 1)) (i 2) :=
  (congrFun (v4 m c) i).trans (shapeCast_apply (truncf (F := Ideal) (φ := .f32) (s := S2816x1024) .bf16 (A3 m c) bitsLt_bf16_f32)
    shapeCasts_S2816x1024_S8x352x1024 i (ix2 (row8 (i 0) (i 1)) (i 2)) (by
      rw [Shape.rowMajor_val_three, Shape.rowMajor_val_two]; rfl))

/-! ## The grid -/

/-- Where each window's block starts, in blocks. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = 0 ∧ win0_6.index t (2 : Fin 3) = t.val)
    ∧ (win0_7.index t (0 : Fin 2) = 0 ∧ win0_7.index t (1 : Fin 2) = t.val)
    ∧ (win0_8.index t (0 : Fin 2) = t.val ∧ win0_8.index t (1 : Fin 2) = 0) :=
  (by decide +kernel : ∀ t : Fin grid0.N, _)

theorem lt16 (t : Fin cfg0.N) : t.val < 16 := Nat.lt_of_lt_of_eq t.isLt N_0
/-- Row `r` of the 256 rows of grid point `t`. -/
def trow (t : Fin cfg0.N) (r : Fin 256) : Fin 4096 := ⟨t.val * 256 + r.val, by have := lt16 t; omega⟩

variable (t : Fin cfg0.N)

theorem emb0 (y : S256x1024.Idx) : ((cfg0.win 0).blk t).view.emb y = ix2 (trow t (y 0)) (y 1) := by
  have hi := (idx_facts t).1
  funext a; apply Fin.ext
  match a with
  | ⟨0, _⟩ => show win0_0.index t (0 : Fin 2) * 256 + 1 * (y 0).val = t.val * 256 + (y 0).val; rw [hi.1]; omega
  | ⟨1, _⟩ => show win0_0.index t (1 : Fin 2) * 1024 + 1 * (y 1).val = (y 1).val; rw [hi.2]; omega

theorem emb1 (y : S1x1024.Idx) : ((cfg0.win 1).blk t).view.emb y = y := by
  have hi := (idx_facts t).2.1
  funext a; apply Fin.ext
  match a with
  | ⟨0, _⟩ => show win0_1.index t (0 : Fin 2) * 1 + 1 * (y 0).val = (y 0).val; rw [hi.1]; omega
  | ⟨1, _⟩ => show win0_1.index t (1 : Fin 2) * 1024 + 1 * (y 1).val = (y 1).val; rw [hi.2]; omega

theorem emb2 (y : S8x1024x704.Idx) : ((cfg0.win 2).blk t).view.emb y = y := by
  have hi := (idx_facts t).2.2.1
  funext a; apply Fin.ext
  match a with
  | ⟨0, _⟩ => show win0_2.index t (0 : Fin 3) * 8 + 1 * (y 0).val = (y 0).val; rw [hi.1]; omega
  | ⟨1, _⟩ => show win0_2.index t (1 : Fin 3) * 1024 + 1 * (y 1).val = (y 1).val; rw [hi.2.1]; omega
  | ⟨2, _⟩ => show win0_2.index t (2 : Fin 3) * 704 + 1 * (y 2).val = (y 2).val; rw [hi.2.2]; omega

theorem emb3 (y : S8x352x1024.Idx) : ((cfg0.win 3).blk t).view.emb y = y := by
  have hi := (idx_facts t).2.2.2.1
  funext a; apply Fin.ext
  match a with
  | ⟨0, _⟩ => show win0_3.index t (0 : Fin 3) * 8 + 1 * (y 0).val = (y 0).val; rw [hi.1]; omega
  | ⟨1, _⟩ => show win0_3.index t (1 : Fin 3) * 352 + 1 * (y 1).val = (y 1).val; rw [hi.2.1]; omega
  | ⟨2, _⟩ => show win0_3.index t (2 : Fin 3) * 1024 + 1 * (y 2).val = (y 2).val; rw [hi.2.2]; omega

theorem emb4 (y : S256x1024.Idx) : ((cfg0.win 4).blk t).view.emb y = ix2 (trow t (y 0)) (y 1) := by
  have hi := (idx_facts t).2.2.2.2.1
  funext a; apply Fin.ext
  match a with
  | ⟨0, _⟩ => show win0_4.index t (0 : Fin 2) * 256 + 1 * (y 0).val = t.val * 256 + (y 0).val; rw [hi.1]; omega
  | ⟨1, _⟩ => show win0_4.index t (1 : Fin 2) * 1024 + 1 * (y 1).val = (y 1).val; rw [hi.2]; omega

theorem emb5 (y : S8x256x704.Idx) : ((cfg0.win 5).blk t).view.emb y = ix3 (y 0) (trow t (y 1)) (y 2) := by
  have hi := (idx_facts t).2.2.2.2.2.1
  funext a; apply Fin.ext
  match a with
  | ⟨0, _⟩ => show win0_5.index t (0 : Fin 3) * 8 + 1 * (y 0).val = (y 0).val; rw [hi.1]; omega
  | ⟨1, _⟩ => show win0_5.index t (1 : Fin 3) * 256 + 1 * (y 1).val = t.val * 256 + (y 1).val; rw [hi.2.1]; omega
  | ⟨2, _⟩ => show win0_5.index t (2 : Fin 3) * 704 + 1 * (y 2).val = (y 2).val; rw [hi.2.2]; omega

theorem emb6 (y : S4x704x256.Idx) : ((cfg0.win 6).blk t).view.emb y = ix3 (y 0) (y 1) (trow t (y 2)) := by
  have hi := (idx_facts t).2.2.2.2.2.2.1
  funext a; apply Fin.ext
  match a with
  | ⟨0, _⟩ => show win0_6.index t (0 : Fin 3) * 4 + 1 * (y 0).val = (y 0).val; rw [hi.1]; omega
  | ⟨1, _⟩ => show win0_6.index t (1 : Fin 3) * 704 + 1 * (y 1).val = (y 1).val; rw [hi.2.1]; omega
  | ⟨2, _⟩ => show win0_6.index t (2 : Fin 3) * 256 + 1 * (y 2).val = t.val * 256 + (y 2).val; rw [hi.2.2]; omega

theorem emb7 (y : S1024x256.Idx) : ((cfg0.win 7).blk t).view.emb y = ix2 (y 0) (trow t (y 1)) := by
  have hi := (idx_facts t).2.2.2.2.2.2.2.1
  funext a; apply Fin.ext
  match a with
  | ⟨0, _⟩ => show win0_7.index t (0 : Fin 2) * 1024 + 1 * (y 0).val = (y 0).val; rw [hi.1]; omega
  | ⟨1, _⟩ => show win0_7.index t (1 : Fin 2) * 256 + 1 * (y 1).val = t.val * 256 + (y 1).val; rw [hi.2]; omega

theorem emb8 (y : S256x1.Idx) : ((cfg0.win 8).blk t).view.emb y = ix2 (trow t (y 0)) (y 1) := by
  have hi := (idx_facts t).2.2.2.2.2.2.2.2
  funext a; apply Fin.ext
  match a with
  | ⟨0, _⟩ => show win0_8.index t (0 : Fin 2) * 256 + 1 * (y 0).val = t.val * 256 + (y 0).val; rw [hi.1]; omega
  | ⟨1, _⟩ => show win0_8.index t (1 : Fin 2) * 1 + 1 * (y 1).val = (y 1).val; rw [hi.2]; omega

/-! ## The blocks that a grid point reads -/

theorem blk_row (r : Fin 256) : Body.row (iblk m c 0 t) r = rowA (A0 m c) (trow t r) := funext fun k =>
  (congrArg (V m c main_arg0) (emb0 t (ix2 r k))).trans (congrFun (V_main_arg0 m c) _)
theorem blk_gain : Body.gain (iblk m c 1 t) = gainA (A1 m c) := funext fun k =>
  (congrArg (V m c main_arg1) (emb1 t (ix2 (0 : Fin 1) k))).trans (congrFun (V_main_arg1 m c) _)
theorem blk_col (s : Fin 8) (j : Fin 704) : Body.col (iblk m c 2 t) s j = colA (A2 m c) (col8 s j) := funext fun k =>
  (congrArg (V m c main_v2) (emb2 t (ix3 s k j))).trans (gu_apply m c _)
theorem blk_pair (d : Fin 4) (j : Fin 704) (k : Fin 1024) : Body.pair (iblk m c 3 t) d j k = downA (A3 m c) (col4 d j) k := by
  have e : row8 (⟨2 * d.val + j.val / 352, by omega⟩ : Fin 8) (⟨j.val % 352, Nat.mod_lt _ (by norm_num)⟩ : Fin 352) = col4 d j :=
    Fin.ext (by show (2 * d.val + j.val / 352) * 352 + j.val % 352 = d.val * 704 + j.val; omega)
  unfold Body.pair
  refine ((congrArg (V m c main_v4) (emb3 t _)).trans (dn_apply m c _)).trans ?_
  exact congrArg (fun j => downA (A3 m c) j k) e

theorem blk_z (s : Fin 8) (r : Fin 256) (j : Fin 704) :
    Body.z (iblk m c 0 t) (iblk m c 1 t) (iblk m c 2 t) s r j = zA (A0 m c) (A1 m c) (A2 m c) (trow t r) (col8 s j) := by
  unfold Body.z zA
  rw [blk_row, blk_gain, blk_col]

theorem lo_col (d : Fin 4) (j : Fin 704) : col8 (Body.lo d) j = gcol (col4 d j) := rfl
theorem hi_col (d : Fin 4) (j : Fin 704) : col8 (Body.hi d) j = ucol (col4 d j) :=
  Fin.ext (by show (4 + d.val) * 704 + j.val = 2816 + (d.val * 704 + j.val); omega)

theorem blk_act (d : Fin 4) (r : Fin 256) (j : Fin 704) : Body.a (iblk m c 0 t) (iblk m c 1 t) (iblk m c 2 t) d r j
    = actA (A0 m c) (A1 m c) (A2 m c) (trow t r) (col4 d j) := by
  unfold Body.a actA
  rw [blk_z, blk_z, lo_col, hi_col]

theorem blk_jac (s : Fin 8) (r : Fin 256) (j : Fin 704) : Body.jac (iblk m c 0 t) (iblk m c 1 t) (iblk m c 2 t) s r j
    = jacA (A0 m c) (A1 m c) (A2 m c) (trow t r) (col8 s j) := by
  have hs : (col8 s j).val = s.val * 704 + j.val := rfl
  unfold Body.jac jacA
  by_cases h : s.val < 4
  · rw [dif_pos h, dif_pos (by omega), blk_z, blk_z, hi_col]
    rfl
  · rw [dif_neg h, dif_neg (by omega), blk_z]
    refine congrArg (fun j => ju (zA (A0 m c) (A1 m c) (A2 m c) (trow t r) j)) (Fin.ext ?_)
    show (s.val - 4) * 704 + j.val = s.val * 704 + j.val - 2816
    omega

/-- A sum over all 2816 columns, slot by slot. -/
theorem sum_slots4 (f : Fin 2816 → EReal) : ∑ j, f j = ∑ d : Fin 4, ∑ j : Fin 704, f (col4 d j) := by
  rw [← Fintype.sum_prod_type', ← Equiv.sum_comp (finProdFinEquiv (m := 4) (n := 704))]
  refine Finset.sum_congr rfl fun p _ => congrArg f (Fin.ext ?_)
  show p.2.val + 704 * p.1.val = p.1.val * 704 + p.2.val
  omega

theorem blk_part (d : Fin 4) (r : Fin 256) (k : Fin 1024) : Body.part (iblk m c 0 t) (iblk m c 1 t) (iblk m c 2 t) (iblk m c 3 t) d r k
    = ∑ j : Fin 704, actA (A0 m c) (A1 m c) (A2 m c) (trow t r) (col4 d j) * downA (A3 m c) (col4 d j) k :=
  Finset.sum_congr rfl fun j _ => congrArg₂ (fun a b : EReal => a * b) (blk_act m c t d r j) (blk_pair m c t d j k)

/-- The four slots' shares of the down projection, added up from zero, are the whole sum. -/
theorem blk_down (r : Fin 256) (k : Fin 1024) :
    Ideal.ofBits .f32 0x00000000#32 + Body.part (iblk m c 0 t) (iblk m c 1 t) (iblk m c 2 t) (iblk m c 3 t) 0 r k
      + Body.part (iblk m c 0 t) (iblk m c 1 t) (iblk m c 2 t) (iblk m c 3 t) 1 r k
      + Body.part (iblk m c 0 t) (iblk m c 1 t) (iblk m c 2 t) (iblk m c 3 t) 2 r k
      + Body.part (iblk m c 0 t) (iblk m c 1 t) (iblk m c 2 t) (iblk m c 3 t) 3 r k
    = ∑ j : Fin 2816, actA (A0 m c) (A1 m c) (A2 m c) (trow t r) j * downA (A3 m c) j k := by
  rw [sum_slots4 fun j => actA (A0 m c) (A1 m c) (A2 m c) (trow t r) j * downA (A3 m c) j k, Fin.sum_univ_four,
    blk_part m c t 0 r k, blk_part m c t 1 r k, blk_part m c t 2 r k, blk_part m c t 3 r k,
    (Ideal.ofBits_zero_f32 : Ideal.ofBits .f32 0x00000000#32 = 0), zero_add]

theorem blk_out (y : S256x1024.Idx) : out0_4 (F := Ideal) (iblk m c 0 t) (iblk m c 1 t) (iblk m c 2 t) (iblk m c 3 t) y
    = outA (A0 m c) (A1 m c) (A2 m c) (A3 m c) (trow t (y 0)) (y 1) :=
  (Body.out4 _ _ _ _ y).trans (congrArg₂ (fun a b : EReal => a + half * b)
    ((congrArg (V m c main_arg0) (emb0 t y)).trans (congrFun (V_main_arg0 m c) _)) (blk_down m c t (y 0) (y 1)))

/-! ## The result arrays -/

/-- The grid point that holds a row, and the row in it. -/
def tof (r : Fin 4096) : Fin cfg0.N := ⟨r.val / 256, by have hN : cfg0.N = 16 := N_0; omega⟩
def rof (r : Fin 4096) : Fin 256 := ⟨r.val % 256, Nat.mod_lt _ (by norm_num)⟩
theorem trow_of (r : Fin 4096) : trow (tof r) (rof r) = r := Fin.ext (by show r.val / 256 * 256 + r.val % 256 = r.val; omega)

theorem arr4 (i : S4096x1024.Idx) : (Gen.dats m 0 c).arrAt 4 cfg0.N i = val_main_v41 (F := Ideal) (A0 m c) (A1 m c) (A2 m c) (A3 m c) i := by
  let t : Fin cfg0.N := tof (i 0)
  let y : S256x1024.Idx := ix2 (rof (i 0)) (i 1)
  have er : trow t (y 0) = i 0 := trow_of (i 0)
  have e : ((cfg0.win 4).blk t).view.emb y = i := (emb4 t y).trans ((congrArg (fun r => ix2 r (i 1)) er).trans (eta2 i).symm)
  have b' : (Gen.dats m 0 c).arrAt 4 cfg0.N (((cfg0.win 4).blk t).view.emb y) = (Gen.dats m 0 c).flushed 4 t y :=
    congrFun (Value.blocks4 m c t (flush0_4 t)) y
  rw [e] at b'
  refine b'.trans ((congrFun (Value.flushed4 m c t) y).trans ((blk_out m c t y).trans ?_))
  exact (congrArg (fun r => outA (A0 m c) (A1 m c) (A2 m c) (A3 m c) r (i 1)) er).trans (v41 (A0 m c) (A1 m c) (A2 m c) (A3 m c) i).symm

theorem arr5 (i : S8x4096x704.Idx) : (Gen.dats m 0 c).arrAt 5 cfg0.N i = val_main_v42 (F := Ideal) (A0 m c) (A1 m c) (A2 m c) i := by
  let t : Fin cfg0.N := tof (i 1)
  let y : S8x256x704.Idx := ix3 (i 0) (rof (i 1)) (i 2)
  have er : trow t (y 1) = i 1 := trow_of (i 1)
  have e : ((cfg0.win 5).blk t).view.emb y = i := (emb5 t y).trans ((congrArg (fun r => ix3 (i 0) r (i 2)) er).trans
    (funext fun a => by match a with | ⟨0, _⟩ => rfl | ⟨1, _⟩ => rfl | ⟨2, _⟩ => rfl))
  have b' : (Gen.dats m 0 c).arrAt 5 cfg0.N (((cfg0.win 5).blk t).view.emb y) = (Gen.dats m 0 c).flushed 5 t y :=
    congrFun (Value.blocks5 m c t (flush0_5 t)) y
  rw [e] at b'
  refine b'.trans ((congrFun (Value.flushed5 m c t) y).trans ((Body.out5 _ _ _ _ y).trans ((blk_jac m c t _ _ _).trans ?_)))
  exact (congrArg (fun r => jacA (A0 m c) (A1 m c) (A2 m c) r (col8 (i 0) (i 2))) er).trans (v42 (A0 m c) (A1 m c) (A2 m c) i).symm

theorem arr6 (i : S4x704x4096.Idx) : (Gen.dats m 0 c).arrAt 6 cfg0.N i = val_main_v43 (F := Ideal) (A0 m c) (A1 m c) (A2 m c) i := by
  let t : Fin cfg0.N := tof (i 2)
  let y : S4x704x256.Idx := ix3 (i 0) (i 1) (rof (i 2))
  have er : trow t (y 2) = i 2 := trow_of (i 2)
  have e : ((cfg0.win 6).blk t).view.emb y = i := (emb6 t y).trans ((congrArg (fun r => ix3 (i 0) (i 1) r) er).trans
    (funext fun a => by match a with | ⟨0, _⟩ => rfl | ⟨1, _⟩ => rfl | ⟨2, _⟩ => rfl))
  have b' : (Gen.dats m 0 c).arrAt 6 cfg0.N (((cfg0.win 6).blk t).view.emb y) = (Gen.dats m 0 c).flushed 6 t y :=
    congrFun (Value.blocks6 m c t (flush0_6 t)) y
  rw [e] at b'
  refine b'.trans ((congrFun (Value.flushed6 m c t) y).trans ((Body.out6 _ _ _ _ y).trans ((blk_act m c t _ _ _).trans ?_)))
  exact (congrArg (fun r => actA (A0 m c) (A1 m c) (A2 m c) r (col4 (i 0) (i 1))) er).trans (v43 (A0 m c) (A1 m c) (A2 m c) i).symm

theorem arr7 (i : S1024x4096.Idx) : (Gen.dats m 0 c).arrAt 7 cfg0.N i = val_main_v45 (F := Ideal) (A0 m c) (A1 m c) i := by
  let t : Fin cfg0.N := tof (i 1)
  let y : S1024x256.Idx := ix2 (i 0) (rof (i 1))
  have er : trow t (y 1) = i 1 := trow_of (i 1)
  have e : ((cfg0.win 7).blk t).view.emb y = i := (emb7 t y).trans ((congrArg (fun r => ix2 (i 0) r) er).trans (eta2 i).symm)
  have b' : (Gen.dats m 0 c).arrAt 7 cfg0.N (((cfg0.win 7).blk t).view.emb y) = (Gen.dats m 0 c).flushed 7 t y :=
    congrFun (Value.blocks7 m c t (flush0_7 t)) y
  rw [e] at b'
  refine b'.trans ((congrFun (Value.flushed7 m c t) y).trans ((Body.out7 _ _ _ _ y).trans ?_))
  refine (congrArg₂ (fun x g => nrm x g (y 0)) (blk_row m c t _) (blk_gain m c t)).trans ?_
  exact (congrArg (fun r => nrm (rowA (A0 m c) r) (gainA (A1 m c)) (i 0)) er).trans (v45 (A0 m c) (A1 m c) i).symm

theorem arr8 (i : S4096x1.Idx) : (Gen.dats m 0 c).arrAt 8 cfg0.N i = val_main_v36 (F := Ideal) (A0 m c) i := by
  let t : Fin cfg0.N := tof (i 0)
  let y : S256x1.Idx := ix2 (rof (i 0)) (i 1)
  have er : trow t (y 0) = i 0 := trow_of (i 0)
  have e : ((cfg0.win 8).blk t).view.emb y = i := (emb8 t y).trans ((congrArg (fun r => ix2 r (i 1)) er).trans (eta2 i).symm)
  have b' : (Gen.dats m 0 c).arrAt 8 cfg0.N (((cfg0.win 8).blk t).view.emb y) = (Gen.dats m 0 c).flushed 8 t y :=
    congrFun (Value.blocks8 m c t (flush0_8 t)) y
  rw [e] at b'
  refine b'.trans ((congrFun (Value.flushed8 m c t) y).trans ((Body.out8 _ _ _ _ y).trans ((congrArg rstd (blk_row m c t _)).trans ?_)))
  exact (congrArg (fun r => rstd (rowA (A0 m c) r)) er).trans (v36 (A0 m c) i).symm

theorem algebraic : Cert.algebraic_Kernel5Ideal_Reference5Ideal := by
  intro m g m' g' _ hag
  refine ⟨fun c => val_main_v41 (F := Ideal) (A0 m c) (A1 m c) (A2 m c) (A3 m c), fun c => val_main_v42 (F := Ideal) (A0 m c) (A1 m c) (A2 m c),
    fun c => val_main_v43 (F := Ideal) (A0 m c) (A1 m c) (A2 m c), fun c => val_main_v45 (F := Ideal) (A0 m c) (A1 m c),
    fun c => val_main_v36 (F := Ideal) (A0 m c), ?_, ?_⟩
  · refine (θ_run Cert.Kernel5Ideal.defs _ _).mono (fun r hr c => ?_) (Cert.Kernel5Ideal.Value.run_blocks (F := Ideal) m g)
    obtain ⟨r0, r1, r2, r3, r4, k⟩ := hr c
    exact ⟨r0.trans (funext fun i => arr4 m c i), r1.trans (funext fun i => arr5 m c i), r2.trans (funext fun i => arr6 m c i),
      r3.trans (funext fun i => arr7 m c i), r4.trans (funext fun i => arr8 m c i), k⟩
  · refine (θ_run Cert.Reference5Ideal.defs _ _).mono (fun r hr c => ?_) (Cert.Reference5Ideal.Value.run (F := Ideal) m' g')
    obtain ⟨r0, r1, r2, r3, r4, k⟩ := hr c
    obtain ⟨a0, a1, a2, a3⟩ := hag c
    refine ⟨r0.trans ((val_main_v41_eq _ _ _ _).trans ?_), r1.trans ((val_main_v42_eq _ _).trans ?_), r2.trans ((val_main_v43_eq _ _ _).trans ?_),
      r3.trans ((val_main_v45_eq _ _).trans ?_), r4.trans ((val_main_v36_eq _).trans ?_), k⟩
    · rw [a0, a1, a2, a3]
    · rw [a0, a1, a2]
    · rw [a0, a1, a2]
    · rw [a0, a1]
    · rw [a0]

end Cert.Fwd

end
-- ==== Proof.MixBody.lean ====
/- Hand-written, untrusted: WHAT ONE GRID POINT OF THE MIXER'S INPUT PROJECTIONS COMPUTES. A grid point takes 512 rows, the gain and
   three weight blocks: three slots of 512 columns, a block of 768 columns and a block of 2048 columns. The theorems say what its
   five stored blocks hold, over the extended reals and for all arguments. -/
module

public import proofs.«01_k».proof.Proof.FwdBody
public import proofs.«01_k».proof.Proof.Gen.Kernel6Ideal.Frame
public import Idealize.ShloMosaic.Lib.Pipeline.Value
public import Idealize.ShloMosaic.Lib.Pipeline.ValueKit.Tiles
public import Idealize.ShloMosaic.Lib.Tactic

@[expose] public section

noncomputable section

namespace Cert.Mix.Body

open Cert.Kernel6Ideal Cert.Kernel6Ideal.Gen Cert.Lift
open Cert.Fwd (rstd nrm proj)
open Cert.Fwd.Body (hz2)
open Idealize.ShloMosaic Idealize.ShloMosaic.TcCoe Idealize.SL.Sem
open Idealize.ShloMosaic.ValueIdx (ix1 ix2 ix3)
open Idealize.ShloMosaic.View (TileAt canon_eq_of_allAt allAt_cons_unit allAt_nil ld_unit_apply_of)

variable (x0 : Vec Ideal S512x1024 .f32) (x1 : Vec Ideal S1x1024 .f32) (x2 : Vec Ideal S3x1024x512 .bf16) (x3 : Vec Ideal S1024x768 .bf16)
  (x4 : Vec Ideal S1024x2048 .bf16)

/-- The blocks as tables: a row, the gain, a column of a slot, and a column of a matrix. -/
def row (r : Fin 512) (k : Fin 1024) : EReal := x0 (ix2 r k)
def gain (k : Fin 1024) : EReal := x1 (ix2 (0 : Fin 1) k)
def scol (s : Fin 3) (j : Fin 512) (k : Fin 1024) : EReal := x2 (ix3 s k j)
def mcol {N : ℕ} (w : (⟨2, ![1024, N]⟩ : Shape).Idx → EReal) (j : Fin N) (k : Fin 1024) : EReal := w (ix2 k j)

/-! ## The normalised rows -/

theorem rstd_apply (i : S512x1.Idx) : k0_pay5 (F := Ideal) x0 i = rstd (row x0 (i 0)) := by
  unfold k0_pay5
  refine congrArg (fun s => Ideal.rsqrt (Ideal.div s (Ideal.ofBits .f32 0x44800000#32) + Ideal.ofBits .f32 0x358637BD#32)) ?_
  refine (stand _ _ i).trans ((Ideal.multiReduction_add_single (mulf x0 x0) _ reduces_S512x1024_S512 _ _ _).trans ?_)
  refine Finset.sum_congr rfl fun k _ => ?_
  have e : reduces_S512x1024_S512.lift (ix1 (i 0)) k = ix2 (i 0) k :=
    funext fun a => Fin.ext (by match a with | ⟨0, _⟩ => rfl | ⟨1, _⟩ => rfl)
  rw [e]
  rfl

theorem nrm_apply (i : S512x1024.Idx) : k0_pay6 (F := Ideal) x0 x1 i = nrm (row x0 (i 0)) (gain x1) (i 1) := by
  unfold k0_pay6
  have e : i = ix2 (i 0) (i 1) := funext fun a => by match a with | ⟨0, _⟩ => rfl | ⟨1, _⟩ => rfl
  refine (congrArg₂ (fun p q : EReal => x0 i * p * q) ((bcol _ _ i).trans (rstd_apply x0 _)) (brow x1 _ i)).trans ?_
  exact congrArg (fun t => t * rstd (row x0 (i 0)) * gain x1 (i 1)) (congrArg x0 e)

/-! ## The projections -/

theorem inb (s : Fin 3) (a : Fin 3) : (![s.val, 0, 0] : Fin 3 → Nat) a + (![1, 1024, 512] : Fin 3 → Nat) a ≤ S3x1024x512.size a := by
  fin_cases a
  · show s.val + 1 ≤ 3; omega
  · exact le_refl 1024
  · exact le_refl 512

/-- Slot `s` of the first weights. -/
def wS (s : Fin 3) : FVec Ideal S1x1024x512 .bf16 := View.ld x2 (Rect.unit ![s.val, 0, 0] ![1, 1024, 512] (inb s))

theorem wS_apply (s : Fin 3) (i : S1x1024x512.Idx) : wS x2 s i = scol x2 s (i 2) (i 1) := by
  have b0 : (i 0).val < 1 := (i 0).isLt
  exact ld_unit_apply_of x2 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)

/-- A slot's projection, as it is stored: a row of slots of one. -/
theorem slot_apply (s : Fin 3) (j : S1x512x512.Idx) :
    k0_pay2 (k0_pay6 (F := Ideal) x0 x1) (wS x2 s) j = proj (row x0 (j 1)) (gain x1) (scol x2 s (j 2)) := by
  have b0 : (j 0).val < 1 := (j 0).isLt
  unfold k0_pay2
  refine (shapeCast_apply _ _ j (ix2 (j 1) (j 2)) (by
      rw [Shape.rowMajor_val_three, Shape.rowMajor_val_two]
      show (j 1).val * 512 + (j 2).val = ((j 0).val * 512 + (j 1).val) * 512 + (j 2).val
      omega)).trans ?_
  refine ((Ideal.matmul_constant_zero_apply dot_S512x1024_S1024x512_S512x512_1_0_0_1_n_n none (φ₁ := .bf16) (φ₂ := .bf16) _ _ _).trans
    (sumNN (M := 512) (N := 512) (K := 1024) dot_S512x1024_S1024x512_S512x512_1_0_0_1_n_n rfl rfl rfl rfl rfl rfl _ _ _)).trans ?_
  refine Finset.sum_congr rfl fun k _ => congrArg₂ (fun a b : EReal => a * b) (nrm_apply x0 x1 (ix2 (j 1) k)) ?_
  exact (shapeCast_apply (wS x2 s) shapeCasts_S1x1024x512_S1024x512 (ix2 k (j 2)) (ix3 (0 : Fin 1) k (j 2)) (by
      rw [Shape.rowMajor_val_three, Shape.rowMajor_val_two]
      show (0 * 1024 + k.val) * 512 + (j 2).val = k.val * 512 + (j 2).val
      omega)).trans (wS_apply x2 s _)

theorem tile {y : S3x512x512.Idx} (s : Fin 3) {w : FVec Ideal S1x512x512 .bf16} {f : Fin 3 → Fin 512 → Fin 512 → EReal}
    (hw : ∀ x : S1x512x512.Idx, w x = f s (x 1) (x 2)) :
    TileAt (Val := Elt Ideal) (e := .bf16) (S := S3x512x512) y ![s.val, 0, 0] ![1, 512, 512] w (f (y 0) (y 1) (y 2)) := fun x hx => by
  have b0 : (x 0).val < 1 := (x 0).isLt
  have e0 : (y 0).val = s.val + (x 0).val := hx 0
  have e1 : (y 1).val = 0 + (x 1).val := hx 1
  have e2 : (y 2).val = 0 + (x 2).val := hx 2
  have f0 : y 0 = s := Fin.ext (by show (y 0).val = s.val; omega)
  have f1 : y 1 = x 1 := Fin.ext (by show (y 1).val = (x 1).val; omega)
  have f2 : y 2 = x 2 := Fin.ext (by show (y 2).val = (x 2).val; omega)
  rw [f0, f1, f2]
  exact hw x

/-! ## The five stored blocks -/

theorem out5 (y : S3x512x512.Idx) : out0_5 (F := Ideal) x0 x1 x2 x3 x4 y = proj (row x0 (y 1)) (gain x1) (scol x2 (y 0) (y 2)) := by
  unfold_out out0_5
  simp only [View.ld_unit_zero (S := S512x1024) hz2, View.ld_unit_zero (S := S1x1024) hz2]
  refine canon_eq_of_allAt _ y _ (cover0_5 _ _ _ y) ?_
  refine allAt_cons_unit _ _ _ _ _ (tile (f := fun s r j => proj (row x0 r) (gain x1) (scol x2 s j)) 2 (slot_apply x0 x1 x2 2)) ?_
  refine allAt_cons_unit _ _ _ _ _ (tile (f := fun s r j => proj (row x0 r) (gain x1) (scol x2 s j)) 1 (slot_apply x0 x1 x2 1)) ?_
  exact allAt_cons_unit _ _ _ _ _ (tile (f := fun s r j => proj (row x0 r) (gain x1) (scol x2 s j)) 0 (slot_apply x0 x1 x2 0)) (allAt_nil _ _)

theorem out6 (y : S512x768.Idx) : out0_6 (F := Ideal) x0 x1 x2 x3 x4 y = proj (row x0 (y 0)) (gain x1) (mcol (N := 768) x3 (y 1)) := by
  unfold_out out0_6
  rw [View.canon_unit_zero hz2, View.ld_unit_zero (S := S512x1024) hz2, View.ld_unit_zero (S := S1x1024) hz2, View.ld_unit_zero (S := S1024x768) hz2]
  unfold k0_pay3
  refine ((Ideal.matmul_constant_zero_apply dot_S512x1024_S1024x768_S512x768_1_0_0_1_n_n none (φ₁ := .bf16) (φ₂ := .bf16) _ _ _).trans
    (sumNN (M := 512) (N := 768) (K := 1024) dot_S512x1024_S1024x768_S512x768_1_0_0_1_n_n rfl rfl rfl rfl rfl rfl _ _ _)).trans ?_
  refine Finset.sum_congr rfl fun k _ => congrArg₂ (fun a b : EReal => a * b) (nrm_apply x0 x1 (ix2 (y 0) k)) ?_
  rw [shapeCast_self]
  rfl

theorem out7 (y : S512x2048.Idx) : out0_7 (F := Ideal) x0 x1 x2 x3 x4 y = proj (row x0 (y 0)) (gain x1) (mcol (N := 2048) x4 (y 1)) := by
  unfold_out out0_7
  rw [View.canon_unit_zero hz2, View.ld_unit_zero (S := S512x1024) hz2, View.ld_unit_zero (S := S1x1024) hz2, View.ld_unit_zero (S := S1024x2048) hz2]
  unfold k0_pay4
  refine ((Ideal.matmul_constant_zero_apply dot_S512x1024_S1024x2048_S512x2048_1_0_0_1_n_n none (φ₁ := .bf16) (φ₂ := .bf16) _ _ _).trans
    (sumNN (M := 512) (N := 2048) (K := 1024) dot_S512x1024_S1024x2048_S512x2048_1_0_0_1_n_n rfl rfl rfl rfl rfl rfl _ _ _)).trans ?_
  refine Finset.sum_congr rfl fun k _ => congrArg₂ (fun a b : EReal => a * b) (nrm_apply x0 x1 (ix2 (y 0) k)) ?_
  rw [shapeCast_self]
  rfl

theorem out8 (y : S1024x512.Idx) : out0_8 (F := Ideal) x0 x1 x2 x3 x4 y = nrm (row x0 (y 1)) (gain x1) (y 0) := by
  unfold out0_8
  rw [View.canon_unit_zero hz2, View.ld_unit_zero (S := S512x1024) hz2, View.ld_unit_zero (S := S1x1024) hz2]
  unfold k0_pay7
  exact (transpose_apply (s := S512x1024) (t := S1024x512) [1, 0] (k0_pay6 (F := Ideal) x0 x1) transposes_S512x1024_p1_0_S1024x512 y (ix2 (y 1) (y 0))
    (fun b => match b with | ⟨0, _⟩ => rfl | ⟨1, _⟩ => rfl)).trans (nrm_apply x0 x1 _)

theorem out9 (y : S512x1.Idx) : out0_9 (F := Ideal) x0 x1 x2 x3 x4 y = rstd (row x0 (y 0)) := by
  unfold out0_9
  rw [View.canon_unit_zero hz2, View.ld_unit_zero (S := S512x1024) hz2]
  exact rstd_apply x0 y

end Cert.Mix.Body

end
-- ==== Proof.MixCut.lean ====
/- Hand-written, untrusted: A MATRIX OF 4288 COLUMNS CUT INTO THREE BLOCKS: three slots of 512 columns, the next 704 columns with 64
   columns of zeros behind them, and the last 2048. Both of the mixer's input kernels are handed their operands so cut. -/
module

public import proofs.«01_k».proof.Proof.Lift
public import Idealize.ShloMosaic.Lib.Pipeline.Value
public import Idealize.ShloMosaic.Lib.ValueIdx

@[expose] public section

noncomputable section

namespace Cert.Mix

open Idealize.ShloMosaic
open Idealize.ShloMosaic.ValueIdx (ix2 ix3)

/-- The columns: column `j` of slot `s` of the three, of the next 704, and of the last 2048. -/
def scolN (s : Fin 3) (j : Fin 512) : Fin 4288 := ⟨s.val * 512 + j.val, by omega⟩
def lcolN (j : ℕ) (h : j < 704) : Fin 4288 := ⟨1536 + j, by omega⟩
def gcolN (j : Fin 2048) : Fin 4288 := ⟨2240 + j.val, by omega⟩

variable {R : ℕ} (w : (⟨2, ![R, 4288]⟩ : Shape).Idx → EReal)

theorem cut_slots (hs : Shape.Slices ⟨2, ![R, 4288]⟩ ![0, 0] ⟨2, ![R, 1536]⟩) (hc : Shape.ShapeCasts ⟨2, ![R, 1536]⟩ ⟨3, ![R, 3, 512]⟩)
    (ht : Shape.Transposes ⟨3, ![R, 3, 512]⟩ [1, 0, 2] ⟨3, ![3, R, 512]⟩) (i : (⟨3, ![3, R, 512]⟩ : Shape).Idx) :
    transpose ⟨3, ![3, R, 512]⟩ [1, 0, 2] (shapeCast ⟨3, ![R, 3, 512]⟩ (extractStridedSlice ⟨2, ![R, 1536]⟩ ![0, 0] w hs) hc) ht i
      = w (ix2 (i 1) (scolN (i 0) (i 2))) := by
  have b0 : (i 0).val < 3 := (i 0).isLt
  have b2 : (i 2).val < 512 := (i 2).isLt
  refine (transpose_apply [1, 0, 2] _ ht i (ix3 (i 1) (i 0) (i 2))
    (fun b => match b with | ⟨0, _⟩ => rfl | ⟨1, _⟩ => rfl | ⟨2, _⟩ => rfl)).trans ?_
  refine (shapeCast_apply _ hc _ (ix2 (i 1) (⟨(i 0).val * 512 + (i 2).val, by omega⟩ : Fin 1536)) (by
      rw [Shape.rowMajor_val_three, Shape.rowMajor_val_two]
      show (i 1).val * 1536 + ((i 0).val * 512 + (i 2).val) = ((i 1).val * 3 + (i 0).val) * 512 + (i 2).val
      omega)).trans ?_
  exact extractStridedSlice_apply ![0, 0] w hs _ (ix2 (i 1) (scolN (i 0) (i 2))) (fun a => match a with
    | ⟨0, _⟩ => (Nat.zero_add _).symm
    | ⟨1, _⟩ => (Nat.zero_add _).symm)

theorem cut_low (hs : Shape.Slices ⟨2, ![R, 4288]⟩ ![0, 1536] ⟨2, ![R, 704]⟩) (z : (⟨2, ![R, 64]⟩ : Shape).Idx → EReal) (hz : ∀ i, z i = 0)
    (hc : Shape.Concatenates [⟨2, ![R, 704]⟩, ⟨2, ![R, 64]⟩] ⟨2, ![R, 768]⟩ 1) (i : (⟨2, ![R, 768]⟩ : Shape).Idx) :
    concatenate ⟨2, ![R, 768]⟩ 1 [⟨⟨2, ![R, 704]⟩, extractStridedSlice ⟨2, ![R, 704]⟩ ![0, 1536] w hs⟩, ⟨⟨2, ![R, 64]⟩, z⟩] hc i
      = if h : (i 1).val < 704 then w (ix2 (i 0) (lcolN (i 1).val h)) else 0 := by
  have b1 : (i 1).val < 768 := (i 1).isLt
  split
  · next hj =>
    exact (concatenate_pair_apply_left (t := ⟨2, ![R, 768]⟩) (s₁ := ⟨2, ![R, 704]⟩) (s₂ := ⟨2, ![R, 64]⟩) 1 _ _ hc i rfl
      (ix2 (i 0) ⟨(i 1).val, hj⟩) (by intro c; match c with | ⟨0, _⟩ => rfl | ⟨1, _⟩ => rfl)).trans
      (extractStridedSlice_apply ![0, 1536] w hs _ (ix2 (i 0) (lcolN (i 1).val hj)) (fun a => match a with
        | ⟨0, _⟩ => (Nat.zero_add _).symm
        | ⟨1, _⟩ => rfl))
  · next hj =>
    exact (concatenate_pair_apply_right (t := ⟨2, ![R, 768]⟩) (s₁ := ⟨2, ![R, 704]⟩) (s₂ := ⟨2, ![R, 64]⟩) 1 _ _ hc i rfl rfl
      (ix2 (i 0) ⟨(i 1).val - 704, by omega⟩) (by intro c hne; match c with | ⟨0, _⟩ => rfl | ⟨1, _⟩ => exact absurd rfl hne)
      (by show (i 1).val - 704 + 704 = (i 1).val; omega)).trans (hz _)

theorem cut_high (hs : Shape.Slices ⟨2, ![R, 4288]⟩ ![0, 2240] ⟨2, ![R, 2048]⟩) (i : (⟨2, ![R, 2048]⟩ : Shape).Idx) :
    extractStridedSlice ⟨2, ![R, 2048]⟩ ![0, 2240] w hs i = w (ix2 (i 0) (gcolN (i 1))) :=
  extractStridedSlice_apply ![0, 2240] w hs i (ix2 (i 0) (gcolN (i 1))) (fun a => match a with
    | ⟨0, _⟩ => (Nat.zero_add _).symm
    | ⟨1, _⟩ => rfl)

/-- A sum over the 4288 columns is the sum over the three blocks. -/
theorem sum_cut (f : Fin 4288 → ℝ) : ∑ k, f k
    = (∑ j, f (scolN 0 j)) + (∑ j, f (scolN 1 j)) + (∑ j, f (scolN 2 j)) + (∑ j : Fin 704, f (lcolN j.val j.isLt)) + ∑ j, f (gcolN j) := by
  have e : (4288 : ℕ) = 512 + 512 + 512 + 704 + 2048 := by norm_num
  have h : ∑ k : Fin 4288, f k = ∑ k : Fin (512 + 512 + 512 + 704 + 2048), f (Fin.cast e.symm k) :=
    (Equiv.sum_comp (finCongr e.symm) f).symm
  rw [h, Fin.sum_univ_add, Fin.sum_univ_add, Fin.sum_univ_add, Fin.sum_univ_add]
  refine congrArg₂ (· + ·) (congrArg₂ (· + ·) (congrArg₂ (· + ·) (congrArg₂ (· + ·) ?_ ?_) ?_) ?_) ?_ <;>
    refine Finset.sum_congr rfl fun j _ => congrArg f (Fin.ext ?_)
  · show j.val = 0 * 512 + j.val; omega
  · show 512 + j.val = 1 * 512 + j.val; omega
  · show 512 + 512 + j.val = 2 * 512 + j.val; omega
  · show 512 + 512 + 512 + j.val = 1536 + j.val; omega
  · show 512 + 512 + 512 + 704 + j.val = 2240 + j.val; omega

/-- The middle block's sum runs over 768 columns, the last 64 of which are zero. -/
theorem sum_low (f : (j : ℕ) → j < 704 → ℝ) : ∑ j : Fin 768, (if h : j.val < 704 then f j.val h else 0) = ∑ j : Fin 704, f j.val j.isLt := by
  have h : ∑ j : Fin 768, (if h : j.val < 704 then f j.val h else 0) = ∑ j : Fin (704 + 64), (if h : j.val < 704 then f j.val h else 0) := rfl
  rw [h, Fin.sum_univ_add]
  refine (congrArg₂ (· + ·) (Finset.sum_congr rfl fun j _ => dif_pos j.isLt) (Finset.sum_eq_zero fun j _ => dif_neg ?_)).trans (add_zero _)
  show ¬ 704 + j.val < 704
  omega

end Cert.Mix

end
-- ==== Proof.MixRef.lean ====
/- Hand-written, untrusted: WHAT THE REFERENCE OF THE MIXER'S INPUT PROJECTIONS COMPUTES, read at an index: the rows' projections on
   the weights' columns, over whole arrays, for all arguments. -/
module

public import proofs.«01_k».proof.Proof.FwdRef
public import proofs.«01_k».proof.Proof.MixCut
public import proofs.«01_k».proof.Proof.Gen.Reference6Ideal.Read

@[expose] public section

noncomputable section

namespace Cert.Mix

open Cert.Reference6Ideal Cert.Reference6Ideal.Read Cert.Lift
open Cert.Fwd (rstd nrm proj eta2)
open Idealize.ShloMosaic Idealize.ShloMosaic.TcCoe Idealize.SL.Sem Idealize.ShloMosaic.StableHlo
open Idealize.ShloMosaic.ValueIdx (ix1 ix2 ix3)

variable (x0 : FVec Ideal S4096x1024 .f32) (x1 : FVec Ideal S1x1024 .f32) (x2 : FVec Ideal S1024x4288 .f32)

def rowA (r : Fin 4096) (k : Fin 1024) : EReal := x0 (ix2 r k)
def gainA (k : Fin 1024) : EReal := x1 (ix2 (0 : Fin 1) k)
def colA (c : Fin 4288) (k : Fin 1024) : EReal := x2 (ix2 k c)
/-- A row's projection on column `c`. -/
def zA (r : Fin 4096) (c : Fin 4288) : EReal := proj (rowA x0 r) (gainA x1) (colA x2 c)
/-- The middle block's columns, with 64 columns of zeros behind them. -/
def lowA (r : Fin 4096) (j : Fin 768) : EReal := if h : j.val < 704 then zA x0 x1 x2 r (lcolN j.val h) else 0

theorem zero0 (i) : val_main_cst (F := Ideal) i = 0 := Ideal.ofBits_zero_f32
theorem zero2 (i) : val_main_cst_2 (F := Ideal) i = 0 := Ideal.ofBits_zero_f32
theorem zero3 (i) : val_main_cst_3 (F := Ideal) i = 0 := Ideal.ofBits_zero_f32

theorem v1 (i : S4096.Idx) : val_main_v1 (F := Ideal) x0 i = ∑ k, rowA x0 (i 0) k * rowA x0 (i 0) k := by
  rw [val_main_v1_apply, zero0, zero_add]
  refine Finset.sum_congr rfl fun k _ => ?_
  rw [val_main_v0_apply, eta2 (idx_main_v1 i k)]
  rfl

theorem v20 (i : S4096.Idx) : val_main_v20 (F := Ideal) x0 i = ∑ k, rowA x0 (i 0) k * rowA x0 (i 0) k := by
  rw [val_main_v20_apply, zero3, zero_add]
  refine Finset.sum_congr rfl fun k _ => ?_
  rw [val_main_v19_apply, eta2 (idx_main_v20 i k)]
  rfl

theorem v7 (i : S4096x1.Idx) : val_main_v7 (F := Ideal) x0 i = rstd (rowA x0 (i 0)) := by
  rw [val_main_v7_apply, val_main_v6_apply, val_main_v4_apply, val_main_v2_apply, v1, val_main_v3_apply, val_main_v5_apply,
    val_main_cst_0_apply, val_main_cst_1_apply]
  rfl

theorem v26 (i : S4096x1.Idx) : val_main_v26 (F := Ideal) x0 i = rstd (rowA x0 (i 0)) := by
  rw [val_main_v26_apply, val_main_v25_apply, val_main_v23_apply, val_main_v21_apply, v20, val_main_v22_apply, val_main_v24_apply,
    val_main_cst_4_apply, val_main_cst_5_apply]
  rfl

theorem v11 (i : S4096x1024.Idx) : val_main_v11 (F := Ideal) x0 x1 i = nrm (rowA x0 (i 0)) (gainA x1) (i 1) := by
  rw [val_main_v11_apply, val_main_v9_apply, val_main_v8_apply, v7, val_main_v10_apply, eta2 (idx_main_v10 i), eta2 i]
  rfl

theorem v31 (i : S1024x4096.Idx) : val_main_v31 (F := Ideal) x0 x1 i = nrm (rowA x0 (i 1)) (gainA x1) (i 0) := by
  rw [val_main_v31_apply, val_main_v30_apply, v11]
  rfl

theorem v12 (i : S4096x4288.Idx) : val_main_v12 (F := Ideal) x0 x1 x2 i = zA x0 x1 x2 (i 0) (i 1) := by
  rw [val_main_v12_apply]
  refine Finset.sum_congr rfl fun k _ => congrArg₂ (fun a b : EReal => a * b) (v11 x0 x1 _) (congrArg x2 (eta2 _))

theorem v27 (i : S3x4096x512.Idx) : val_main_v27 (F := Ideal) x0 x1 x2 i = zA x0 x1 x2 (i 1) (scolN (i 0) (i 2)) := by
  have b0 : (i 0).val < 3 := (i 0).isLt
  have b1 : (i 1).val < 4096 := (i 1).isLt
  have b2 : (i 2).val < 512 := (i 2).isLt
  rw [val_main_v27_apply, val_main_v15_apply, val_main_v14_apply, val_main_v13_apply, v12]
  refine congrArg₂ (zA x0 x1 x2) (Fin.ext ?_) (Fin.ext ?_)
  · show (((i 1).val * 3 + (i 0).val) * 512 + (i 2).val) / 1536 = (i 1).val; omega
  · show (((i 1).val * 3 + (i 0).val) * 512 + (i 2).val) % 1536 = (i 0).val * 512 + (i 2).val; omega

theorem v18 (i : S4096x768.Idx) : val_main_v18 (F := Ideal) x0 x1 x2 i = lowA x0 x1 x2 (i 0) (i 1) := by
  have b1 : (i 1).val < 768 := (i 1).isLt
  unfold val_main_v18 lowA
  split
  · next hj =>
    exact (concatenate_pair_apply_left (t := S4096x768) (s₁ := S4096x704) (s₂ := S4096x64) 1 _ _ _ i rfl (ix2 (i 0) ⟨(i 1).val, hj⟩)
      (by intro c; match c with | ⟨0, _⟩ => rfl | ⟨1, _⟩ => rfl)).trans
      ((val_main_v16_apply (F := Ideal) x0 x1 x2 _).trans (v12 x0 x1 x2 _))
  · next hj =>
    exact (concatenate_pair_apply_right (t := S4096x768) (s₁ := S4096x704) (s₂ := S4096x64) 1 _ _ _ i rfl rfl (ix2 (i 0) ⟨(i 1).val - 704, by omega⟩)
      (by intro c hne; match c with | ⟨0, _⟩ => rfl | ⟨1, _⟩ => exact absurd rfl hne)
      (by show (i 1).val - 704 + 704 = (i 1).val; omega)).trans ((val_main_v17_apply (F := Ideal) _).trans (zero2 _))

theorem v29 (i : S4096x2048.Idx) : val_main_v29 (F := Ideal) x0 x1 x2 i = zA x0 x1 x2 (i 0) (gcolN (i 1)) := by
  rw [val_main_v29_apply, val_main_v28_apply, v12]
  rfl

end Cert.Mix

end
-- ==== Proof.MixClaim.lean ====
/- Hand-written, untrusted: THE FIVE RESULT ARRAYS OF THE MIXER'S INPUT PROJECTIONS. How the host cuts the weights into the kernel's
   three blocks, which rows a grid point's blocks hold, what the arrays hold after the launch, and the value claim: the kernel's arrays
   are the reference's, for all arguments. -/
module

public import proofs.«01_k».proof.Defs
public import proofs.«01_k».proof.Proof.MixBody
public import proofs.«01_k».proof.Proof.MixRef
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import Idealize.ShloMosaic.Lib.Tactic

@[expose] public section

noncomputable section

namespace Cert.Mix

open Cert.Kernel6Ideal Cert.Kernel6Ideal.Gen Cert.Lift
open Cert.Fwd (rstd nrm proj eta2)
open Cert.Reference6Ideal.Read (val_main_v27 val_main_v18 val_main_v29 val_main_v31 val_main_v26 val_main_v27_eq val_main_v18_eq
  val_main_v29_eq val_main_v31_eq val_main_v26_eq)
open Idealize.ShloMosaic Idealize.ShloMosaic.TcCoe Idealize.SL.Sem Idealize.ShloMosaic.StableHlo
open Idealize.ShloMosaic.ValueIdx (ix1 ix2 ix3)

/-! ## The buffers at the launch -/

variable (m : (ℓ : Loc nD τ sig) → Buf (Elt Ideal) ℓ) (c : Dev nD)

abbrev A0 : FVec Ideal S4096x1024 .f32 := m ((c : Thread nD τ).loc main_arg0)
abbrev A1 : FVec Ideal S1x1024 .f32 := m ((c : Thread nD τ).loc main_arg1)
abbrev A2 : FVec Ideal S1024x4288 .f32 := m ((c : Thread nD τ).loc main_arg2)

theorem v3 : V m c main_v3 = truncf (F := Ideal) .bf16 (transpose S3x1024x512 [1, 0, 2] (shapeCast S1024x3x512
    (extractStridedSlice S1024x1536 ![0, 0] (A2 m c) slices_S1024x4288_S1024x1536_0_0) shapeCasts_S1024x1536_S1024x3x512)
    transposes_S1024x3x512_S3x1024x512_1_0_2) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v7h : V m c main_v7 = truncf (F := Ideal) (φ := .f32) (s := S1024x768) .bf16 (concatenate S1024x768 1
    [⟨S1024x704, extractStridedSlice S1024x704 ![0, 1536] (A2 m c) slices_S1024x4288_S1024x704_0_1536⟩,
     ⟨S1024x64, broadcastInDim S1024x64 ![] bcast_S_S1024x64 (constant (F := Ideal) S_ .f32 0x00000000#32)⟩]
    concatenates_S1024x704_S1024x64_S1024x768_d1) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v9h : V m c main_v9 = truncf (F := Ideal) .bf16 (extractStridedSlice S1024x2048 ![0, 2240] (A2 m c)
    slices_S1024x4288_S1024x2048_0_2240) bitsLt_bf16_f32 := by
  unfold V
  simp only [hostOps0, List.flatten_cons, List.flatten_nil, List.cons_append, List.nil_append,
    TRef.binary, TRef.nullary, TRef.unary, TRef.toBuf, TRef.ofBuf, cast_eq]
  after_results_simp

/-! ## The grid -/

/-- Where each window's block starts, in blocks. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = t.val ∧ win0_5.index t (2 : Fin 3) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = t.val)
    ∧ (win0_9.index t (0 : Fin 2) = t.val ∧ win0_9.index t (1 : Fin 2) = 0) :=
  (by decide +kernel : ∀ t : Fin grid0.N, _)

theorem lt8 (t : Fin cfg0.N) : t.val < 8 := Nat.lt_of_lt_of_eq t.isLt N_0
/-- Row `r` of the 512 rows of grid point `t`. -/
def trow (t : Fin cfg0.N) (r : Fin 512) : Fin 4096 := ⟨t.val * 512 + r.val, by have := lt8 t; omega⟩

variable (t : Fin cfg0.N)

theorem emb0 (y : S512x1024.Idx) : ((cfg0.win 0).blk t).view.emb y = ix2 (trow t (y 0)) (y 1) := by
  have hi := (idx_facts t).1
  funext a; apply Fin.ext
  match a with
  | ⟨0, _⟩ => show win0_0.index t (0 : Fin 2) * 512 + 1 * (y 0).val = t.val * 512 + (y 0).val; rw [hi.1]; omega
  | ⟨1, _⟩ => show win0_0.index t (1 : Fin 2) * 1024 + 1 * (y 1).val = (y 1).val; rw [hi.2]; omega

theorem emb1 (y : S1x1024.Idx) : ((cfg0.win 1).blk t).view.emb y = y := by
  have hi := (idx_facts t).2.1
  funext a; apply Fin.ext
  match a with
  | ⟨0, _⟩ => show win0_1.index t (0 : Fin 2) * 1 + 1 * (y 0).val = (y 0).val; rw [hi.1]; omega
  | ⟨1, _⟩ => show win0_1.index t (1 : Fin 2) * 1024 + 1 * (y 1).val = (y 1).val; rw [hi.2]; omega

theorem emb2 (y : S3x1024x512.Idx) : ((cfg0.win 2).blk t).view.emb y = y := by
  have hi := (idx_facts t).2.2.1
  funext a; apply Fin.ext
  match a with
  | ⟨0, _⟩ => show win0_2.index t (0 : Fin 3) * 3 + 1 * (y 0).val = (y 0).val; rw [hi.1]; omega
  | ⟨1, _⟩ => show win0_2.index t (1 : Fin 3) * 1024 + 1 * (y 1).val = (y 1).val; rw [hi.2.1]; omega
  | ⟨2, _⟩ => show win0_2.index t (2 : Fin 3) * 512 + 1 * (y 2).val = (y 2).val; rw [hi.2.2]; omega

theorem emb3 (y : S1024x768.Idx) : ((cfg0.win 3).blk t).view.emb y = y := by
  have hi := (idx_facts t).2.2.2.1
  funext a; apply Fin.ext
  match a with
  | ⟨0, _⟩ => show win0_3.index t (0 : Fin 2) * 1024 + 1 * (y 0).val = (y 0).val; rw [hi.1]; omega
  | ⟨1, _⟩ => show win0_3.index t (1 : Fin 2) * 768 + 1 * (y 1).val = (y 1).val; rw [hi.2]; omega

theorem emb4 (y : S1024x2048.Idx) : ((cfg0.win 4).blk t).view.emb y = y := by
  have hi := (idx_facts t).2.2.2.2.1
  funext a; apply Fin.ext
  match a with
  | ⟨0, _⟩ => show win0_4.index t (0 : Fin 2) * 1024 + 1 * (y 0).val = (y 0).val; rw [hi.1]; omega
  | ⟨1, _⟩ => show win0_4.index t (1 : Fin 2) * 2048 + 1 * (y 1).val = (y 1).val; rw [hi.2]; omega

theorem emb5 (y : S3x512x512.Idx) : ((cfg0.win 5).blk t).view.emb y = ix3 (y 0) (trow t (y 1)) (y 2) := by
  have hi := (idx_facts t).2.2.2.2.2.1
  funext a; apply Fin.ext
  match a with
  | ⟨0, _⟩ => show win0_5.index t (0 : Fin 3) * 3 + 1 * (y 0).val = (y 0).val; rw [hi.1]; omega
  | ⟨1, _⟩ => show win0_5.index t (1 : Fin 3) * 512 + 1 * (y 1).val = t.val * 512 + (y 1).val; rw [hi.2.1]; omega
  | ⟨2, _⟩ => show win0_5.index t (2 : Fin 3) * 512 + 1 * (y 2).val = (y 2).val; rw [hi.2.2]; omega

theorem emb6 (y : S512x768.Idx) : ((cfg0.win 6).blk t).view.emb y = ix2 (trow t (y 0)) (y 1) := by
  have hi := (idx_facts t).2.2.2.2.2.2.1
  funext a; apply Fin.ext
  match a with
  | ⟨0, _⟩ => show win0_6.index t (0 : Fin 2) * 512 + 1 * (y 0).val = t.val * 512 + (y 0).val; rw [hi.1]; omega
  | ⟨1, _⟩ => show win0_6.index t (1 : Fin 2) * 768 + 1 * (y 1).val = (y 1).val; rw [hi.2]; omega

theorem emb7 (y : S512x2048.Idx) : ((cfg0.win 7).blk t).view.emb y = ix2 (trow t (y 0)) (y 1) := by
  have hi := (idx_facts t).2.2.2.2.2.2.2.1
  funext a; apply Fin.ext
  match a with
  | ⟨0, _⟩ => show win0_7.index t (0 : Fin 2) * 512 + 1 * (y 0).val = t.val * 512 + (y 0).val; rw [hi.1]; omega
  | ⟨1, _⟩ => show win0_7.index t (1 : Fin 2) * 2048 + 1 * (y 1).val = (y 1).val; rw [hi.2]; omega

theorem emb8 (y : S1024x512.Idx) : ((cfg0.win 8).blk t).view.emb y = ix2 (y 0) (trow t (y 1)) := by
  have hi := (idx_facts t).2.2.2.2.2.2.2.2.1
  funext a; apply Fin.ext
  match a with
  | ⟨0, _⟩ => show win0_8.index t (0 : Fin 2) * 1024 + 1 * (y 0).val = (y 0).val; rw [hi.1]; omega
  | ⟨1, _⟩ => show win0_8.index t (1 : Fin 2) * 512 + 1 * (y 1).val = t.val * 512 + (y 1).val; rw [hi.2]; omega

theorem emb9 (y : S512x1.Idx) : ((cfg0.win 9).blk t).view.emb y = ix2 (trow t (y 0)) (y 1) := by
  have hi := (idx_facts t).2.2.2.2.2.2.2.2.2
  funext a; apply Fin.ext
  match a with
  | ⟨0, _⟩ => show win0_9.index t (0 : Fin 2) * 512 + 1 * (y 0).val = t.val * 512 + (y 0).val; rw [hi.1]; omega
  | ⟨1, _⟩ => show win0_9.index t (1 : Fin 2) * 1 + 1 * (y 1).val = (y 1).val; rw [hi.2]; omega

/-! ## The blocks that a grid point reads -/

theorem blk_row (r : Fin 512) : Body.row (iblk m c 0 t) r = rowA (A0 m c) (trow t r) := funext fun k =>
  (congrArg (V m c main_arg0) (emb0 t (ix2 r k))).trans (congrFun (V_main_arg0 m c) _)
theorem blk_gain : Body.gain (iblk m c 1 t) = gainA (A1 m c) := funext fun k =>
  (congrArg (V m c main_arg1) (emb1 t (ix2 (0 : Fin 1) k))).trans (congrFun (V_main_arg1 m c) _)
theorem blk_slot (s : Fin 3) (j : Fin 512) : Body.scol (iblk m c 2 t) s j = colA (A2 m c) (scolN s j) := funext fun k =>
  (congrArg (V m c main_v3) (emb2 t (ix3 s k j))).trans ((congrFun (v3 m c) _).trans (cut_slots (A2 m c) slices_S1024x4288_S1024x1536_0_0
    shapeCasts_S1024x1536_S1024x3x512 transposes_S1024x3x512_S3x1024x512_1_0_2 _))
theorem blk_high (j : Fin 2048) : Body.mcol (N := 2048) (iblk m c 4 t) j = colA (A2 m c) (gcolN j) := funext fun k =>
  (congrArg (V m c main_v9) (emb4 t (ix2 k j))).trans ((congrFun (v9h m c) _).trans (cut_high (A2 m c) slices_S1024x4288_S1024x2048_0_2240 _))
theorem blk_slotA (s : Fin 3) (r : Fin 512) (j : Fin 512) :
    proj (Body.row (iblk m c 0 t) r) (Body.gain (iblk m c 1 t)) (Body.scol (iblk m c 2 t) s j)
      = zA (A0 m c) (A1 m c) (A2 m c) (trow t r) (scolN s j) := by
  rw [blk_row, blk_gain, blk_slot]
  rfl
theorem blk_highA (r : Fin 512) (j : Fin 2048) :
    proj (Body.row (iblk m c 0 t) r) (Body.gain (iblk m c 1 t)) (Body.mcol (N := 2048) (iblk m c 4 t) j)
      = zA (A0 m c) (A1 m c) (A2 m c) (trow t r) (gcolN j) := by
  rw [blk_row, blk_gain, blk_high]
  rfl
theorem blk_low (j : Fin 768) (k : Fin 1024) : Body.mcol (N := 768) (iblk m c 3 t) j k
    = if h : j.val < 704 then colA (A2 m c) (lcolN j.val h) k else 0 :=
  (congrArg (V m c main_v7) (emb3 t (ix2 k j))).trans ((congrFun (v7h m c) _).trans (cut_low (A2 m c) slices_S1024x4288_S1024x704_0_1536
    _ (fun _ => Ideal.ofBits_zero_f32) concatenates_S1024x704_S1024x64_S1024x768_d1 _))

/-- The middle block's projections: those on the columns of zeros are zero. -/
theorem blk_lowA (r : Fin 512) (j : Fin 768) : proj (Body.row (iblk m c 0 t) r) (Body.gain (iblk m c 1 t)) (Body.mcol (N := 768) (iblk m c 3 t) j)
    = lowA (A0 m c) (A1 m c) (A2 m c) (trow t r) j := by
  rw [blk_row, blk_gain]
  unfold lowA
  split
  · next h => exact congrArg (proj _ _) (funext fun k => (blk_low m c t j k).trans (dif_pos h))
  · next h =>
    refine Finset.sum_eq_zero fun k _ => ?_
    rw [blk_low m c t j k, dif_neg h, mul_zero]

/-! ## The result arrays -/

/-- The grid point that holds a row, and the row in it. -/
def tof (r : Fin 4096) : Fin cfg0.N := ⟨r.val / 512, by have hN : cfg0.N = 8 := N_0; omega⟩
def rof (r : Fin 4096) : Fin 512 := ⟨r.val % 512, Nat.mod_lt _ (by norm_num)⟩
theorem trow_of (r : Fin 4096) : trow (tof r) (rof r) = r := Fin.ext (by show r.val / 512 * 512 + r.val % 512 = r.val; omega)

theorem arr5 (i : S3x4096x512.Idx) : (Gen.dats m 0 c).arrAt 5 cfg0.N i = val_main_v27 (F := Ideal) (A0 m c) (A1 m c) (A2 m c) i := by
  let t : Fin cfg0.N := tof (i 1)
  let y : S3x512x512.Idx := ix3 (i 0) (rof (i 1)) (i 2)
  have er : trow t (y 1) = i 1 := trow_of (i 1)
  have e : ((cfg0.win 5).blk t).view.emb y = i := (emb5 t y).trans ((congrArg (fun r => ix3 (i 0) r (i 2)) er).trans
    (funext fun a => by match a with | ⟨0, _⟩ => rfl | ⟨1, _⟩ => rfl | ⟨2, _⟩ => rfl))
  have b' : (Gen.dats m 0 c).arrAt 5 cfg0.N (((cfg0.win 5).blk t).view.emb y) = (Gen.dats m 0 c).flushed 5 t y :=
    congrFun (Value.blocks5 m c t (flush0_5 t)) y
  rw [e] at b'
  refine b'.trans ((congrFun (Value.flushed5 m c t) y).trans ((Body.out5 _ _ _ _ _ y).trans ((blk_slotA m c t _ _ _).trans ?_)))
  exact (congrArg (fun r => zA (A0 m c) (A1 m c) (A2 m c) r (scolN (i 0) (i 2))) er).trans (v27 (A0 m c) (A1 m c) (A2 m c) i).symm

theorem arr6 (i : S4096x768.Idx) : (Gen.dats m 0 c).arrAt 6 cfg0.N i = val_main_v18 (F := Ideal) (A0 m c) (A1 m c) (A2 m c) i := by
  let t : Fin cfg0.N := tof (i 0)
  let y : S512x768.Idx := ix2 (rof (i 0)) (i 1)
  have er : trow t (y 0) = i 0 := trow_of (i 0)
  have e : ((cfg0.win 6).blk t).view.emb y = i := (emb6 t y).trans ((congrArg (fun r => ix2 r (i 1)) er).trans (eta2 i).symm)
  have b' : (Gen.dats m 0 c).arrAt 6 cfg0.N (((cfg0.win 6).blk t).view.emb y) = (Gen.dats m 0 c).flushed 6 t y :=
    congrFun (Value.blocks6 m c t (flush0_6 t)) y
  rw [e] at b'
  refine b'.trans ((congrFun (Value.flushed6 m c t) y).trans ((Body.out6 _ _ _ _ _ y).trans ((blk_lowA m c t _ _).trans ?_)))
  exact (congrArg (fun r => lowA (A0 m c) (A1 m c) (A2 m c) r (i 1)) er).trans (v18 (A0 m c) (A1 m c) (A2 m c) i).symm

theorem arr7 (i : S4096x2048.Idx) : (Gen.dats m 0 c).arrAt 7 cfg0.N i = val_main_v29 (F := Ideal) (A0 m c) (A1 m c) (A2 m c) i := by
  let t : Fin cfg0.N := tof (i 0)
  let y : S512x2048.Idx := ix2 (rof (i 0)) (i 1)
  have er : trow t (y 0) = i 0 := trow_of (i 0)
  have e : ((cfg0.win 7).blk t).view.emb y = i := (emb7 t y).trans ((congrArg (fun r => ix2 r (i 1)) er).trans (eta2 i).symm)
  have b' : (Gen.dats m 0 c).arrAt 7 cfg0.N (((cfg0.win 7).blk t).view.emb y) = (Gen.dats m 0 c).flushed 7 t y :=
    congrFun (Value.blocks7 m c t (flush0_7 t)) y
  rw [e] at b'
  refine b'.trans ((congrFun (Value.flushed7 m c t) y).trans ((Body.out7 _ _ _ _ _ y).trans ((blk_highA m c t _ _).trans ?_)))
  exact (congrArg (fun r => zA (A0 m c) (A1 m c) (A2 m c) r (gcolN (i 1))) er).trans (v29 (A0 m c) (A1 m c) (A2 m c) i).symm

theorem arr8 (i : S1024x4096.Idx) : (Gen.dats m 0 c).arrAt 8 cfg0.N i = val_main_v31 (F := Ideal) (A0 m c) (A1 m c) i := by
  let t : Fin cfg0.N := tof (i 1)
  let y : S1024x512.Idx := ix2 (i 0) (rof (i 1))
  have er : trow t (y 1) = i 1 := trow_of (i 1)
  have e : ((cfg0.win 8).blk t).view.emb y = i := (emb8 t y).trans ((congrArg (fun r => ix2 (i 0) r) er).trans (eta2 i).symm)
  have b' : (Gen.dats m 0 c).arrAt 8 cfg0.N (((cfg0.win 8).blk t).view.emb y) = (Gen.dats m 0 c).flushed 8 t y :=
    congrFun (Value.blocks8 m c t (flush0_8 t)) y
  rw [e] at b'
  refine b'.trans ((congrFun (Value.flushed8 m c t) y).trans ((Body.out8 _ _ _ _ _ y).trans ?_))
  refine (congrArg₂ (fun x g => nrm x g (y 0)) (blk_row m c t _) (blk_gain m c t)).trans ?_
  exact (congrArg (fun r => nrm (rowA (A0 m c) r) (gainA (A1 m c)) (i 0)) er).trans (v31 (A0 m c) (A1 m c) i).symm

theorem arr9 (i : S4096x1.Idx) : (Gen.dats m 0 c).arrAt 9 cfg0.N i = val_main_v26 (F := Ideal) (A0 m c) i := by
  let t : Fin cfg0.N := tof (i 0)
  let y : S512x1.Idx := ix2 (rof (i 0)) (i 1)
  have er : trow t (y 0) = i 0 := trow_of (i 0)
  have e : ((cfg0.win 9).blk t).view.emb y = i := (emb9 t y).trans ((congrArg (fun r => ix2 r (i 1)) er).trans (eta2 i).symm)
  have b' : (Gen.dats m 0 c).arrAt 9 cfg0.N (((cfg0.win 9).blk t).view.emb y) = (Gen.dats m 0 c).flushed 9 t y :=
    congrFun (Value.blocks9 m c t (flush0_9 t)) y
  rw [e] at b'
  refine b'.trans ((congrFun (Value.flushed9 m c t) y).trans ((Body.out9 _ _ _ _ _ y).trans ((congrArg rstd (blk_row m c t _)).trans ?_)))
  exact (congrArg (fun r => rstd (rowA (A0 m c) r)) er).trans (v26 (A0 m c) i).symm

theorem algebraic : Cert.algebraic_Kernel6Ideal_Reference6Ideal := by
  intro m g m' g' _ hag
  refine ⟨fun c => val_main_v27 (F := Ideal) (A0 m c) (A1 m c) (A2 m c), fun c => val_main_v18 (F := Ideal) (A0 m c) (A1 m c) (A2 m c),
    fun c => val_main_v29 (F := Ideal) (A0 m c) (A1 m c) (A2 m c), fun c => val_main_v31 (F := Ideal) (A0 m c) (A1 m c),
    fun c => val_main_v26 (F := Ideal) (A0 m c), ?_, ?_⟩
  · refine (θ_run Cert.Kernel6Ideal.defs _ _).mono (fun r hr c => ?_) (Cert.Kernel6Ideal.Value.run_blocks (F := Ideal) m g)
    obtain ⟨r0, r1, r2, r3, r4, k⟩ := hr c
    exact ⟨r0.trans (funext fun i => arr5 m c i), r1.trans (funext fun i => arr6 m c i), r2.trans (funext fun i => arr7 m c i),
      r3.trans (funext fun i => arr8 m c i), r4.trans (funext fun i => arr9 m c i), k⟩
  · refine (θ_run Cert.Reference6Ideal.defs _ _).mono (fun r hr c => ?_) (Cert.Reference6Ideal.Value.run (F := Ideal) m' g')
    obtain ⟨r0, r1, r2, r3, r4, k⟩ := hr c
    obtain ⟨a0, a1, a2⟩ := hag c
    refine ⟨r0.trans ((val_main_v27_eq _ _ _).trans ?_), r1.trans ((val_main_v18_eq _ _ _).trans ?_), r2.trans ((val_main_v29_eq _ _ _).trans ?_),
      r3.trans ((val_main_v31_eq _ _).trans ?_), r4.trans ((val_main_v26_eq _).trans ?_), k⟩
    · rw [a0, a1, a2]
    · rw [a0, a1, a2]
    · rw [a0, a1, a2]
    · rw [a0, a1]
    · rw [a0]

end Cert.Mix

end
-- ==== Proof.MixBwdBody.lean ====
/- Hand-written, untrusted: WHAT ONE GRID POINT OF THE GRADIENT OF THE MIXER'S INPUT PROJECTIONS COMPUTES. A grid point takes 512 rows
   of the gradient, cut into three slots, a block of 768 and a block of 2048 columns, the projections cut the same way, and the rows'
   activations, reciprocal standard deviations and residual gradient. `Tab` holds these as tables of reals; the theorems say which
   reals the two stored blocks hold. -/
module

public import proofs.«01_k».proof.Proof.Dot
public import proofs.«01_k».proof.Proof.Rows
public import proofs.«01_k».proof.Proof.Gen.Kernel7Ideal.Frame
public import Idealize.ShloMosaic.Lib.Pipeline.Value
public import Idealize.ShloMosaic.Lib.Pipeline.ValueKit.Tiles
public import Idealize.ShloMosaic.Lib.ValueIdx
public import Idealize.ShloMosaic.Lib.Tactic

@[expose] public section

noncomputable section

namespace Cert.MixBwd.Body

open Cert.Kernel7Ideal Cert.Kernel7Ideal.Gen Cert.Lift
open Idealize.ShloMosaic Idealize.ShloMosaic.TcCoe Idealize.SL.Sem
open Idealize.ShloMosaic.ValueIdx (ix1 ix2 ix3)
open Idealize.ShloMosaic.View (ld_unit_apply_of)

/-- The blocks of one grid point, as tables of reals: the gradient's three blocks, the projections' three blocks, the rest. -/
structure Tab where
  db : Fin 3 → Fin 512 → Fin 512 → ℝ
  dq : Fin 512 → Fin 768 → ℝ
  dg : Fin 512 → Fin 2048 → ℝ
  wb : Fin 3 → Fin 1024 → Fin 512 → ℝ
  wq : Fin 1024 → Fin 768 → ℝ
  wg : Fin 1024 → Fin 2048 → ℝ
  h : Fin 512 → Fin 1024 → ℝ
  rs : Fin 512 → ℝ
  g : Fin 1024 → ℝ
  ct : Fin 512 → Fin 1024 → ℝ

namespace Tab

variable (T : Tab)

def part (s : Fin 3) (r : Fin 512) (k : Fin 1024) : ℝ := ∑ j, T.db s r j * T.wb s k j
def dnr (r : Fin 512) (k : Fin 1024) : ℝ :=
  (∑ j, T.dq r j * T.wq k j) + (∑ j, T.dg r j * T.wg k j) + T.part 0 r k + T.part 1 r k + T.part 2 r k
def xh (r : Fin 512) (k : Fin 1024) : ℝ := T.h r k * T.rs r
def t (r : Fin 512) (k : Fin 1024) : ℝ := T.dnr r k * T.g k
def out (r : Fin 512) (k : Fin 1024) : ℝ :=
  T.ct r k + T.rs r * (T.t r k - T.xh r k * ((∑ k, T.t r k * T.xh r k) / 1024))
def gain (k : Fin 1024) : ℝ := ∑ r, T.dnr r k * T.xh r k

end Tab

/-! ## The arithmetic of the body -/

theorem rows_apply {v : FVec Ideal S1x512x512 .bf16} {b : Fin 512 → Fin 512 → ℝ}
    (hv : ∀ i : S1x512x512.Idx, v i = (b (i 1) (i 2) : EReal)) (j : S512x512.Idx) :
    shapeCast S512x512 v shapeCasts_S1x512x512_S512x512 j = (b (j 0) (j 1) : EReal) := by
  rw [shapeCast_apply v _ j (ix3 ⟨0, by omega⟩ (j 0) (j 1))
    (by rw [Shape.rowMajor_val_three, Shape.rowMajor_val_two]
        show (0 * 512 + (j 0).val) * 512 + (j 1).val = (j 0).val * 512 + (j 1).val
        omega), hv]

theorem cols_apply {v : FVec Ideal S1x1024x512 .bf16} {b : Fin 1024 → Fin 512 → ℝ}
    (hv : ∀ i : S1x1024x512.Idx, v i = (b (i 1) (i 2) : EReal)) (j : S1024x512.Idx) :
    shapeCast S1024x512 v shapeCasts_S1x1024x512_S1024x512 j = (b (j 0) (j 1) : EReal) := by
  rw [shapeCast_apply v _ j (ix3 ⟨0, by omega⟩ (j 0) (j 1))
    (by rw [Shape.rowMajor_val_three, Shape.rowMajor_val_two]
        show (0 * 1024 + (j 0).val) * 512 + (j 1).val = (j 0).val * 512 + (j 1).val
        omega), hv]

/-- The product of a slot of the gradient with the same slot of the projections, transposed. -/
def slotV (u : FVec Ideal S1x512x512 .bf16) (w : FVec Ideal S1x1024x512 .bf16) : FVec Ideal S512x1024 .f32 :=
  matmul dot_S512x512_S1024x512_S512x1024_1_1_0_0_n_n none (shapeCast S512x512 u shapeCasts_S1x512x512_S512x512)
    (shapeCast S1024x512 w shapeCasts_S1x1024x512_S1024x512) (constant (F := Ideal) S512x1024 .f32 0x00000000#32)

theorem slotV_apply {u : FVec Ideal S1x512x512 .bf16} {w : FVec Ideal S1x1024x512 .bf16} {a : Fin 512 → Fin 512 → ℝ}
    {b : Fin 1024 → Fin 512 → ℝ} (hu : ∀ i, u i = (a (i 1) (i 2) : EReal)) (hw : ∀ i, w i = (b (i 1) (i 2) : EReal)) (i : S512x1024.Idx) :
    slotV u w i = ((∑ j, a (i 0) j * b (i 1) j : ℝ) : EReal) := by
  unfold slotV
  exact matmulNT _ rfl rfl rfl rfl rfl rfl none (a := a) (b := b) (rows_apply hu) (cols_apply hw) i

/-- The products of the two other blocks of the gradient with those of the projections, transposed. -/
def lowV (x1 : FVec Ideal S512x768 .bf16) (x4 : FVec Ideal S1024x768 .bf16) : FVec Ideal S512x1024 .f32 :=
  matmul dot_S512x768_S1024x768_S512x1024_1_1_0_0_n_n none (shapeCast S512x768 x1 shapeCasts_S512x768_S512x768)
    (shapeCast S1024x768 x4 shapeCasts_S1024x768_S1024x768) (constant (F := Ideal) S512x1024 .f32 0x00000000#32)
def highV (x2 : FVec Ideal S512x2048 .bf16) (x5 : FVec Ideal S1024x2048 .bf16) : FVec Ideal S512x1024 .f32 :=
  matmul dot_S512x2048_S1024x2048_S512x1024_1_1_0_0_n_n none (shapeCast S512x2048 x2 shapeCasts_S512x2048_S512x2048)
    (shapeCast S1024x2048 x5 shapeCasts_S1024x2048_S1024x2048) (constant (F := Ideal) S512x1024 .f32 0x00000000#32)

/-- The gradient of the normalised rows: the five products added up. -/
def dnV (x1 : Vec Ideal S512x768 .bf16) (x4 : Vec Ideal S1024x768 .bf16) (x2 : Vec Ideal S512x2048 .bf16) (x5 : Vec Ideal S1024x2048 .bf16)
    (u : Fin 3 → FVec Ideal S1x512x512 .bf16) (w : Fin 3 → FVec Ideal S1x1024x512 .bf16) : FVec Ideal S512x1024 .f32 :=
  k0_pay1 (k0_pay7 x1 x4 x2 x5 (u 0) (w 0) (u 1) (w 1)) (k0_pay8 (u 2)) (w 2)

/-- The blocks read by a grid point hold the tables. -/
structure Holds (T : Tab) (x0 : Vec Ideal S3x512x512 .bf16) (x1 : Vec Ideal S512x768 .bf16) (x2 : Vec Ideal S512x2048 .bf16)
    (x3 : Vec Ideal S3x1024x512 .bf16) (x4 : Vec Ideal S1024x768 .bf16) (x5 : Vec Ideal S1024x2048 .bf16) (x6 : Vec Ideal S512x1024 .f32)
    (x7 : Vec Ideal S512x1 .f32) (x8 : Vec Ideal S1x1024 .f32) (x9 : Vec Ideal S512x1024 .f32) : Prop where
  db : ∀ i, x0 i = (T.db (i 0) (i 1) (i 2) : EReal)
  dq : ∀ i, x1 i = (T.dq (i 0) (i 1) : EReal)
  dg : ∀ i, x2 i = (T.dg (i 0) (i 1) : EReal)
  wb : ∀ i, x3 i = (T.wb (i 0) (i 1) (i 2) : EReal)
  wq : ∀ i, x4 i = (T.wq (i 0) (i 1) : EReal)
  wg : ∀ i, x5 i = (T.wg (i 0) (i 1) : EReal)
  h : ∀ i, x6 i = (T.h (i 0) (i 1) : EReal)
  rs : ∀ i, x7 i = (T.rs (i 0) : EReal)
  g : ∀ i, x8 i = (T.g (i 1) : EReal)
  ct : ∀ i, x9 i = (T.ct (i 0) (i 1) : EReal)

/-! ## Slots read -/

theorem inbD (s : Fin 3) (a : Fin 3) : (![s.val, 0, 0] : Fin 3 → Nat) a + (![1, 512, 512] : Fin 3 → Nat) a ≤ S3x512x512.size a := by
  fin_cases a
  · show s.val + 1 ≤ 3; omega
  · exact le_refl 512
  · exact le_refl 512

theorem inbW (s : Fin 3) (a : Fin 3) : (![s.val, 0, 0] : Fin 3 → Nat) a + (![1, 1024, 512] : Fin 3 → Nat) a ≤ S3x1024x512.size a := by
  fin_cases a
  · show s.val + 1 ≤ 3; omega
  · exact le_refl 1024
  · exact le_refl 512

def dS (x0 : Vec Ideal S3x512x512 .bf16) (s : Fin 3) : FVec Ideal S1x512x512 .bf16 :=
  View.ld x0 (Rect.unit ![s.val, 0, 0] ![1, 512, 512] (inbD s))
def wS (x3 : Vec Ideal S3x1024x512 .bf16) (s : Fin 3) : FVec Ideal S1x1024x512 .bf16 :=
  View.ld x3 (Rect.unit ![s.val, 0, 0] ![1, 1024, 512] (inbW s))

section

variable {T : Tab} {x0 : Vec Ideal S3x512x512 .bf16} {x1 : Vec Ideal S512x768 .bf16} {x2 : Vec Ideal S512x2048 .bf16}
  {x3 : Vec Ideal S3x1024x512 .bf16} {x4 : Vec Ideal S1024x768 .bf16} {x5 : Vec Ideal S1024x2048 .bf16} {x6 : Vec Ideal S512x1024 .f32}
  {x7 : Vec Ideal S512x1 .f32} {x8 : Vec Ideal S1x1024 .f32} {x9 : Vec Ideal S512x1024 .f32}
  (H : Holds T x0 x1 x2 x3 x4 x5 x6 x7 x8 x9)
include H

theorem Holds.d (s : Fin 3) (i : S1x512x512.Idx) : dS x0 s i = (T.db s (i 1) (i 2) : EReal) := by
  have b0 : (i 0).val < 1 := (i 0).isLt
  exact (ld_unit_apply_of x0 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)).trans (H.db _)

theorem Holds.w (s : Fin 3) (i : S1x1024x512.Idx) : wS x3 s i = (T.wb s (i 1) (i 2) : EReal) := by
  have b0 : (i 0).val < 1 := (i 0).isLt
  exact (ld_unit_apply_of x3 _ _ _ i (ix3 s (i 1) (i 2)) (fun a => by
    match a with
    | ⟨0, _⟩ => show s.val = s.val + (i 0).val; omega
    | ⟨1, _⟩ => exact (Nat.zero_add _).symm
    | ⟨2, _⟩ => exact (Nat.zero_add _).symm)).trans (H.wb _)

theorem Holds.low (i : S512x1024.Idx) : lowV x1 x4 i = ((∑ j, T.dq (i 0) j * T.wq (i 1) j : ℝ) : EReal) := by
  unfold lowV
  exact matmulNT _ rfl rfl rfl rfl rfl rfl none (a := T.dq) (b := T.wq) (fun i => (congrFun (shapeCast_self x1 _) i).trans (H.dq i))
    (fun i => (congrFun (shapeCast_self x4 _) i).trans (H.wq i)) i

theorem Holds.high (i : S512x1024.Idx) : highV x2 x5 i = ((∑ j, T.dg (i 0) j * T.wg (i 1) j : ℝ) : EReal) := by
  unfold highV
  exact matmulNT _ rfl rfl rfl rfl rfl rfl none (a := T.dg) (b := T.wg) (fun i => (congrFun (shapeCast_self x2 _) i).trans (H.dg i))
    (fun i => (congrFun (shapeCast_self x5 _) i).trans (H.wg i)) i

theorem Holds.dnr (i : S512x1024.Idx) : dnV x1 x4 x2 x5 (dS x0) (wS x3) i = (T.dnr (i 0) (i 1) : EReal) := by
  unfold dnV k0_pay1 k0_pay7 k0_pay8
  exact addC (addC (addC (addC (H.low i) (H.high i)) (slotV_apply (H.d 0) (H.w 0) i)) (slotV_apply (H.d 1) (H.w 1) i))
    (slotV_apply (H.d 2) (H.w 2) i)

theorem Holds.rsB (i : S512x1024.Idx) : broadcastTo S512x1024 (k0_pay2 x7) broadcasts_S512x1_S512x1024 i = (T.rs (i 0) : EReal) := by
  unfold k0_pay2
  rw [shapeCast_self]
  exact (bcol _ _ i).trans (H.rs _)

theorem Holds.xh (i : S512x1024.Idx) : k0_pay3 x6 x7 i = (T.xh (i 0) (i 1) : EReal) := by
  unfold k0_pay3
  exact mulC (H.h i) (H.rsB i)

theorem Holds.out (i : S512x1024.Idx) :
    k0_pay4 (k0_pay7 x1 x4 x2 x5 (dS x0 0) (wS x3 0) (dS x0 1) (wS x3 1)) (k0_pay8 (dS x0 2)) (wS x3 2) x6 x7 x8 x9 i
      = (T.out (i 0) (i 1) : EReal) := by
  have ht : ∀ i, mulf (dnV x1 x4 x2 x5 (dS x0) (wS x3)) (broadcastTo S512x1024 x8 broadcasts_S1x1024_S512x1024) i
      = (T.t (i 0) (i 1) : EReal) := fun i => mulC (H.dnr i) ((brow _ _ i).trans (H.g _))
  unfold k0_pay4
  refine addC (H.ct i) (mulC (H.rsB i) (subC (ht i) (mulC (H.xh i) ?_)))
  refine (bcol _ _ i).trans (divC ?_ lit_1024 (by norm_num))
  exact (stand _ _ _).trans (rowSum (f := fun r k => T.t r k * T.xh r k) (fun i => mulC (ht i) (H.xh i)) _ _ _ _ _)

theorem Holds.gain {xo : Vec Ideal S1x1024 .f32} {p : Fin 1024 → ℝ} (hp : ∀ i, xo i = (p (i 1) : EReal)) (i : S1x1024.Idx) :
    k0_pay5 (k0_pay7 x1 x4 x2 x5 (dS x0 0) (wS x3 0) (dS x0 1) (wS x3 1)) (k0_pay8 (dS x0 2)) (wS x3 2) x6 x7 xo i
      = ((p (i 1) + T.gain (i 1) : ℝ) : EReal) := by
  unfold k0_pay5
  rw [shapeCast_self]
  refine addC (hp i) ((lay _ _ i).trans ?_)
  exact colSum (f := fun r k => T.dnr r k * T.xh r k) (fun i => mulC (H.dnr i) (H.xh i)) _ _ _ _ _

end

/-! ## The two stored blocks -/

theorem hz2 : (![0, 0] : Fin 2 → Nat) = fun _ => 0 := funext fun a => by fin_cases a <;> rfl

variable {c : Dev nD} {i : grid0.Coords} {a1 : Memref sig .tc .vmem S3x512x512 .bf16} {h1 : a1.IsWhole} {a2 : Memref sig .tc .vmem S512x768 .bf16} {h2 : a2.IsWhole}
  {a3 : Memref sig .tc .vmem S512x2048 .bf16} {h3 : a3.IsWhole} {a4 : Memref sig .tc .vmem S3x1024x512 .bf16} {h4 : a4.IsWhole}
  {a5 : Memref sig .tc .vmem S1024x768 .bf16} {h5 : a5.IsWhole} {a6 : Memref sig .tc .vmem S1024x2048 .bf16} {h6 : a6.IsWhole}
  {a7 : Memref sig .tc .vmem S512x1024 .f32} {h7 : a7.IsWhole} {a8 : Memref sig .tc .vmem S512x1 .f32} {h8 : a8.IsWhole}
  {a9 : Memref sig .tc .vmem S1x1024 .f32} {h9 : a9.IsWhole} {a10 : Memref sig .tc .vmem S512x1024 .f32} {h10 : a10.IsWhole}
  {a11 : Memref sig .tc .vmem S512x1024 .f32} {h11 : a11.IsWhole} {a12 : Memref sig .tc .vmem S1x1024 .f32} {h12 : a12.IsWhole}
  {T : Tab} {x0 : Vec Ideal S3x512x512 .bf16} {x1 : Vec Ideal S512x768 .bf16} {x2 : Vec Ideal S512x2048 .bf16}
  {x3 : Vec Ideal S3x1024x512 .bf16} {x4 : Vec Ideal S1024x768 .bf16} {x5 : Vec Ideal S1024x2048 .bf16} {x6 : Vec Ideal S512x1024 .f32}
  {x7 : Vec Ideal S512x1 .f32} {x8 : Vec Ideal S1x1024 .f32} {x9 : Vec Ideal S512x1024 .f32} {xo : Vec Ideal S1x1024 .f32}
  (H : Holds T x0 x1 x2 x3 x4 x5 x6 x7 x8 x9)
include H

theorem out10_A (hc : cond0_0 i) (y : S512x1024.Idx) :
    out0_A_10 c i a1 h1 a2 h2 a3 h3 a4 h4 a5 h5 a6 h6 a7 h7 a8 h8 a9 h9 a10 h10 a11 h11 a12 h12 hc x0 x1 x2 x3 x4 x5 x6 x7 x8 x9 y = (T.out (y 0) (y 1) : EReal) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_unit_zero hz2]
  simp only [View.readAt_eq_ld, h1.read_unread, h2.read_unread, h3.read_unread, h4.read_unread, h5.read_unread, h6.read_unread, h7.read_unread,
    h8.read_unread, h9.read_unread, h10.read_unread, View.ld_unit_zero (S := S512x768) hz2, View.ld_unit_zero (S := S1024x768) hz2,
    View.ld_unit_zero (S := S512x2048) hz2, View.ld_unit_zero (S := S1024x2048) hz2, View.ld_unit_zero (S := S512x1024) hz2,
    View.ld_unit_zero (S := S512x1) hz2, View.ld_unit_zero (S := S1x1024) hz2]
  exact H.out y

theorem out11_A (hc : cond0_0 i) (y : S1x1024.Idx) :
    out0_A_11 c i a1 h1 a2 h2 a3 h3 a4 h4 a5 h5 a6 h6 a7 h7 a8 h8 a9 h9 a10 h10 a11 h11 a12 h12 hc x0 x1 x2 x3 x4 x5 x6 x7 x8 x9 y = ((0 + T.gain (y 1) : ℝ) : EReal) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread,
    h8.read_unread, h9.read_unread, h10.read_unread, View.ld_unit_zero (S := S512x768) hz2, View.ld_unit_zero (S := S1024x768) hz2,
    View.ld_unit_zero (S := S512x2048) hz2, View.ld_unit_zero (S := S1024x2048) hz2, View.ld_unit_zero (S := S512x1024) hz2,
    View.ld_unit_zero (S := S512x1) hz2, View.ld_unit_zero (S := S1x1024) hz2]
  exact H.gain (xo := k0_pay6 (F := Ideal)) (p := fun _ => 0) (fun _ => lit_zero) y

theorem out10_B (hc : ¬cond0_0 i) (y : S512x1024.Idx) :
    out0_B_10 c i a1 h1 a2 h2 a3 h3 a4 h4 a5 h5 a6 h6 a7 h7 a8 h8 a9 h9 a10 h10 a11 h11 a12 h12 hc x0 x1 x2 x3 x4 x5 x6 x7 x8 x9 xo y = (T.out (y 0) (y 1) : EReal) := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 x8 x9 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    h8.read_unread, h9.read_unread, h10.read_unread, View.ld_unit_zero (S := S512x768) hz2, View.ld_unit_zero (S := S1024x768) hz2,
    View.ld_unit_zero (S := S512x2048) hz2, View.ld_unit_zero (S := S1024x2048) hz2, View.ld_unit_zero (S := S512x1024) hz2,
    View.ld_unit_zero (S := S512x1) hz2, View.ld_unit_zero (S := S1x1024) hz2]
  exact H.out y

theorem out11_B (hc : ¬cond0_0 i) {p : Fin 1024 → ℝ} (hp : ∀ i, xo i = (p (i 1) : EReal)) (y : S1x1024.Idx) :
    out0_B_11 c i a1 h1 a2 h2 a3 h3 a4 h4 a5 h5 a6 h6 a7 h7 a8 h8 a9 h9 a10 h10 a11 h11 a12 h12 hc x0 x1 x2 x3 x4 x5 x6 x7 x8 x9 xo y = ((p (y 1) + T.gain (y 1) : ℝ) : EReal) := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 x8 x9 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    h8.read_unread, h9.read_unread, h10.read_unread, h12.read_unread, View.ld_unit_zero (S := S512x768) hz2, View.ld_unit_zero (S := S1024x768) hz2,
    View.ld_unit_zero (S := S512x2048) hz2, View.ld_unit_zero (S := S1024x2048) hz2, View.ld_unit_zero (S := S512x1024) hz2,
    View.ld_unit_zero (S := S512x1) hz2, View.ld_unit_zero (S := S1x1024) hz2]
  exact H.gain hp y

end Cert.MixBwd.Body

end
-- ==== Proof.MixBwdReal.lean ====
/- Hand-written, untrusted: THE GRADIENT OF THE MIXER'S INPUT PROJECTIONS OVER THE REALS. `h` are the activations (one row per token),
   `g` the gain of the normalisation, `W` the joined projections of 4288 columns, `dz` the gradient of their values, `ct` the gradient
   that arrives along the residual. The definitions ending in `R` follow the reference: one product over all columns, and autodiff of
   the normalisation. The ones ending in `K` follow the kernel: five products over blocks of columns, one of them padded with zeros,
   and the closed form of the normalisation's gradient. The theorems at the end say that the two agree. -/
module

public import proofs.«01_k».proof.Proof.FfnReal
public import proofs.«01_k».proof.Proof.MixCut

@[expose] public section

noncomputable section

namespace Cert.MixBwd

open Cert.Lift
open Cert.Ffn (ms rs xh ms_pos norm_grad)
open Cert.Mix (scolN lcolN gcolN sum_cut sum_low)

variable (h : Fin 4096 → Fin 1024 → ℝ) (g : Fin 1024 → ℝ) (W : Fin 1024 → Fin 4288 → ℝ) (dz : Fin 4096 → Fin 4288 → ℝ)
  (ct : Fin 4096 → Fin 1024 → ℝ)

/-! ## As the reference differentiates -/

def dnR (r : Fin 4096) (k : Fin 1024) : ℝ := ∑ j, dz r j * W k j
def dgainR (k : Fin 1024) : ℝ := ∑ r, xh h r k * dnR W dz r k
def tR (r : Fin 4096) (k : Fin 1024) : ℝ := dnR W dz r k * g k
def cR (r : Fin 4096) : ℝ := (∑ k, h r k * tR g W dz r k) * (-1 / 2 * (rs h r / ms h r)) / 1024
def outR (r : Fin 4096) (k : Fin 1024) : ℝ :=
  ct r k + (tR g W dz r k * rs h r + h r k * cR h g W dz r + cR h g W dz r * h r k)

/-! ## As the kernel computes -/

/-- The 704 columns behind the slots, with 64 zeros behind them. -/
def low (a : Fin 4288 → ℝ) (j : Fin 768) : ℝ := if h : j.val < 704 then a (lcolN j.val h) else 0
/-- A slot's part of the product with the transposed projections. -/
def part (r : Fin 4096) (k : Fin 1024) (s : Fin 3) : ℝ := ∑ j, dz r (scolN s j) * W k (scolN s j)
def dnK (r : Fin 4096) (k : Fin 1024) : ℝ :=
  (∑ j, low (dz r) j * low (W k) j) + (∑ j, dz r (gcolN j) * W k (gcolN j)) + part W dz r k 0 + part W dz r k 1 + part W dz r k 2
def tK (r : Fin 4096) (k : Fin 1024) : ℝ := dnK W dz r k * g k
def outK (r : Fin 4096) (k : Fin 1024) : ℝ :=
  ct r k + rs h r * (tK g W dz r k - xh h r k * ((∑ k, tK g W dz r k * xh h r k) / 1024))

/-! ## The two agree -/

theorem low_mul (a b : Fin 4288 → ℝ) (j : Fin 768) : low a j * low b j = low (fun k => a k * b k) j := by
  unfold low
  split
  · rfl
  · exact mul_zero 0

theorem dn_eq (r : Fin 4096) (k : Fin 1024) : dnK W dz r k = dnR W dz r k := by
  unfold dnK dnR part
  have e : ∑ j, low (dz r) j * low (W k) j = ∑ j : Fin 704, dz r (lcolN j.val j.isLt) * W k (lcolN j.val j.isLt) :=
    (Finset.sum_congr rfl fun j _ => low_mul (dz r) (W k) j).trans (sum_low fun j hj => dz r (lcolN j hj) * W k (lcolN j hj))
  rw [e, sum_cut fun j => dz r j * W k j]
  ring

theorem out_eq (r : Fin 4096) (k : Fin 1024) : outK h g W dz ct r k = outR h g W dz ct r k := by
  have e : tK g W dz r = tR g W dz r := by funext k; unfold tK tR; rw [dn_eq]
  unfold outK outR cR
  rw [e]
  exact congrArg (ct r k + ·) (norm_grad 1024 (h r) (tR g W dz r) (ms h r) 1024 (ms_pos h r) k)

end Cert.MixBwd

end
-- ==== Proof.MixBwdRef.lean ====
/- Hand-written, untrusted: THE REFERENCE'S VALUES ARE REAL. On arguments whose elements are real numbers, each value of the
   reference of the mixer's input gradient is the real number that `MixBwdReal.lean` names, operation by operation. -/
module

public import proofs.«01_k».proof.Proof.MixBwdReal
public import proofs.«01_k».proof.Proof.Gen.Reference7Ideal.Read

@[expose] public section

set_option maxRecDepth 16384

noncomputable section

namespace Cert.MixBwd.Ref

open Cert.Reference7Ideal Cert.Reference7Ideal.Read Cert.Lift Cert.MixBwd
open Cert.Ffn (ms rs xh ms_pos)
open Idealize.ShloMosaic

variable {x0 : FVec Ideal S4096x1024 .f32} {x1 : FVec Ideal S1x1024 .f32} {x2 : FVec Ideal S1024x4288 .f32} {x3 : FVec Ideal S4096x4288 .f32} {x4 : FVec Ideal S4096x1024 .f32}
variable {h : Fin 4096 → Fin 1024 → ℝ} {g : Fin 1024 → ℝ} {W : Fin 1024 → Fin 4288 → ℝ} {dz : Fin 4096 → Fin 4288 → ℝ}
  {ct : Fin 4096 → Fin 1024 → ℝ}
variable (h0 : ∀ i, x0 i = (h (i 0) (i 1) : EReal)) (h1 : ∀ i, x1 i = (g (i 1) : EReal)) (h2 : ∀ i, x2 i = (W (i 0) (i 1) : EReal))
  (h3 : ∀ i, x3 i = (dz (i 0) (i 1) : EReal)) (h4 : ∀ i, x4 i = (ct (i 0) (i 1) : EReal))

/-- An index of the activations from its row and its column. -/
abbrev at2 (r : Fin 4096) (k : Fin 1024) : S4096x1024.Idx := ValueIdx.ix2 r k

theorem c3 (i) : val_main_v3 (F := Ideal) i = ((1024 : ℝ) : EReal) := by
  rw [val_main_v3_apply, val_main_cst_0_apply]; exact lit_1024
theorem c28 (i) : val_main_v28 (F := Ideal) i = ((1024 : ℝ) : EReal) := by
  rw [val_main_v28_apply, val_main_cst_5_apply]; exact lit_1024
theorem c5 (i) : val_main_v5 (F := Ideal) i = ((eps : ℝ) : EReal) := by
  rw [val_main_v5_apply, val_main_cst_1_apply]; exact lit_eps
theorem c9 (i) : val_main_v9 (F := Ideal) i = ((-1 / 2 : ℝ) : EReal) := by
  rw [val_main_v9_apply, val_main_cst_2_apply]; exact lit_neg_half
theorem zero (i) : val_main_cst (F := Ideal) i = 0 := Ideal.ofBits_zero_f32
theorem zero3 (i) : val_main_cst_3 (F := Ideal) i = 0 := Ideal.ofBits_zero_f32
theorem zero4 (i) : val_main_cst_4 (F := Ideal) i = 0 := Ideal.ofBits_zero_f32
theorem zero6 (i) : val_main_cst_6 (F := Ideal) i = 0 := Ideal.ofBits_zero_f32

include h0

theorem v1 (i) : val_main_v1 (F := Ideal) x0 i = ((∑ k, h (i 0) k * h (i 0) k : ℝ) : EReal) := by
  rw [val_main_v1_apply]
  exact zeroAddC (zero _) (sumC _ fun k => by rw [val_main_v0_apply]; exact mulF (h0 _) (h0 _))

theorem v6 (i) : val_main_v6 (F := Ideal) x0 i = (ms h (i 0) : EReal) := by
  rw [val_main_v6_apply, val_main_v4_apply, val_main_v2_apply]
  exact addF (divH (v1 h0 _) (c3 _) (by norm_num)) (c5 _)

theorem v7 (i) : val_main_v7 (F := Ideal) x0 i = (rs h (i 0) : EReal) := by
  rw [val_main_v7_apply]
  exact rsqrtH (v6 h0 i) (ms_pos h _)

theorem v10 (i) : val_main_v10 (F := Ideal) x0 i = ((-1 / 2 * (rs h (i 0) / ms h (i 0)) : ℝ) : EReal) := by
  rw [val_main_v10_apply, val_main_v8_apply]
  exact mulF (c9 _) (divH (v7 h0 i) (v6 h0 i) (ms_pos h _).ne')

theorem v12 (i) : val_main_v12 (F := Ideal) x0 i = (xh h (i 0) (i 1) : EReal) := by
  rw [val_main_v12_apply, val_main_v11_apply]
  exact mulF (h0 i) (v7 h0 _)

omit h0
include h2 h3

theorem v16 (i) : val_main_v16 (F := Ideal) x2 x3 i = (dnR W dz (i 0) (i 1) : EReal) := by
  rw [val_main_v16_apply]
  exact sumC _ fun k => mulC (h3 _) (h2 _)

include h0

/-- The gradient of the gain. -/
theorem v19 (i) : val_main_v19 (F := Ideal) x0 x2 x3 i = (dgainR h W dz (i 1) : EReal) := by
  rw [val_main_v19_apply, val_main_v18_apply]
  have b0 : (i 0).val < 1 := (i 0).isLt
  have e : ∀ r : Fin 4096, idx_main_v18 (idx_main_v19 i) r = at2 r (i 1) := fun r => funext fun c => Fin.ext (by
    match c with
    | ⟨0, _⟩ => rfl
    | ⟨1, _⟩ => show (i 0).val * 1024 + (i 1).val = (i 1).val; omega)
  refine zeroAddC (zero3 _) (sumC _ fun r => ?_)
  rw [e, val_main_v17_apply]
  exact mulF (v12 h0 (at2 r (i 1))) (v16 h2 h3 (at2 r (i 1)))

omit h0
include h1

theorem v21 (i) : val_main_v21 (F := Ideal) x1 x2 x3 i = (tR g W dz (i 0) (i 1) : EReal) := by
  rw [val_main_v21_apply, val_main_v20_apply]
  exact mulF (v16 h2 h3 i) (h1 _)

include h0

theorem v23 (i) : val_main_v23 (F := Ideal) x0 x1 x2 x3 i = ((∑ k, h (i 0) k * tR g W dz (i 0) k : ℝ) : EReal) := by
  rw [val_main_v23_apply]
  exact zeroAddC (zero4 _) (sumC _ fun k => by
    rw [val_main_v22_apply]; exact mulF (h0 _) (v21 h1 h2 h3 _))

theorem v30 (i) : val_main_v30 (F := Ideal) x0 x1 x2 x3 i = (cR h g W dz (i 0) : EReal) := by
  have e : idx_main_v24 (idx_main_v30 i 0) = i := funext fun c => Fin.ext (by
    match c with
    | ⟨0, _⟩ => show (i 0).val * 1 + 0 = (i 0).val; omega)
  rw [val_main_v30_apply, Fin.sum_univ_one, val_main_v29_apply, val_main_v27_apply, val_main_v24_apply, e]
  exact zeroAddC (zero6 _) (divH (mulF (v23 h0 h1 h2 h3 i) (v10 h0 (idx_main_v30 i 0))) (c28 _) (by norm_num))

include h4

/-- The gradient of the activations. -/
theorem v36 (i) : val_main_v36 (F := Ideal) x0 x1 x2 x3 x4 i = (outR h g W dz ct (i 0) (i 1) : EReal) := by
  rw [val_main_v36_apply, val_main_v35_apply, val_main_v33_apply, val_main_v26_apply, val_main_v25_apply, val_main_v32_apply,
    val_main_v34_apply, val_main_v31_apply]
  exact addF (h4 i) (addF (addF (mulF (v21 h1 h2 h3 i) (v7 h0 _)) (mulF (h0 i) (v30 h0 h1 h2 h3 _)))
    (mulF (v30 h0 h1 h2 h3 _) (h0 i)))

end Cert.MixBwd.Ref

end
-- ==== Proof.MixBwdGrid.lean ====
/- Hand-written, untrusted: WHAT THE KERNEL OF THE MIXER'S INPUT GRADIENT LEAVES IN ITS RESULT ARRAYS. The host cuts the gradient and
   the projections into three blocks each; each of the eight grid points reads the blocks of its 512 rows (`holds`), so it stores its
   rows' part of the gradient and adds its part of the gain's gradient; the blocks cover the arrays. -/
module

public import proofs.«01_k».proof.Proof.MixBwdBody
public import proofs.«01_k».proof.Proof.MixBwdRef
public import proofs.«01_k».proof.Proof.Upto
public import proofs.«01_k».proof.Proof.Finite
public import proofs.«01_k».proof.Proof.Gen.Kernel7Ideal.Value
public import Idealize.ShloMosaic.Lib.Tactic

@[expose] public section

noncomputable section

namespace Cert.MixBwd.Grid

open Cert.Kernel7Ideal Cert.Kernel7Ideal.Gen Cert.Lift Cert.MixBwd Cert.MixBwd.Body
open Cert.Ffn (rs xh)
open Cert.Mix (scolN lcolN gcolN cut_slots cut_low cut_high)
open Cert.Reference7Ideal.Read (val_main_v7)
open Idealize.ShloMosaic Idealize.ShloMosaic.TcCoe Idealize.SL.Sem Idealize.ShloMosaic.StableHlo
open Idealize.ShloMosaic.ValueIdx (ix2 ix3)

/-! ## The tiles -/

section

variable (h : Fin 4096 → Fin 1024 → ℝ) (g : Fin 1024 → ℝ) (W : Fin 1024 → Fin 4288 → ℝ) (dz : Fin 4096 → Fin 4288 → ℝ)
  (ct : Fin 4096 → Fin 1024 → ℝ)

/-- Row `r` of tile `t`. -/
def row (t : Fin 8) (r : Fin 512) : Fin 4096 := ⟨t.val * 512 + r.val, by omega⟩

def tab (t : Fin 8) : Tab where
  db := fun s r j => dz (row t r) (scolN s j)
  dq := fun r j => low (dz (row t r)) j
  dg := fun r j => dz (row t r) (gcolN j)
  wb := fun s k j => W k (scolN s j)
  wq := fun k j => low (W k) j
  wg := fun k j => W k (gcolN j)
  h := fun r k => h (row t r) k
  rs := fun r => rs h (row t r)
  g := g
  ct := fun r k => ct (row t r) k

variable (t : Fin 8)

theorem tab_dnr (r : Fin 512) (k : Fin 1024) : (tab h g W dz ct t).dnr r k = dnR W dz (row t r) k :=
  (show (tab h g W dz ct t).dnr r k = dnK W dz (row t r) k from rfl).trans (dn_eq W dz (row t r) k)

theorem tab_out (r : Fin 512) (k : Fin 1024) : (tab h g W dz ct t).out r k = outR h g W dz ct (row t r) k :=
  (show (tab h g W dz ct t).out r k = outK h g W dz ct (row t r) k from rfl).trans (out_eq h g W dz ct (row t r) k)

theorem tab_gain (k : Fin 1024) : (tab h g W dz ct t).gain k = ∑ r, xh h (row t r) k * dnR W dz (row t r) k := by
  unfold Tab.gain
  refine Finset.sum_congr rfl fun r _ => ?_
  rw [tab_dnr, mul_comm]
  rfl

/-- The gain's gradient is the tiles' parts added up. -/
theorem gain_tiles (k : Fin 1024) : ∑ t, (tab h g W dz ct t).gain k = dgainR h W dz k := by
  unfold dgainR
  rw [← Equiv.sum_comp (finProdFinEquiv (m := 8) (n := 512)), Fintype.sum_prod_type]
  refine Finset.sum_congr rfl fun t _ => ?_
  rw [tab_gain]
  refine Finset.sum_congr rfl fun r _ => ?_
  have e : finProdFinEquiv (m := 8) (n := 512) (t, r) = row t r := Fin.ext (by
    show r.val + 512 * t.val = t.val * 512 + r.val
    omega)
  rw [e]

end

/-! ## The windows -/

/-- Where each window's block starts, in blocks. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0) :=
  (by decide +kernel : ∀ t : Fin grid0.N, _)

theorem lt8 (t : Fin cfg0.N) : t.val < 8 := Nat.lt_of_lt_of_eq t.isLt N_0
/-- The grid point's tile. -/
def tl (t : Fin cfg0.N) : Fin 8 := ⟨t.val, lt8 t⟩

/-- An index of a block that is block `q` in rows of height `p` and the only one in columns. -/
theorem rows_ix {N b p : ℕ} {e : (⟨2, ![N, b]⟩ : Shape).Idx} {f : Fin 2 → ℕ} {r : Fin N} {k : Fin b} (q : ℕ)
    (hf : f 0 = q ∧ f 1 = 0) {y0 y1 : ℕ} (h0 : (e 0).val = f 0 * p + 1 * y0) (h1 : (e 1).val = f 1 * b + 1 * y1)
    (hr : r.val = q * p + y0) (hk : k.val = y1) : e = ix2 r k := by
  funext a; apply Fin.ext
  match a with
  | ⟨0, _⟩ => show (e 0).val = r.val; rw [h0, hf.1, hr, Nat.one_mul]
  | ⟨1, _⟩ => show (e 1).val = k.val; rw [h1, hf.2, hk, Nat.one_mul, Nat.zero_mul, Nat.zero_add]

variable (t : Fin cfg0.N)

theorem emb0 (y : S3x512x512.Idx) : ((cfg0.win 0).blk t).view.emb y = ix3 (y 0) (row (tl t) (y 1)) (y 2) := by
  have hi := (idx_facts t).1
  funext a; apply Fin.ext
  match a with
  | ⟨0, _⟩ => show win0_0.index t (0 : Fin 3) * 3 + 1 * (y 0).val = (y 0).val; rw [hi.1]; omega
  | ⟨1, _⟩ => show win0_0.index t (1 : Fin 3) * 512 + 1 * (y 1).val = t.val * 512 + (y 1).val; rw [hi.2.1]; omega
  | ⟨2, _⟩ => show win0_0.index t (2 : Fin 3) * 512 + 1 * (y 2).val = (y 2).val; rw [hi.2.2]; omega

theorem emb3 (y : S3x1024x512.Idx) : ((cfg0.win 3).blk t).view.emb y = y := by
  have hi := (idx_facts t).2.2.2.1
  funext a; apply Fin.ext
  match a with
  | ⟨0, _⟩ => show win0_3.index t (0 : Fin 3) * 3 + 1 * (y 0).val = (y 0).val; rw [hi.1]; omega
  | ⟨1, _⟩ => show win0_3.index t (1 : Fin 3) * 1024 + 1 * (y 1).val = (y 1).val; rw [hi.2.1]; omega
  | ⟨2, _⟩ => show win0_3.index t (2 : Fin 3) * 512 + 1 * (y 2).val = (y 2).val; rw [hi.2.2]; omega

theorem emb1 (y : S512x768.Idx) : ((cfg0.win 1).blk t).view.emb y = ix2 (row (tl t) (y 0)) (y 1) :=
  rows_ix (p := 512) (f := win0_1.index t) t.val (idx_facts t).2.1 rfl rfl rfl rfl
theorem emb2 (y : S512x2048.Idx) : ((cfg0.win 2).blk t).view.emb y = ix2 (row (tl t) (y 0)) (y 1) :=
  rows_ix (p := 512) (f := win0_2.index t) t.val (idx_facts t).2.2.1 rfl rfl rfl rfl
theorem emb4 (y : S1024x768.Idx) : ((cfg0.win 4).blk t).view.emb y = ix2 (y 0) (y 1) :=
  rows_ix (p := 1024) (f := win0_4.index t) 0 (idx_facts t).2.2.2.2.1 rfl rfl (by omega) rfl
theorem emb5 (y : S1024x2048.Idx) : ((cfg0.win 5).blk t).view.emb y = ix2 (y 0) (y 1) :=
  rows_ix (p := 1024) (f := win0_5.index t) 0 (idx_facts t).2.2.2.2.2.1 rfl rfl (by omega) rfl
theorem emb6 (y : S512x1024.Idx) : ((cfg0.win 6).blk t).view.emb y = ix2 (row (tl t) (y 0)) (y 1) :=
  rows_ix (p := 512) (f := win0_6.index t) t.val (idx_facts t).2.2.2.2.2.2.1 rfl rfl rfl rfl
theorem emb7 (y : S512x1.Idx) : ((cfg0.win 7).blk t).view.emb y = ix2 (row (tl t) (y 0)) (y 1) :=
  rows_ix (p := 512) (f := win0_7.index t) t.val (idx_facts t).2.2.2.2.2.2.2.1 rfl rfl rfl rfl
theorem emb8 (y : S1x1024.Idx) : ((cfg0.win 8).blk t).view.emb y = ix2 (y 0) (y 1) :=
  rows_ix (p := 1) (f := win0_8.index t) 0 (idx_facts t).2.2.2.2.2.2.2.2.1 rfl rfl (by omega) rfl
theorem emb9 (y : S512x1024.Idx) : ((cfg0.win 9).blk t).view.emb y = ix2 (row (tl t) (y 0)) (y 1) :=
  rows_ix (p := 512) (f := win0_9.index t) t.val (idx_facts t).2.2.2.2.2.2.2.2.2.1 rfl rfl rfl rfl
theorem emb10 (y : S512x1024.Idx) : ((cfg0.win 10).blk t).view.emb y = ix2 (row (tl t) (y 0)) (y 1) :=
  rows_ix (p := 512) (f := win0_10.index t) t.val (idx_facts t).2.2.2.2.2.2.2.2.2.2.1 rfl rfl rfl rfl
theorem emb11 (y : S1x1024.Idx) : ((cfg0.win 11).blk t).view.emb y = ix2 (y 0) (y 1) :=
  rows_ix (p := 1) (f := win0_11.index t) 0 (idx_facts t).2.2.2.2.2.2.2.2.2.2.2 rfl rfl (by omega) rfl

/-! ## The buffers at the launch -/

section

variable (m : (ℓ : Loc nD τ sig) → Buf (Elt Ideal) ℓ) (c : Dev nD)

abbrev A2 : FVec Ideal S1024x4288 .f32 := m ((c : Thread nD τ).loc main_arg2)
abbrev A3 : FVec Ideal S4096x4288 .f32 := m ((c : Thread nD τ).loc main_arg3)

theorem v7 : V m c main_v7 = val_main_v7 (F := Ideal) (m ((c : Thread nD τ).loc main_arg0)) := by
  unfold V
  simp only [hostOps0, List.flatten_cons, List.flatten_nil, List.cons_append, List.nil_append,
    TRef.binary, TRef.nullary, TRef.unary, TRef.toBuf, TRef.ofBuf, cast_eq]
  after_results_simp
  rfl

theorem v11 : V m c main_v11 = truncf (F := Ideal) .bf16 (transpose S3x4096x512 [1, 0, 2] (shapeCast S4096x3x512
    (extractStridedSlice S4096x1536 ![0, 0] (A3 m c) slices_S4096x4288_S4096x1536_0_0) shapeCasts_S4096x1536_S4096x3x512)
    transposes_S4096x3x512_S3x4096x512_1_0_2) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v15 : V m c main_v15 = truncf (F := Ideal) (φ := .f32) (s := S4096x768) .bf16 (concatenate S4096x768 1
    [⟨S4096x704, extractStridedSlice S4096x704 ![0, 1536] (A3 m c) slices_S4096x4288_S4096x704_0_1536⟩,
     ⟨S4096x64, broadcastInDim S4096x64 ![] bcast_S_S4096x64 (constant (F := Ideal) S_ .f32 0x00000000#32)⟩]
    concatenates_S4096x704_S4096x64_S4096x768_d1) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v17 : V m c main_v17 = truncf (F := Ideal) .bf16 (extractStridedSlice S4096x2048 ![0, 2240] (A3 m c)
    slices_S4096x4288_S4096x2048_0_2240) bitsLt_bf16_f32 := by
  unfold V
  simp only [hostOps0, List.flatten_cons, List.flatten_nil, List.cons_append, List.nil_append,
    TRef.binary, TRef.nullary, TRef.unary, TRef.toBuf, TRef.ofBuf, cast_eq]
  after_results_simp

theorem v21 : V m c main_v21 = truncf (F := Ideal) .bf16 (transpose S3x1024x512 [1, 0, 2] (shapeCast S1024x3x512
    (extractStridedSlice S1024x1536 ![0, 0] (A2 m c) slices_S1024x4288_S1024x1536_0_0) shapeCasts_S1024x1536_S1024x3x512)
    transposes_S1024x3x512_S3x1024x512_1_0_2) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v25 : V m c main_v25 = truncf (F := Ideal) (φ := .f32) (s := S1024x768) .bf16 (concatenate S1024x768 1
    [⟨S1024x704, extractStridedSlice S1024x704 ![0, 1536] (A2 m c) slices_S1024x4288_S1024x704_0_1536⟩,
     ⟨S1024x64, broadcastInDim S1024x64 ![] bcast_S_S1024x64 (constant (F := Ideal) S_ .f32 0x00000000#32)⟩]
    concatenates_S1024x704_S1024x64_S1024x768_d1) bitsLt_bf16_f32 := by
  unfold V
  simp only [hostOps0, List.flatten_cons, List.flatten_nil, List.cons_append, List.nil_append,
    TRef.binary, TRef.nullary, TRef.unary, TRef.toBuf, TRef.ofBuf, cast_eq]
  after_results_simp
  rfl

theorem v27 : V m c main_v27 = truncf (F := Ideal) .bf16 (extractStridedSlice S1024x2048 ![0, 2240] (A2 m c)
    slices_S1024x4288_S1024x2048_0_2240) bitsLt_bf16_f32 := by
  unfold V
  simp only [hostOps0, List.flatten_cons, List.flatten_nil, List.cons_append, List.nil_append,
    TRef.binary, TRef.nullary, TRef.unary, TRef.toBuf, TRef.ofBuf, cast_eq]
  after_results_simp

end

/-- A block of 704 columns padded with zeros, of a matrix of reals. -/
theorem low_real {R : ℕ} {w : (⟨2, ![R, 4288]⟩ : Shape).Idx → EReal} {a : Fin R → Fin 4288 → ℝ} (hw : ∀ i, w i = (a (i 0) (i 1) : EReal))
    (r : Fin R) (j : Fin 768) : (if h : j.val < 704 then w (ix2 r (lcolN j.val h)) else 0) = ((low (a r) j : ℝ) : EReal) := by
  unfold low
  split
  · exact hw _
  · rfl

/-! ## The blocks that a grid point reads -/

variable {m : (ℓ : Loc nD τ sig) → Buf (Elt Ideal) ℓ} {c : Dev nD}
variable {h : Fin 4096 → Fin 1024 → ℝ} {g : Fin 1024 → ℝ} {W : Fin 1024 → Fin 4288 → ℝ} {dz : Fin 4096 → Fin 4288 → ℝ} {ct : Fin 4096 → Fin 1024 → ℝ}
variable (h0 : ∀ i : S4096x1024.Idx, m ((c : Thread nD τ).loc main_arg0) i = (h (i 0) (i 1) : EReal))
  (h1 : ∀ i : S1x1024.Idx, m ((c : Thread nD τ).loc main_arg1) i = (g (i 1) : EReal))
  (h2 : ∀ i : S1024x4288.Idx, m ((c : Thread nD τ).loc main_arg2) i = (W (i 0) (i 1) : EReal))
  (h3 : ∀ i : S4096x4288.Idx, m ((c : Thread nD τ).loc main_arg3) i = (dz (i 0) (i 1) : EReal))
  (h4 : ∀ i : S4096x1024.Idx, m ((c : Thread nD τ).loc main_arg4) i = (ct (i 0) (i 1) : EReal))

include h3 in
theorem blk_db (i : S3x512x512.Idx) : iblk m c 0 t i = (dz (row (tl t) (i 1)) (scolN (i 0) (i 2)) : EReal) :=
  (congrArg (V m c main_v11) (emb0 t i)).trans ((congrFun (v11 m c) _).trans ((cut_slots (A3 m c) slices_S4096x4288_S4096x1536_0_0
    shapeCasts_S4096x1536_S4096x3x512 transposes_S4096x3x512_S3x4096x512_1_0_2 _).trans (h3 _)))
include h3 in
theorem blk_dq (i : S512x768.Idx) : iblk m c 1 t i = (low (dz (row (tl t) (i 0))) (i 1) : EReal) :=
  (congrArg (V m c main_v15) (emb1 t i)).trans ((congrFun (v15 m c) _).trans ((cut_low (A3 m c) slices_S4096x4288_S4096x704_0_1536
    _ (fun _ => Ideal.ofBits_zero_f32) concatenates_S4096x704_S4096x64_S4096x768_d1 _).trans (low_real h3 _ _)))
include h3 in
theorem blk_dg (i : S512x2048.Idx) : iblk m c 2 t i = (dz (row (tl t) (i 0)) (gcolN (i 1)) : EReal) :=
  (congrArg (V m c main_v17) (emb2 t i)).trans ((congrFun (v17 m c) _).trans ((cut_high (A3 m c) slices_S4096x4288_S4096x2048_0_2240 _).trans (h3 _)))
include h2 in
theorem blk_wb (i : S3x1024x512.Idx) : iblk m c 3 t i = (W (i 1) (scolN (i 0) (i 2)) : EReal) :=
  (congrArg (V m c main_v21) (emb3 t i)).trans ((congrFun (v21 m c) _).trans ((cut_slots (A2 m c) slices_S1024x4288_S1024x1536_0_0
    shapeCasts_S1024x1536_S1024x3x512 transposes_S1024x3x512_S3x1024x512_1_0_2 _).trans (h2 _)))
include h2 in
theorem blk_wq (i : S1024x768.Idx) : iblk m c 4 t i = (low (W (i 0)) (i 1) : EReal) :=
  (congrArg (V m c main_v25) (emb4 t i)).trans ((congrFun (v25 m c) _).trans ((cut_low (A2 m c) slices_S1024x4288_S1024x704_0_1536
    _ (fun _ => Ideal.ofBits_zero_f32) concatenates_S1024x704_S1024x64_S1024x768_d1 _).trans (low_real h2 _ _)))
include h2 in
theorem blk_wg (i : S1024x2048.Idx) : iblk m c 5 t i = (W (i 0) (gcolN (i 1)) : EReal) :=
  (congrArg (V m c main_v27) (emb5 t i)).trans ((congrFun (v27 m c) _).trans ((cut_high (A2 m c) slices_S1024x4288_S1024x2048_0_2240 _).trans (h2 _)))
include h0 in
theorem blk_h (i : S512x1024.Idx) : iblk m c 6 t i = (h (row (tl t) (i 0)) (i 1) : EReal) :=
  (congrArg (V m c main_arg0) (emb6 t i)).trans ((congrFun (V_main_arg0 m c) _).trans (h0 _))
include h0 in
theorem blk_rs (i : S512x1.Idx) : iblk m c 7 t i = (rs h (row (tl t) (i 0)) : EReal) :=
  (congrArg (V m c main_v7) (emb7 t i)).trans ((congrFun (v7 m c) _).trans (Ref.v7 h0 _))
include h1 in
theorem blk_g (i : S1x1024.Idx) : iblk m c 8 t i = (g (i 1) : EReal) :=
  (congrArg (V m c main_arg1) (emb8 t i)).trans ((congrFun (V_main_arg1 m c) _).trans (h1 _))
include h4 in
theorem blk_ct (i : S512x1024.Idx) : iblk m c 9 t i = (ct (row (tl t) (i 0)) (i 1) : EReal) :=
  (congrArg (V m c main_arg4) (emb9 t i)).trans ((congrFun (V_main_arg4 m c) _).trans (h4 _))

include h0 h1 h2 h3 h4

/-- The blocks that a grid point reads are its tile's. -/
theorem holds : Holds (tab h g W dz ct (tl t)) (iblk m c 0 t) (iblk m c 1 t) (iblk m c 2 t) (iblk m c 3 t) (iblk m c 4 t)
    (iblk m c 5 t) (iblk m c 6 t) (iblk m c 7 t) (iblk m c 8 t) (iblk m c 9 t) :=
  ⟨blk_db t h3, blk_dq t h3, blk_dg t h3, blk_wb t h2, blk_wq t h2, blk_wg t h2, blk_h t h0, blk_rs t h0, blk_g t h1, blk_ct t h4⟩

/-! ## The result arrays -/

theorem arr10 (i : S4096x1024.Idx) : (Gen.dats m 0 c).arrAt 10 cfg0.N i = (outR h g W dz ct (i 0) (i 1) : EReal) := by
  have b0 : (i 0).val < 4096 := (i 0).isLt
  have hN : cfg0.N = 8 := N_0
  let t : Fin cfg0.N := ⟨(i 0).val / 512, by omega⟩
  let y : S512x1024.Idx := ix2 ⟨(i 0).val % 512, by omega⟩ (i 1)
  have er : row (tl t) (y 0) = i 0 := Fin.ext (by show (i 0).val / 512 * 512 + (i 0).val % 512 = (i 0).val; omega)
  have e : ((cfg0.win 10).blk t).view.emb y = i := by
    rw [emb10, er]
    funext a
    match a with
    | ⟨0, _⟩ => rfl
    | ⟨1, _⟩ => rfl
  have H := holds t h0 h1 h2 h3 h4
  have b' : (Gen.dats m 0 c).arrAt 10 cfg0.N (((cfg0.win 10).blk t).view.emb y) = (Gen.dats m 0 c).flushed 10 t y :=
    congrFun (Value.blocks10 m c t (flush0_10 t)) y
  rw [e] at b'
  rw [b']
  have key : (Gen.dats m 0 c).flushed 10 t y = ((tab h g W dz ct (tl t)).out (y 0) (y 1) : EReal) := by
    by_cases hm : t.val % 8 = 0
    · rw [Value.flushed10_A m c t hm]
      exact Body.out10_A H _ y
    · rw [Value.flushed10_B m c t hm]
      exact Body.out10_B H _ y
  exact key.trans (congrArg Real.toEReal ((tab_out h g W dz ct (tl t) (y 0) (y 1)).trans
    (congrArg (fun r => outR h g W dz ct r (i 1)) er)))

theorem step11_A (hm : t.val % 8 = 0) (y : S1x1024.Idx) :
    (outsAt0 m c t.val t.isLt).2 y = ((0 + (tab h g W dz ct (tl t)).gain (y 1) : ℝ) : EReal) := by
  have H := holds t h0 h1 h2 h3 h4
  have f := congrFun ((Value.flushed11 m c t).symm.trans (Value.flushed11_A m c t hm)) y
  exact f.trans (Body.out11_A H _ y)

theorem step11_B (hm : ¬t.val % 8 = 0) {p : Fin 1024 → ℝ}
    (hp : ∀ i, (outsAt0 m c (t.val - 1) (Nat.lt_of_le_of_lt (Nat.sub_le _ _) t.isLt)).2 i = (p (i 1) : EReal)) (y : S1x1024.Idx) :
    (outsAt0 m c t.val t.isLt).2 y = ((p (y 1) + (tab h g W dz ct (tl t)).gain (y 1) : ℝ) : EReal) := by
  have H := holds t h0 h1 h2 h3 h4
  have f := congrFun ((Value.flushed11 m c t).symm.trans (Value.flushed11_B m c t hm)) y
  exact f.trans (Body.out11_B H _ hp y)

/-- The block of the gain's gradient after grid point `n`: the tiles `0 … n` added up. -/
theorem outs11 : ∀ (n : ℕ) (hn : n < cfg0.N) (y : S1x1024.Idx),
    (outsAt0 m c n hn).2 y = (upto (fun t => (tab h g W dz ct t).gain (y 1)) n : EReal)
  | 0, hn, y => (step11_A ⟨0, hn⟩ h0 h1 h2 h3 h4 rfl y).trans (congrArg Real.toEReal (upto_zero (fun t : Fin 8 => (tab h g W dz ct t).gain (y 1)) (by norm_num)).symm)
  | n + 1, hn, y => by
    have hN : cfg0.N = 8 := N_0
    have hB : ¬(⟨n + 1, hn⟩ : Fin cfg0.N).val % 8 = 0 := by dsimp only; omega
    exact (step11_B ⟨n + 1, hn⟩ h0 h1 h2 h3 h4 hB (p := fun k => upto (fun t => (tab h g W dz ct t).gain k) n)
      (fun i => outs11 n (by omega) i) y).trans (congrArg Real.toEReal (upto_succ (fun t : Fin 8 => (tab h g W dz ct t).gain (y 1)) n (by omega)).symm)

omit h0 h1 h2 h3 h4 in
theorem disjoint11 : ∀ t t' : Fin cfg0.N, (cfg0.win 11).flush t = true → (cfg0.win 11).flush t' = true → t ≠ t' →
    Disjoint ((cfg0.win 11).blk t).view.set ((cfg0.win 11).blk t').view.set := fun t t' ht ht' hne =>
  absurd (Fin.ext (by have a := (flush0_11 t).1 ht; have b := (flush0_11 t').1 ht'; have := lt8 t; have := lt8 t'; omega)) hne

theorem arr11 (i : S1x1024.Idx) : (Gen.dats m 0 c).arrAt 11 cfg0.N i = (dgainR h W dz (i 1) : EReal) := by
  have hN : cfg0.N = 8 := N_0
  let t : Fin cfg0.N := ⟨7, by omega⟩
  have b' : (Gen.dats m 0 c).arrAt 11 cfg0.N (((cfg0.win 11).blk t).view.emb i) = (Gen.dats m 0 c).flushed 11 t i :=
    congrFun ((Gen.dats m 0 c).read_blk_arrAt_eq_flushed 11 disjoint11 cfg0.N t t.isLt ((flush0_11 t).2 rfl)) i
  have e : ((cfg0.win 11).blk t).view.emb i = i := (emb11 t i).trans (eta2 i).symm
  rw [e] at b'
  rw [b', Value.flushed11]
  exact (outs11 h0 h1 h2 h3 h4 7 (by omega) i).trans (congrArg Real.toEReal
    ((upto_last _ 7 (fun t => by omega)).trans (gain_tiles h g W dz ct (i 1))))

end Cert.MixBwd.Grid

end
-- ==== Proof.MixBwdClaim.lean ====
/- Hand-written, untrusted: THE KERNEL OF THE MIXER'S INPUT GRADIENT AND THE REFERENCE LEAVE EQUAL RESULTS, for arguments that are
   real numbers: both leave the gradient over the reals (`outR`, `dgainR`). -/
module

public import proofs.«01_k».proof.Defs
public import proofs.«01_k».proof.Proof.MixBwdGrid
public import proofs.«01_k».proof.Proof.Finite
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Pre_finite7

@[expose] public section

noncomputable section

namespace Cert.MixBwd

open Idealize.ShloMosaic Idealize.SL.Sem

/-- The precondition, argument by argument. -/
theorem real_args [Cert.Pre_finite7.Facts] {x0 : FVec Ideal ⟨2, ![4096, 1024]⟩ .f32} {x1 : FVec Ideal ⟨2, ![1, 1024]⟩ .f32} {x2 : FVec Ideal ⟨2, ![1024, 4288]⟩ .f32}
    {x3 : FVec Ideal ⟨2, ![4096, 4288]⟩ .f32} {x4 : FVec Ideal ⟨2, ![4096, 1024]⟩ .f32} (h : Cert.Pre_finite7.fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) := by
  have e := congrFun h (fun k => k.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Lift.real_of_all x0 _ _ _ _ e0, Lift.real_of_all x1 _ _ _ _ e1, Lift.real_of_all x2 _ _ _ _ e2, Lift.real_of_all x3 _ _ _ _ e3,
    Lift.real_of_all x4 _ _ _ _ e4⟩

theorem algebraic : Cert.algebraic_Kernel7Ideal_Reference7Ideal_pre_finite7 := by
  intro m g m' g' hpre hag
  let h (c : Dev Cert.Kernel7Ideal.nD) : Fin 4096 → Fin 1024 → ℝ := Lift.tab2 (m ((c.tc : Thread Cert.Kernel7Ideal.nD Cert.Kernel7Ideal.τ).loc Cert.Kernel7Ideal.main_arg0))
  let gn (c : Dev Cert.Kernel7Ideal.nD) : Fin 1024 → ℝ := Lift.tab1 (m ((c.tc : Thread Cert.Kernel7Ideal.nD Cert.Kernel7Ideal.τ).loc Cert.Kernel7Ideal.main_arg1))
  let W (c : Dev Cert.Kernel7Ideal.nD) : Fin 1024 → Fin 4288 → ℝ := Lift.tab2 (m ((c.tc : Thread Cert.Kernel7Ideal.nD Cert.Kernel7Ideal.τ).loc Cert.Kernel7Ideal.main_arg2))
  let dz (c : Dev Cert.Kernel7Ideal.nD) : Fin 4096 → Fin 4288 → ℝ := Lift.tab2 (m ((c.tc : Thread Cert.Kernel7Ideal.nD Cert.Kernel7Ideal.τ).loc Cert.Kernel7Ideal.main_arg3))
  let ct (c : Dev Cert.Kernel7Ideal.nD) : Fin 4096 → Fin 1024 → ℝ := Lift.tab2 (m ((c.tc : Thread Cert.Kernel7Ideal.nD Cert.Kernel7Ideal.τ).loc Cert.Kernel7Ideal.main_arg4))
  have h0 (c : Dev Cert.Kernel7Ideal.nD) (i : Cert.Kernel7Ideal.S4096x1024.Idx) : m ((c.tc : Thread Cert.Kernel7Ideal.nD Cert.Kernel7Ideal.τ).loc Cert.Kernel7Ideal.main_arg0) i = (h c (i 0) (i 1) : EReal) :=
    Lift.tab2_eq (real_args (hpre c)).1 i
  have h1 (c : Dev Cert.Kernel7Ideal.nD) (i : Cert.Kernel7Ideal.S1x1024.Idx) : m ((c.tc : Thread Cert.Kernel7Ideal.nD Cert.Kernel7Ideal.τ).loc Cert.Kernel7Ideal.main_arg1) i = (gn c (i 1) : EReal) :=
    Lift.tab1_eq (real_args (hpre c)).2.1 i
  have h2 (c : Dev Cert.Kernel7Ideal.nD) (i : Cert.Kernel7Ideal.S1024x4288.Idx) : m ((c.tc : Thread Cert.Kernel7Ideal.nD Cert.Kernel7Ideal.τ).loc Cert.Kernel7Ideal.main_arg2) i = (W c (i 0) (i 1) : EReal) :=
    Lift.tab2_eq (real_args (hpre c)).2.2.1 i
  have h3 (c : Dev Cert.Kernel7Ideal.nD) (i : Cert.Kernel7Ideal.S4096x4288.Idx) : m ((c.tc : Thread Cert.Kernel7Ideal.nD Cert.Kernel7Ideal.τ).loc Cert.Kernel7Ideal.main_arg3) i = (dz c (i 0) (i 1) : EReal) :=
    Lift.tab2_eq (real_args (hpre c)).2.2.2.1 i
  have h4 (c : Dev Cert.Kernel7Ideal.nD) (i : Cert.Kernel7Ideal.S4096x1024.Idx) : m ((c.tc : Thread Cert.Kernel7Ideal.nD Cert.Kernel7Ideal.τ).loc Cert.Kernel7Ideal.main_arg4) i = (ct c (i 0) (i 1) : EReal) :=
    Lift.tab2_eq (real_args (hpre c)).2.2.2.2 i
  refine ⟨fun c => fun i : Cert.Kernel7Ideal.S4096x1024.Idx => (outR (h c) (gn c) (W c) (dz c) (ct c) (i 0) (i 1) : EReal),
    fun c => fun i : Cert.Kernel7Ideal.S1x1024.Idx => (dgainR (h c) (W c) (dz c) (i 1) : EReal), ?_, ?_⟩
  · refine (θ_run Cert.Kernel7Ideal.defs _ _).mono (fun r hr c => ?_) (Cert.Kernel7Ideal.Value.run_blocks (F := Ideal) m g)
    obtain ⟨r0, r1, k⟩ := hr c
    exact ⟨r0.trans (funext fun i => Grid.arr10 (h0 c) (h1 c) (h2 c) (h3 c) (h4 c) i),
      r1.trans (funext fun i => Grid.arr11 (h0 c) (h1 c) (h2 c) (h3 c) (h4 c) i), k⟩
  · refine (θ_run Cert.Reference7Ideal.defs _ _).mono (fun r hr c => ?_) (Cert.Reference7Ideal.Value.run (F := Ideal) m' g')
    obtain ⟨r0, r1, k⟩ := hr c
    obtain ⟨a0, a1, a2, a3, a4⟩ := hag c
    have q0 := fun i => (congrFun a0 i).trans (h0 c i)
    have q1 := fun i => (congrFun a1 i).trans (h1 c i)
    have q2 := fun i => (congrFun a2 i).trans (h2 c i)
    have q3 := fun i => (congrFun a3 i).trans (h3 c i)
    have q4 := fun i => (congrFun a4 i).trans (h4 c i)
    exact ⟨r0.trans ((Cert.Reference7Ideal.Read.val_main_v36_eq m' c).trans (funext fun i => Ref.v36 q0 q1 q2 q3 q4 i)),
      r1.trans ((Cert.Reference7Ideal.Read.val_main_v19_eq _ _ _).trans (funext fun i => Ref.v19 q0 q2 q3 i)), k⟩

end Cert.MixBwd

end
-- ==== Proof.lean ====
/- Hand-written, untrusted: THE PROOF OF `Cert.Claim`. The frames of the kernels but the fourth, at the machine's floats and over the
   extended reals, are the generated ones, those of the attention's gradient are `Cert.Attn.frame_bits` and `Cert.Attn.frame`; the
   frames of the references are their generated runs; the named constants of the attention's gradient are what their names say; the
   value claims are `Cert.Ffn.algebraic`, `Cert.TnSlots.algebraic`, `Cert.TnDown.algebraic`, `Cert.Attn.algebraic`,
   `Cert.Fwd.algebraic`, `Cert.Mix.algebraic`, `Cert.MixBwd.algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Pre_finite4
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Pre_finite7
public import proofs.«01_k».proof.Proof.FfnClaim
public import proofs.«01_k».proof.Proof.TnSlots
public import proofs.«01_k».proof.Proof.TnDown
public import proofs.«01_k».proof.Proof.AttnBits
public import proofs.«01_k».proof.Proof.AttnClaim
public import proofs.«01_k».proof.Proof.FwdClaim
public import proofs.«01_k».proof.Proof.MixClaim
public import proofs.«01_k».proof.Proof.MixBwdClaim
public import Idealize.ShloMosaic.Adequacy
public import Idealize.ShloMosaic.Init

@[expose] public section

noncomputable section

namespace Cert.Proof

open Idealize.ShloMosaic Idealize.SL.Sem Cert.Kernel

/-- The reference runs on the host alone: its arguments end unchanged, and it declares no semaphore. -/
theorem reference_frame [Cert.Pre_finite.Facts] : Cert.quiescent_ReferenceIdeal ∧ Cert.quiescent_ReferenceIdeal_pre_finite :=
  have run := fun m ρ => (θ_run Cert.ReferenceIdeal.defs _ _).mono (fun r h => And.intro
      (fun c => (h c).2.2.2) (Idealize.ShloMosaic.sem_eq_zero_of_no_sems (by decide) r.2)) (Cert.ReferenceIdeal.Value.run (F := Ideal) m ρ)
  ⟨fun m ρ _ => run m ρ, fun m ρ _ => run m ρ⟩

theorem reference2_frame : Cert.quiescent_Reference2Ideal := fun m ρ _ =>
  (θ_run Cert.Reference2Ideal.defs _ _).mono (fun r h => And.intro
    (fun c => (h c).2) (Idealize.ShloMosaic.sem_eq_zero_of_no_sems (by decide) r.2)) (Cert.Reference2Ideal.Value.run (F := Ideal) m ρ)

theorem reference3_frame : Cert.quiescent_Reference3Ideal := fun m ρ _ =>
  (θ_run Cert.Reference3Ideal.defs _ _).mono (fun r h => And.intro
    (fun c => (h c).2) (Idealize.ShloMosaic.sem_eq_zero_of_no_sems (by decide) r.2)) (Cert.Reference3Ideal.Value.run (F := Ideal) m ρ)

theorem reference4_frame [Cert.Pre_finite4.Facts] : Cert.quiescent_Reference4Ideal ∧ Cert.quiescent_Reference4Ideal_pre_finite4 :=
  have run := fun m ρ => (θ_run Cert.Reference4Ideal.defs _ _).mono (fun r h => And.intro
      (fun c => (h c).2.2.2) (Idealize.ShloMosaic.sem_eq_zero_of_no_sems (by decide) r.2)) (Cert.Reference4Ideal.Value.run (F := Ideal) m ρ)
  ⟨fun m ρ _ => run m ρ, fun m ρ _ => run m ρ⟩

theorem reference5_frame : Cert.quiescent_Reference5Ideal := fun m ρ _ =>
  (θ_run Cert.Reference5Ideal.defs _ _).mono (fun r h => And.intro
    (fun c => (h c).2.2.2.2.2) (Idealize.ShloMosaic.sem_eq_zero_of_no_sems (by decide) r.2)) (Cert.Reference5Ideal.Value.run (F := Ideal) m ρ)

theorem reference6_frame : Cert.quiescent_Reference6Ideal := fun m ρ _ =>
  (θ_run Cert.Reference6Ideal.defs _ _).mono (fun r h => And.intro
    (fun c => (h c).2.2.2.2.2) (Idealize.ShloMosaic.sem_eq_zero_of_no_sems (by decide) r.2)) (Cert.Reference6Ideal.Value.run (F := Ideal) m ρ)

theorem reference7_frame [Cert.Pre_finite7.Facts] : Cert.quiescent_Reference7Ideal ∧ Cert.quiescent_Reference7Ideal_pre_finite7 :=
  have run := fun m ρ => (θ_run Cert.Reference7Ideal.defs _ _).mono (fun r h => And.intro
      (fun c => (h c).2.2) (Idealize.ShloMosaic.sem_eq_zero_of_no_sems (by decide) r.2)) (Cert.Reference7Ideal.Value.run (F := Ideal) m ρ)
  ⟨fun m ρ _ => run m ρ, fun m ρ _ => run m ρ⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite4.Gen.facts,
  Cert.Pre_finite7.Gen.facts, by
  exact ⟨fun m ρ _ => Cert.Kernel.Gen.frame m ρ, fun m ρ _ => Cert.KernelIdeal.Gen.frame m ρ, fun m ρ _ => Cert.KernelIdeal.Gen.frame m ρ,
    reference_frame.1, reference_frame.2,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    Cert.Attn.frame_bits, fun m ρ _ => Cert.Attn.frame m ρ, fun m ρ _ => Cert.Attn.frame m ρ, reference4_frame.1, reference4_frame.2,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, fun m ρ _ => Cert.Kernel7Ideal.Gen.frame m ρ,
    reference7_frame.1, reference7_frame.2,
    trivial, Cert.Ffn.algebraic, trivial, Cert.TnSlots.algebraic, trivial, Cert.TnDown.algebraic,
    ⟨IdealRules.named_const.statement _ _ _ _ _ rfl, IdealRules.named_const.statement _ _ _ _ _ rfl, IdealRules.named_const.statement _ _ _ _ _ rfl⟩,
    Cert.Attn.algebraic, trivial, Cert.Fwd.algebraic, trivial, Cert.Mix.algebraic,
    trivial, Cert.MixBwd.algebraic⟩⟩

end Cert.Proof

end
